-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInReferenceIdeal (m : (ℓ : Loc Cert.GwInReferenceIdeal.nD Cert.GwInReferenceIdeal.τ Cert.GwInReferenceIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutReferenceIdeal (m : (ℓ : Loc Cert.GwOutReferenceIdeal.nD Cert.GwOutReferenceIdeal.τ Cert.GwOutReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInReferenceIdeal (m : (ℓ : Loc Cert.MlpInReferenceIdeal.nD Cert.MlpInReferenceIdeal.τ Cert.MlpInReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_GwGate (m : (ℓ : Loc Cert.GwGate.nD Cert.GwGate.τ Cert.GwGate.sig) → Buf (Elt Bits) ℓ) : Prop :=
  True

def Pre_GwGateIdeal (m : (ℓ : Loc Cert.GwGateIdeal.nD Cert.GwGateIdeal.τ Cert.GwGateIdeal.sig) → Buf (Elt Ideal) ℓ) : Prop :=
  True

def Pre_GwGateReferenceIdeal (m : (ℓ : Loc Cert.GwGateReferenceIdeal.nD Cert.GwGateReferenceIdeal.τ Cert.GwGateReferenceIdeal.sig) → Buf (Elt Ideal) ℓ) : Prop :=
  True

def Pre_GwMix (m : (ℓ : Loc Cert.GwMix.nD Cert.GwMix.τ Cert.GwMix.sig) → Buf (Elt Bits) ℓ) : Prop :=
  True

def Pre_GwMixIdeal (m : (ℓ : Loc Cert.GwMixIdeal.nD Cert.GwMixIdeal.τ Cert.GwMixIdeal.sig) → Buf (Elt Ideal) ℓ) : Prop :=
  True

def Pre_GwMixReferenceIdeal (m : (ℓ : Loc Cert.GwMixReferenceIdeal.nD Cert.GwMixReferenceIdeal.τ Cert.GwMixReferenceIdeal.sig) → Buf (Elt Ideal) ℓ) : Prop :=
  True

def Pre_GwConv (m : (ℓ : Loc Cert.GwConv.nD Cert.GwConv.τ Cert.GwConv.sig) → Buf (Elt Bits) ℓ) : Prop :=
  True

def Pre_GwConvIdeal (m : (ℓ : Loc Cert.GwConvIdeal.nD Cert.GwConvIdeal.τ Cert.GwConvIdeal.sig) → Buf (Elt Ideal) ℓ) : Prop :=
  True

def Pre_GwConvReferenceIdeal (m : (ℓ : Loc Cert.GwConvReferenceIdeal.nD Cert.GwConvReferenceIdeal.τ Cert.GwConvReferenceIdeal.sig) → Buf (Elt Ideal) ℓ) : Prop :=
  True

def Pre_GwAttn (m : (ℓ : Loc Cert.GwAttn.nD Cert.GwAttn.τ Cert.GwAttn.sig) → Buf (Elt Bits) ℓ) : Prop :=
  True

def Pre_GwAttnIdeal (m : (ℓ : Loc Cert.GwAttnIdeal.nD Cert.GwAttnIdeal.τ Cert.GwAttnIdeal.sig) → Buf (Elt Ideal) ℓ) : Prop :=
  True

def Pre_GwAttnReferenceIdeal (m : (ℓ : Loc Cert.GwAttnReferenceIdeal.nD Cert.GwAttnReferenceIdeal.τ Cert.GwAttnReferenceIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdReferenceIdeal (m : (ℓ : Loc Cert.InProjFwdReferenceIdeal.nD Cert.InProjFwdReferenceIdeal.τ Cert.InProjFwdReferenceIdeal.sig) → Buf (Elt Ideal) ℓ) : Prop :=
  True

def Pre_MlpInFwd (m : (ℓ : Loc Cert.MlpInFwd.nD Cert.MlpInFwd.τ Cert.MlpInFwd.sig) → Buf (Elt Bits) ℓ) : Prop :=
  True

def Pre_MlpInFwdIdeal (m : (ℓ : Loc Cert.MlpInFwdIdeal.nD Cert.MlpInFwdIdeal.τ Cert.MlpInFwdIdeal.sig) → Buf (Elt Ideal) ℓ) : Prop :=
  True

def Pre_MlpInFwdReferenceIdeal (m : (ℓ : Loc Cert.MlpInFwdReferenceIdeal.nD Cert.MlpInFwdReferenceIdeal.τ Cert.MlpInFwdReferenceIdeal.sig) → Buf (Elt Ideal) ℓ) : Prop :=
  True

def Pre_MlpOutFwd (m : (ℓ : Loc Cert.MlpOutFwd.nD Cert.MlpOutFwd.τ Cert.MlpOutFwd.sig) → Buf (Elt Bits) ℓ) : Prop :=
  True

def Pre_MlpOutFwdIdeal (m : (ℓ : Loc Cert.MlpOutFwdIdeal.nD Cert.MlpOutFwdIdeal.τ Cert.MlpOutFwdIdeal.sig) → Buf (Elt Ideal) ℓ) : Prop :=
  True

def Pre_MlpOutFwdReferenceIdeal (m : (ℓ : Loc Cert.MlpOutFwdReferenceIdeal.nD Cert.MlpOutFwdReferenceIdeal.τ Cert.MlpOutFwdReferenceIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInReferenceIdeal [hGwInReferenceIdeal : Cert.GwInReferenceIdeal.Facts] : Prop :=
  ∀ (m : (ℓ : Loc Cert.GwInReferenceIdeal.nD Cert.GwInReferenceIdeal.τ Cert.GwInReferenceIdeal.sig) → Buf (Elt Ideal) ℓ) (g : Dev Cert.GwInReferenceIdeal.nD → PrngReg), Pre_GwInReferenceIdeal m →
    θ_run (Cert.GwInReferenceIdeal.defs (F := Ideal)) (onTc (τ := Cert.GwInReferenceIdeal.τ) (Cert.GwInReferenceIdeal.main (F := Ideal))) ⟨m, fun _ => 0, g⟩ (fun r => (∀ c : Dev Cert.GwInReferenceIdeal.nD,
      r.2.mem ((c.tc : Thread Cert.GwInReferenceIdeal.nD Cert.GwInReferenceIdeal.τ).loc Cert.GwInReferenceIdeal.main_arg0) = m ((c.tc : Thread Cert.GwInReferenceIdeal.nD Cert.GwInReferenceIdeal.τ).loc Cert.GwInReferenceIdeal.main_arg0)
      ∧ r.2.mem ((c.tc : Thread Cert.GwInReferenceIdeal.nD Cert.GwInReferenceIdeal.τ).loc Cert.GwInReferenceIdeal.main_arg1) = m ((c.tc : Thread Cert.GwInReferenceIdeal.nD Cert.GwInReferenceIdeal.τ).loc Cert.GwInReferenceIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutReferenceIdeal [hGwOutReferenceIdeal : Cert.GwOutReferenceIdeal.Facts] : Prop :=
  ∀ (m : (ℓ : Loc Cert.GwOutReferenceIdeal.nD Cert.GwOutReferenceIdeal.τ Cert.GwOutReferenceIdeal.sig) → Buf (Elt Ideal) ℓ) (g : Dev Cert.GwOutReferenceIdeal.nD → PrngReg), Pre_GwOutReferenceIdeal m →
    θ_run (Cert.GwOutReferenceIdeal.defs (F := Ideal)) (onTc (τ := Cert.GwOutReferenceIdeal.τ) (Cert.GwOutReferenceIdeal.main (F := Ideal))) ⟨m, fun _ => 0, g⟩ (fun r => (∀ c : Dev Cert.GwOutReferenceIdeal.nD,
      r.2.mem ((c.tc : Thread Cert.GwOutReferenceIdeal.nD Cert.GwOutReferenceIdeal.τ).loc Cert.GwOutReferenceIdeal.main_arg0) = m ((c.tc : Thread Cert.GwOutReferenceIdeal.nD Cert.GwOutReferenceIdeal.τ).loc Cert.GwOutReferenceIdeal.main_arg0)
      ∧ r.2.mem ((c.tc : Thread Cert.GwOutReferenceIdeal.nD Cert.GwOutReferenceIdeal.τ).loc Cert.GwOutReferenceIdeal.main_arg1) = m ((c.tc : Thread Cert.GwOutReferenceIdeal.nD Cert.GwOutReferenceIdeal.τ).loc Cert.GwOutReferenceIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4)
      ∧ r.2.mem ((c.tc : Thread Cert.MlpOut.nD Cert.MlpOut.τ).loc Cert.MlpOut.main_arg5) = m ((c.tc : Thread Cert.MlpOut.nD Cert.MlpOut.τ).loc Cert.MlpOut.main_arg5))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4)
      ∧ r.2.mem ((c.tc : Thread Cert.MlpOutIdeal.nD Cert.MlpOutIdeal.τ).loc Cert.MlpOutIdeal.main_arg5) = m ((c.tc : Thread Cert.MlpOutIdeal.nD Cert.MlpOutIdeal.τ).loc Cert.MlpOutIdeal.main_arg5))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1)
      ∧ r.2.mem ((c.tc : Thread Cert.MlpOutReferenceIdeal.nD Cert.MlpOutReferenceIdeal.τ).loc Cert.MlpOutReferenceIdeal.main_arg2) = m ((c.tc : Thread Cert.MlpOutReferenceIdeal.nD Cert.MlpOutReferenceIdeal.τ).loc Cert.MlpOutReferenceIdeal.main_arg2)
      ∧ r.2.mem ((c.tc : Thread Cert.MlpOutReferenceIdeal.nD Cert.MlpOutReferenceIdeal.τ).loc Cert.MlpOutReferenceIdeal.main_arg3) = m ((c.tc : Thread Cert.MlpOutReferenceIdeal.nD Cert.MlpOutReferenceIdeal.τ).loc Cert.MlpOutReferenceIdeal.main_arg3)
      ∧ r.2.mem ((c.tc : Thread Cert.MlpOutReferenceIdeal.nD Cert.MlpOutReferenceIdeal.τ).loc Cert.MlpOutReferenceIdeal.main_arg4) = m ((c.tc : Thread Cert.MlpOutReferenceIdeal.nD Cert.MlpOutReferenceIdeal.τ).loc Cert.MlpOutReferenceIdeal.main_arg4)
      ∧ r.2.mem ((c.tc : Thread Cert.MlpOutReferenceIdeal.nD Cert.MlpOutReferenceIdeal.τ).loc Cert.MlpOutReferenceIdeal.main_arg5) = m ((c.tc : Thread Cert.MlpOutReferenceIdeal.nD Cert.MlpOutReferenceIdeal.τ).loc Cert.MlpOutReferenceIdeal.main_arg5))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3)
      ∧ r.2.mem ((c.tc : Thread Cert.MlpIn.nD Cert.MlpIn.τ).loc Cert.MlpIn.main_arg4) = m ((c.tc : Thread Cert.MlpIn.nD Cert.MlpIn.τ).loc Cert.MlpIn.main_arg4)
      ∧ r.2.mem ((c.tc : Thread Cert.MlpIn.nD Cert.MlpIn.τ).loc Cert.MlpIn.main_arg5) = m ((c.tc : Thread Cert.MlpIn.nD Cert.MlpIn.τ).loc Cert.MlpIn.main_arg5))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
      ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
      ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1)
      ∧ r.2.mem ((c.tc : Thread Cert.MlpInReferenceIdeal.nD Cert.MlpInReferenceIdeal.τ).loc Cert.MlpInReferenceIdeal.main_arg2) = m ((c.tc : Thread Cert.MlpInReferenceIdeal.nD Cert.MlpInReferenceIdeal.τ).loc Cert.MlpInReferenceIdeal.main_arg2)
      ∧ r.2.mem ((c.tc : Thread Cert.MlpInReferenceIdeal.nD Cert.MlpInReferenceIdeal.τ).loc Cert.MlpInReferenceIdeal.main_arg3) = m ((c.tc : Thread Cert.MlpInReferenceIdeal.nD Cert.MlpInReferenceIdeal.τ).loc Cert.MlpInReferenceIdeal.main_arg3)
      ∧ r.2.mem ((c.tc : Thread Cert.MlpInReferenceIdeal.nD Cert.MlpInReferenceIdeal.τ).loc Cert.MlpInReferenceIdeal.main_arg4) = m ((c.tc : Thread Cert.MlpInReferenceIdeal.nD Cert.MlpInReferenceIdeal.τ).loc Cert.MlpInReferenceIdeal.main_arg4)
      ∧ r.2.mem ((c.tc : Thread Cert.MlpInReferenceIdeal.nD Cert.MlpInReferenceIdeal.τ).loc Cert.MlpInReferenceIdeal.main_arg5) = m ((c.tc : Thread Cert.MlpInReferenceIdeal.nD Cert.MlpInReferenceIdeal.τ).loc Cert.MlpInReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9))
      ∧ r.2.sem = fun _ => 0)

def quiescent_GwGate [hGwGate : Cert.GwGate.Facts] : Prop :=
  ∀ (m : (ℓ : Loc Cert.GwGate.nD Cert.GwGate.τ Cert.GwGate.sig) → Buf (Elt Bits) ℓ) (g : Dev Cert.GwGate.nD → PrngReg), Pre_GwGate m →
    θ_run (Cert.GwGate.defs (F := Bits)) (onTc (τ := Cert.GwGate.τ) (Cert.GwGate.main (F := Bits))) ⟨m, fun _ => 0, g⟩ (fun r => (∀ c : Dev Cert.GwGate.nD,
      r.2.mem ((c.tc : Thread Cert.GwGate.nD Cert.GwGate.τ).loc Cert.GwGate.main_arg0) = m ((c.tc : Thread Cert.GwGate.nD Cert.GwGate.τ).loc Cert.GwGate.main_arg0)
      ∧ r.2.mem ((c.tc : Thread Cert.GwGate.nD Cert.GwGate.τ).loc Cert.GwGate.main_arg1) = m ((c.tc : Thread Cert.GwGate.nD Cert.GwGate.τ).loc Cert.GwGate.main_arg1)
      ∧ r.2.mem ((c.tc : Thread Cert.GwGate.nD Cert.GwGate.τ).loc Cert.GwGate.main_arg2) = m ((c.tc : Thread Cert.GwGate.nD Cert.GwGate.τ).loc Cert.GwGate.main_arg2))
      ∧ r.2.sem = fun _ => 0)

def quiescent_GwGateIdeal [hGwGateIdeal : Cert.GwGateIdeal.Facts] : Prop :=
  ∀ (m : (ℓ : Loc Cert.GwGateIdeal.nD Cert.GwGateIdeal.τ Cert.GwGateIdeal.sig) → Buf (Elt Ideal) ℓ) (g : Dev Cert.GwGateIdeal.nD → PrngReg), Pre_GwGateIdeal m →
    θ_run (Cert.GwGateIdeal.defs (F := Ideal)) (onTc (τ := Cert.GwGateIdeal.τ) (Cert.GwGateIdeal.main (F := Ideal))) ⟨m, fun _ => 0, g⟩ (fun r => (∀ c : Dev Cert.GwGateIdeal.nD,
      r.2.mem ((c.tc : Thread Cert.GwGateIdeal.nD Cert.GwGateIdeal.τ).loc Cert.GwGateIdeal.main_arg0) = m ((c.tc : Thread Cert.GwGateIdeal.nD Cert.GwGateIdeal.τ).loc Cert.GwGateIdeal.main_arg0)
      ∧ r.2.mem ((c.tc : Thread Cert.GwGateIdeal.nD Cert.GwGateIdeal.τ).loc Cert.GwGateIdeal.main_arg1) = m ((c.tc : Thread Cert.GwGateIdeal.nD Cert.GwGateIdeal.τ).loc Cert.GwGateIdeal.main_arg1)
      ∧ r.2.mem ((c.tc : Thread Cert.GwGateIdeal.nD Cert.GwGateIdeal.τ).loc Cert.GwGateIdeal.main_arg2) = m ((c.tc : Thread Cert.GwGateIdeal.nD Cert.GwGateIdeal.τ).loc Cert.GwGateIdeal.main_arg2))
      ∧ r.2.sem = fun _ => 0)

def quiescent_GwGateReferenceIdeal [hGwGateReferenceIdeal : Cert.GwGateReferenceIdeal.Facts] : Prop :=
  ∀ (m : (ℓ : Loc Cert.GwGateReferenceIdeal.nD Cert.GwGateReferenceIdeal.τ Cert.GwGateReferenceIdeal.sig) → Buf (Elt Ideal) ℓ) (g : Dev Cert.GwGateReferenceIdeal.nD → PrngReg), Pre_GwGateReferenceIdeal m →
    θ_run (Cert.GwGateReferenceIdeal.defs (F := Ideal)) (onTc (τ := Cert.GwGateReferenceIdeal.τ) (Cert.GwGateReferenceIdeal.main (F := Ideal))) ⟨m, fun _ => 0, g⟩ (fun r => (∀ c : Dev Cert.GwGateReferenceIdeal.nD,
      r.2.mem ((c.tc : Thread Cert.GwGateReferenceIdeal.nD Cert.GwGateReferenceIdeal.τ).loc Cert.GwGateReferenceIdeal.main_arg0) = m ((c.tc : Thread Cert.GwGateReferenceIdeal.nD Cert.GwGateReferenceIdeal.τ).loc Cert.GwGateReferenceIdeal.main_arg0)
      ∧ r.2.mem ((c.tc : Thread Cert.GwGateReferenceIdeal.nD Cert.GwGateReferenceIdeal.τ).loc Cert.GwGateReferenceIdeal.main_arg1) = m ((c.tc : Thread Cert.GwGateReferenceIdeal.nD Cert.GwGateReferenceIdeal.τ).loc Cert.GwGateReferenceIdeal.main_arg1)
      ∧ r.2.mem ((c.tc : Thread Cert.GwGateReferenceIdeal.nD Cert.GwGateReferenceIdeal.τ).loc Cert.GwGateReferenceIdeal.main_arg2) = m ((c.tc : Thread Cert.GwGateReferenceIdeal.nD Cert.GwGateReferenceIdeal.τ).loc Cert.GwGateReferenceIdeal.main_arg2))
      ∧ r.2.sem = fun _ => 0)

def quiescent_GwMix [hGwMix : Cert.GwMix.Facts] : Prop :=
  ∀ (m : (ℓ : Loc Cert.GwMix.nD Cert.GwMix.τ Cert.GwMix.sig) → Buf (Elt Bits) ℓ) (g : Dev Cert.GwMix.nD → PrngReg), Pre_GwMix m →
    θ_run (Cert.GwMix.defs (F := Bits)) (onTc (τ := Cert.GwMix.τ) (Cert.GwMix.main (F := Bits))) ⟨m, fun _ => 0, g⟩ (fun r => (∀ c : Dev Cert.GwMix.nD,
      r.2.mem ((c.tc : Thread Cert.GwMix.nD Cert.GwMix.τ).loc Cert.GwMix.main_arg0) = m ((c.tc : Thread Cert.GwMix.nD Cert.GwMix.τ).loc Cert.GwMix.main_arg0)
      ∧ r.2.mem ((c.tc : Thread Cert.GwMix.nD Cert.GwMix.τ).loc Cert.GwMix.main_arg1) = m ((c.tc : Thread Cert.GwMix.nD Cert.GwMix.τ).loc Cert.GwMix.main_arg1))
      ∧ r.2.sem = fun _ => 0)

def quiescent_GwMixIdeal [hGwMixIdeal : Cert.GwMixIdeal.Facts] : Prop :=
  ∀ (m : (ℓ : Loc Cert.GwMixIdeal.nD Cert.GwMixIdeal.τ Cert.GwMixIdeal.sig) → Buf (Elt Ideal) ℓ) (g : Dev Cert.GwMixIdeal.nD → PrngReg), Pre_GwMixIdeal m →
    θ_run (Cert.GwMixIdeal.defs (F := Ideal)) (onTc (τ := Cert.GwMixIdeal.τ) (Cert.GwMixIdeal.main (F := Ideal))) ⟨m, fun _ => 0, g⟩ (fun r => (∀ c : Dev Cert.GwMixIdeal.nD,
      r.2.mem ((c.tc : Thread Cert.GwMixIdeal.nD Cert.GwMixIdeal.τ).loc Cert.GwMixIdeal.main_arg0) = m ((c.tc : Thread Cert.GwMixIdeal.nD Cert.GwMixIdeal.τ).loc Cert.GwMixIdeal.main_arg0)
      ∧ r.2.mem ((c.tc : Thread Cert.GwMixIdeal.nD Cert.GwMixIdeal.τ).loc Cert.GwMixIdeal.main_arg1) = m ((c.tc : Thread Cert.GwMixIdeal.nD Cert.GwMixIdeal.τ).loc Cert.GwMixIdeal.main_arg1))
      ∧ r.2.sem = fun _ => 0)

def quiescent_GwMixReferenceIdeal [hGwMixReferenceIdeal : Cert.GwMixReferenceIdeal.Facts] : Prop :=
  ∀ (m : (ℓ : Loc Cert.GwMixReferenceIdeal.nD Cert.GwMixReferenceIdeal.τ Cert.GwMixReferenceIdeal.sig) → Buf (Elt Ideal) ℓ) (g : Dev Cert.GwMixReferenceIdeal.nD → PrngReg), Pre_GwMixReferenceIdeal m →
    θ_run (Cert.GwMixReferenceIdeal.defs (F := Ideal)) (onTc (τ := Cert.GwMixReferenceIdeal.τ) (Cert.GwMixReferenceIdeal.main (F := Ideal))) ⟨m, fun _ => 0, g⟩ (fun r => (∀ c : Dev Cert.GwMixReferenceIdeal.nD,
      r.2.mem ((c.tc : Thread Cert.GwMixReferenceIdeal.nD Cert.GwMixReferenceIdeal.τ).loc Cert.GwMixReferenceIdeal.main_arg0) = m ((c.tc : Thread Cert.GwMixReferenceIdeal.nD Cert.GwMixReferenceIdeal.τ).loc Cert.GwMixReferenceIdeal.main_arg0)
      ∧ r.2.mem ((c.tc : Thread Cert.GwMixReferenceIdeal.nD Cert.GwMixReferenceIdeal.τ).loc Cert.GwMixReferenceIdeal.main_arg1) = m ((c.tc : Thread Cert.GwMixReferenceIdeal.nD Cert.GwMixReferenceIdeal.τ).loc Cert.GwMixReferenceIdeal.main_arg1))
      ∧ r.2.sem = fun _ => 0)

def quiescent_GwConv [hGwConv : Cert.GwConv.Facts] : Prop :=
  ∀ (m : (ℓ : Loc Cert.GwConv.nD Cert.GwConv.τ Cert.GwConv.sig) → Buf (Elt Bits) ℓ) (g : Dev Cert.GwConv.nD → PrngReg), Pre_GwConv m →
    θ_run (Cert.GwConv.defs (F := Bits)) (onTc (τ := Cert.GwConv.τ) (Cert.GwConv.main (F := Bits))) ⟨m, fun _ => 0, g⟩ (fun r => (∀ c : Dev Cert.GwConv.nD,
      r.2.mem ((c.tc : Thread Cert.GwConv.nD Cert.GwConv.τ).loc Cert.GwConv.main_arg0) = m ((c.tc : Thread Cert.GwConv.nD Cert.GwConv.τ).loc Cert.GwConv.main_arg0)
      ∧ r.2.mem ((c.tc : Thread Cert.GwConv.nD Cert.GwConv.τ).loc Cert.GwConv.main_arg1) = m ((c.tc : Thread Cert.GwConv.nD Cert.GwConv.τ).loc Cert.GwConv.main_arg1))
      ∧ r.2.sem = fun _ => 0)

def quiescent_GwConvIdeal [hGwConvIdeal : Cert.GwConvIdeal.Facts] : Prop :=
  ∀ (m : (ℓ : Loc Cert.GwConvIdeal.nD Cert.GwConvIdeal.τ Cert.GwConvIdeal.sig) → Buf (Elt Ideal) ℓ) (g : Dev Cert.GwConvIdeal.nD → PrngReg), Pre_GwConvIdeal m →
    θ_run (Cert.GwConvIdeal.defs (F := Ideal)) (onTc (τ := Cert.GwConvIdeal.τ) (Cert.GwConvIdeal.main (F := Ideal))) ⟨m, fun _ => 0, g⟩ (fun r => (∀ c : Dev Cert.GwConvIdeal.nD,
      r.2.mem ((c.tc : Thread Cert.GwConvIdeal.nD Cert.GwConvIdeal.τ).loc Cert.GwConvIdeal.main_arg0) = m ((c.tc : Thread Cert.GwConvIdeal.nD Cert.GwConvIdeal.τ).loc Cert.GwConvIdeal.main_arg0)
      ∧ r.2.mem ((c.tc : Thread Cert.GwConvIdeal.nD Cert.GwConvIdeal.τ).loc Cert.GwConvIdeal.main_arg1) = m ((c.tc : Thread Cert.GwConvIdeal.nD Cert.GwConvIdeal.τ).loc Cert.GwConvIdeal.main_arg1))
      ∧ r.2.sem = fun _ => 0)

def quiescent_GwConvReferenceIdeal [hGwConvReferenceIdeal : Cert.GwConvReferenceIdeal.Facts] : Prop :=
  ∀ (m : (ℓ : Loc Cert.GwConvReferenceIdeal.nD Cert.GwConvReferenceIdeal.τ Cert.GwConvReferenceIdeal.sig) → Buf (Elt Ideal) ℓ) (g : Dev Cert.GwConvReferenceIdeal.nD → PrngReg), Pre_GwConvReferenceIdeal m →
    θ_run (Cert.GwConvReferenceIdeal.defs (F := Ideal)) (onTc (τ := Cert.GwConvReferenceIdeal.τ) (Cert.GwConvReferenceIdeal.main (F := Ideal))) ⟨m, fun _ => 0, g⟩ (fun r => (∀ c : Dev Cert.GwConvReferenceIdeal.nD,
      r.2.mem ((c.tc : Thread Cert.GwConvReferenceIdeal.nD Cert.GwConvReferenceIdeal.τ).loc Cert.GwConvReferenceIdeal.main_arg0) = m ((c.tc : Thread Cert.GwConvReferenceIdeal.nD Cert.GwConvReferenceIdeal.τ).loc Cert.GwConvReferenceIdeal.main_arg0)
      ∧ r.2.mem ((c.tc : Thread Cert.GwConvReferenceIdeal.nD Cert.GwConvReferenceIdeal.τ).loc Cert.GwConvReferenceIdeal.main_arg1) = m ((c.tc : Thread Cert.GwConvReferenceIdeal.nD Cert.GwConvReferenceIdeal.τ).loc Cert.GwConvReferenceIdeal.main_arg1))
      ∧ r.2.sem = fun _ => 0)

def quiescent_GwAttn [hGwAttn : Cert.GwAttn.Facts] : Prop :=
  ∀ (m : (ℓ : Loc Cert.GwAttn.nD Cert.GwAttn.τ Cert.GwAttn.sig) → Buf (Elt Bits) ℓ) (g : Dev Cert.GwAttn.nD → PrngReg), Pre_GwAttn m →
    θ_run (Cert.GwAttn.defs (F := Bits)) (onTc (τ := Cert.GwAttn.τ) (Cert.GwAttn.main (F := Bits))) ⟨m, fun _ => 0, g⟩ (fun r => (∀ c : Dev Cert.GwAttn.nD,
      r.2.mem ((c.tc : Thread Cert.GwAttn.nD Cert.GwAttn.τ).loc Cert.GwAttn.main_arg0) = m ((c.tc : Thread Cert.GwAttn.nD Cert.GwAttn.τ).loc Cert.GwAttn.main_arg0)
      ∧ r.2.mem ((c.tc : Thread Cert.GwAttn.nD Cert.GwAttn.τ).loc Cert.GwAttn.main_arg1) = m ((c.tc : Thread Cert.GwAttn.nD Cert.GwAttn.τ).loc Cert.GwAttn.main_arg1))
      ∧ r.2.sem = fun _ => 0)

def quiescent_GwAttnIdeal [hGwAttnIdeal : Cert.GwAttnIdeal.Facts] : Prop :=
  ∀ (m : (ℓ : Loc Cert.GwAttnIdeal.nD Cert.GwAttnIdeal.τ Cert.GwAttnIdeal.sig) → Buf (Elt Ideal) ℓ) (g : Dev Cert.GwAttnIdeal.nD → PrngReg), Pre_GwAttnIdeal m →
    θ_run (Cert.GwAttnIdeal.defs (F := Ideal)) (onTc (τ := Cert.GwAttnIdeal.τ) (Cert.GwAttnIdeal.main (F := Ideal))) ⟨m, fun _ => 0, g⟩ (fun r => (∀ c : Dev Cert.GwAttnIdeal.nD,
      r.2.mem ((c.tc : Thread Cert.GwAttnIdeal.nD Cert.GwAttnIdeal.τ).loc Cert.GwAttnIdeal.main_arg0) = m ((c.tc : Thread Cert.GwAttnIdeal.nD Cert.GwAttnIdeal.τ).loc Cert.GwAttnIdeal.main_arg0)
      ∧ r.2.mem ((c.tc : Thread Cert.GwAttnIdeal.nD Cert.GwAttnIdeal.τ).loc Cert.GwAttnIdeal.main_arg1) = m ((c.tc : Thread Cert.GwAttnIdeal.nD Cert.GwAttnIdeal.τ).loc Cert.GwAttnIdeal.main_arg1))
      ∧ r.2.sem = fun _ => 0)

def quiescent_GwAttnReferenceIdeal [hGwAttnReferenceIdeal : Cert.GwAttnReferenceIdeal.Facts] : Prop :=
  ∀ (m : (ℓ : Loc Cert.GwAttnReferenceIdeal.nD Cert.GwAttnReferenceIdeal.τ Cert.GwAttnReferenceIdeal.sig) → Buf (Elt Ideal) ℓ) (g : Dev Cert.GwAttnReferenceIdeal.nD → PrngReg), Pre_GwAttnReferenceIdeal m →
    θ_run (Cert.GwAttnReferenceIdeal.defs (F := Ideal)) (onTc (τ := Cert.GwAttnReferenceIdeal.τ) (Cert.GwAttnReferenceIdeal.main (F := Ideal))) ⟨m, fun _ => 0, g⟩ (fun r => (∀ c : Dev Cert.GwAttnReferenceIdeal.nD,
      r.2.mem ((c.tc : Thread Cert.GwAttnReferenceIdeal.nD Cert.GwAttnReferenceIdeal.τ).loc Cert.GwAttnReferenceIdeal.main_arg0) = m ((c.tc : Thread Cert.GwAttnReferenceIdeal.nD Cert.GwAttnReferenceIdeal.τ).loc Cert.GwAttnReferenceIdeal.main_arg0)
      ∧ r.2.mem ((c.tc : Thread Cert.GwAttnReferenceIdeal.nD Cert.GwAttnReferenceIdeal.τ).loc Cert.GwAttnReferenceIdeal.main_arg1) = m ((c.tc : Thread Cert.GwAttnReferenceIdeal.nD Cert.GwAttnReferenceIdeal.τ).loc Cert.GwAttnReferenceIdeal.main_arg1))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2)
      ∧ r.2.mem ((c.tc : Thread Cert.InProjFwd.nD Cert.InProjFwd.τ).loc Cert.InProjFwd.main_arg3) = m ((c.tc : Thread Cert.InProjFwd.nD Cert.InProjFwd.τ).loc Cert.InProjFwd.main_arg3)
      ∧ r.2.mem ((c.tc : Thread Cert.InProjFwd.nD Cert.InProjFwd.τ).loc Cert.InProjFwd.main_arg4) = m ((c.tc : Thread Cert.InProjFwd.nD Cert.InProjFwd.τ).loc Cert.InProjFwd.main_arg4))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2)
      ∧ r.2.mem ((c.tc : Thread Cert.InProjFwdIdeal.nD Cert.InProjFwdIdeal.τ).loc Cert.InProjFwdIdeal.main_arg3) = m ((c.tc : Thread Cert.InProjFwdIdeal.nD Cert.InProjFwdIdeal.τ).loc Cert.InProjFwdIdeal.main_arg3)
      ∧ r.2.mem ((c.tc : Thread Cert.InProjFwdIdeal.nD Cert.InProjFwdIdeal.τ).loc Cert.InProjFwdIdeal.main_arg4) = m ((c.tc : Thread Cert.InProjFwdIdeal.nD Cert.InProjFwdIdeal.τ).loc Cert.InProjFwdIdeal.main_arg4))
      ∧ r.2.sem = fun _ => 0)

def quiescent_InProjFwdReferenceIdeal [hInProjFwdReferenceIdeal : Cert.InProjFwdReferenceIdeal.Facts] : Prop :=
  ∀ (m : (ℓ : Loc Cert.InProjFwdReferenceIdeal.nD Cert.InProjFwdReferenceIdeal.τ Cert.InProjFwdReferenceIdeal.sig) → Buf (Elt Ideal) ℓ) (g : Dev Cert.InProjFwdReferenceIdeal.nD → PrngReg), Pre_InProjFwdReferenceIdeal m →
    θ_run (Cert.InProjFwdReferenceIdeal.defs (F := Ideal)) (onTc (τ := Cert.InProjFwdReferenceIdeal.τ) (Cert.InProjFwdReferenceIdeal.main (F := Ideal))) ⟨m, fun _ => 0, g⟩ (fun r => (∀ c : Dev Cert.InProjFwdReferenceIdeal.nD,
      r.2.mem ((c.tc : Thread Cert.InProjFwdReferenceIdeal.nD Cert.InProjFwdReferenceIdeal.τ).loc Cert.InProjFwdReferenceIdeal.main_arg0) = m ((c.tc : Thread Cert.InProjFwdReferenceIdeal.nD Cert.InProjFwdReferenceIdeal.τ).loc Cert.InProjFwdReferenceIdeal.main_arg0)
      ∧ r.2.mem ((c.tc : Thread Cert.InProjFwdReferenceIdeal.nD Cert.InProjFwdReferenceIdeal.τ).loc Cert.InProjFwdReferenceIdeal.main_arg1) = m ((c.tc : Thread Cert.InProjFwdReferenceIdeal.nD Cert.InProjFwdReferenceIdeal.τ).loc Cert.InProjFwdReferenceIdeal.main_arg1)
      ∧ r.2.mem ((c.tc : Thread Cert.InProjFwdReferenceIdeal.nD Cert.InProjFwdReferenceIdeal.τ).loc Cert.InProjFwdReferenceIdeal.main_arg2) = m ((c.tc : Thread Cert.InProjFwdReferenceIdeal.nD Cert.InProjFwdReferenceIdeal.τ).loc Cert.InProjFwdReferenceIdeal.main_arg2)
      ∧ r.2.mem ((c.tc : Thread Cert.InProjFwdReferenceIdeal.nD Cert.InProjFwdReferenceIdeal.τ).loc Cert.InProjFwdReferenceIdeal.main_arg3) = m ((c.tc : Thread Cert.InProjFwdReferenceIdeal.nD Cert.InProjFwdReferenceIdeal.τ).loc Cert.InProjFwdReferenceIdeal.main_arg3)
      ∧ r.2.mem ((c.tc : Thread Cert.InProjFwdReferenceIdeal.nD Cert.InProjFwdReferenceIdeal.τ).loc Cert.InProjFwdReferenceIdeal.main_arg4) = m ((c.tc : Thread Cert.InProjFwdReferenceIdeal.nD Cert.InProjFwdReferenceIdeal.τ).loc Cert.InProjFwdReferenceIdeal.main_arg4))
      ∧ r.2.sem = fun _ => 0)

def quiescent_MlpInFwd [hMlpInFwd : Cert.MlpInFwd.Facts] : Prop :=
  ∀ (m : (ℓ : Loc Cert.MlpInFwd.nD Cert.MlpInFwd.τ Cert.MlpInFwd.sig) → Buf (Elt Bits) ℓ) (g : Dev Cert.MlpInFwd.nD → PrngReg), Pre_MlpInFwd m →
    θ_run (Cert.MlpInFwd.defs (F := Bits)) (onTc (τ := Cert.MlpInFwd.τ) (Cert.MlpInFwd.main (F := Bits))) ⟨m, fun _ => 0, g⟩ (fun r => (∀ c : Dev Cert.MlpInFwd.nD,
      r.2.mem ((c.tc : Thread Cert.MlpInFwd.nD Cert.MlpInFwd.τ).loc Cert.MlpInFwd.main_arg0) = m ((c.tc : Thread Cert.MlpInFwd.nD Cert.MlpInFwd.τ).loc Cert.MlpInFwd.main_arg0)
      ∧ r.2.mem ((c.tc : Thread Cert.MlpInFwd.nD Cert.MlpInFwd.τ).loc Cert.MlpInFwd.main_arg1) = m ((c.tc : Thread Cert.MlpInFwd.nD Cert.MlpInFwd.τ).loc Cert.MlpInFwd.main_arg1)
      ∧ r.2.mem ((c.tc : Thread Cert.MlpInFwd.nD Cert.MlpInFwd.τ).loc Cert.MlpInFwd.main_arg2) = m ((c.tc : Thread Cert.MlpInFwd.nD Cert.MlpInFwd.τ).loc Cert.MlpInFwd.main_arg2)
      ∧ r.2.mem ((c.tc : Thread Cert.MlpInFwd.nD Cert.MlpInFwd.τ).loc Cert.MlpInFwd.main_arg3) = m ((c.tc : Thread Cert.MlpInFwd.nD Cert.MlpInFwd.τ).loc Cert.MlpInFwd.main_arg3)
      ∧ r.2.mem ((c.tc : Thread Cert.MlpInFwd.nD Cert.MlpInFwd.τ).loc Cert.MlpInFwd.main_arg4) = m ((c.tc : Thread Cert.MlpInFwd.nD Cert.MlpInFwd.τ).loc Cert.MlpInFwd.main_arg4))
      ∧ r.2.sem = fun _ => 0)

def quiescent_MlpInFwdIdeal [hMlpInFwdIdeal : Cert.MlpInFwdIdeal.Facts] : Prop :=
  ∀ (m : (ℓ : Loc Cert.MlpInFwdIdeal.nD Cert.MlpInFwdIdeal.τ Cert.MlpInFwdIdeal.sig) → Buf (Elt Ideal) ℓ) (g : Dev Cert.MlpInFwdIdeal.nD → PrngReg), Pre_MlpInFwdIdeal m →
    θ_run (Cert.MlpInFwdIdeal.defs (F := Ideal)) (onTc (τ := Cert.MlpInFwdIdeal.τ) (Cert.MlpInFwdIdeal.main (F := Ideal))) ⟨m, fun _ => 0, g⟩ (fun r => (∀ c : Dev Cert.MlpInFwdIdeal.nD,
      r.2.mem ((c.tc : Thread Cert.MlpInFwdIdeal.nD Cert.MlpInFwdIdeal.τ).loc Cert.MlpInFwdIdeal.main_arg0) = m ((c.tc : Thread Cert.MlpInFwdIdeal.nD Cert.MlpInFwdIdeal.τ).loc Cert.MlpInFwdIdeal.main_arg0)
      ∧ r.2.mem ((c.tc : Thread Cert.MlpInFwdIdeal.nD Cert.MlpInFwdIdeal.τ).loc Cert.MlpInFwdIdeal.main_arg1) = m ((c.tc : Thread Cert.MlpInFwdIdeal.nD Cert.MlpInFwdIdeal.τ).loc Cert.MlpInFwdIdeal.main_arg1)
      ∧ r.2.mem ((c.tc : Thread Cert.MlpInFwdIdeal.nD Cert.MlpInFwdIdeal.τ).loc Cert.MlpInFwdIdeal.main_arg2) = m ((c.tc : Thread Cert.MlpInFwdIdeal.nD Cert.MlpInFwdIdeal.τ).loc Cert.MlpInFwdIdeal.main_arg2)
      ∧ r.2.mem ((c.tc : Thread Cert.MlpInFwdIdeal.nD Cert.MlpInFwdIdeal.τ).loc Cert.MlpInFwdIdeal.main_arg3) = m ((c.tc : Thread Cert.MlpInFwdIdeal.nD Cert.MlpInFwdIdeal.τ).loc Cert.MlpInFwdIdeal.main_arg3)
      ∧ r.2.mem ((c.tc : Thread Cert.MlpInFwdIdeal.nD Cert.MlpInFwdIdeal.τ).loc Cert.MlpInFwdIdeal.main_arg4) = m ((c.tc : Thread Cert.MlpInFwdIdeal.nD Cert.MlpInFwdIdeal.τ).loc Cert.MlpInFwdIdeal.main_arg4))
      ∧ r.2.sem = fun _ => 0)

def quiescent_MlpInFwdReferenceIdeal [hMlpInFwdReferenceIdeal : Cert.MlpInFwdReferenceIdeal.Facts] : Prop :=
  ∀ (m : (ℓ : Loc Cert.MlpInFwdReferenceIdeal.nD Cert.MlpInFwdReferenceIdeal.τ Cert.MlpInFwdReferenceIdeal.sig) → Buf (Elt Ideal) ℓ) (g : Dev Cert.MlpInFwdReferenceIdeal.nD → PrngReg), Pre_MlpInFwdReferenceIdeal m →
    θ_run (Cert.MlpInFwdReferenceIdeal.defs (F := Ideal)) (onTc (τ := Cert.MlpInFwdReferenceIdeal.τ) (Cert.MlpInFwdReferenceIdeal.main (F := Ideal))) ⟨m, fun _ => 0, g⟩ (fun r => (∀ c : Dev Cert.MlpInFwdReferenceIdeal.nD,
      r.2.mem ((c.tc : Thread Cert.MlpInFwdReferenceIdeal.nD Cert.MlpInFwdReferenceIdeal.τ).loc Cert.MlpInFwdReferenceIdeal.main_arg0) = m ((c.tc : Thread Cert.MlpInFwdReferenceIdeal.nD Cert.MlpInFwdReferenceIdeal.τ).loc Cert.MlpInFwdReferenceIdeal.main_arg0)
      ∧ r.2.mem ((c.tc : Thread Cert.MlpInFwdReferenceIdeal.nD Cert.MlpInFwdReferenceIdeal.τ).loc Cert.MlpInFwdReferenceIdeal.main_arg1) = m ((c.tc : Thread Cert.MlpInFwdReferenceIdeal.nD Cert.MlpInFwdReferenceIdeal.τ).loc Cert.MlpInFwdReferenceIdeal.main_arg1)
      ∧ r.2.mem ((c.tc : Thread Cert.MlpInFwdReferenceIdeal.nD Cert.MlpInFwdReferenceIdeal.τ).loc Cert.MlpInFwdReferenceIdeal.main_arg2) = m ((c.tc : Thread Cert.MlpInFwdReferenceIdeal.nD Cert.MlpInFwdReferenceIdeal.τ).loc Cert.MlpInFwdReferenceIdeal.main_arg2)
      ∧ r.2.mem ((c.tc : Thread Cert.MlpInFwdReferenceIdeal.nD Cert.MlpInFwdReferenceIdeal.τ).loc Cert.MlpInFwdReferenceIdeal.main_arg3) = m ((c.tc : Thread Cert.MlpInFwdReferenceIdeal.nD Cert.MlpInFwdReferenceIdeal.τ).loc Cert.MlpInFwdReferenceIdeal.main_arg3)
      ∧ r.2.mem ((c.tc : Thread Cert.MlpInFwdReferenceIdeal.nD Cert.MlpInFwdReferenceIdeal.τ).loc Cert.MlpInFwdReferenceIdeal.main_arg4) = m ((c.tc : Thread Cert.MlpInFwdReferenceIdeal.nD Cert.MlpInFwdReferenceIdeal.τ).loc Cert.MlpInFwdReferenceIdeal.main_arg4))
      ∧ r.2.sem = fun _ => 0)

def quiescent_MlpOutFwd [hMlpOutFwd : Cert.MlpOutFwd.Facts] : Prop :=
  ∀ (m : (ℓ : Loc Cert.MlpOutFwd.nD Cert.MlpOutFwd.τ Cert.MlpOutFwd.sig) → Buf (Elt Bits) ℓ) (g : Dev Cert.MlpOutFwd.nD → PrngReg), Pre_MlpOutFwd m →
    θ_run (Cert.MlpOutFwd.defs (F := Bits)) (onTc (τ := Cert.MlpOutFwd.τ) (Cert.MlpOutFwd.main (F := Bits))) ⟨m, fun _ => 0, g⟩ (fun r => (∀ c : Dev Cert.MlpOutFwd.nD,
      r.2.mem ((c.tc : Thread Cert.MlpOutFwd.nD Cert.MlpOutFwd.τ).loc Cert.MlpOutFwd.main_arg0) = m ((c.tc : Thread Cert.MlpOutFwd.nD Cert.MlpOutFwd.τ).loc Cert.MlpOutFwd.main_arg0)
      ∧ r.2.mem ((c.tc : Thread Cert.MlpOutFwd.nD Cert.MlpOutFwd.τ).loc Cert.MlpOutFwd.main_arg1) = m ((c.tc : Thread Cert.MlpOutFwd.nD Cert.MlpOutFwd.τ).loc Cert.MlpOutFwd.main_arg1)
      ∧ r.2.mem ((c.tc : Thread Cert.MlpOutFwd.nD Cert.MlpOutFwd.τ).loc Cert.MlpOutFwd.main_arg2) = m ((c.tc : Thread Cert.MlpOutFwd.nD Cert.MlpOutFwd.τ).loc Cert.MlpOutFwd.main_arg2)
      ∧ r.2.mem ((c.tc : Thread Cert.MlpOutFwd.nD Cert.MlpOutFwd.τ).loc Cert.MlpOutFwd.main_arg3) = m ((c.tc : Thread Cert.MlpOutFwd.nD Cert.MlpOutFwd.τ).loc Cert.MlpOutFwd.main_arg3)
      ∧ r.2.mem ((c.tc : Thread Cert.MlpOutFwd.nD Cert.MlpOutFwd.τ).loc Cert.MlpOutFwd.main_arg4) = m ((c.tc : Thread Cert.MlpOutFwd.nD Cert.MlpOutFwd.τ).loc Cert.MlpOutFwd.main_arg4))
      ∧ r.2.sem = fun _ => 0)

def quiescent_MlpOutFwdIdeal [hMlpOutFwdIdeal : Cert.MlpOutFwdIdeal.Facts] : Prop :=
  ∀ (m : (ℓ : Loc Cert.MlpOutFwdIdeal.nD Cert.MlpOutFwdIdeal.τ Cert.MlpOutFwdIdeal.sig) → Buf (Elt Ideal) ℓ) (g : Dev Cert.MlpOutFwdIdeal.nD → PrngReg), Pre_MlpOutFwdIdeal m →
    θ_run (Cert.MlpOutFwdIdeal.defs (F := Ideal)) (onTc (τ := Cert.MlpOutFwdIdeal.τ) (Cert.MlpOutFwdIdeal.main (F := Ideal))) ⟨m, fun _ => 0, g⟩ (fun r => (∀ c : Dev Cert.MlpOutFwdIdeal.nD,
      r.2.mem ((c.tc : Thread Cert.MlpOutFwdIdeal.nD Cert.MlpOutFwdIdeal.τ).loc Cert.MlpOutFwdIdeal.main_arg0) = m ((c.tc : Thread Cert.MlpOutFwdIdeal.nD Cert.MlpOutFwdIdeal.τ).loc Cert.MlpOutFwdIdeal.main_arg0)
      ∧ r.2.mem ((c.tc : Thread Cert.MlpOutFwdIdeal.nD Cert.MlpOutFwdIdeal.τ).loc Cert.MlpOutFwdIdeal.main_arg1) = m ((c.tc : Thread Cert.MlpOutFwdIdeal.nD Cert.MlpOutFwdIdeal.τ).loc Cert.MlpOutFwdIdeal.main_arg1)
      ∧ r.2.mem ((c.tc : Thread Cert.MlpOutFwdIdeal.nD Cert.MlpOutFwdIdeal.τ).loc Cert.MlpOutFwdIdeal.main_arg2) = m ((c.tc : Thread Cert.MlpOutFwdIdeal.nD Cert.MlpOutFwdIdeal.τ).loc Cert.MlpOutFwdIdeal.main_arg2)
      ∧ r.2.mem ((c.tc : Thread Cert.MlpOutFwdIdeal.nD Cert.MlpOutFwdIdeal.τ).loc Cert.MlpOutFwdIdeal.main_arg3) = m ((c.tc : Thread Cert.MlpOutFwdIdeal.nD Cert.MlpOutFwdIdeal.τ).loc Cert.MlpOutFwdIdeal.main_arg3)
      ∧ r.2.mem ((c.tc : Thread Cert.MlpOutFwdIdeal.nD Cert.MlpOutFwdIdeal.τ).loc Cert.MlpOutFwdIdeal.main_arg4) = m ((c.tc : Thread Cert.MlpOutFwdIdeal.nD Cert.MlpOutFwdIdeal.τ).loc Cert.MlpOutFwdIdeal.main_arg4))
      ∧ r.2.sem = fun _ => 0)

def quiescent_MlpOutFwdReferenceIdeal [hMlpOutFwdReferenceIdeal : Cert.MlpOutFwdReferenceIdeal.Facts] : Prop :=
  ∀ (m : (ℓ : Loc Cert.MlpOutFwdReferenceIdeal.nD Cert.MlpOutFwdReferenceIdeal.τ Cert.MlpOutFwdReferenceIdeal.sig) → Buf (Elt Ideal) ℓ) (g : Dev Cert.MlpOutFwdReferenceIdeal.nD → PrngReg), Pre_MlpOutFwdReferenceIdeal m →
    θ_run (Cert.MlpOutFwdReferenceIdeal.defs (F := Ideal)) (onTc (τ := Cert.MlpOutFwdReferenceIdeal.τ) (Cert.MlpOutFwdReferenceIdeal.main (F := Ideal))) ⟨m, fun _ => 0, g⟩ (fun r => (∀ c : Dev Cert.MlpOutFwdReferenceIdeal.nD,
      r.2.mem ((c.tc : Thread Cert.MlpOutFwdReferenceIdeal.nD Cert.MlpOutFwdReferenceIdeal.τ).loc Cert.MlpOutFwdReferenceIdeal.main_arg0) = m ((c.tc : Thread Cert.MlpOutFwdReferenceIdeal.nD Cert.MlpOutFwdReferenceIdeal.τ).loc Cert.MlpOutFwdReferenceIdeal.main_arg0)
      ∧ r.2.mem ((c.tc : Thread Cert.MlpOutFwdReferenceIdeal.nD Cert.MlpOutFwdReferenceIdeal.τ).loc Cert.MlpOutFwdReferenceIdeal.main_arg1) = m ((c.tc : Thread Cert.MlpOutFwdReferenceIdeal.nD Cert.MlpOutFwdReferenceIdeal.τ).loc Cert.MlpOutFwdReferenceIdeal.main_arg1)
      ∧ r.2.mem ((c.tc : Thread Cert.MlpOutFwdReferenceIdeal.nD Cert.MlpOutFwdReferenceIdeal.τ).loc Cert.MlpOutFwdReferenceIdeal.main_arg2) = m ((c.tc : Thread Cert.MlpOutFwdReferenceIdeal.nD Cert.MlpOutFwdReferenceIdeal.τ).loc Cert.MlpOutFwdReferenceIdeal.main_arg2)
      ∧ r.2.mem ((c.tc : Thread Cert.MlpOutFwdReferenceIdeal.nD Cert.MlpOutFwdReferenceIdeal.τ).loc Cert.MlpOutFwdReferenceIdeal.main_arg3) = m ((c.tc : Thread Cert.MlpOutFwdReferenceIdeal.nD Cert.MlpOutFwdReferenceIdeal.τ).loc Cert.MlpOutFwdReferenceIdeal.main_arg3)
      ∧ r.2.mem ((c.tc : Thread Cert.MlpOutFwdReferenceIdeal.nD Cert.MlpOutFwdReferenceIdeal.τ).loc Cert.MlpOutFwdReferenceIdeal.main_arg4) = m ((c.tc : Thread Cert.MlpOutFwdReferenceIdeal.nD Cert.MlpOutFwdReferenceIdeal.τ).loc Cert.MlpOutFwdReferenceIdeal.main_arg4))
      ∧ r.2.sem = fun _ => 0)

def preserves_Attn_AttnIdeal : Prop :=
  IdealRules.named_const.Statement Cert.AttnIdeal.κ "cutoff" .f32 0xC2B40000#32 ⊥

def algebraic_AttnIdeal_AttnReferenceIdeal_pre_finite [hAttnIdeal : Cert.AttnIdeal.Facts] [hAttnReferenceIdeal : Cert.AttnReferenceIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v84_0)) (v1 : (c : Dev Cert.AttnIdeal.nD) → Buf (Elt Ideal) ((c.tc : Thread Cert.AttnIdeal.nD Cert.AttnIdeal.τ).loc Cert.AttnIdeal.main_v84_1)) (v2 : (c : Dev Cert.AttnIdeal.nD) → Buf (Elt Ideal) ((c.tc : Thread Cert.AttnIdeal.nD Cert.AttnIdeal.τ).loc Cert.AttnIdeal.main_v84_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v84_0) = v0 c
          ∧ r.2.mem ((c.tc : Thread Cert.AttnIdeal.nD Cert.AttnIdeal.τ).loc Cert.AttnIdeal.main_v84_1) = v1 c
          ∧ r.2.mem ((c.tc : Thread Cert.AttnIdeal.nD Cert.AttnIdeal.τ).loc Cert.AttnIdeal.main_v84_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v57) = v0 c
          ∧ r.2.mem ((c.tc : Thread Cert.AttnReferenceIdeal.nD Cert.AttnReferenceIdeal.τ).loc Cert.AttnReferenceIdeal.main_v59) = v1 c
          ∧ r.2.mem ((c.tc : Thread Cert.AttnReferenceIdeal.nD Cert.AttnReferenceIdeal.τ).loc Cert.AttnReferenceIdeal.main_v61) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GwIn_GwInIdeal : Prop :=
  True

def algebraic_GwInIdeal_GwInReferenceIdeal [hGwInIdeal : Cert.GwInIdeal.Facts] [hGwInReferenceIdeal : Cert.GwInReferenceIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInReferenceIdeal.nD Cert.GwInReferenceIdeal.τ Cert.GwInReferenceIdeal.sig) → Buf (Elt Ideal) ℓ) (g' : Dev Cert.GwInReferenceIdeal.nD → PrngReg), Pre_GwInIdeal m →
    (∀ c : Dev Cert.GwInIdeal.nD,
      m' ((c.tc : Thread Cert.GwInReferenceIdeal.nD Cert.GwInReferenceIdeal.τ).loc Cert.GwInReferenceIdeal.main_arg0) = m ((c.tc : Thread Cert.GwInIdeal.nD Cert.GwInIdeal.τ).loc Cert.GwInIdeal.main_arg0)
      ∧ m' ((c.tc : Thread Cert.GwInReferenceIdeal.nD Cert.GwInReferenceIdeal.τ).loc Cert.GwInReferenceIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInReferenceIdeal.defs (F := Ideal)) (onTc (τ := Cert.GwInReferenceIdeal.τ) (Cert.GwInReferenceIdeal.main (F := Ideal))) ⟨m', fun _ => 0, g'⟩ (fun r => ∀ c : Dev Cert.GwInReferenceIdeal.nD,
          r.2.mem ((c.tc : Thread Cert.GwInReferenceIdeal.nD Cert.GwInReferenceIdeal.τ).loc Cert.GwInReferenceIdeal.main_v6) = v0 c
          ∧ r.2.mem ((c.tc : Thread Cert.GwInReferenceIdeal.nD Cert.GwInReferenceIdeal.τ).loc Cert.GwInReferenceIdeal.main_arg0) = m' ((c.tc : Thread Cert.GwInReferenceIdeal.nD Cert.GwInReferenceIdeal.τ).loc Cert.GwInReferenceIdeal.main_arg0)
          ∧ r.2.mem ((c.tc : Thread Cert.GwInReferenceIdeal.nD Cert.GwInReferenceIdeal.τ).loc Cert.GwInReferenceIdeal.main_arg1) = m' ((c.tc : Thread Cert.GwInReferenceIdeal.nD Cert.GwInReferenceIdeal.τ).loc Cert.GwInReferenceIdeal.main_arg1))

def preserves_GwOut_GwOutIdeal : Prop :=
  True

def algebraic_GwOutIdeal_GwOutReferenceIdeal [hGwOutIdeal : Cert.GwOutIdeal.Facts] [hGwOutReferenceIdeal : Cert.GwOutReferenceIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutReferenceIdeal.nD Cert.GwOutReferenceIdeal.τ Cert.GwOutReferenceIdeal.sig) → Buf (Elt Ideal) ℓ) (g' : Dev Cert.GwOutReferenceIdeal.nD → PrngReg), Pre_GwOutIdeal m →
    (∀ c : Dev Cert.GwOutIdeal.nD,
      m' ((c.tc : Thread Cert.GwOutReferenceIdeal.nD Cert.GwOutReferenceIdeal.τ).loc Cert.GwOutReferenceIdeal.main_arg0) = m ((c.tc : Thread Cert.GwOutIdeal.nD Cert.GwOutIdeal.τ).loc Cert.GwOutIdeal.main_arg0)
      ∧ m' ((c.tc : Thread Cert.GwOutReferenceIdeal.nD Cert.GwOutReferenceIdeal.τ).loc Cert.GwOutReferenceIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutReferenceIdeal.defs (F := Ideal)) (onTc (τ := Cert.GwOutReferenceIdeal.τ) (Cert.GwOutReferenceIdeal.main (F := Ideal))) ⟨m', fun _ => 0, g'⟩ (fun r => ∀ c : Dev Cert.GwOutReferenceIdeal.nD,
          r.2.mem ((c.tc : Thread Cert.GwOutReferenceIdeal.nD Cert.GwOutReferenceIdeal.τ).loc Cert.GwOutReferenceIdeal.main_v8) = v0 c
          ∧ r.2.mem ((c.tc : Thread Cert.GwOutReferenceIdeal.nD Cert.GwOutReferenceIdeal.τ).loc Cert.GwOutReferenceIdeal.main_arg0) = m' ((c.tc : Thread Cert.GwOutReferenceIdeal.nD Cert.GwOutReferenceIdeal.τ).loc Cert.GwOutReferenceIdeal.main_arg0)
          ∧ r.2.mem ((c.tc : Thread Cert.GwOutReferenceIdeal.nD Cert.GwOutReferenceIdeal.τ).loc Cert.GwOutReferenceIdeal.main_arg1) = m' ((c.tc : Thread Cert.GwOutReferenceIdeal.nD Cert.GwOutReferenceIdeal.τ).loc Cert.GwOutReferenceIdeal.main_arg1))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)
      ∧ m' ((c.tc : Thread Cert.MlpOutReferenceIdeal.nD Cert.MlpOutReferenceIdeal.τ).loc Cert.MlpOutReferenceIdeal.main_arg2) = m ((c.tc : Thread Cert.MlpOutIdeal.nD Cert.MlpOutIdeal.τ).loc Cert.MlpOutIdeal.main_arg2)
      ∧ m' ((c.tc : Thread Cert.MlpOutReferenceIdeal.nD Cert.MlpOutReferenceIdeal.τ).loc Cert.MlpOutReferenceIdeal.main_arg3) = m ((c.tc : Thread Cert.MlpOutIdeal.nD Cert.MlpOutIdeal.τ).loc Cert.MlpOutIdeal.main_arg3)
      ∧ m' ((c.tc : Thread Cert.MlpOutReferenceIdeal.nD Cert.MlpOutReferenceIdeal.τ).loc Cert.MlpOutReferenceIdeal.main_arg4) = m ((c.tc : Thread Cert.MlpOutIdeal.nD Cert.MlpOutIdeal.τ).loc Cert.MlpOutIdeal.main_arg4)
      ∧ m' ((c.tc : Thread Cert.MlpOutReferenceIdeal.nD Cert.MlpOutReferenceIdeal.τ).loc Cert.MlpOutReferenceIdeal.main_arg5) = m ((c.tc : Thread Cert.MlpOutIdeal.nD Cert.MlpOutIdeal.τ).loc Cert.MlpOutIdeal.main_arg5)) →
    ∃ (v0 : (c : Dev Cert.MlpOutIdeal.nD) → Buf (Elt Ideal) ((c.tc : Thread Cert.MlpOutIdeal.nD Cert.MlpOutIdeal.τ).loc Cert.MlpOutIdeal.main_v0_0)) (v1 : (c : Dev Cert.MlpOutIdeal.nD) → Buf (Elt Ideal) ((c.tc : Thread Cert.MlpOutIdeal.nD Cert.MlpOutIdeal.τ).loc Cert.MlpOutIdeal.main_v0_1)) (v2 : (c : Dev Cert.MlpOutIdeal.nD) → Buf (Elt Ideal) ((c.tc : Thread Cert.MlpOutIdeal.nD Cert.MlpOutIdeal.τ).loc Cert.MlpOutIdeal.main_v0_2)) (v3 : (c : Dev Cert.MlpOutIdeal.nD) → Buf (Elt Ideal) ((c.tc : Thread Cert.MlpOutIdeal.nD Cert.MlpOutIdeal.τ).loc Cert.MlpOutIdeal.main_v0_3)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0_0) = v0 c
          ∧ r.2.mem ((c.tc : Thread Cert.MlpOutIdeal.nD Cert.MlpOutIdeal.τ).loc Cert.MlpOutIdeal.main_v0_1) = v1 c
          ∧ r.2.mem ((c.tc : Thread Cert.MlpOutIdeal.nD Cert.MlpOutIdeal.τ).loc Cert.MlpOutIdeal.main_v0_2) = v2 c
          ∧ r.2.mem ((c.tc : Thread Cert.MlpOutIdeal.nD Cert.MlpOutIdeal.τ).loc Cert.MlpOutIdeal.main_v0_3) = v3 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4)
          ∧ r.2.mem ((c.tc : Thread Cert.MlpOutIdeal.nD Cert.MlpOutIdeal.τ).loc Cert.MlpOutIdeal.main_arg5) = m ((c.tc : Thread Cert.MlpOutIdeal.nD Cert.MlpOutIdeal.τ).loc Cert.MlpOutIdeal.main_arg5))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v55) = v0 c
          ∧ r.2.mem ((c.tc : Thread Cert.MlpOutReferenceIdeal.nD Cert.MlpOutReferenceIdeal.τ).loc Cert.MlpOutReferenceIdeal.main_v56) = v1 c
          ∧ r.2.mem ((c.tc : Thread Cert.MlpOutReferenceIdeal.nD Cert.MlpOutReferenceIdeal.τ).loc Cert.MlpOutReferenceIdeal.main_v21) = v2 c
          ∧ r.2.mem ((c.tc : Thread Cert.MlpOutReferenceIdeal.nD Cert.MlpOutReferenceIdeal.τ).loc Cert.MlpOutReferenceIdeal.main_v24) = v3 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1)
          ∧ r.2.mem ((c.tc : Thread Cert.MlpOutReferenceIdeal.nD Cert.MlpOutReferenceIdeal.τ).loc Cert.MlpOutReferenceIdeal.main_arg2) = m' ((c.tc : Thread Cert.MlpOutReferenceIdeal.nD Cert.MlpOutReferenceIdeal.τ).loc Cert.MlpOutReferenceIdeal.main_arg2)
          ∧ r.2.mem ((c.tc : Thread Cert.MlpOutReferenceIdeal.nD Cert.MlpOutReferenceIdeal.τ).loc Cert.MlpOutReferenceIdeal.main_arg3) = m' ((c.tc : Thread Cert.MlpOutReferenceIdeal.nD Cert.MlpOutReferenceIdeal.τ).loc Cert.MlpOutReferenceIdeal.main_arg3)
          ∧ r.2.mem ((c.tc : Thread Cert.MlpOutReferenceIdeal.nD Cert.MlpOutReferenceIdeal.τ).loc Cert.MlpOutReferenceIdeal.main_arg4) = m' ((c.tc : Thread Cert.MlpOutReferenceIdeal.nD Cert.MlpOutReferenceIdeal.τ).loc Cert.MlpOutReferenceIdeal.main_arg4)
          ∧ r.2.mem ((c.tc : Thread Cert.MlpOutReferenceIdeal.nD Cert.MlpOutReferenceIdeal.τ).loc Cert.MlpOutReferenceIdeal.main_arg5) = m' ((c.tc : Thread Cert.MlpOutReferenceIdeal.nD Cert.MlpOutReferenceIdeal.τ).loc Cert.MlpOutReferenceIdeal.main_arg5))

def preserves_MlpIn_MlpInIdeal : Prop :=
  True

def algebraic_MlpInIdeal_MlpInReferenceIdeal [hMlpInIdeal : Cert.MlpInIdeal.Facts] [hMlpInReferenceIdeal : Cert.MlpInReferenceIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInIdeal m →
    (∀ c : Dev Cert.MlpInIdeal.nD,
      m' ((c.tc : Thread Cert.MlpInReferenceIdeal.nD Cert.MlpInReferenceIdeal.τ).loc Cert.MlpInReferenceIdeal.main_arg0) = m ((c.tc : Thread Cert.MlpInIdeal.nD Cert.MlpInIdeal.τ).loc Cert.MlpInIdeal.main_arg0)
      ∧ m' ((c.tc : Thread Cert.MlpInReferenceIdeal.nD Cert.MlpInReferenceIdeal.τ).loc Cert.MlpInReferenceIdeal.main_arg1) = m ((c.tc : Thread Cert.MlpInIdeal.nD Cert.MlpInIdeal.τ).loc Cert.MlpInIdeal.main_arg1)
      ∧ m' ((c.tc : Thread Cert.MlpInReferenceIdeal.nD Cert.MlpInReferenceIdeal.τ).loc Cert.MlpInReferenceIdeal.main_arg2) = m ((c.tc : Thread Cert.MlpInIdeal.nD Cert.MlpInIdeal.τ).loc Cert.MlpInIdeal.main_arg2)
      ∧ m' ((c.tc : Thread Cert.MlpInReferenceIdeal.nD Cert.MlpInReferenceIdeal.τ).loc Cert.MlpInReferenceIdeal.main_arg3) = m ((c.tc : Thread Cert.MlpInIdeal.nD Cert.MlpInIdeal.τ).loc Cert.MlpInIdeal.main_arg3)
      ∧ m' ((c.tc : Thread Cert.MlpInReferenceIdeal.nD Cert.MlpInReferenceIdeal.τ).loc Cert.MlpInReferenceIdeal.main_arg4) = m ((c.tc : Thread Cert.MlpInIdeal.nD Cert.MlpInIdeal.τ).loc Cert.MlpInIdeal.main_arg4)
      ∧ m' ((c.tc : Thread Cert.MlpInReferenceIdeal.nD Cert.MlpInReferenceIdeal.τ).loc Cert.MlpInReferenceIdeal.main_arg5) = m ((c.tc : Thread Cert.MlpInIdeal.nD Cert.MlpInIdeal.τ).loc Cert.MlpInIdeal.main_arg5)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)) (v2 : (c : Dev Cert.MlpInIdeal.nD) → Buf (Elt Ideal) ((c.tc : Thread Cert.MlpInIdeal.nD Cert.MlpInIdeal.τ).loc Cert.MlpInIdeal.main_v0_2)) (v3 : (c : Dev Cert.MlpInIdeal.nD) → Buf (Elt Ideal) ((c.tc : Thread Cert.MlpInIdeal.nD Cert.MlpInIdeal.τ).loc Cert.MlpInIdeal.main_v0_3)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_v0_2) = v2 c
          ∧ r.2.mem ((c.tc : Thread Cert.MlpInIdeal.nD Cert.MlpInIdeal.τ).loc Cert.MlpInIdeal.main_v0_3) = v3 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
          ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
          ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
          ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v52) = v0 c
          ∧ r.2.mem ((c.tc : Thread Cert.MlpInReferenceIdeal.nD Cert.MlpInReferenceIdeal.τ).loc Cert.MlpInReferenceIdeal.main_v27) = v1 c
          ∧ r.2.mem ((c.tc : Thread Cert.MlpInReferenceIdeal.nD Cert.MlpInReferenceIdeal.τ).loc Cert.MlpInReferenceIdeal.main_v30) = v2 c
          ∧ r.2.mem ((c.tc : Thread Cert.MlpInReferenceIdeal.nD Cert.MlpInReferenceIdeal.τ).loc Cert.MlpInReferenceIdeal.main_v35) = v3 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1)
          ∧ r.2.mem ((c.tc : Thread Cert.MlpInReferenceIdeal.nD Cert.MlpInReferenceIdeal.τ).loc Cert.MlpInReferenceIdeal.main_arg2) = m' ((c.tc : Thread Cert.MlpInReferenceIdeal.nD Cert.MlpInReferenceIdeal.τ).loc Cert.MlpInReferenceIdeal.main_arg2)
          ∧ r.2.mem ((c.tc : Thread Cert.MlpInReferenceIdeal.nD Cert.MlpInReferenceIdeal.τ).loc Cert.MlpInReferenceIdeal.main_arg3) = m' ((c.tc : Thread Cert.MlpInReferenceIdeal.nD Cert.MlpInReferenceIdeal.τ).loc Cert.MlpInReferenceIdeal.main_arg3)
          ∧ r.2.mem ((c.tc : Thread Cert.MlpInReferenceIdeal.nD Cert.MlpInReferenceIdeal.τ).loc Cert.MlpInReferenceIdeal.main_arg4) = m' ((c.tc : Thread Cert.MlpInReferenceIdeal.nD Cert.MlpInReferenceIdeal.τ).loc Cert.MlpInReferenceIdeal.main_arg4)
          ∧ r.2.mem ((c.tc : Thread Cert.MlpInReferenceIdeal.nD Cert.MlpInReferenceIdeal.τ).loc Cert.MlpInReferenceIdeal.main_arg5) = m' ((c.tc : Thread Cert.MlpInReferenceIdeal.nD Cert.MlpInReferenceIdeal.τ).loc Cert.MlpInReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v53) = v0 c
          ∧ r.2.mem ((c.tc : Thread Cert.InProjReferenceIdeal.nD Cert.InProjReferenceIdeal.τ).loc Cert.InProjReferenceIdeal.main_v28) = v1 c
          ∧ r.2.mem ((c.tc : Thread Cert.InProjReferenceIdeal.nD Cert.InProjReferenceIdeal.τ).loc Cert.InProjReferenceIdeal.main_v31) = v2 c
          ∧ r.2.mem ((c.tc : Thread Cert.InProjReferenceIdeal.nD Cert.InProjReferenceIdeal.τ).loc Cert.InProjReferenceIdeal.main_v36) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9))

def preserves_GwGate_GwGateIdeal : Prop :=
  True

def algebraic_GwGateIdeal_GwGateReferenceIdeal [hGwGateIdeal : Cert.GwGateIdeal.Facts] [hGwGateReferenceIdeal : Cert.GwGateReferenceIdeal.Facts] : Prop :=
  ∀ (m : (ℓ : Loc Cert.GwGateIdeal.nD Cert.GwGateIdeal.τ Cert.GwGateIdeal.sig) → Buf (Elt Ideal) ℓ) (g : Dev Cert.GwGateIdeal.nD → PrngReg)
    (m' : (ℓ : Loc Cert.GwGateReferenceIdeal.nD Cert.GwGateReferenceIdeal.τ Cert.GwGateReferenceIdeal.sig) → Buf (Elt Ideal) ℓ) (g' : Dev Cert.GwGateReferenceIdeal.nD → PrngReg), Pre_GwGateIdeal m →
    (∀ c : Dev Cert.GwGateIdeal.nD,
      m' ((c.tc : Thread Cert.GwGateReferenceIdeal.nD Cert.GwGateReferenceIdeal.τ).loc Cert.GwGateReferenceIdeal.main_arg0) = m ((c.tc : Thread Cert.GwGateIdeal.nD Cert.GwGateIdeal.τ).loc Cert.GwGateIdeal.main_arg0)
      ∧ m' ((c.tc : Thread Cert.GwGateReferenceIdeal.nD Cert.GwGateReferenceIdeal.τ).loc Cert.GwGateReferenceIdeal.main_arg1) = m ((c.tc : Thread Cert.GwGateIdeal.nD Cert.GwGateIdeal.τ).loc Cert.GwGateIdeal.main_arg1)
      ∧ m' ((c.tc : Thread Cert.GwGateReferenceIdeal.nD Cert.GwGateReferenceIdeal.τ).loc Cert.GwGateReferenceIdeal.main_arg2) = m ((c.tc : Thread Cert.GwGateIdeal.nD Cert.GwGateIdeal.τ).loc Cert.GwGateIdeal.main_arg2)) →
    ∃ (v0 : (c : Dev Cert.GwGateIdeal.nD) → Buf (Elt Ideal) ((c.tc : Thread Cert.GwGateIdeal.nD Cert.GwGateIdeal.τ).loc Cert.GwGateIdeal.main_v0)),
      θ_run (Cert.GwGateIdeal.defs (F := Ideal)) (onTc (τ := Cert.GwGateIdeal.τ) (Cert.GwGateIdeal.main (F := Ideal))) ⟨m, fun _ => 0, g⟩ (fun r => ∀ c : Dev Cert.GwGateIdeal.nD,
          r.2.mem ((c.tc : Thread Cert.GwGateIdeal.nD Cert.GwGateIdeal.τ).loc Cert.GwGateIdeal.main_v0) = v0 c
          ∧ r.2.mem ((c.tc : Thread Cert.GwGateIdeal.nD Cert.GwGateIdeal.τ).loc Cert.GwGateIdeal.main_arg0) = m ((c.tc : Thread Cert.GwGateIdeal.nD Cert.GwGateIdeal.τ).loc Cert.GwGateIdeal.main_arg0)
          ∧ r.2.mem ((c.tc : Thread Cert.GwGateIdeal.nD Cert.GwGateIdeal.τ).loc Cert.GwGateIdeal.main_arg1) = m ((c.tc : Thread Cert.GwGateIdeal.nD Cert.GwGateIdeal.τ).loc Cert.GwGateIdeal.main_arg1)
          ∧ r.2.mem ((c.tc : Thread Cert.GwGateIdeal.nD Cert.GwGateIdeal.τ).loc Cert.GwGateIdeal.main_arg2) = m ((c.tc : Thread Cert.GwGateIdeal.nD Cert.GwGateIdeal.τ).loc Cert.GwGateIdeal.main_arg2))
      ∧ θ_run (Cert.GwGateReferenceIdeal.defs (F := Ideal)) (onTc (τ := Cert.GwGateReferenceIdeal.τ) (Cert.GwGateReferenceIdeal.main (F := Ideal))) ⟨m', fun _ => 0, g'⟩ (fun r => ∀ c : Dev Cert.GwGateReferenceIdeal.nD,
          r.2.mem ((c.tc : Thread Cert.GwGateReferenceIdeal.nD Cert.GwGateReferenceIdeal.τ).loc Cert.GwGateReferenceIdeal.main_v8) = v0 c
          ∧ r.2.mem ((c.tc : Thread Cert.GwGateReferenceIdeal.nD Cert.GwGateReferenceIdeal.τ).loc Cert.GwGateReferenceIdeal.main_arg0) = m' ((c.tc : Thread Cert.GwGateReferenceIdeal.nD Cert.GwGateReferenceIdeal.τ).loc Cert.GwGateReferenceIdeal.main_arg0)
          ∧ r.2.mem ((c.tc : Thread Cert.GwGateReferenceIdeal.nD Cert.GwGateReferenceIdeal.τ).loc Cert.GwGateReferenceIdeal.main_arg1) = m' ((c.tc : Thread Cert.GwGateReferenceIdeal.nD Cert.GwGateReferenceIdeal.τ).loc Cert.GwGateReferenceIdeal.main_arg1)
          ∧ r.2.mem ((c.tc : Thread Cert.GwGateReferenceIdeal.nD Cert.GwGateReferenceIdeal.τ).loc Cert.GwGateReferenceIdeal.main_arg2) = m' ((c.tc : Thread Cert.GwGateReferenceIdeal.nD Cert.GwGateReferenceIdeal.τ).loc Cert.GwGateReferenceIdeal.main_arg2))

def preserves_GwMix_GwMixIdeal : Prop :=
  True

def algebraic_GwMixIdeal_GwMixReferenceIdeal [hGwMixIdeal : Cert.GwMixIdeal.Facts] [hGwMixReferenceIdeal : Cert.GwMixReferenceIdeal.Facts] : Prop :=
  ∀ (m : (ℓ : Loc Cert.GwMixIdeal.nD Cert.GwMixIdeal.τ Cert.GwMixIdeal.sig) → Buf (Elt Ideal) ℓ) (g : Dev Cert.GwMixIdeal.nD → PrngReg)
    (m' : (ℓ : Loc Cert.GwMixReferenceIdeal.nD Cert.GwMixReferenceIdeal.τ Cert.GwMixReferenceIdeal.sig) → Buf (Elt Ideal) ℓ) (g' : Dev Cert.GwMixReferenceIdeal.nD → PrngReg), Pre_GwMixIdeal m →
    (∀ c : Dev Cert.GwMixIdeal.nD,
      m' ((c.tc : Thread Cert.GwMixReferenceIdeal.nD Cert.GwMixReferenceIdeal.τ).loc Cert.GwMixReferenceIdeal.main_arg0) = m ((c.tc : Thread Cert.GwMixIdeal.nD Cert.GwMixIdeal.τ).loc Cert.GwMixIdeal.main_arg0)
      ∧ m' ((c.tc : Thread Cert.GwMixReferenceIdeal.nD Cert.GwMixReferenceIdeal.τ).loc Cert.GwMixReferenceIdeal.main_arg1) = m ((c.tc : Thread Cert.GwMixIdeal.nD Cert.GwMixIdeal.τ).loc Cert.GwMixIdeal.main_arg1)) →
    ∃ (v0 : (c : Dev Cert.GwMixIdeal.nD) → Buf (Elt Ideal) ((c.tc : Thread Cert.GwMixIdeal.nD Cert.GwMixIdeal.τ).loc Cert.GwMixIdeal.main_v0)),
      θ_run (Cert.GwMixIdeal.defs (F := Ideal)) (onTc (τ := Cert.GwMixIdeal.τ) (Cert.GwMixIdeal.main (F := Ideal))) ⟨m, fun _ => 0, g⟩ (fun r => ∀ c : Dev Cert.GwMixIdeal.nD,
          r.2.mem ((c.tc : Thread Cert.GwMixIdeal.nD Cert.GwMixIdeal.τ).loc Cert.GwMixIdeal.main_v0) = v0 c
          ∧ r.2.mem ((c.tc : Thread Cert.GwMixIdeal.nD Cert.GwMixIdeal.τ).loc Cert.GwMixIdeal.main_arg0) = m ((c.tc : Thread Cert.GwMixIdeal.nD Cert.GwMixIdeal.τ).loc Cert.GwMixIdeal.main_arg0)
          ∧ r.2.mem ((c.tc : Thread Cert.GwMixIdeal.nD Cert.GwMixIdeal.τ).loc Cert.GwMixIdeal.main_arg1) = m ((c.tc : Thread Cert.GwMixIdeal.nD Cert.GwMixIdeal.τ).loc Cert.GwMixIdeal.main_arg1))
      ∧ θ_run (Cert.GwMixReferenceIdeal.defs (F := Ideal)) (onTc (τ := Cert.GwMixReferenceIdeal.τ) (Cert.GwMixReferenceIdeal.main (F := Ideal))) ⟨m', fun _ => 0, g'⟩ (fun r => ∀ c : Dev Cert.GwMixReferenceIdeal.nD,
          r.2.mem ((c.tc : Thread Cert.GwMixReferenceIdeal.nD Cert.GwMixReferenceIdeal.τ).loc Cert.GwMixReferenceIdeal.main_v6) = v0 c
          ∧ r.2.mem ((c.tc : Thread Cert.GwMixReferenceIdeal.nD Cert.GwMixReferenceIdeal.τ).loc Cert.GwMixReferenceIdeal.main_arg0) = m' ((c.tc : Thread Cert.GwMixReferenceIdeal.nD Cert.GwMixReferenceIdeal.τ).loc Cert.GwMixReferenceIdeal.main_arg0)
          ∧ r.2.mem ((c.tc : Thread Cert.GwMixReferenceIdeal.nD Cert.GwMixReferenceIdeal.τ).loc Cert.GwMixReferenceIdeal.main_arg1) = m' ((c.tc : Thread Cert.GwMixReferenceIdeal.nD Cert.GwMixReferenceIdeal.τ).loc Cert.GwMixReferenceIdeal.main_arg1))

def preserves_GwConv_GwConvIdeal : Prop :=
  True

def algebraic_GwConvIdeal_GwConvReferenceIdeal [hGwConvIdeal : Cert.GwConvIdeal.Facts] [hGwConvReferenceIdeal : Cert.GwConvReferenceIdeal.Facts] : Prop :=
  ∀ (m : (ℓ : Loc Cert.GwConvIdeal.nD Cert.GwConvIdeal.τ Cert.GwConvIdeal.sig) → Buf (Elt Ideal) ℓ) (g : Dev Cert.GwConvIdeal.nD → PrngReg)
    (m' : (ℓ : Loc Cert.GwConvReferenceIdeal.nD Cert.GwConvReferenceIdeal.τ Cert.GwConvReferenceIdeal.sig) → Buf (Elt Ideal) ℓ) (g' : Dev Cert.GwConvReferenceIdeal.nD → PrngReg), Pre_GwConvIdeal m →
    (∀ c : Dev Cert.GwConvIdeal.nD,
      m' ((c.tc : Thread Cert.GwConvReferenceIdeal.nD Cert.GwConvReferenceIdeal.τ).loc Cert.GwConvReferenceIdeal.main_arg0) = m ((c.tc : Thread Cert.GwConvIdeal.nD Cert.GwConvIdeal.τ).loc Cert.GwConvIdeal.main_arg0)
      ∧ m' ((c.tc : Thread Cert.GwConvReferenceIdeal.nD Cert.GwConvReferenceIdeal.τ).loc Cert.GwConvReferenceIdeal.main_arg1) = m ((c.tc : Thread Cert.GwConvIdeal.nD Cert.GwConvIdeal.τ).loc Cert.GwConvIdeal.main_arg1)) →
    ∃ (v0 : (c : Dev Cert.GwConvIdeal.nD) → Buf (Elt Ideal) ((c.tc : Thread Cert.GwConvIdeal.nD Cert.GwConvIdeal.τ).loc Cert.GwConvIdeal.main_v0)),
      θ_run (Cert.GwConvIdeal.defs (F := Ideal)) (onTc (τ := Cert.GwConvIdeal.τ) (Cert.GwConvIdeal.main (F := Ideal))) ⟨m, fun _ => 0, g⟩ (fun r => ∀ c : Dev Cert.GwConvIdeal.nD,
          r.2.mem ((c.tc : Thread Cert.GwConvIdeal.nD Cert.GwConvIdeal.τ).loc Cert.GwConvIdeal.main_v0) = v0 c
          ∧ r.2.mem ((c.tc : Thread Cert.GwConvIdeal.nD Cert.GwConvIdeal.τ).loc Cert.GwConvIdeal.main_arg0) = m ((c.tc : Thread Cert.GwConvIdeal.nD Cert.GwConvIdeal.τ).loc Cert.GwConvIdeal.main_arg0)
          ∧ r.2.mem ((c.tc : Thread Cert.GwConvIdeal.nD Cert.GwConvIdeal.τ).loc Cert.GwConvIdeal.main_arg1) = m ((c.tc : Thread Cert.GwConvIdeal.nD Cert.GwConvIdeal.τ).loc Cert.GwConvIdeal.main_arg1))
      ∧ θ_run (Cert.GwConvReferenceIdeal.defs (F := Ideal)) (onTc (τ := Cert.GwConvReferenceIdeal.τ) (Cert.GwConvReferenceIdeal.main (F := Ideal))) ⟨m', fun _ => 0, g'⟩ (fun r => ∀ c : Dev Cert.GwConvReferenceIdeal.nD,
          r.2.mem ((c.tc : Thread Cert.GwConvReferenceIdeal.nD Cert.GwConvReferenceIdeal.τ).loc Cert.GwConvReferenceIdeal.main_v6) = v0 c
          ∧ r.2.mem ((c.tc : Thread Cert.GwConvReferenceIdeal.nD Cert.GwConvReferenceIdeal.τ).loc Cert.GwConvReferenceIdeal.main_arg0) = m' ((c.tc : Thread Cert.GwConvReferenceIdeal.nD Cert.GwConvReferenceIdeal.τ).loc Cert.GwConvReferenceIdeal.main_arg0)
          ∧ r.2.mem ((c.tc : Thread Cert.GwConvReferenceIdeal.nD Cert.GwConvReferenceIdeal.τ).loc Cert.GwConvReferenceIdeal.main_arg1) = m' ((c.tc : Thread Cert.GwConvReferenceIdeal.nD Cert.GwConvReferenceIdeal.τ).loc Cert.GwConvReferenceIdeal.main_arg1))

def preserves_GwAttn_GwAttnIdeal : Prop :=
  True

def algebraic_GwAttnIdeal_GwAttnReferenceIdeal [hGwAttnIdeal : Cert.GwAttnIdeal.Facts] [hGwAttnReferenceIdeal : Cert.GwAttnReferenceIdeal.Facts] : Prop :=
  ∀ (m : (ℓ : Loc Cert.GwAttnIdeal.nD Cert.GwAttnIdeal.τ Cert.GwAttnIdeal.sig) → Buf (Elt Ideal) ℓ) (g : Dev Cert.GwAttnIdeal.nD → PrngReg)
    (m' : (ℓ : Loc Cert.GwAttnReferenceIdeal.nD Cert.GwAttnReferenceIdeal.τ Cert.GwAttnReferenceIdeal.sig) → Buf (Elt Ideal) ℓ) (g' : Dev Cert.GwAttnReferenceIdeal.nD → PrngReg), Pre_GwAttnIdeal m →
    (∀ c : Dev Cert.GwAttnIdeal.nD,
      m' ((c.tc : Thread Cert.GwAttnReferenceIdeal.nD Cert.GwAttnReferenceIdeal.τ).loc Cert.GwAttnReferenceIdeal.main_arg0) = m ((c.tc : Thread Cert.GwAttnIdeal.nD Cert.GwAttnIdeal.τ).loc Cert.GwAttnIdeal.main_arg0)
      ∧ m' ((c.tc : Thread Cert.GwAttnReferenceIdeal.nD Cert.GwAttnReferenceIdeal.τ).loc Cert.GwAttnReferenceIdeal.main_arg1) = m ((c.tc : Thread Cert.GwAttnIdeal.nD Cert.GwAttnIdeal.τ).loc Cert.GwAttnIdeal.main_arg1)) →
    ∃ (v0 : (c : Dev Cert.GwAttnIdeal.nD) → Buf (Elt Ideal) ((c.tc : Thread Cert.GwAttnIdeal.nD Cert.GwAttnIdeal.τ).loc Cert.GwAttnIdeal.main_v0)),
      θ_run (Cert.GwAttnIdeal.defs (F := Ideal)) (onTc (τ := Cert.GwAttnIdeal.τ) (Cert.GwAttnIdeal.main (F := Ideal))) ⟨m, fun _ => 0, g⟩ (fun r => ∀ c : Dev Cert.GwAttnIdeal.nD,
          r.2.mem ((c.tc : Thread Cert.GwAttnIdeal.nD Cert.GwAttnIdeal.τ).loc Cert.GwAttnIdeal.main_v0) = v0 c
          ∧ r.2.mem ((c.tc : Thread Cert.GwAttnIdeal.nD Cert.GwAttnIdeal.τ).loc Cert.GwAttnIdeal.main_arg0) = m ((c.tc : Thread Cert.GwAttnIdeal.nD Cert.GwAttnIdeal.τ).loc Cert.GwAttnIdeal.main_arg0)
          ∧ r.2.mem ((c.tc : Thread Cert.GwAttnIdeal.nD Cert.GwAttnIdeal.τ).loc Cert.GwAttnIdeal.main_arg1) = m ((c.tc : Thread Cert.GwAttnIdeal.nD Cert.GwAttnIdeal.τ).loc Cert.GwAttnIdeal.main_arg1))
      ∧ θ_run (Cert.GwAttnReferenceIdeal.defs (F := Ideal)) (onTc (τ := Cert.GwAttnReferenceIdeal.τ) (Cert.GwAttnReferenceIdeal.main (F := Ideal))) ⟨m', fun _ => 0, g'⟩ (fun r => ∀ c : Dev Cert.GwAttnReferenceIdeal.nD,
          r.2.mem ((c.tc : Thread Cert.GwAttnReferenceIdeal.nD Cert.GwAttnReferenceIdeal.τ).loc Cert.GwAttnReferenceIdeal.main_v6) = v0 c
          ∧ r.2.mem ((c.tc : Thread Cert.GwAttnReferenceIdeal.nD Cert.GwAttnReferenceIdeal.τ).loc Cert.GwAttnReferenceIdeal.main_arg0) = m' ((c.tc : Thread Cert.GwAttnReferenceIdeal.nD Cert.GwAttnReferenceIdeal.τ).loc Cert.GwAttnReferenceIdeal.main_arg0)
          ∧ r.2.mem ((c.tc : Thread Cert.GwAttnReferenceIdeal.nD Cert.GwAttnReferenceIdeal.τ).loc Cert.GwAttnReferenceIdeal.main_arg1) = m' ((c.tc : Thread Cert.GwAttnReferenceIdeal.nD Cert.GwAttnReferenceIdeal.τ).loc Cert.GwAttnReferenceIdeal.main_arg1))

def preserves_InProjFwd_InProjFwdIdeal : Prop :=
  True

def algebraic_InProjFwdIdeal_InProjFwdReferenceIdeal [hInProjFwdIdeal : Cert.InProjFwdIdeal.Facts] [hInProjFwdReferenceIdeal : Cert.InProjFwdReferenceIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdReferenceIdeal.nD Cert.InProjFwdReferenceIdeal.τ Cert.InProjFwdReferenceIdeal.sig) → Buf (Elt Ideal) ℓ) (g' : Dev Cert.InProjFwdReferenceIdeal.nD → PrngReg), Pre_InProjFwdIdeal m →
    (∀ c : Dev Cert.InProjFwdIdeal.nD,
      m' ((c.tc : Thread Cert.InProjFwdReferenceIdeal.nD Cert.InProjFwdReferenceIdeal.τ).loc Cert.InProjFwdReferenceIdeal.main_arg0) = m ((c.tc : Thread Cert.InProjFwdIdeal.nD Cert.InProjFwdIdeal.τ).loc Cert.InProjFwdIdeal.main_arg0)
      ∧ m' ((c.tc : Thread Cert.InProjFwdReferenceIdeal.nD Cert.InProjFwdReferenceIdeal.τ).loc Cert.InProjFwdReferenceIdeal.main_arg1) = m ((c.tc : Thread Cert.InProjFwdIdeal.nD Cert.InProjFwdIdeal.τ).loc Cert.InProjFwdIdeal.main_arg1)
      ∧ m' ((c.tc : Thread Cert.InProjFwdReferenceIdeal.nD Cert.InProjFwdReferenceIdeal.τ).loc Cert.InProjFwdReferenceIdeal.main_arg2) = m ((c.tc : Thread Cert.InProjFwdIdeal.nD Cert.InProjFwdIdeal.τ).loc Cert.InProjFwdIdeal.main_arg2)
      ∧ m' ((c.tc : Thread Cert.InProjFwdReferenceIdeal.nD Cert.InProjFwdReferenceIdeal.τ).loc Cert.InProjFwdReferenceIdeal.main_arg3) = m ((c.tc : Thread Cert.InProjFwdIdeal.nD Cert.InProjFwdIdeal.τ).loc Cert.InProjFwdIdeal.main_arg3)
      ∧ m' ((c.tc : Thread Cert.InProjFwdReferenceIdeal.nD Cert.InProjFwdReferenceIdeal.τ).loc Cert.InProjFwdReferenceIdeal.main_arg4) = m ((c.tc : Thread Cert.InProjFwdIdeal.nD Cert.InProjFwdIdeal.τ).loc Cert.InProjFwdIdeal.main_arg4)) →
    ∃ (v0 : (c : Dev Cert.InProjFwdIdeal.nD) → Buf (Elt Ideal) ((c.tc : Thread Cert.InProjFwdIdeal.nD Cert.InProjFwdIdeal.τ).loc Cert.InProjFwdIdeal.main_v0_0)) (v1 : (c : Dev Cert.InProjFwdIdeal.nD) → Buf (Elt Ideal) ((c.tc : Thread Cert.InProjFwdIdeal.nD Cert.InProjFwdIdeal.τ).loc Cert.InProjFwdIdeal.main_v0_1)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v0_0) = v0 c
          ∧ r.2.mem ((c.tc : Thread Cert.InProjFwdIdeal.nD Cert.InProjFwdIdeal.τ).loc Cert.InProjFwdIdeal.main_v0_1) = v1 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2)
          ∧ r.2.mem ((c.tc : Thread Cert.InProjFwdIdeal.nD Cert.InProjFwdIdeal.τ).loc Cert.InProjFwdIdeal.main_arg3) = m ((c.tc : Thread Cert.InProjFwdIdeal.nD Cert.InProjFwdIdeal.τ).loc Cert.InProjFwdIdeal.main_arg3)
          ∧ r.2.mem ((c.tc : Thread Cert.InProjFwdIdeal.nD Cert.InProjFwdIdeal.τ).loc Cert.InProjFwdIdeal.main_arg4) = m ((c.tc : Thread Cert.InProjFwdIdeal.nD Cert.InProjFwdIdeal.τ).loc Cert.InProjFwdIdeal.main_arg4))
      ∧ θ_run (Cert.InProjFwdReferenceIdeal.defs (F := Ideal)) (onTc (τ := Cert.InProjFwdReferenceIdeal.τ) (Cert.InProjFwdReferenceIdeal.main (F := Ideal))) ⟨m', fun _ => 0, g'⟩ (fun r => ∀ c : Dev Cert.InProjFwdReferenceIdeal.nD,
          r.2.mem ((c.tc : Thread Cert.InProjFwdReferenceIdeal.nD Cert.InProjFwdReferenceIdeal.τ).loc Cert.InProjFwdReferenceIdeal.main_v18) = v0 c
          ∧ r.2.mem ((c.tc : Thread Cert.InProjFwdReferenceIdeal.nD Cert.InProjFwdReferenceIdeal.τ).loc Cert.InProjFwdReferenceIdeal.main_v21) = v1 c
          ∧ r.2.mem ((c.tc : Thread Cert.InProjFwdReferenceIdeal.nD Cert.InProjFwdReferenceIdeal.τ).loc Cert.InProjFwdReferenceIdeal.main_arg0) = m' ((c.tc : Thread Cert.InProjFwdReferenceIdeal.nD Cert.InProjFwdReferenceIdeal.τ).loc Cert.InProjFwdReferenceIdeal.main_arg0)
          ∧ r.2.mem ((c.tc : Thread Cert.InProjFwdReferenceIdeal.nD Cert.InProjFwdReferenceIdeal.τ).loc Cert.InProjFwdReferenceIdeal.main_arg1) = m' ((c.tc : Thread Cert.InProjFwdReferenceIdeal.nD Cert.InProjFwdReferenceIdeal.τ).loc Cert.InProjFwdReferenceIdeal.main_arg1)
          ∧ r.2.mem ((c.tc : Thread Cert.InProjFwdReferenceIdeal.nD Cert.InProjFwdReferenceIdeal.τ).loc Cert.InProjFwdReferenceIdeal.main_arg2) = m' ((c.tc : Thread Cert.InProjFwdReferenceIdeal.nD Cert.InProjFwdReferenceIdeal.τ).loc Cert.InProjFwdReferenceIdeal.main_arg2)
          ∧ r.2.mem ((c.tc : Thread Cert.InProjFwdReferenceIdeal.nD Cert.InProjFwdReferenceIdeal.τ).loc Cert.InProjFwdReferenceIdeal.main_arg3) = m' ((c.tc : Thread Cert.InProjFwdReferenceIdeal.nD Cert.InProjFwdReferenceIdeal.τ).loc Cert.InProjFwdReferenceIdeal.main_arg3)
          ∧ r.2.mem ((c.tc : Thread Cert.InProjFwdReferenceIdeal.nD Cert.InProjFwdReferenceIdeal.τ).loc Cert.InProjFwdReferenceIdeal.main_arg4) = m' ((c.tc : Thread Cert.InProjFwdReferenceIdeal.nD Cert.InProjFwdReferenceIdeal.τ).loc Cert.InProjFwdReferenceIdeal.main_arg4))

def preserves_MlpInFwd_MlpInFwdIdeal : Prop :=
  True

def algebraic_MlpInFwdIdeal_MlpInFwdReferenceIdeal [hMlpInFwdIdeal : Cert.MlpInFwdIdeal.Facts] [hMlpInFwdReferenceIdeal : Cert.MlpInFwdReferenceIdeal.Facts] : Prop :=
  ∀ (m : (ℓ : Loc Cert.MlpInFwdIdeal.nD Cert.MlpInFwdIdeal.τ Cert.MlpInFwdIdeal.sig) → Buf (Elt Ideal) ℓ) (g : Dev Cert.MlpInFwdIdeal.nD → PrngReg)
    (m' : (ℓ : Loc Cert.MlpInFwdReferenceIdeal.nD Cert.MlpInFwdReferenceIdeal.τ Cert.MlpInFwdReferenceIdeal.sig) → Buf (Elt Ideal) ℓ) (g' : Dev Cert.MlpInFwdReferenceIdeal.nD → PrngReg), Pre_MlpInFwdIdeal m →
    (∀ c : Dev Cert.MlpInFwdIdeal.nD,
      m' ((c.tc : Thread Cert.MlpInFwdReferenceIdeal.nD Cert.MlpInFwdReferenceIdeal.τ).loc Cert.MlpInFwdReferenceIdeal.main_arg0) = m ((c.tc : Thread Cert.MlpInFwdIdeal.nD Cert.MlpInFwdIdeal.τ).loc Cert.MlpInFwdIdeal.main_arg0)
      ∧ m' ((c.tc : Thread Cert.MlpInFwdReferenceIdeal.nD Cert.MlpInFwdReferenceIdeal.τ).loc Cert.MlpInFwdReferenceIdeal.main_arg1) = m ((c.tc : Thread Cert.MlpInFwdIdeal.nD Cert.MlpInFwdIdeal.τ).loc Cert.MlpInFwdIdeal.main_arg1)
      ∧ m' ((c.tc : Thread Cert.MlpInFwdReferenceIdeal.nD Cert.MlpInFwdReferenceIdeal.τ).loc Cert.MlpInFwdReferenceIdeal.main_arg2) = m ((c.tc : Thread Cert.MlpInFwdIdeal.nD Cert.MlpInFwdIdeal.τ).loc Cert.MlpInFwdIdeal.main_arg2)
      ∧ m' ((c.tc : Thread Cert.MlpInFwdReferenceIdeal.nD Cert.MlpInFwdReferenceIdeal.τ).loc Cert.MlpInFwdReferenceIdeal.main_arg3) = m ((c.tc : Thread Cert.MlpInFwdIdeal.nD Cert.MlpInFwdIdeal.τ).loc Cert.MlpInFwdIdeal.main_arg3)
      ∧ m' ((c.tc : Thread Cert.MlpInFwdReferenceIdeal.nD Cert.MlpInFwdReferenceIdeal.τ).loc Cert.MlpInFwdReferenceIdeal.main_arg4) = m ((c.tc : Thread Cert.MlpInFwdIdeal.nD Cert.MlpInFwdIdeal.τ).loc Cert.MlpInFwdIdeal.main_arg4)) →
    ∃ (v0 : (c : Dev Cert.MlpInFwdIdeal.nD) → Buf (Elt Ideal) ((c.tc : Thread Cert.MlpInFwdIdeal.nD Cert.MlpInFwdIdeal.τ).loc Cert.MlpInFwdIdeal.main_v0_0)) (v1 : (c : Dev Cert.MlpInFwdIdeal.nD) → Buf (Elt Ideal) ((c.tc : Thread Cert.MlpInFwdIdeal.nD Cert.MlpInFwdIdeal.τ).loc Cert.MlpInFwdIdeal.main_v0_1)),
      θ_run (Cert.MlpInFwdIdeal.defs (F := Ideal)) (onTc (τ := Cert.MlpInFwdIdeal.τ) (Cert.MlpInFwdIdeal.main (F := Ideal))) ⟨m, fun _ => 0, g⟩ (fun r => ∀ c : Dev Cert.MlpInFwdIdeal.nD,
          r.2.mem ((c.tc : Thread Cert.MlpInFwdIdeal.nD Cert.MlpInFwdIdeal.τ).loc Cert.MlpInFwdIdeal.main_v0_0) = v0 c
          ∧ r.2.mem ((c.tc : Thread Cert.MlpInFwdIdeal.nD Cert.MlpInFwdIdeal.τ).loc Cert.MlpInFwdIdeal.main_v0_1) = v1 c
          ∧ r.2.mem ((c.tc : Thread Cert.MlpInFwdIdeal.nD Cert.MlpInFwdIdeal.τ).loc Cert.MlpInFwdIdeal.main_arg0) = m ((c.tc : Thread Cert.MlpInFwdIdeal.nD Cert.MlpInFwdIdeal.τ).loc Cert.MlpInFwdIdeal.main_arg0)
          ∧ r.2.mem ((c.tc : Thread Cert.MlpInFwdIdeal.nD Cert.MlpInFwdIdeal.τ).loc Cert.MlpInFwdIdeal.main_arg1) = m ((c.tc : Thread Cert.MlpInFwdIdeal.nD Cert.MlpInFwdIdeal.τ).loc Cert.MlpInFwdIdeal.main_arg1)
          ∧ r.2.mem ((c.tc : Thread Cert.MlpInFwdIdeal.nD Cert.MlpInFwdIdeal.τ).loc Cert.MlpInFwdIdeal.main_arg2) = m ((c.tc : Thread Cert.MlpInFwdIdeal.nD Cert.MlpInFwdIdeal.τ).loc Cert.MlpInFwdIdeal.main_arg2)
          ∧ r.2.mem ((c.tc : Thread Cert.MlpInFwdIdeal.nD Cert.MlpInFwdIdeal.τ).loc Cert.MlpInFwdIdeal.main_arg3) = m ((c.tc : Thread Cert.MlpInFwdIdeal.nD Cert.MlpInFwdIdeal.τ).loc Cert.MlpInFwdIdeal.main_arg3)
          ∧ r.2.mem ((c.tc : Thread Cert.MlpInFwdIdeal.nD Cert.MlpInFwdIdeal.τ).loc Cert.MlpInFwdIdeal.main_arg4) = m ((c.tc : Thread Cert.MlpInFwdIdeal.nD Cert.MlpInFwdIdeal.τ).loc Cert.MlpInFwdIdeal.main_arg4))
      ∧ θ_run (Cert.MlpInFwdReferenceIdeal.defs (F := Ideal)) (onTc (τ := Cert.MlpInFwdReferenceIdeal.τ) (Cert.MlpInFwdReferenceIdeal.main (F := Ideal))) ⟨m', fun _ => 0, g'⟩ (fun r => ∀ c : Dev Cert.MlpInFwdReferenceIdeal.nD,
          r.2.mem ((c.tc : Thread Cert.MlpInFwdReferenceIdeal.nD Cert.MlpInFwdReferenceIdeal.τ).loc Cert.MlpInFwdReferenceIdeal.main_v18) = v0 c
          ∧ r.2.mem ((c.tc : Thread Cert.MlpInFwdReferenceIdeal.nD Cert.MlpInFwdReferenceIdeal.τ).loc Cert.MlpInFwdReferenceIdeal.main_v21) = v1 c
          ∧ r.2.mem ((c.tc : Thread Cert.MlpInFwdReferenceIdeal.nD Cert.MlpInFwdReferenceIdeal.τ).loc Cert.MlpInFwdReferenceIdeal.main_arg0) = m' ((c.tc : Thread Cert.MlpInFwdReferenceIdeal.nD Cert.MlpInFwdReferenceIdeal.τ).loc Cert.MlpInFwdReferenceIdeal.main_arg0)
          ∧ r.2.mem ((c.tc : Thread Cert.MlpInFwdReferenceIdeal.nD Cert.MlpInFwdReferenceIdeal.τ).loc Cert.MlpInFwdReferenceIdeal.main_arg1) = m' ((c.tc : Thread Cert.MlpInFwdReferenceIdeal.nD Cert.MlpInFwdReferenceIdeal.τ).loc Cert.MlpInFwdReferenceIdeal.main_arg1)
          ∧ r.2.mem ((c.tc : Thread Cert.MlpInFwdReferenceIdeal.nD Cert.MlpInFwdReferenceIdeal.τ).loc Cert.MlpInFwdReferenceIdeal.main_arg2) = m' ((c.tc : Thread Cert.MlpInFwdReferenceIdeal.nD Cert.MlpInFwdReferenceIdeal.τ).loc Cert.MlpInFwdReferenceIdeal.main_arg2)
          ∧ r.2.mem ((c.tc : Thread Cert.MlpInFwdReferenceIdeal.nD Cert.MlpInFwdReferenceIdeal.τ).loc Cert.MlpInFwdReferenceIdeal.main_arg3) = m' ((c.tc : Thread Cert.MlpInFwdReferenceIdeal.nD Cert.MlpInFwdReferenceIdeal.τ).loc Cert.MlpInFwdReferenceIdeal.main_arg3)
          ∧ r.2.mem ((c.tc : Thread Cert.MlpInFwdReferenceIdeal.nD Cert.MlpInFwdReferenceIdeal.τ).loc Cert.MlpInFwdReferenceIdeal.main_arg4) = m' ((c.tc : Thread Cert.MlpInFwdReferenceIdeal.nD Cert.MlpInFwdReferenceIdeal.τ).loc Cert.MlpInFwdReferenceIdeal.main_arg4))

def preserves_MlpOutFwd_MlpOutFwdIdeal : Prop :=
  True

def algebraic_MlpOutFwdIdeal_MlpOutFwdReferenceIdeal [hMlpOutFwdIdeal : Cert.MlpOutFwdIdeal.Facts] [hMlpOutFwdReferenceIdeal : Cert.MlpOutFwdReferenceIdeal.Facts] : Prop :=
  ∀ (m : (ℓ : Loc Cert.MlpOutFwdIdeal.nD Cert.MlpOutFwdIdeal.τ Cert.MlpOutFwdIdeal.sig) → Buf (Elt Ideal) ℓ) (g : Dev Cert.MlpOutFwdIdeal.nD → PrngReg)
    (m' : (ℓ : Loc Cert.MlpOutFwdReferenceIdeal.nD Cert.MlpOutFwdReferenceIdeal.τ Cert.MlpOutFwdReferenceIdeal.sig) → Buf (Elt Ideal) ℓ) (g' : Dev Cert.MlpOutFwdReferenceIdeal.nD → PrngReg), Pre_MlpOutFwdIdeal m →
    (∀ c : Dev Cert.MlpOutFwdIdeal.nD,
      m' ((c.tc : Thread Cert.MlpOutFwdReferenceIdeal.nD Cert.MlpOutFwdReferenceIdeal.τ).loc Cert.MlpOutFwdReferenceIdeal.main_arg0) = m ((c.tc : Thread Cert.MlpOutFwdIdeal.nD Cert.MlpOutFwdIdeal.τ).loc Cert.MlpOutFwdIdeal.main_arg0)
      ∧ m' ((c.tc : Thread Cert.MlpOutFwdReferenceIdeal.nD Cert.MlpOutFwdReferenceIdeal.τ).loc Cert.MlpOutFwdReferenceIdeal.main_arg1) = m ((c.tc : Thread Cert.MlpOutFwdIdeal.nD Cert.MlpOutFwdIdeal.τ).loc Cert.MlpOutFwdIdeal.main_arg1)
      ∧ m' ((c.tc : Thread Cert.MlpOutFwdReferenceIdeal.nD Cert.MlpOutFwdReferenceIdeal.τ).loc Cert.MlpOutFwdReferenceIdeal.main_arg2) = m ((c.tc : Thread Cert.MlpOutFwdIdeal.nD Cert.MlpOutFwdIdeal.τ).loc Cert.MlpOutFwdIdeal.main_arg2)
      ∧ m' ((c.tc : Thread Cert.MlpOutFwdReferenceIdeal.nD Cert.MlpOutFwdReferenceIdeal.τ).loc Cert.MlpOutFwdReferenceIdeal.main_arg3) = m ((c.tc : Thread Cert.MlpOutFwdIdeal.nD Cert.MlpOutFwdIdeal.τ).loc Cert.MlpOutFwdIdeal.main_arg3)
      ∧ m' ((c.tc : Thread Cert.MlpOutFwdReferenceIdeal.nD Cert.MlpOutFwdReferenceIdeal.τ).loc Cert.MlpOutFwdReferenceIdeal.main_arg4) = m ((c.tc : Thread Cert.MlpOutFwdIdeal.nD Cert.MlpOutFwdIdeal.τ).loc Cert.MlpOutFwdIdeal.main_arg4)) →
    ∃ (v0 : (c : Dev Cert.MlpOutFwdIdeal.nD) → Buf (Elt Ideal) ((c.tc : Thread Cert.MlpOutFwdIdeal.nD Cert.MlpOutFwdIdeal.τ).loc Cert.MlpOutFwdIdeal.main_v0_0)) (v1 : (c : Dev Cert.MlpOutFwdIdeal.nD) → Buf (Elt Ideal) ((c.tc : Thread Cert.MlpOutFwdIdeal.nD Cert.MlpOutFwdIdeal.τ).loc Cert.MlpOutFwdIdeal.main_v0_1)),
      θ_run (Cert.MlpOutFwdIdeal.defs (F := Ideal)) (onTc (τ := Cert.MlpOutFwdIdeal.τ) (Cert.MlpOutFwdIdeal.main (F := Ideal))) ⟨m, fun _ => 0, g⟩ (fun r => ∀ c : Dev Cert.MlpOutFwdIdeal.nD,
          r.2.mem ((c.tc : Thread Cert.MlpOutFwdIdeal.nD Cert.MlpOutFwdIdeal.τ).loc Cert.MlpOutFwdIdeal.main_v0_0) = v0 c
          ∧ r.2.mem ((c.tc : Thread Cert.MlpOutFwdIdeal.nD Cert.MlpOutFwdIdeal.τ).loc Cert.MlpOutFwdIdeal.main_v0_1) = v1 c
          ∧ r.2.mem ((c.tc : Thread Cert.MlpOutFwdIdeal.nD Cert.MlpOutFwdIdeal.τ).loc Cert.MlpOutFwdIdeal.main_arg0) = m ((c.tc : Thread Cert.MlpOutFwdIdeal.nD Cert.MlpOutFwdIdeal.τ).loc Cert.MlpOutFwdIdeal.main_arg0)
          ∧ r.2.mem ((c.tc : Thread Cert.MlpOutFwdIdeal.nD Cert.MlpOutFwdIdeal.τ).loc Cert.MlpOutFwdIdeal.main_arg1) = m ((c.tc : Thread Cert.MlpOutFwdIdeal.nD Cert.MlpOutFwdIdeal.τ).loc Cert.MlpOutFwdIdeal.main_arg1)
          ∧ r.2.mem ((c.tc : Thread Cert.MlpOutFwdIdeal.nD Cert.MlpOutFwdIdeal.τ).loc Cert.MlpOutFwdIdeal.main_arg2) = m ((c.tc : Thread Cert.MlpOutFwdIdeal.nD Cert.MlpOutFwdIdeal.τ).loc Cert.MlpOutFwdIdeal.main_arg2)
          ∧ r.2.mem ((c.tc : Thread Cert.MlpOutFwdIdeal.nD Cert.MlpOutFwdIdeal.τ).loc Cert.MlpOutFwdIdeal.main_arg3) = m ((c.tc : Thread Cert.MlpOutFwdIdeal.nD Cert.MlpOutFwdIdeal.τ).loc Cert.MlpOutFwdIdeal.main_arg3)
          ∧ r.2.mem ((c.tc : Thread Cert.MlpOutFwdIdeal.nD Cert.MlpOutFwdIdeal.τ).loc Cert.MlpOutFwdIdeal.main_arg4) = m ((c.tc : Thread Cert.MlpOutFwdIdeal.nD Cert.MlpOutFwdIdeal.τ).loc Cert.MlpOutFwdIdeal.main_arg4))
      ∧ θ_run (Cert.MlpOutFwdReferenceIdeal.defs (F := Ideal)) (onTc (τ := Cert.MlpOutFwdReferenceIdeal.τ) (Cert.MlpOutFwdReferenceIdeal.main (F := Ideal))) ⟨m', fun _ => 0, g'⟩ (fun r => ∀ c : Dev Cert.MlpOutFwdReferenceIdeal.nD,
          r.2.mem ((c.tc : Thread Cert.MlpOutFwdReferenceIdeal.nD Cert.MlpOutFwdReferenceIdeal.τ).loc Cert.MlpOutFwdReferenceIdeal.main_v4) = v0 c
          ∧ r.2.mem ((c.tc : Thread Cert.MlpOutFwdReferenceIdeal.nD Cert.MlpOutFwdReferenceIdeal.τ).loc Cert.MlpOutFwdReferenceIdeal.main_v19) = v1 c
          ∧ r.2.mem ((c.tc : Thread Cert.MlpOutFwdReferenceIdeal.nD Cert.MlpOutFwdReferenceIdeal.τ).loc Cert.MlpOutFwdReferenceIdeal.main_arg0) = m' ((c.tc : Thread Cert.MlpOutFwdReferenceIdeal.nD Cert.MlpOutFwdReferenceIdeal.τ).loc Cert.MlpOutFwdReferenceIdeal.main_arg0)
          ∧ r.2.mem ((c.tc : Thread Cert.MlpOutFwdReferenceIdeal.nD Cert.MlpOutFwdReferenceIdeal.τ).loc Cert.MlpOutFwdReferenceIdeal.main_arg1) = m' ((c.tc : Thread Cert.MlpOutFwdReferenceIdeal.nD Cert.MlpOutFwdReferenceIdeal.τ).loc Cert.MlpOutFwdReferenceIdeal.main_arg1)
          ∧ r.2.mem ((c.tc : Thread Cert.MlpOutFwdReferenceIdeal.nD Cert.MlpOutFwdReferenceIdeal.τ).loc Cert.MlpOutFwdReferenceIdeal.main_arg2) = m' ((c.tc : Thread Cert.MlpOutFwdReferenceIdeal.nD Cert.MlpOutFwdReferenceIdeal.τ).loc Cert.MlpOutFwdReferenceIdeal.main_arg2)
          ∧ r.2.mem ((c.tc : Thread Cert.MlpOutFwdReferenceIdeal.nD Cert.MlpOutFwdReferenceIdeal.τ).loc Cert.MlpOutFwdReferenceIdeal.main_arg3) = m' ((c.tc : Thread Cert.MlpOutFwdReferenceIdeal.nD Cert.MlpOutFwdReferenceIdeal.τ).loc Cert.MlpOutFwdReferenceIdeal.main_arg3)
          ∧ r.2.mem ((c.tc : Thread Cert.MlpOutFwdReferenceIdeal.nD Cert.MlpOutFwdReferenceIdeal.τ).loc Cert.MlpOutFwdReferenceIdeal.main_arg4) = m' ((c.tc : Thread Cert.MlpOutFwdReferenceIdeal.nD Cert.MlpOutFwdReferenceIdeal.τ).loc Cert.MlpOutFwdReferenceIdeal.main_arg4))

def Claim : Prop :=
  ∃ (hAttn : Cert.Attn.Facts) (hAttnIdeal : Cert.AttnIdeal.Facts) (hAttnReferenceIdeal : Cert.AttnReferenceIdeal.Facts) (hKernel : Cert.Kernel.Facts) (hKernelIdeal : Cert.KernelIdeal.Facts) (hReferenceIdeal : Cert.ReferenceIdeal.Facts) (hGwIn : Cert.GwIn.Facts) (hGwInIdeal : Cert.GwInIdeal.Facts) (hGwInReferenceIdeal : Cert.GwInReferenceIdeal.Facts) (hGwOut : Cert.GwOut.Facts) (hGwOutIdeal : Cert.GwOutIdeal.Facts) (hGwOutReferenceIdeal : Cert.GwOutReferenceIdeal.Facts) (hMlpOut : Cert.MlpOut.Facts) (hMlpOutIdeal : Cert.MlpOutIdeal.Facts) (hMlpOutReferenceIdeal : Cert.MlpOutReferenceIdeal.Facts) (hMlpIn : Cert.MlpIn.Facts) (hMlpInIdeal : Cert.MlpInIdeal.Facts) (hMlpInReferenceIdeal : Cert.MlpInReferenceIdeal.Facts) (hInProj : Cert.InProj.Facts) (hInProjIdeal : Cert.InProjIdeal.Facts) (hInProjReferenceIdeal : Cert.InProjReferenceIdeal.Facts) (hGwGate : Cert.GwGate.Facts) (hGwGateIdeal : Cert.GwGateIdeal.Facts) (hGwGateReferenceIdeal : Cert.GwGateReferenceIdeal.Facts) (hGwMix : Cert.GwMix.Facts) (hGwMixIdeal : Cert.GwMixIdeal.Facts) (hGwMixReferenceIdeal : Cert.GwMixReferenceIdeal.Facts) (hGwConv : Cert.GwConv.Facts) (hGwConvIdeal : Cert.GwConvIdeal.Facts) (hGwConvReferenceIdeal : Cert.GwConvReferenceIdeal.Facts) (hGwAttn : Cert.GwAttn.Facts) (hGwAttnIdeal : Cert.GwAttnIdeal.Facts) (hGwAttnReferenceIdeal : Cert.GwAttnReferenceIdeal.Facts) (hInProjFwd : Cert.InProjFwd.Facts) (hInProjFwdIdeal : Cert.InProjFwdIdeal.Facts) (hInProjFwdReferenceIdeal : Cert.InProjFwdReferenceIdeal.Facts) (hMlpInFwd : Cert.MlpInFwd.Facts) (hMlpInFwdIdeal : Cert.MlpInFwdIdeal.Facts) (hMlpInFwdReferenceIdeal : Cert.MlpInFwdReferenceIdeal.Facts) (hMlpOutFwd : Cert.MlpOutFwd.Facts) (hMlpOutFwdIdeal : Cert.MlpOutFwdIdeal.Facts) (hMlpOutFwdReferenceIdeal : Cert.MlpOutFwdReferenceIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_Kernel (hKernel := hKernel)
    ∧ quiescent_KernelIdeal (hKernelIdeal := hKernelIdeal)
    ∧ quiescent_ReferenceIdeal (hReferenceIdeal := hReferenceIdeal)
    ∧ quiescent_GwIn (hGwIn := hGwIn)
    ∧ quiescent_GwInIdeal (hGwInIdeal := hGwInIdeal)
    ∧ quiescent_GwInReferenceIdeal (hGwInReferenceIdeal := hGwInReferenceIdeal)
    ∧ quiescent_GwOut (hGwOut := hGwOut)
    ∧ quiescent_GwOutIdeal (hGwOutIdeal := hGwOutIdeal)
    ∧ quiescent_GwOutReferenceIdeal (hGwOutReferenceIdeal := hGwOutReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_MlpIn (hMlpIn := hMlpIn)
    ∧ quiescent_MlpInIdeal (hMlpInIdeal := hMlpInIdeal)
    ∧ quiescent_MlpInReferenceIdeal (hMlpInReferenceIdeal := hMlpInReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_GwGate (hGwGate := hGwGate)
    ∧ quiescent_GwGateIdeal (hGwGateIdeal := hGwGateIdeal)
    ∧ quiescent_GwGateReferenceIdeal (hGwGateReferenceIdeal := hGwGateReferenceIdeal)
    ∧ quiescent_GwMix (hGwMix := hGwMix)
    ∧ quiescent_GwMixIdeal (hGwMixIdeal := hGwMixIdeal)
    ∧ quiescent_GwMixReferenceIdeal (hGwMixReferenceIdeal := hGwMixReferenceIdeal)
    ∧ quiescent_GwConv (hGwConv := hGwConv)
    ∧ quiescent_GwConvIdeal (hGwConvIdeal := hGwConvIdeal)
    ∧ quiescent_GwConvReferenceIdeal (hGwConvReferenceIdeal := hGwConvReferenceIdeal)
    ∧ quiescent_GwAttn (hGwAttn := hGwAttn)
    ∧ quiescent_GwAttnIdeal (hGwAttnIdeal := hGwAttnIdeal)
    ∧ quiescent_GwAttnReferenceIdeal (hGwAttnReferenceIdeal := hGwAttnReferenceIdeal)
    ∧ quiescent_InProjFwd (hInProjFwd := hInProjFwd)
    ∧ quiescent_InProjFwdIdeal (hInProjFwdIdeal := hInProjFwdIdeal)
    ∧ quiescent_InProjFwdReferenceIdeal (hInProjFwdReferenceIdeal := hInProjFwdReferenceIdeal)
    ∧ quiescent_MlpInFwd (hMlpInFwd := hMlpInFwd)
    ∧ quiescent_MlpInFwdIdeal (hMlpInFwdIdeal := hMlpInFwdIdeal)
    ∧ quiescent_MlpInFwdReferenceIdeal (hMlpInFwdReferenceIdeal := hMlpInFwdReferenceIdeal)
    ∧ quiescent_MlpOutFwd (hMlpOutFwd := hMlpOutFwd)
    ∧ quiescent_MlpOutFwdIdeal (hMlpOutFwdIdeal := hMlpOutFwdIdeal)
    ∧ quiescent_MlpOutFwdReferenceIdeal (hMlpOutFwdReferenceIdeal := hMlpOutFwdReferenceIdeal)
    ∧ preserves_Attn_AttnIdeal
    ∧ algebraic_AttnIdeal_AttnReferenceIdeal_pre_finite (hAttnIdeal := hAttnIdeal) (hAttnReferenceIdeal := hAttnReferenceIdeal) (hPre_finite := hPre_finite)
    ∧ preserves_Kernel_KernelIdeal
    ∧ algebraic_KernelIdeal_ReferenceIdeal (hKernelIdeal := hKernelIdeal) (hReferenceIdeal := hReferenceIdeal)
    ∧ preserves_GwIn_GwInIdeal
    ∧ algebraic_GwInIdeal_GwInReferenceIdeal (hGwInIdeal := hGwInIdeal) (hGwInReferenceIdeal := hGwInReferenceIdeal)
    ∧ preserves_GwOut_GwOutIdeal
    ∧ algebraic_GwOutIdeal_GwOutReferenceIdeal (hGwOutIdeal := hGwOutIdeal) (hGwOutReferenceIdeal := hGwOutReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_MlpIn_MlpInIdeal
    ∧ algebraic_MlpInIdeal_MlpInReferenceIdeal (hMlpInIdeal := hMlpInIdeal) (hMlpInReferenceIdeal := hMlpInReferenceIdeal)
    ∧ preserves_InProj_InProjIdeal
    ∧ algebraic_InProjIdeal_InProjReferenceIdeal (hInProjIdeal := hInProjIdeal) (hInProjReferenceIdeal := hInProjReferenceIdeal)
    ∧ preserves_GwGate_GwGateIdeal
    ∧ algebraic_GwGateIdeal_GwGateReferenceIdeal (hGwGateIdeal := hGwGateIdeal) (hGwGateReferenceIdeal := hGwGateReferenceIdeal)
    ∧ preserves_GwMix_GwMixIdeal
    ∧ algebraic_GwMixIdeal_GwMixReferenceIdeal (hGwMixIdeal := hGwMixIdeal) (hGwMixReferenceIdeal := hGwMixReferenceIdeal)
    ∧ preserves_GwConv_GwConvIdeal
    ∧ algebraic_GwConvIdeal_GwConvReferenceIdeal (hGwConvIdeal := hGwConvIdeal) (hGwConvReferenceIdeal := hGwConvReferenceIdeal)
    ∧ preserves_GwAttn_GwAttnIdeal
    ∧ algebraic_GwAttnIdeal_GwAttnReferenceIdeal (hGwAttnIdeal := hGwAttnIdeal) (hGwAttnReferenceIdeal := hGwAttnReferenceIdeal)
    ∧ preserves_InProjFwd_InProjFwdIdeal
    ∧ algebraic_InProjFwdIdeal_InProjFwdReferenceIdeal (hInProjFwdIdeal := hInProjFwdIdeal) (hInProjFwdReferenceIdeal := hInProjFwdReferenceIdeal)
    ∧ preserves_MlpInFwd_MlpInFwdIdeal
    ∧ algebraic_MlpInFwdIdeal_MlpInFwdReferenceIdeal (hMlpInFwdIdeal := hMlpInFwdIdeal) (hMlpInFwdReferenceIdeal := hMlpInFwdReferenceIdeal)
    ∧ preserves_MlpOutFwd_MlpOutFwdIdeal
    ∧ algebraic_MlpOutFwdIdeal_MlpOutFwdReferenceIdeal (hMlpOutFwdIdeal := hMlpOutFwdIdeal) (hMlpOutFwdReferenceIdeal := hMlpOutFwdReferenceIdeal)
-- ==== Pre_finite.lean ====
abbrev S8192x5120 : Shape := ⟨2, ![8192, 5120]⟩
abbrev S8192x512 : Shape := ⟨2, ![8192, 512]⟩
abbrev S8192x1536 : Shape := ⟨2, ![8192, 1536]⟩
abbrev S_ : Shape := ⟨0, ![]⟩

class Facts : Prop where
  slices_S8192x5120_S8192x1536_0_1536 : S8192x5120.Slices ![0, 1536] S8192x1536
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn {F : FTy → Type} [FloatOps F] (main_arg0 : FVec F S8192x5120 .bf16) (main_arg1 : FVec F S8192x512 .bf16) : IVec S8192x1536 1 × IVec S8192x512 1 :=
  let main_v0 : FVec F S8192x1536 .bf16 := (extractStridedSlice S8192x1536 ![0, 1536] · slices_S8192x5120_S8192x1536_0_1536) main_arg0
  let main_v1 : FVec F S8192x1536 .bf16 := Host.absf main_v0
  let main_cst : FVec F S_ .bf16 := constant S_ .bf16 0x7F80#16
  let main_v2 : FVec F S8192x1536 .bf16 := broadcastInDim S8192x1536 ![] bcast_S_S8192x1536 main_cst
  let main_v3 : IVec S8192x1536 1 := cmpf .olt main_v1 main_v2
  let main_v4 : FVec F S8192x512 .bf16 := Host.absf main_arg1
  let main_cst_0 : FVec F S_ .bf16 := constant S_ .bf16 0x7F80#16
  let main_v5 : FVec F S8192x512 .bf16 := broadcastInDim S8192x512 ![] bcast_S_S8192x512 main_cst_0
  let main_v6 : IVec S8192x512 1 := cmpf .olt main_v4 main_v5
  (main_v3, main_v6)
-- ==== Attn.lean ====
abbrev S8192x5120 : Shape := ⟨2, ![8192, 5120]⟩
abbrev S8192x512 : Shape := ⟨2, ![8192, 512]⟩
abbrev S8192x8x64 : Shape := ⟨3, ![8192, 8, 64]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x32x256x32x256 : Shape := ⟨5, ![8, 32, 256, 32, 256]⟩
abbrev S32x32x8x256x256 : Shape := ⟨5, ![32, 32, 8, 256, 256]⟩
abbrev S1024x8x256x256 : Shape := ⟨4, ![1024, 8, 256, 256]⟩
abbrev S32x8x256x256 : Shape := ⟨4, ![32, 8, 256, 256]⟩
abbrev S1x8x256x256 : Shape := ⟨4, ![1, 8, 256, 256]⟩
abbrev S31x8x256x256 : Shape := ⟨4, ![31, 8, 256, 256]⟩
abbrev S32x1x8x256x256 : Shape := ⟨5, ![32, 1, 8, 256, 256]⟩
abbrev S32x2x8x256x256 : Shape := ⟨5, ![32, 2, 8, 256, 256]⟩
abbrev S32x2x4x512x256 : Shape := ⟨5, ![32, 2, 4, 512, 256]⟩
abbrev S4x32x2x512x256 : Shape := ⟨5, ![4, 32, 2, 512, 256]⟩
abbrev S8x8192x32 : Shape := ⟨3, ![8, 8192, 32]⟩
abbrev S8x32x256x32x1 : Shape := ⟨5, ![8, 32, 256, 32, 1]⟩
abbrev S32x32x8x256x1 : Shape := ⟨5, ![32, 32, 8, 256, 1]⟩
abbrev S1024x8x256x1 : Shape := ⟨4, ![1024, 8, 256, 1]⟩
abbrev S32x8x256x1 : Shape := ⟨4, ![32, 8, 256, 1]⟩
abbrev S1x8x256x1 : Shape := ⟨4, ![1, 8, 256, 1]⟩
abbrev S31x8x256x1 : Shape := ⟨4, ![31, 8, 256, 1]⟩
abbrev S32x1x8x256x1 : Shape := ⟨5, ![32, 1, 8, 256, 1]⟩
abbrev S32x2x8x256x1 : Shape := ⟨5, ![32, 2, 8, 256, 1]⟩
abbrev S32x4x512x1 : Shape := ⟨4, ![32, 4, 512, 1]⟩
abbrev S4x32x512x1 : Shape := ⟨4, ![4, 32, 512, 1]⟩
abbrev S4x32x512x128 : Shape := ⟨4, ![4, 32, 512, 128]⟩
abbrev S256x256 : Shape := ⟨2, ![256, 256]⟩
abbrev S1024x128 : Shape := ⟨2, ![1024, 128]⟩
abbrev S8192x128 : Shape := ⟨2, ![8192, 128]⟩
abbrev S1x4x2x512x256 : Shape := ⟨5, ![1, 4, 2, 512, 256]⟩
abbrev S1x4x512x128 : Shape := ⟨4, ![1, 4, 512, 128]⟩
abbrev S1x128 : Shape := ⟨2, ![1, 128]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S512x1 : Shape := ⟨2, ![512, 1]⟩
abbrev S1x1x1x512x256 : Shape := ⟨5, ![1, 1, 1, 512, 256]⟩
abbrev S512x256 : Shape := ⟨2, ![512, 256]⟩
abbrev S1024x256 : Shape := ⟨2, ![1024, 256]⟩
abbrev S256x512 : Shape := ⟨2, ![256, 512]⟩
abbrev S1x1x512x128 : Shape := ⟨4, ![1, 1, 512, 128]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 133
  | .vmem => 25
  | .smem => 0
  | _ => 0

abbrev hbmTy0_0 (i : Nat) : BufTy := match i % 128 with
  | 0 => ⟨S8192x5120, .bf16⟩
  | 1 => ⟨S8192x512, .bf16⟩
  | 2 => ⟨S8192x512, .bf16⟩
  | 3 => ⟨S8192x512, .f32⟩
  | 4 => ⟨S8192x8x64, .f32⟩
  | 5 => ⟨S8192x512, .bf16⟩
  | 6 => ⟨S8192x512, .f32⟩
  | 7 => ⟨S8192x8x64, .f32⟩
  | 8 => ⟨S8192x512, .bf16⟩
  | 9 => ⟨S8192x512, .f32⟩
  | 10 => ⟨S8192x8x64, .f32⟩
  | 11 => ⟨S8x8192x64, .f32⟩
  | 12 => ⟨S8x8192x64, .f32⟩
  | 13 => ⟨S8x8192x64, .f32⟩
  | 14 => ⟨S8192, .i32⟩
  | 15 => ⟨S8x8192x8192, .f32⟩
  | 16 => ⟨S_, .f32⟩
  | 17 => ⟨S8x8192x8192, .f32⟩
  | 18 => ⟨S8x8192x8192, .f32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S_, .f32⟩
  | 42 => ⟨S_, .f32⟩
  | 43 => ⟨S8x8192x8192, .i1⟩
  | 44 => ⟨S8x8192x8192, .f32⟩
  | 45 => ⟨S8x8192x8192, .f32⟩
  | 46 => ⟨S_, .f32⟩
  | 47 => ⟨S_, .f32⟩
  | 48 => ⟨S8x8192x8192, .f32⟩
  | 49 => ⟨S8x8192x8192, .f32⟩
  | 50 => ⟨S_, .f32⟩
  | 51 => ⟨S8x8192x8192, .f32⟩
  | 52 => ⟨S8x8192x8192, .f32⟩
  | 53 => ⟨S8x8192x8192, .f32⟩
  | 54 => ⟨S8x8192x8192, .f32⟩
  | 55 => ⟨S8x8192x8192, .i1⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S8x8192x8192, .f32⟩
  | 67 => ⟨S8x8192x8192, .f32⟩
  | 68 => ⟨S_, .f32⟩
  | 69 => ⟨S_, .f32⟩
  | 70 => ⟨S8x8192x8192, .i1⟩
  | 71 => ⟨S8x8192x8192, .f32⟩
  | 72 => ⟨S8x8192x8192, .f32⟩
  | 73 => ⟨S8x8192x64, .f32⟩
  | 74 => ⟨S8192x8x64, .f32⟩
  | 75 => ⟨S8192x512, .f32⟩
  | 76 => ⟨S8x32x256x32x256, .f32⟩
  | 77 => ⟨S32x32x8x256x256, .f32⟩
  | 78 => ⟨S1024x8x256x256, .f32⟩
  | 79 => ⟨S32x8x256x256, .f32⟩
  | 80 => ⟨S1x8x256x256, .f32⟩
  | 81 => ⟨S_, .f32⟩
  | 82 => ⟨S1x8x256x256, .f32⟩
  | 83 => ⟨S31x8x256x256, .f32⟩
  | 84 => ⟨S32x8x256x256, .f32⟩
  | 85 => ⟨S32x1x8x256x256, .f32⟩
  | 86 => ⟨S32x1x8x256x256, .f32⟩
  | 87 => ⟨S32x2x8x256x256, .f32⟩
  | 88 => ⟨S32x2x4x512x256, .f32⟩
  | 89 => ⟨S4x32x2x512x256, .f32⟩
  | 90 => ⟨S8x32x256x32x256, .f32⟩
  | 91 => ⟨S32x32x8x256x256, .f32⟩
  | 92 => ⟨S1024x8x256x256, .f32⟩
  | 93 => ⟨S32x8x256x256, .f32⟩
  | 94 => ⟨S1x8x256x256, .f32⟩
  | 95 => ⟨S_, .f32⟩
  | 96 => ⟨S1x8x256x256, .f32⟩
  | 97 => ⟨S31x8x256x256, .f32⟩
  | 98 => ⟨S32x8x256x256, .f32⟩
  | 99 => ⟨S32x1x8x256x256, .f32⟩
  | 100 => ⟨S32x1x8x256x256, .f32⟩
  | 101 => ⟨S32x2x8x256x256, .f32⟩
  | 102 => ⟨S32x2x4x512x256, .f32⟩
  | 103 => ⟨S4x32x2x512x256, .f32⟩
  | 104 => ⟨S8x8192x32, .f32⟩
  | 105 => ⟨S8x32x256x32x1, .f32⟩
  | 106 => ⟨S32x32x8x256x1, .f32⟩
  | 107 => ⟨S1024x8x256x1, .f32⟩
  | 108 => ⟨S32x8x256x1, .f32⟩
  | 109 => ⟨S1x8x256x1, .f32⟩
  | 110 => ⟨S31x8x256x1, .f32⟩
  | 111 => ⟨S32x8x256x1, .f32⟩
  | 112 => ⟨S32x1x8x256x1, .f32⟩
  | 113 => ⟨S32x1x8x256x1, .f32⟩
  | 114 => ⟨S32x2x8x256x1, .f32⟩
  | 115 => ⟨S32x1x8x256x1, .f32⟩
  | 116 => ⟨S32x8x256x1, .f32⟩
  | 117 => ⟨S32x4x512x1, .f32⟩
  | 118 => ⟨S4x32x512x1, .f32⟩
  | 119 => ⟨S4x32x2x512x256, .bf16⟩
  | 120 => ⟨S4x32x2x512x256, .f32⟩
  | 121 => ⟨S_, .f32⟩
  | 122 => ⟨S4x32x2x512x256, .f32⟩
  | 123 => ⟨S4x32x2x512x256, .f32⟩
  | 124 => ⟨S4x32x2x512x256, .bf16⟩
  | 125 => ⟨S4x32x512x128, .f32⟩
  | 126 => ⟨S256x256, .i32⟩
  | 127 => ⟨S256x256, .i32⟩
  | _ => ⟨S8192x5120, .bf16⟩

abbrev hbmTy0_1 (i : Nat) : BufTy := match i % 128 with
  | 0 => ⟨S256x256, .i1⟩
  | 1 => ⟨S256x256, .bf16⟩
  | 2 => ⟨S8192x512, .bf16⟩
  | 3 => ⟨S8192x512, .bf16⟩
  | 4 => ⟨S8192x512, .bf16⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S256x256, .bf16⟩
  | .local _ .vmem, ⟨11, _⟩ => ⟨S1x4x2x512x256, .bf16⟩
  | .local _ .vmem, ⟨12, _⟩ => ⟨S1x4x2x512x256, .bf16⟩
  | .local _ .vmem, ⟨13, _⟩ => ⟨S1x4x2x512x256, .bf16⟩
  | .local _ .vmem, ⟨14, _⟩ => ⟨S1x4x2x512x256, .bf16⟩
  | .local _ .vmem, ⟨15, _⟩ => ⟨S1x4x512x128, .f32⟩
  | .local _ .vmem, ⟨16, _⟩ => ⟨S1x4x512x128, .f32⟩
  | .local _ .vmem, ⟨17, _⟩ => ⟨S1024x128, .bf16⟩
  | .local _ .vmem, ⟨18, _⟩ => ⟨S1024x128, .bf16⟩
  | .local _ .vmem, ⟨19, _⟩ => ⟨S8192x128, .bf16⟩
  | .local _ .vmem, ⟨20, _⟩ => ⟨S8192x128, .bf16⟩
  | .local _ .vmem, ⟨21, _⟩ => ⟨S8192x128, .bf16⟩
  | .local _ .vmem, ⟨22, _⟩ => ⟨S8192x128, .bf16⟩
  | .local _ .vmem, ⟨23, _⟩ => ⟨S8192x128, .f32⟩
  | .local _ .vmem, ⟨24, _⟩ => ⟨S8192x128, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_2 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_3 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_4 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84_0 : Ref sig .tc := ⟨.hbm, 130, rfl⟩
abbrev main_v84_1 : Ref sig .tc := ⟨.hbm, 131, rfl⟩
abbrev main_v84_2 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c4_i32 : BitVec 32 := 4#32
  let v17 : BitVec 32 := Scalar.muli arg1 c4_i32
  let c0_i32_4 : BitVec 32 := 0#32
  let v18 : BitVec 32 := Scalar.addi v17 c0_i32_4
  let c256_i32 : BitVec 32 := 256#32
  let v70 : BitVec 32 := Scalar.muli v18 c256_i32
  v70
def k0_off1 (i : grid0.Coords) (c0_i32_4 : BitVec 32) : Fin 2 → Nat :=
  let arg1 : BitVec 32 := BitVec.ofNat 32 (i 1).val
  let c4_i32 : BitVec 32 := 4#32
  let v17 : BitVec 32 := Scalar.muli arg1 c4_i32
  let v18 : BitVec 32 := Scalar.addi v17 c0_i32_4
  let c256_i32 : BitVec 32 := 256#32
  let v70 : BitVec 32 := Scalar.muli v18 c256_i32
  let v71 : BitVec 32 := v70
  let v72 : Index := Scalar.indexCast v71
  let c0_31 : Index := 0#32
  ![v72.toNat, 0]
def k0_mult2 (i : grid0.Coords) : BitVec 32 :=
  let arg1 : BitVec 32 := BitVec.ofNat 32 (i 1).val
  let c4_i32 : BitVec 32 := 4#32
  let v17 : BitVec 32 := Scalar.muli arg1 c4_i32
  let c0_i32_4 : BitVec 32 := 0#32
  let v18 : BitVec 32 := Scalar.addi v17 c0_i32_4
  let c1_i32 : BitVec 32 := 1#32
  let v114 : BitVec 32 := Scalar.subi v18 c1_i32
  let c0_i32_40 : BitVec 32 := 0#32
  let v115 : BitVec 32 := Scalar.maxsi v114 c0_i32_40
  let c256_i32_50 : BitVec 32 := 256#32
  let v122 : BitVec 32 := Scalar.muli v115 c256_i32_50
  v122
def k0_off2 (i : grid0.Coords) (c0_i32_4 : BitVec 32) : Fin 2 → Nat :=
  let arg1 : BitVec 32 := BitVec.ofNat 32 (i 1).val
  let c4_i32 : BitVec 32 := 4#32
  let v17 : BitVec 32 := Scalar.muli arg1 c4_i32
  let v18 : BitVec 32 := Scalar.addi v17 c0_i32_4
  let c1_i32 : BitVec 32 := 1#32
  let v114 : BitVec 32 := Scalar.subi v18 c1_i32
  let c0_i32_40 : BitVec 32 := 0#32
  let v115 : BitVec 32 := Scalar.maxsi v114 c0_i32_40
  let c256_i32_50 : BitVec 32 := 256#32
  let v122 : BitVec 32 := Scalar.muli v115 c256_i32_50
  let v123 : BitVec 32 := v122
  let v124 : Index := Scalar.indexCast v123
  let c0_51 : Index := 0#32
  ![v124.toNat, 0]
def k0_mult3 (i : grid0.Coords) : BitVec 32 :=
  let arg1 : BitVec 32 := BitVec.ofNat 32 (i 1).val
  let c4_i32_64 : BitVec 32 := 4#32
  let v169 : BitVec 32 := Scalar.muli arg1 c4_i32_64
  let c1_i32_65 : BitVec 32 := 1#32
  let v170 : BitVec 32 := Scalar.addi v169 c1_i32_65
  let c256_i32_92 : BitVec 32 := 256#32
  let v222 : BitVec 32 := Scalar.muli v170 c256_i32_92
  v222
def k0_mult4 (i : grid0.Coords) : BitVec 32 :=
  let arg1 : BitVec 32 := BitVec.ofNat 32 (i 1).val
  let c4_i32_64 : BitVec 32 := 4#32
  let v169 : BitVec 32 := Scalar.muli arg1 c4_i32_64
  let c1_i32_65 : BitVec 32 := 1#32
  let v170 : BitVec 32 := Scalar.addi v169 c1_i32_65
  let c1_i32_102 : BitVec 32 := 1#32
  let v266 : BitVec 32 := Scalar.subi v170 c1_i32_102
  let c0_i32_103 : BitVec 32 := 0#32
  let v267 : BitVec 32 := Scalar.maxsi v266 c0_i32_103
  let c256_i32_114 : BitVec 32 := 256#32
  let v274 : BitVec 32 := Scalar.muli v267 c256_i32_114
  v274
def k0_mult5 (i : grid0.Coords) : BitVec 32 :=
  let arg1 : BitVec 32 := BitVec.ofNat 32 (i 1).val
  let c4_i32_128 : BitVec 32 := 4#32
  let v321 : BitVec 32 := Scalar.muli arg1 c4_i32_128
  let c2_i32 : BitVec 32 := 2#32
  let v322 : BitVec 32 := Scalar.addi v321 c2_i32
  let c256_i32_154 : BitVec 32 := 256#32
  let v374 : BitVec 32 := Scalar.muli v322 c256_i32_154
  v374
def k0_mult6 (i : grid0.Coords) : BitVec 32 :=
  let arg1 : BitVec 32 := BitVec.ofNat 32 (i 1).val
  let c4_i32_128 : BitVec 32 := 4#32
  let v321 : BitVec 32 := Scalar.muli arg1 c4_i32_128
  let c2_i32 : BitVec 32 := 2#32
  let v322 : BitVec 32 := Scalar.addi v321 c2_i32
  let c1_i32_164 : BitVec 32 := 1#32
  let v418 : BitVec 32 := Scalar.subi v322 c1_i32_164
  let c0_i32_165 : BitVec 32 := 0#32
  let v419 : BitVec 32 := Scalar.maxsi v418 c0_i32_165
  let c256_i32_176 : BitVec 32 := 256#32
  let v426 : BitVec 32 := Scalar.muli v419 c256_i32_176
  v426
def k0_mult7 (i : grid0.Coords) : BitVec 32 :=
  let arg1 : BitVec 32 := BitVec.ofNat 32 (i 1).val
  let c4_i32_190 : BitVec 32 := 4#32
  let v473 : BitVec 32 := Scalar.muli arg1 c4_i32_190
  let c3_i32 : BitVec 32 := 3#32
  let v474 : BitVec 32 := Scalar.addi v473 c3_i32
  let c256_i32_216 : BitVec 32 := 256#32
  let v526 : BitVec 32 := Scalar.muli v474 c256_i32_216
  v526
def k0_mult8 (i : grid0.Coords) : BitVec 32 :=
  let arg1 : BitVec 32 := BitVec.ofNat 32 (i 1).val
  let c4_i32_190 : BitVec 32 := 4#32
  let v473 : BitVec 32 := Scalar.muli arg1 c4_i32_190
  let c3_i32 : BitVec 32 := 3#32
  let v474 : BitVec 32 := Scalar.addi v473 c3_i32
  let c1_i32_226 : BitVec 32 := 1#32
  let v570 : BitVec 32 := Scalar.subi v474 c1_i32_226
  let c0_i32_227 : BitVec 32 := 0#32
  let v571 : BitVec 32 := Scalar.maxsi v570 c0_i32_227
  let c256_i32_238 : BitVec 32 := 256#32
  let v578 : BitVec 32 := Scalar.muli v571 c256_i32_238
  v578
def k0_mult9 (arg16 : BitVec 32) : BitVec 32 :=
  let c256_i32_301 : BitVec 32 := 256#32
  let v764 : BitVec 32 := Scalar.muli arg16 c256_i32_301
  v764

def k0_off3 (arg16 : BitVec 32) : Fin 2 → Nat :=
  let c256_i32_301 : BitVec 32 := 256#32
  let v764 : BitVec 32 := Scalar.muli arg16 c256_i32_301
  let v765 : BitVec 32 := v764
  let v766 : Index := Scalar.indexCast v765
  let c0_302 : Index := 0#32
  ![v766.toNat, 0]
def k0_mult10 (arg16 : BitVec 32) : BitVec 32 :=
  let c256_i32_312 : BitVec 32 := 256#32
  let v804 : BitVec 32 := Scalar.muli arg16 c256_i32_312
  v804

def k0_chk1 (arg16 : BitVec 32) : Prop :=
  (256 ∣ (k0_mult9 arg16).toNat) ∧
  (∀ a, (k0_off3 arg16) a + S256x128.size a ≤ S8192x128.size a) ∧
  (256 ∣ (k0_mult10 arg16).toNat)
theorem k0_mult9_dvd : ∀ (arg16 : BitVec 32) (k0_hw1 : k0_chk1 arg16), 256 ∣ (k0_mult9 arg16).toNat := fun arg16 k0_hw1 => k0_hw1.1
theorem k0_off3_inb : ∀ (arg16 : BitVec 32) (k0_hw1 : k0_chk1 arg16), ∀ a, (k0_off3 arg16) a + S256x128.size a ≤ S8192x128.size a := fun arg16 k0_hw1 => k0_hw1.2.1
theorem k0_mult10_dvd : ∀ (arg16 : BitVec 32) (k0_hw1 : k0_chk1 arg16), 256 ∣ (k0_mult10 arg16).toNat := fun arg16 k0_hw1 => k0_hw1.2.2

def k0_mult11 (arg16 : BitVec 32) : BitVec 32 :=
  let c256_i32_301 : BitVec 32 := 256#32
  let v764 : BitVec 32 := Scalar.muli arg16 c256_i32_301
  v764

def k0_off4 (arg16 : BitVec 32) : Fin 2 → Nat :=
  let c256_i32_301 : BitVec 32 := 256#32
  let v764 : BitVec 32 := Scalar.muli arg16 c256_i32_301
  let v765 : BitVec 32 := v764
  let v766 : Index := Scalar.indexCast v765
  let c0_302 : Index := 0#32
  ![v766.toNat, 0]
def k0_mult12 (arg16 : BitVec 32) : BitVec 32 :=
  let c256_i32_312 : BitVec 32 := 256#32
  let v804 : BitVec 32 := Scalar.muli arg16 c256_i32_312
  v804

def k0_chk2 (arg16 : BitVec 32) : Prop :=
  (256 ∣ (k0_mult11 arg16).toNat) ∧
  (∀ a, (k0_off4 arg16) a + S256x128.size a ≤ S8192x128.size a) ∧
  (256 ∣ (k0_mult12 arg16).toNat)
theorem k0_mult11_dvd : ∀ (arg16 : BitVec 32) (k0_hw2 : k0_chk2 arg16), 256 ∣ (k0_mult11 arg16).toNat := fun arg16 k0_hw2 => k0_hw2.1
theorem k0_off4_inb : ∀ (arg16 : BitVec 32) (k0_hw2 : k0_chk2 arg16), ∀ a, (k0_off4 arg16) a + S256x128.size a ≤ S8192x128.size a := fun arg16 k0_hw2 => k0_hw2.2.1
theorem k0_mult12_dvd : ∀ (arg16 : BitVec 32) (k0_hw2 : k0_chk2 arg16), 256 ∣ (k0_mult12 arg16).toNat := fun arg16 k0_hw2 => k0_hw2.2.2

def k0_mult13 (arg16 : BitVec 32) : BitVec 32 :=
  let c256_i32_301 : BitVec 32 := 256#32
  let v764 : BitVec 32 := Scalar.muli arg16 c256_i32_301
  v764

def k0_off5 (arg16 : BitVec 32) : Fin 2 → Nat :=
  let c256_i32_301 : BitVec 32 := 256#32
  let v764 : BitVec 32 := Scalar.muli arg16 c256_i32_301
  let v765 : BitVec 32 := v764
  let v766 : Index := Scalar.indexCast v765
  let c0_302 : Index := 0#32
  ![v766.toNat, 0]
def k0_mult14 (arg16 : BitVec 32) : BitVec 32 :=
  let c256_i32_312 : BitVec 32 := 256#32
  let v804 : BitVec 32 := Scalar.muli arg16 c256_i32_312
  v804

def k0_chk3 (arg16 : BitVec 32) : Prop :=
  (256 ∣ (k0_mult13 arg16).toNat) ∧
  (∀ a, (k0_off5 arg16) a + S256x128.size a ≤ S8192x128.size a) ∧
  (256 ∣ (k0_mult14 arg16).toNat)
theorem k0_mult13_dvd : ∀ (arg16 : BitVec 32) (k0_hw3 : k0_chk3 arg16), 256 ∣ (k0_mult13 arg16).toNat := fun arg16 k0_hw3 => k0_hw3.1
theorem k0_off5_inb : ∀ (arg16 : BitVec 32) (k0_hw3 : k0_chk3 arg16), ∀ a, (k0_off5 arg16) a + S256x128.size a ≤ S8192x128.size a := fun arg16 k0_hw3 => k0_hw3.2.1
theorem k0_mult14_dvd : ∀ (arg16 : BitVec 32) (k0_hw3 : k0_chk3 arg16), 256 ∣ (k0_mult14 arg16).toNat := fun arg16 k0_hw3 => k0_hw3.2.2

def k0_mult15 (arg16 : BitVec 32) : BitVec 32 :=
  let c256_i32_301 : BitVec 32 := 256#32
  let v764 : BitVec 32 := Scalar.muli arg16 c256_i32_301
  v764

def k0_off6 (arg16 : BitVec 32) : Fin 2 → Nat :=
  let c256_i32_301 : BitVec 32 := 256#32
  let v764 : BitVec 32 := Scalar.muli arg16 c256_i32_301
  let v765 : BitVec 32 := v764
  let v766 : Index := Scalar.indexCast v765
  let c0_302 : Index := 0#32
  ![v766.toNat, 0]
def k0_mult16 (arg16 : BitVec 32) : BitVec 32 :=
  let c256_i32_312 : BitVec 32 := 256#32
  let v804 : BitVec 32 := Scalar.muli arg16 c256_i32_312
  v804

def k0_chk4 (arg16 : BitVec 32) : Prop :=
  (256 ∣ (k0_mult15 arg16).toNat) ∧
  (∀ a, (k0_off6 arg16) a + S256x128.size a ≤ S8192x128.size a) ∧
  (256 ∣ (k0_mult16 arg16).toNat)
theorem k0_mult15_dvd : ∀ (arg16 : BitVec 32) (k0_hw4 : k0_chk4 arg16), 256 ∣ (k0_mult15 arg16).toNat := fun arg16 k0_hw4 => k0_hw4.1
theorem k0_off6_inb : ∀ (arg16 : BitVec 32) (k0_hw4 : k0_chk4 arg16), ∀ a, (k0_off6 arg16) a + S256x128.size a ≤ S8192x128.size a := fun arg16 k0_hw4 => k0_hw4.2.1
theorem k0_mult16_dvd : ∀ (arg16 : BitVec 32) (k0_hw4 : k0_chk4 arg16), 256 ∣ (k0_mult16 arg16).toNat := fun arg16 k0_hw4 => k0_hw4.2.2

def k0_cond2 (i : grid0.Coords) : BitVec 1 :=
  let arg1 : BitVec 32 := BitVec.ofNat 32 (i 1).val
  let c7_i32 : BitVec 32 := 7#32
  let v761 : BitVec 1 := Scalar.cmpi .eq arg1 c7_i32
  let v762 : BitVec 32 := Scalar.extui v761
  let c0_i32_300 : BitVec 32 := 0#32
  let v763 : BitVec 1 := Scalar.cmpi .ne v762 c0_i32_300
  v763

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x2x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8192x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnIdeal.lean ====
variable {F : FTy → Type} [FloatOps F] [Named F]
def κ : String → Option EReal := fun
  | "cutoff" => some ⊥
  | _ => none
-- ==== AttnReferenceIdeal.lean ====
abbrev S8192x5120 : Shape := ⟨2, ![8192, 5120]⟩
abbrev S8192x512 : Shape := ⟨2, ![8192, 512]⟩
abbrev S8192x8x64 : Shape := ⟨3, ![8192, 8, 64]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 184
  | .vmem => 0
  | .smem => 0
  | _ => 0

abbrev hbmTy0_0 (i : Nat) : BufTy := match i % 128 with
  | 0 => ⟨S8192x5120, .bf16⟩
  | 1 => ⟨S8192x512, .bf16⟩
  | 2 => ⟨S8192x512, .bf16⟩
  | 3 => ⟨S8192x512, .f32⟩
  | 4 => ⟨S8192x8x64, .f32⟩
  | 5 => ⟨S8192x512, .bf16⟩
  | 6 => ⟨S8192x512, .f32⟩
  | 7 => ⟨S8192x8x64, .f32⟩
  | 8 => ⟨S8192x512, .bf16⟩
  | 9 => ⟨S8192x512, .f32⟩
  | 10 => ⟨S8192x8x64, .f32⟩
  | 11 => ⟨S8x8192x64, .f32⟩
  | 12 => ⟨S8x8192x64, .f32⟩
  | 13 => ⟨S8x8192x64, .f32⟩
  | 14 => ⟨S8192, .i32⟩
  | 15 => ⟨S8x8192x8192, .f32⟩
  | 16 => ⟨S_, .f32⟩
  | 17 => ⟨S8x8192x8192, .f32⟩
  | 18 => ⟨S8x8192x8192, .f32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x8192x8192, .f32⟩
  | 62 => ⟨S8x8192x8192, .i1⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S_, .f32⟩
  | 74 => ⟨S_, .f32⟩
  | 75 => ⟨S8x8192x8192, .i1⟩
  | 76 => ⟨S8x8192x8192, .f32⟩
  | 77 => ⟨S8x8192x8192, .f32⟩
  | 78 => ⟨S_, .f32⟩
  | 79 => ⟨S8x8192x8192, .f32⟩
  | 80 => ⟨S_, .f32⟩
  | 81 => ⟨S_, .f32⟩
  | 82 => ⟨S8x8192x8192, .f32⟩
  | 83 => ⟨S8x8192x8192, .f32⟩
  | 84 => ⟨S_, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .i1⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .f32⟩
  | 97 => ⟨S8x8192x8192, .f32⟩
  | 98 => ⟨S_, .f32⟩
  | 99 => ⟨S8x8192x8192, .f32⟩
  | 100 => ⟨S8x8192x8192, .i1⟩
  | 101 => ⟨S_, .f32⟩
  | 102 => ⟨S8x8192x8192, .f32⟩
  | 103 => ⟨S8x8192x8192, .f32⟩
  | 104 => ⟨S_, .f32⟩
  | 105 => ⟨S8x8192x8192, .f32⟩
  | 106 => ⟨S8x8192x8192, .i1⟩
  | 107 => ⟨S_, .f32⟩
  | 108 => ⟨S8x8192x8192, .f32⟩
  | 109 => ⟨S8x8192x8192, .f32⟩
  | 110 => ⟨S8x8192x8192, .f32⟩
  | 111 => ⟨S8x8192x8192, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x8192x8192, .f32⟩
  | 120 => ⟨S8x8192x8192, .i1⟩
  | 121 => ⟨S_, .f32⟩
  | 122 => ⟨S8x8192x8192, .f32⟩
  | 123 => ⟨S8x8192x8192, .f32⟩
  | 124 => ⟨S8x8192x8192, .f32⟩
  | 125 => ⟨S8x8192x8192, .f32⟩
  | 126 => ⟨S8x8192x8192, .f32⟩
  | 127 => ⟨S_, .f32⟩
  | _ => ⟨S8192x5120, .bf16⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S8x8192x8192, .f32⟩
  | 4 => ⟨S8x8192x8192, .f32⟩
  | 5 => ⟨S8x8192x8192, .f32⟩
  | 6 => ⟨S_, .f32⟩
  | 7 => ⟨S_, .f32⟩
  | 8 => ⟨S8x8192x8192, .i1⟩
  | 9 => ⟨S8x8192x8192, .f32⟩
  | 10 => ⟨S8x8192x8192, .f32⟩
  | 11 => ⟨S_, .f32⟩
  | 12 => ⟨S8x8192x8192, .f32⟩
  | 13 => ⟨S8x8192x64, .f32⟩
  | 14 => ⟨S8192x8x64, .f32⟩
  | 15 => ⟨S8192x512, .f32⟩
  | 16 => ⟨S8192x512, .f32⟩
  | 17 => ⟨S8192x8x64, .f32⟩
  | 18 => ⟨S8x8192x64, .f32⟩
  | 19 => ⟨S8x64x8192, .f32⟩
  | 20 => ⟨S8x8192x64, .f32⟩
  | 21 => ⟨S8x8192x8192, .f32⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S_, .f32⟩
  | 31 => ⟨S_, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .f32⟩
  | 45 => ⟨S8x8192x64, .f32⟩
  | 46 => ⟨S8x8192x64, .f32⟩
  | 47 => ⟨S8192x8x64, .f32⟩
  | 48 => ⟨S8192x8x64, .f32⟩
  | 49 => ⟨S8192x8x64, .f32⟩
  | 50 => ⟨S8192x512, .f32⟩
  | 51 => ⟨S8192x512, .bf16⟩
  | 52 => ⟨S8192x512, .f32⟩
  | 53 => ⟨S8192x512, .bf16⟩
  | 54 => ⟨S8192x512, .f32⟩
  | 55 => ⟨S8192x512, .bf16⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_call8_cst : Ref sig .tc := ⟨.hbm, 162, rfl⟩
abbrev main_call8_v0 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩

abbrev nD : Nat := 1
abbrev τ : Topo := Topo.v7x

variable {F : FTy → Type} [FloatOps F]
-- ==== Kernel.lean ====
abbrev S8192x512 : Shape := ⟨2, ![8192, 512]⟩
abbrev S8192x5120 : Shape := ⟨2, ![8192, 5120]⟩
abbrev S3x512 : Shape := ⟨2, ![3, 512]⟩
abbrev S8192x1536 : Shape := ⟨2, ![8192, 1536]⟩
abbrev S512x512 : Shape := ⟨2, ![512, 512]⟩
abbrev S16x512 : Shape := ⟨2, ![16, 512]⟩
abbrev S512x1536 : Shape := ⟨2, ![512, 1536]⟩
abbrev S1x512 : Shape := ⟨2, ![1, 512]⟩
abbrev S512 : Shape := ⟨1, ![512]⟩

abbrev nBuf : Space → Nat
  | .hbm => 5
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x5120, .bf16⟩
  | .hbm, ⟨2, _⟩ => ⟨S3x512, .f32⟩
  | .hbm, ⟨3, _⟩ => ⟨S8192x1536, .bf16⟩
  | .hbm, ⟨4, _⟩ => ⟨S3x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S3x512, .f32⟩
  | .local _ .vmem, ⟨17, _⟩ => ⟨S512x1536, .bf16⟩
  | .local _ .vmem, ⟨18, _⟩ => ⟨S512x1536, .bf16⟩
  | .local _ .vmem, ⟨19, _⟩ => ⟨S3x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x512 : Shape := ⟨2, ![8192, 512]⟩
abbrev S8192x5120 : Shape := ⟨2, ![8192, 5120]⟩
abbrev S3x512 : Shape := ⟨2, ![3, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8192x1536 : Shape := ⟨2, ![8192, 1536]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x5120, .bf16⟩
  | .hbm, ⟨2, _⟩ => ⟨S3x512, .f32⟩
  | .hbm, ⟨3, _⟩ => ⟨S8192x512, .bf16⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S2x512, .f32⟩
  | .hbm, ⟨12, _⟩ => ⟨S8194x512, .f32⟩
  | .hbm, ⟨13, _⟩ => ⟨S_, .f32⟩
  | .hbm, ⟨14, _⟩ => ⟨S2x512, .f32⟩
  | .hbm, ⟨15, _⟩ => ⟨S1x512, .f32⟩
  | .hbm, ⟨16, _⟩ => ⟨S512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S512, .f32⟩
  | .hbm, ⟨50, _⟩ => ⟨S_, .f32⟩
  | .hbm, ⟨51, _⟩ => ⟨S8194x512, .f32⟩
  | .hbm, ⟨52, _⟩ => ⟨S1x512, .f32⟩
  | .hbm, ⟨53, _⟩ => ⟨S_, .f32⟩
  | .hbm, ⟨54, _⟩ => ⟨S3x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S_, .f32⟩
  | .hbm, ⟨64, _⟩ => ⟨S8194x512, .f32⟩
  | .hbm, ⟨65, _⟩ => ⟨S8194x512, .f32⟩
  | .hbm, ⟨66, _⟩ => ⟨S1x512, .f32⟩
  | .hbm, ⟨67, _⟩ => ⟨S_, .f32⟩
  | .hbm, ⟨68, _⟩ => ⟨S3x512, .f32⟩
  | .hbm, ⟨69, _⟩ => ⟨S3x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S_, .f32⟩
  | .hbm, ⟨77, _⟩ => ⟨S512, .f32⟩
  | .hbm, ⟨78, _⟩ => ⟨S_, .f32⟩
  | .hbm, ⟨79, _⟩ => ⟨S8194x512, .f32⟩
  | .hbm, ⟨80, _⟩ => ⟨S8194x512, .f32⟩
  | .hbm, ⟨81, _⟩ => ⟨S1x512, .f32⟩
  | .hbm, ⟨82, _⟩ => ⟨S_, .f32⟩
  | .hbm, ⟨83, _⟩ => ⟨S3x512, .f32⟩
  | .hbm, ⟨84, _⟩ => ⟨S3x512, .f32⟩
  | .hbm, ⟨85, _⟩ => ⟨S2x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x1536, .f32⟩
  | .hbm, ⟨90, _⟩ => ⟨S8192x1536, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== GwIn.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwOut.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpOut.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .bf16⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x4096, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpOutReferenceIdeal.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .bf16⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .i1⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S4096x1024, .f32⟩
  | .hbm, ⟨70, _⟩ => ⟨S8192x1024, .f32⟩
  | .hbm, ⟨71, _⟩ => ⟨S8192x4096, .f32⟩
  | .hbm, ⟨72, _⟩ => ⟨S8192x4096, .f32⟩
  | .hbm, ⟨73, _⟩ => ⟨S_, .f32⟩
  | .hbm, ⟨74, _⟩ => ⟨S8192x4096, .f32⟩
  | .hbm, ⟨75, _⟩ => ⟨S8192x4096, .f32⟩
  | .hbm, ⟨76, _⟩ => ⟨S8192x1024, .bf16⟩
  | .hbm, ⟨77, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_cst : Ref sig .tc := ⟨.hbm, 57, rfl⟩
abbrev main_call0_v0 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== MlpIn.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpInReferenceIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x4096, .f32⟩
  | .hbm, ⟨35, _⟩ => ⟨S8192x4096, .f32⟩
  | .hbm, ⟨36, _⟩ => ⟨S8192x4096, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== InProj.lean ====
abbrev S8192x1536 : Shape := ⟨2, ![8192, 1536]⟩
abbrev S8192x512 : Shape := ⟨2, ![8192, 512]⟩
abbrev S8192x2048 : Shape := ⟨2, ![8192, 2048]⟩
abbrev S1024x5120 : Shape := ⟨2, ![1024, 5120]⟩
abbrev S8192x1024 : Shape := ⟨2, ![8192, 1024]⟩
abbrev S1x1024 : Shape := ⟨2, ![1, 1024]⟩
abbrev S512x1536 : Shape := ⟨2, ![512, 1536]⟩
abbrev S512x512 : Shape := ⟨2, ![512, 512]⟩
abbrev S512x2048 : Shape := ⟨2, ![512, 2048]⟩
abbrev S512x1024 : Shape := ⟨2, ![512, 1024]⟩
abbrev S1024x1536 : Shape := ⟨2, ![1024, 1536]⟩
abbrev S1024x512 : Shape := ⟨2, ![1024, 512]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S1024x5120, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S1024x5120, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InProjReferenceIdeal.lean ====
abbrev S8192x1536 : Shape := ⟨2, ![8192, 1536]⟩
abbrev S8192x512 : Shape := ⟨2, ![8192, 512]⟩
abbrev S8192x2048 : Shape := ⟨2, ![8192, 2048]⟩
abbrev S1024x5120 : Shape := ⟨2, ![1024, 5120]⟩
abbrev S8192x1024 : Shape := ⟨2, ![8192, 1024]⟩
abbrev S1x1024 : Shape := ⟨2, ![1, 1024]⟩
abbrev S_ : Shape := ⟨0, ![]⟩
abbrev S8192x5120 : Shape := ⟨2, ![8192, 5120]⟩
abbrev S8192 : Shape := ⟨1, ![8192]⟩
abbrev S8192x1 : Shape := ⟨2, ![8192, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S1024x5120, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S8192x5120, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1024x5120, .f32⟩
  | .hbm, ⟨40, _⟩ => ⟨S8192x5120, .f32⟩
  | .hbm, ⟨41, _⟩ => ⟨S8192x5120, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== GwGate.lean ====
abbrev S8192x1024 : Shape := ⟨2, ![8192, 1024]⟩
abbrev S8192x2048 : Shape := ⟨2, ![8192, 2048]⟩
abbrev S1024x5120 : Shape := ⟨2, ![1024, 5120]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x5120, .bf16⟩
  | .hbm, ⟨3, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwGateReferenceIdeal.lean ====
abbrev S8192x1024 : Shape := ⟨2, ![8192, 1024]⟩
abbrev S8192x2048 : Shape := ⟨2, ![8192, 2048]⟩
abbrev S1024x5120 : Shape := ⟨2, ![1024, 5120]⟩
abbrev S_ : Shape := ⟨0, ![]⟩
abbrev S1024x2048 : Shape := ⟨2, ![1024, 2048]⟩
abbrev S2048x1024 : Shape := ⟨2, ![2048, 1024]⟩
abbrev S1024x3072 : Shape := ⟨2, ![1024, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x5120, .bf16⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S1024x3072, .bf16⟩
  | .hbm, ⟨12, _⟩ => ⟨S1024x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GwMix.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwMixReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwConv.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwConvReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwAttn.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwAttnReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjFwd.lean ====
abbrev S8192x1024 : Shape := ⟨2, ![8192, 1024]⟩
abbrev S1x1024 : Shape := ⟨2, ![1, 1024]⟩
abbrev S1024x5120 : Shape := ⟨2, ![1024, 5120]⟩
abbrev S8192x5120 : Shape := ⟨2, ![8192, 5120]⟩
abbrev S512x1024 : Shape := ⟨2, ![512, 1024]⟩
abbrev S512x5120 : Shape := ⟨2, ![512, 5120]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .bf16⟩
  | .hbm, ⟨5, _⟩ => ⟨S8192x1024, .bf16⟩
  | .hbm, ⟨6, _⟩ => ⟨S8192x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5120, .bf16⟩
  | .local _ .vmem, ⟨6, _⟩ => ⟨S512x1024, .bf16⟩
  | .local _ .vmem, ⟨7, _⟩ => ⟨S512x1024, .bf16⟩
  | .local _ .vmem, ⟨8, _⟩ => ⟨S512x5120, .bf16⟩
  | .local _ .vmem, ⟨9, _⟩ => ⟨S512x5120, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjFwdReferenceIdeal.lean ====
abbrev S8192x1024 : Shape := ⟨2, ![8192, 1024]⟩
abbrev S1x1024 : Shape := ⟨2, ![1, 1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x5120, .f32⟩
  | .hbm, ⟨29, _⟩ => ⟨S8192x5120, .f32⟩
  | .hbm, ⟨30, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MlpInFwd.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S8192x1024, .bf16⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpInFwdReferenceIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x4096, .f32⟩
  | .hbm, ⟨29, _⟩ => ⟨S8192x4096, .f32⟩
  | .hbm, ⟨30, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MlpOutFwd.lean ====
abbrev S8192x4096 : Shape := ⟨2, ![8192, 4096]⟩
abbrev S8192x1024 : Shape := ⟨2, ![8192, 1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpOutFwdReferenceIdeal.lean ====
abbrev S8192x4096 : Shape := ⟨2, ![8192, 4096]⟩
abbrev S8192x1024 : Shape := ⟨2, ![8192, 1024]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S4096x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.AttnKit.lean ====
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

/-!
  What the run of the attention gradient is stated over: the memory when its grid is entered, the blocks of its windows,
  the two conditions of its body as facts of the point, and loads and stores of a whole memref by the values it holds.
-/

@[expose] public section

set_option maxRecDepth 16384

noncomputable section

namespace Cert.Proof.Attn

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Loads and stores of a whole memref, by values -/

section Access

variable (𝒱 : Variants) (c : Dev nD) (bd : Option 𝒱.V) (E : Set ℕ) {s : Shape} {e : EltTy} {α : Type}

/-- A load of a memref owned at `x` goes on at the window of `x` it names. -/
theorem load_owned {M : Memref sig .tc .vmem s e} {off size : Fin s.rank → ℕ} {inb : ∀ a, off a + size a ≤ s.size a}
    {hl : M.view.LoadsAt (Rect.unit off size inb).toLoadRect} {x : s.Idx → Elt F e}
    {k : ((Rect.unit off size inb).shape.Idx → Elt F e) → Prog (TpuEff nD τ sig (Elt F) (Λ₀ F) .tc) α} {K : α → sProp 𝕄} :
    (owns (c : Thread nD τ) M fullShare x : sProp 𝕄)
      ⊢ iprop((owns (c : Thread nD τ) M fullShare x -∗ wp frame (wpE (defs₀ (F := F)) 𝒱 (c : Thread nD τ) bd) E (k (VecWindow.window x off size inb)) K)
        -∗ wp frame (wpE (defs₀ (F := F)) 𝒱 (c : Thread nD τ) bd) E (.op (.load M (Rect.unit off size inb).toLoadRect hl) k) K) := by
  unfold owns
  iintro ⟨%f, %hf, H⟩ Hk
  iapply (wp_load 𝒱 (c : Thread nD τ) bd E (m := M) (View.setOn_subset_set M.view _)) $$ H; iintro H
  rw [View.readAt_unit M.view f inb rfl inb, hf]
  iapply Hk
  iexists f; isplitr; · ipureintro; exact hf
  iexact H

/-- A store into a memref owned at `x` leaves it owned at `x` with the payload put at the window it names. -/
theorem store_owned {M : Memref sig .tc .vmem s e} {off size : Fin s.rank → ℕ} {inb : ∀ a, off a + size a ≤ s.size a}
    {w : (Rect.unit off size inb).shape.Idx → Elt F e} {hx} {hm} {x : s.Idx → Elt F e}
    {k : PUnit → Prog (TpuEff nD τ sig (Elt F) (Λ₀ F) .tc) α} {K : α → sProp 𝕄} :
    (owns (c : Thread nD τ) M fullShare x : sProp 𝕄)
      ⊢ iprop((owns (c : Thread nD τ) M fullShare (VecWindow.put x off size w) -∗ wp frame (wpE (defs₀ (F := F)) 𝒱 (c : Thread nD τ) bd) E (k ⟨⟩) K)
        -∗ wp frame (wpE (defs₀ (F := F)) 𝒱 (c : Thread nD τ) bd) E (.op (.store M (Rect.unit off size inb) w Finset.univ hx hm) k) K) := by
  unfold owns
  iintro ⟨%f, %hf, H⟩ Hk
  iapply (wp_store 𝒱 (c : Thread nD τ) bd E (m := M) (r := Rect.unit off size inb) (Mk := Finset.univ) (S := M.view.set)
    ((View.setOn_subset_set _ _).trans (View.set_slice_subset M.view _))) $$ H; iintro H
  iapply Hk
  iexists _; isplitr
  · ipureintro
    have h := View.read_writes_cons_put M.view f inb w [] rfl
    rw [View.writes_nil, hf] at h
    exact h
  iexact H

end Access

variable (m : (ℓ : Loc nD τ sig) → Buf (Elt F) ℓ) (ρ : Dev nD → PrngReg)

/-! ## The memory when the grid is entered -/

/-- The buffers of device `c` when the grid is entered: the launch contents after the operations of the host. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

set_option maxHeartbeats 2000000 in
/-- The whole program up to the grid, under any variants. -/
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; repeat' constructor) main_chain

/-- The host writes neither argument. -/
theorem V_arg (c : Dev nD) (b : Ref sig .tc) (hb : b = main_arg0 ∨ b = main_arg1) : V m c b = m ((c : Thread nD τ).loc b) :=
  StableHlo.after_of_forall_not_mem (b := Proc.devRef .tc b) _ _ (List.forall_iff_forall_mem.mp (by
    rcases hb with rfl | rfl <;>
    · simp only [hostOps0, hostOps0_1, hostOps0_2, hostOps0_3, hostOps0_4, hostOps0_5, hostOps0_6, hostOps0_7, hostOps0_8, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-- Window `w`'s block at point `t`, of the array as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The conditions of the body -/

/-- The first step of a pair of heads: its accumulators are zeroed. -/
abbrev isFirst (i : grid0.Coords) : Prop := (Scalar.cmpi .ne (Scalar.extui (Scalar.cmpi .eq (BitVec.ofNat 32 (i 1).val) 0#32)) 0#32) = 1#1

theorem isFirst_iff (t : Fin (cfg0 (F := F)).N) : isFirst (grid0.coords t) ↔ t.val % 8 = 0 :=
  (fun t => by
  have ht : t.val < 32 := Nat.lt_of_lt_of_eq t.isLt N_0
  have e1 : (grid0.coords t 1).val = t.val / 1 % 8 := Pipeline.Grid.coords_val t 1 (by decide) rfl
  simp only [isFirst, e1]
  word_cmp
  : ∀ t : Fin grid0.N, isFirst (grid0.coords t) ↔ t.val % 8 = 0) t

/-- The last step of a pair of heads: its accumulators are written out. -/
theorem isLast_iff (t : Fin (cfg0 (F := F)).N) : k0_cond2 (grid0.coords t) = 1#1 ↔ t.val % 8 = 7 :=
  (fun t => by
  have ht : t.val < 32 := Nat.lt_of_lt_of_eq t.isLt N_0
  have e1 : (grid0.coords t 1).val = t.val / 1 % 8 := Pipeline.Grid.coords_val t 1 (by decide) rfl
  simp only [k0_cond2, e1]
  word_cmp
  : ∀ t : Fin grid0.N, k0_cond2 (grid0.coords t) = 1#1 ↔ t.val % 8 = 7) t

/-- The two key gradients are left alone, and not written back, at every step of a pair of heads but the last. -/
theorem idle_10 : ∀ t : Fin (cfg0 (F := F)).N, ¬ k0_cond2 (grid0.coords t) = 1#1 → (cfg0 (F := F)).idle 10 (grid0.coords t) = true :=
  (by decide +kernel : ∀ t : Fin grid0.N, ¬ k0_cond2 (grid0.coords t) = 1#1 → idle0 10 (grid0.coords t) = true)
theorem idle_11 : ∀ t : Fin (cfg0 (F := F)).N, ¬ k0_cond2 (grid0.coords t) = 1#1 → (cfg0 (F := F)).idle 11 (grid0.coords t) = true :=
  (by decide +kernel : ∀ t : Fin grid0.N, ¬ k0_cond2 (grid0.coords t) = 1#1 → idle0 11 (grid0.coords t) = true)
theorem noFlush_10 : ∀ t : Fin (cfg0 (F := F)).N, ¬ k0_cond2 (grid0.coords t) = 1#1 → ((cfg0 (F := F)).win 10).flush t = false :=
  (by decide +kernel : ∀ t : Fin grid0.N, ¬ k0_cond2 (grid0.coords t) = 1#1 → win0_10.flush t = false)
theorem noFlush_11 : ∀ t : Fin (cfg0 (F := F)).N, ¬ k0_cond2 (grid0.coords t) = 1#1 → ((cfg0 (F := F)).win 11).flush t = false :=
  (by decide +kernel : ∀ t : Fin grid0.N, ¬ k0_cond2 (grid0.coords t) = 1#1 → win0_11.flush t = false)
theorem live_10 : ∀ t : Fin (cfg0 (F := F)).N, k0_cond2 (grid0.coords t) = 1#1 → (cfg0 (F := F)).idle 10 (grid0.coords t) = false :=
  (by decide +kernel : ∀ t : Fin grid0.N, k0_cond2 (grid0.coords t) = 1#1 → idle0 10 (grid0.coords t) = false)
theorem live_11 : ∀ t : Fin (cfg0 (F := F)).N, k0_cond2 (grid0.coords t) = 1#1 → (cfg0 (F := F)).idle 11 (grid0.coords t) = false :=
  (by decide +kernel : ∀ t : Fin grid0.N, k0_cond2 (grid0.coords t) = 1#1 → idle0 11 (grid0.coords t) = false)

/-! ## The staging buffers and the accumulators -/

abbrev ms0 (t : Fin (cfg0 (F := F)).N) : Memref sig .tc .vmem S1024x128 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S8192x128 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S8192x128 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S1024x128 .f32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S1024x128 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S256x256 .bf16 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S1x4x2x512x256 .bf16 := win0_6.stage ((cfg0 (F := F)).slots t 6)
abbrev hs6 (t : Fin (cfg0 (F := F)).N) : (ms6 t).IsWhole := hstage0_6 (((cfg0 (F := F)).slots t 6).cast nbuf0_6)
abbrev ms7 (t : Fin (cfg0 (F := F)).N) : Memref sig .tc .vmem S1x4x2x512x256 .bf16 := win0_7.stage ((cfg0 (F := F)).slots t 7)
abbrev hs7 (t : Fin (cfg0 (F := F)).N) : (ms7 t).IsWhole := hstage0_7 (((cfg0 (F := F)).slots t 7).cast nbuf0_7)
abbrev ms8 (t : Fin (cfg0 (F := F)).N) : Memref sig .tc .vmem S1x4x512x128 .f32 := win0_8.stage ((cfg0 (F := F)).slots t 8)
abbrev hs8 (t : Fin (cfg0 (F := F)).N) : (ms8 t).IsWhole := hstage0_8 (((cfg0 (F := F)).slots t 8).cast nbuf0_8)
abbrev ms9 (t : Fin (cfg0 (F := F)).N) : Memref sig .tc .vmem S1024x128 .bf16 := win0_9.stage ((cfg0 (F := F)).slots t 9)
abbrev hs9 (t : Fin (cfg0 (F := F)).N) : (ms9 t).IsWhole := hstage0_9 (((cfg0 (F := F)).slots t 9).cast nbuf0_9)
abbrev ms10 (t : Fin (cfg0 (F := F)).N) : Memref sig .tc .vmem S8192x128 .bf16 := win0_10.stage ((cfg0 (F := F)).slots t 10)
abbrev hs10 (t : Fin (cfg0 (F := F)).N) : (ms10 t).IsWhole := hstage0_10 (((cfg0 (F := F)).slots t 10).cast nbuf0_10)
abbrev ms11 (t : Fin (cfg0 (F := F)).N) : Memref sig .tc .vmem S8192x128 .bf16 := win0_11.stage ((cfg0 (F := F)).slots t 11)
abbrev hs11 (t : Fin (cfg0 (F := F)).N) : (ms11 t).IsWhole := hstage0_11 (((cfg0 (F := F)).slots t 11).cast nbuf0_11)

/-- The two accumulators, of the keys' gradient and of the values'. -/
abbrev accK : Memref sig .tc .vmem S8192x128 .f32 := Memref.whole cc0_scratch0
abbrev accV : Memref sig .tc .vmem S8192x128 .f32 := Memref.whole cc0_scratch1

/-- What the pipeline keeps beside its windows: the accumulators at anything, and the generator's register. -/
theorem PhiA_eq (c : Dev nD) :
    (Pipeline.ΦA spec0 c : sProp 𝕄)
      = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; try rfl

end Cert.Proof.Attn

end
-- ==== Proof.AttnLoop.lean ====
module

public import proofs.«01_k».proof.Proof.AttnKit
public import Idealize.ShloMosaic.Lib.Pointwise

/-!
  The loop over the blocks of keys further back than the two whose weights were kept: what one turn does to the running
  sums, to the gradient of the queries and to the two accumulators, and that each of the four printed loops does these
  turns, from the block before the two kept ones down to the first, for as long as some running sum is above the cutoff.
-/

@[expose] public section

set_option maxRecDepth 16384

noncomputable section

namespace Cert.Proof.Attn

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One turn, and all of them -/

/-- Rows `256 j`, …, `256 j + 255` of an array of 8192 rows. -/
def strip {α : Type} (x : S8192x128.Idx → α) (j : ℕ) : S256x128.Idx → α :=
  fun y => x (ix2 (n0 := 8192) (n1 := 128) ⟨(256 * j + (y 0).val) % 8192, Nat.mod_lt _ (by decide)⟩ (y 1))

/-- The array with those rows replaced by `w`. -/
def putStrip {α : Type} (x : S8192x128.Idx → α) (j : ℕ) (w : S256x128.Idx → α) : S8192x128.Idx → α :=
  VecWindow.put x ![256 * j, 0] S256x128.size w

theorem window_strip {α : Type} (x : S8192x128.Idx → α) {off : Fin 2 → ℕ} {inb : ∀ a, off a + S256x128.size a ≤ S8192x128.size a} {j : ℕ}
    (h : off = ![256 * j, 0]) : VecWindow.window x off S256x128.size inb = strip x j := by
  subst h
  funext y
  unfold VecWindow.window strip
  have h0 : 256 * j + 256 ≤ 8192 := inb 0
  refine congrArg x (funext fun a => Fin.ext ?_)
  match a with
  | ⟨0, _⟩ =>
    show 256 * j + 1 * (y 0).val = (256 * j + (y 0).val) % 8192
    have : (y 0).val < 256 := (y 0).isLt
    omega
  | ⟨1, _⟩ => show 0 + 1 * (y 1).val = (y 1).val; omega

theorem put_strip {α : Type} (x : S8192x128.Idx → α) {off : Fin 2 → ℕ} {j : ℕ} (h : off = ![256 * j, 0]) (w : S256x128.Idx → α) :
    VecWindow.put x off S256x128.size w = putStrip x j w := by subst h; rfl

/-- What the loop carries: the running sums of the logarithms and of the weighted derivatives, the gradient of the
    queries, and the two accumulators. -/
structure Loop (F : FTy → Type) [FloatOps F] where
  run : FVec F S512x1 .f32
  grun : FVec F S512x1 .f32
  dq : FVec F S256x128 .f32
  accK : Vec F S8192x128 .f32
  accV : Vec F S8192x128 .f32

/-- The loop's constants: the triangle that sums, the lanes of the two heads, the queries, the output's gradient, its
    product with the output, and the keys and values. -/
structure Fixed (F : FTy → Type) [FloatOps F] where
  tri : FVec F S256x256 .bf16
  lo : IVec S1x128 1
  hi : IVec S1x128 1
  qs : FVec F S512x128 .bf16
  dos : FVec F S512x128 .bf16
  dtot : FVec F S512x1 .f32
  keys : Vec F S8192x128 .bf16
  vals : Vec F S8192x128 .bf16

/-- One turn, at block `j` of the keys. -/
def turn (C : Fixed F) (j : ℕ) (s : Loop F) : Loop F where
  run := k0_pay163 s.run (k0_pay153 C.qs C.tri (strip C.keys j))
  grun := k0_pay162 C.tri C.dos s.grun (k0_pay154 C.qs C.tri s.run (strip C.keys j)) (strip C.vals j)
  dq := k0_pay160 C.tri C.dos C.lo C.hi s.dq (k0_pay154 C.qs C.tri s.run (strip C.keys j)) (k0_pay155 C.dtot s.run s.grun)
    (k0_pay156 C.qs (strip C.keys j)) (strip C.keys j) (strip C.vals j)
  accK := putStrip s.accK j (k0_pay164 C.qs C.tri C.dos (k0_pay154 C.qs C.tri s.run (strip C.keys j)) (k0_pay155 C.dtot s.run s.grun)
    (k0_pay156 C.qs (strip C.keys j)) (strip C.vals j) (strip s.accK j))
  accV := putStrip s.accV j (k0_pay6 (k0_pay161 C.dos (k0_pay154 C.qs C.tri s.run (strip C.keys j))) (strip s.accV j))

/-- The loop goes on: some running sum is above the cutoff. -/
def goesOn (run : FVec F S512x1 .f32) : Prop := Scalar.cmpf .ogt (k0_pay5 run) (Named.named κ "cutoff" 0xC2B40000#32 : F .f32) = 1#1

instance (run : FVec F S512x1 .f32) : Decidable (goesOn run) := by unfold goesOn; infer_instance

/-- The turns from block `n - 1` down to block `0`, for as long as the loop goes on. -/
def turns (C : Fixed F) : ℕ → Loop F → Loop F
  | 0, s => s
  | n + 1, s => if goesOn s.run then turns C n (turn C n s) else s

/-- The loop's counter with `n` blocks to go: below zero with none, else the next block. -/
def Counter (n : ℕ) (w : BitVec 32) : Prop :=
  (n = 0 ∧ Scalar.cmpi .sge w 0#32 = 0#1) ∨ (∃ k < 32, n = k + 1 ∧ w = BitVec.ofNat 32 k)

theorem counter_zero {w : BitVec 32} (h : Counter 0 w) : Scalar.cmpi .sge w 0#32 = 0#1 := by
  rcases h with ⟨_, h⟩ | ⟨k, _, h, _⟩
  · exact h
  · exact absurd h (by omega)

theorem counter_succ {n : ℕ} {w : BitVec 32} (h : Counter (n + 1) w) : n < 32 ∧ w = BitVec.ofNat 32 n := by
  rcases h with ⟨h, _⟩ | ⟨k, hk, h, hw⟩
  · exact absurd h (by omega)
  · obtain rfl : n = k := by omega
    exact ⟨hk, hw⟩

theorem counter_pred : ∀ n < 32, Counter n (Scalar.subi (BitVec.ofNat 32 n) 1#32) := fun n hn => by
  cases n with
  | zero => exact Or.inl ⟨rfl, by decide⟩
  | succ k =>
    refine Or.inr ⟨k, by omega, rfl, ?_⟩
    show BitVec.ofNat 32 (k + 1) - 1#32 = _
    apply BitVec.eq_of_toNat_eq
    simp only [BitVec.toNat_sub, BitVec.toNat_ofNat]
    omega

theorem sge_ofNat : ∀ n < 32, Scalar.cmpi .sge (BitVec.ofNat 32 n) 0#32 = 1#1 := by decide

theorem andi_one : ∀ b : BitVec 1, Scalar.andi 1#1 b = b := by decide
theorem andi_zero : ∀ b : BitVec 1, Scalar.andi 0#1 b = 0#1 := by decide

theorem chk_of_lt : ∀ n < 32, k0_chk1 (BitVec.ofNat 32 n) := by decide
theorem off_of_lt : ∀ n < 32, k0_off3 (BitVec.ofNat 32 n) = ![256 * n, 0] := by decide

/-! ## The printed loops -/

variable (c : Dev nD) (arg3 : Memref sig .tc .vmem S8192x128 .bf16) (harg3 : arg3.IsWhole) (arg4 : Memref sig .tc .vmem S8192x128 .bf16) (harg4 : arg4.IsWhole)
  (arg14 : Memref sig .tc .vmem S8192x128 .f32) (harg14 : arg14.IsWhole) (arg15 : Memref sig .tc .vmem S8192x128 .f32) (harg15 : arg15.IsWhole)

/-- What a loop holds: the keys, the values and the two accumulators. -/
def held (C : Fixed F) (a b : Vec F S8192x128 .f32) : sProp 𝕄 :=
  iprop(owns (c : Thread nD τ) arg3 fullShare C.keys ∗ owns (c : Thread nD τ) arg4 fullShare C.vals
    ∗ owns (c : Thread nD τ) arg14 fullShare a ∗ owns (c : Thread nD τ) arg15 fullShare b)

/-- What a loop does from the state `s` with `n` blocks to go. -/
def spec (C : Fixed F) (n : ℕ) (s : Loop F) : sWPT 𝕄 (BitVec 32 × FVec F S512x1 .f32 × FVec F S512x1 .f32 × FVec F S256x128 .f32) := do
  sWPT.consume (held c arg3 arg4 arg14 arg15 C s.accK s.accV)
  let w ← sWPT.arbitrary
  sWPT.produce (held c arg3 arg4 arg14 arg15 C (turns C n s).accK (turns C n s).accV)
  pure (w, (turns C n s).run, (turns C n s).grun, (turns C n s).dq)

theorem spec_apply (C : Fixed F) (n : ℕ) (s : Loop F) (K : BitVec 32 × FVec F S512x1 .f32 × FVec F S512x1 .f32 × FVec F S256x128 .f32 → sProp 𝕄) :
    spec c arg3 arg4 arg14 arg15 C n s K
      = iprop(held c arg3 arg4 arg14 arg15 C s.accK s.accV
          ∗ ∀ w : BitVec 32, held c arg3 arg4 arg14 arg15 C (turns C n s).accK (turns C n s).accV
            -∗ K (w, (turns C n s).run, (turns C n s).grun, (turns C n s).dq)) := rfl

theorem turns_go (C : Fixed F) (n : ℕ) (s : Loop F) (h : goesOn s.run) : turns C (n + 1) s = turns C n (turn C n s) := by
  rw [turns, if_pos h]
theorem turns_stop (C : Fixed F) (n : ℕ) (s : Loop F) (h : ¬ goesOn s.run) : turns C (n + 1) s = s := by
  rw [turns, if_neg h]

abbrev 𝒱₀ : Variants := Variants.nat

set_option maxHeartbeats 1000000 in
/-- Loop 1 does its turns. -/
theorem loop1_le (i : grid0.Coords) (E : Set ℕ) (C : Fixed F) :
    ∀ (n : ℕ) (w : BitVec 32) (s : Loop F), Counter n w → ∀ K, spec c arg3 arg4 arg14 arg15 C n s K
      ⊢ wp frame (wpE (defs₀ (F := F)) 𝒱₀ (c : Thread nD τ) (some n)) E
          (defs₀ (F := F) .tc 1 ⟨i, arg3, harg3, C.qs, C.tri, C.dtot, arg4, harg4, C.dos, C.lo, C.hi, arg14, harg14, arg15, harg15,
            w, s.run, s.grun, s.dq⟩) K := by
  intro n
  induction n with
  | zero =>
    intro w s hw K
    rw [spec_apply]
    show _ ⊢ wp frame (wpE (defs₀ (F := F)) 𝒱₀ (c : Thread nD τ) (some 0)) E
      (cc0_while1 i arg3 harg3 C.qs C.tri C.dtot arg4 harg4 C.dos C.lo C.hi arg14 harg14 arg15 harg15 w s.run s.grun s.dq) K
    simp only [cc0_while1_eq_skeleton]; unfold cc0_while1_skel
    have h0 : ¬ (0#1 : BitVec 1) = 1#1 := by decide
    simp only [counter_zero hw, andi_zero, h0, ↓reduceIte, Prog.pure_eq_ret, turns]
    iintro ⟨H, Hk⟩
    rw [wp_ret]; imodintro
    iapply Hk; iexact H
  | succ n ih =>
    intro w s hw K
    obtain ⟨hn, rfl⟩ := counter_succ hw
    rw [spec_apply]
    show _ ⊢ wp frame (wpE (defs₀ (F := F)) 𝒱₀ (c : Thread nD τ) (some (n + 1))) E
      (cc0_while1 i arg3 harg3 C.qs C.tri C.dtot arg4 harg4 C.dos C.lo C.hi arg14 harg14 arg15 harg15 (BitVec.ofNat 32 n) s.run s.grun s.dq) K
    simp only [cc0_while1_eq_skeleton]; unfold cc0_while1_skel
    simp only [sge_ofNat n hn, andi_one]
    by_cases hgo : goesOn s.run
    · rw [turns_go C n s hgo]
      have hgo' : Scalar.cmpf .ogt (k0_pay5 s.run) (Named.named κ "cutoff" 0xC2B40000#32 : F .f32) = 1#1 := hgo
      simp only [hgo', ↓reduceIte]
      simp only [k0_part19_eq_skeleton, k0_part20_eq_skeleton]; unfold k0_part19_skel k0_part20_skel
      simp only [Prog.lift, Prog.bind_op, Prog.bind_ret, Prog.pure_eq_ret]
      unfold held
      iintro ⟨⟨Hq, Hv, Ha, Hb⟩, Hk⟩
      iapply (wp_assume 𝒱₀ (c : Thread nD τ) (some (n + 1)) E (show k0_chk1 (BitVec.ofNat 32 n) from chk_of_lt n hn))
      have hoff : k0_off3 (BitVec.ofNat 32 n) = ![256 * n, 0] := off_of_lt n hn
      iapply (load_owned 𝒱₀ c (some (n + 1)) E) $$ Hq; iintro Hq
      iapply (load_owned 𝒱₀ c (some (n + 1)) E) $$ Hq; iintro Hq
      iapply (load_owned 𝒱₀ c (some (n + 1)) E) $$ Hv; iintro Hv
      iapply (load_owned 𝒱₀ c (some (n + 1)) E) $$ Ha; iintro Ha
      iapply (load_owned 𝒱₀ c (some (n + 1)) E) $$ Ha; iintro Ha
      iapply (store_owned 𝒱₀ c (some (n + 1)) E) $$ Ha; iintro Ha
      iapply (load_owned 𝒱₀ c (some (n + 1)) E) $$ Hb; iintro Hb
      iapply (load_owned 𝒱₀ c (some (n + 1)) E) $$ Hb; iintro Hb
      iapply (store_owned 𝒱₀ c (some (n + 1)) E) $$ Hb; iintro Hb
      simp only [window_strip _ hoff, put_strip _ hoff]
      iapply (wp_call_spec 𝒱₀ (c : Thread nD τ) (some (n + 1)) E (spec c arg3 arg4 arg14 arg15 C n (turn C n s)) n
        (fun u hu => by cases hu; exact Nat.lt_succ_self n) (ih _ (turn C n s) (counter_pred n hn)))
      rw [spec_apply]; unfold held
      isplitl [Hq Hv Ha Hb]
      · isplitl [Hq]; · iexact Hq
        isplitl [Hv]; · iexact Hv
        isplitl [Ha]; · iexact Ha
        iexact Hb
      iintro %w H
      rw [wp_ret]; imodintro
      iapply Hk; iexact H
    · rw [turns_stop C n s hgo]
      have hgo' : ¬ Scalar.cmpf .ogt (k0_pay5 s.run) (Named.named κ "cutoff" 0xC2B40000#32 : F .f32) = 1#1 := hgo
      simp only [hgo', ↓reduceIte, Prog.pure_eq_ret]
      iintro ⟨H, Hk⟩
      rw [wp_ret]; imodintro
      iapply Hk; iexact H

set_option maxHeartbeats 1000000 in
/-- Loop 2 does its turns. -/
theorem loop2_le (i : grid0.Coords) (E : Set ℕ) (C : Fixed F) :
    ∀ (n : ℕ) (w : BitVec 32) (s : Loop F), Counter n w → ∀ K, spec c arg3 arg4 arg14 arg15 C n s K
      ⊢ wp frame (wpE (defs₀ (F := F)) 𝒱₀ (c : Thread nD τ) (some n)) E
          (defs₀ (F := F) .tc 2 ⟨i, arg3, harg3, C.qs, C.tri, C.dtot, arg4, harg4, C.dos, C.lo, C.hi, arg14, harg14, arg15, harg15,
            w, s.run, s.grun, s.dq⟩) K := by
  intro n
  induction n with
  | zero =>
    intro w s hw K
    rw [spec_apply]
    show _ ⊢ wp frame (wpE (defs₀ (F := F)) 𝒱₀ (c : Thread nD τ) (some 0)) E
      (cc0_while2 i arg3 harg3 C.qs C.tri C.dtot arg4 harg4 C.dos C.lo C.hi arg14 harg14 arg15 harg15 w s.run s.grun s.dq) K
    simp only [cc0_while2_eq_skeleton]; unfold cc0_while2_skel
    have h0 : ¬ (0#1 : BitVec 1) = 1#1 := by decide
    simp only [counter_zero hw, andi_zero, h0, ↓reduceIte, Prog.pure_eq_ret, turns]
    iintro ⟨H, Hk⟩
    rw [wp_ret]; imodintro
    iapply Hk; iexact H
  | succ n ih =>
    intro w s hw K
    obtain ⟨hn, rfl⟩ := counter_succ hw
    rw [spec_apply]
    show _ ⊢ wp frame (wpE (defs₀ (F := F)) 𝒱₀ (c : Thread nD τ) (some (n + 1))) E
      (cc0_while2 i arg3 harg3 C.qs C.tri C.dtot arg4 harg4 C.dos C.lo C.hi arg14 harg14 arg15 harg15 (BitVec.ofNat 32 n) s.run s.grun s.dq) K
    simp only [cc0_while2_eq_skeleton]; unfold cc0_while2_skel
    simp only [sge_ofNat n hn, andi_one]
    by_cases hgo : goesOn s.run
    · rw [turns_go C n s hgo]
      have hgo' : Scalar.cmpf .ogt (k0_pay7 s.run) (Named.named κ "cutoff" 0xC2B40000#32 : F .f32) = 1#1 := hgo
      simp only [hgo', ↓reduceIte]
      simp only [k0_part21_eq_skeleton, k0_part22_eq_skeleton]; unfold k0_part21_skel k0_part22_skel
      simp only [Prog.lift, Prog.bind_op, Prog.bind_ret, Prog.pure_eq_ret]
      unfold held
      iintro ⟨⟨Hq, Hv, Ha, Hb⟩, Hk⟩
      iapply (wp_assume 𝒱₀ (c : Thread nD τ) (some (n + 1)) E (show k0_chk2 (BitVec.ofNat 32 n) from chk_of_lt n hn))
      have hoff : k0_off4 (BitVec.ofNat 32 n) = ![256 * n, 0] := off_of_lt n hn
      iapply (load_owned 𝒱₀ c (some (n + 1)) E) $$ Hq; iintro Hq
      iapply (load_owned 𝒱₀ c (some (n + 1)) E) $$ Hq; iintro Hq
      iapply (load_owned 𝒱₀ c (some (n + 1)) E) $$ Hv; iintro Hv
      iapply (load_owned 𝒱₀ c (some (n + 1)) E) $$ Ha; iintro Ha
      iapply (load_owned 𝒱₀ c (some (n + 1)) E) $$ Ha; iintro Ha
      iapply (store_owned 𝒱₀ c (some (n + 1)) E) $$ Ha; iintro Ha
      iapply (load_owned 𝒱₀ c (some (n + 1)) E) $$ Hb; iintro Hb
      iapply (load_owned 𝒱₀ c (some (n + 1)) E) $$ Hb; iintro Hb
      iapply (store_owned 𝒱₀ c (some (n + 1)) E) $$ Hb; iintro Hb
      simp only [window_strip _ hoff, put_strip _ hoff]
      iapply (wp_call_spec 𝒱₀ (c : Thread nD τ) (some (n + 1)) E (spec c arg3 arg4 arg14 arg15 C n (turn C n s)) n
        (fun u hu => by cases hu; exact Nat.lt_succ_self n) (ih _ (turn C n s) (counter_pred n hn)))
      rw [spec_apply]; unfold held
      isplitl [Hq Hv Ha Hb]
      · isplitl [Hq]; · iexact Hq
        isplitl [Hv]; · iexact Hv
        isplitl [Ha]; · iexact Ha
        iexact Hb
      iintro %w H
      rw [wp_ret]; imodintro
      iapply Hk; iexact H
    · rw [turns_stop C n s hgo]
      have hgo' : ¬ Scalar.cmpf .ogt (k0_pay7 s.run) (Named.named κ "cutoff" 0xC2B40000#32 : F .f32) = 1#1 := hgo
      simp only [hgo', ↓reduceIte, Prog.pure_eq_ret]
      iintro ⟨H, Hk⟩
      rw [wp_ret]; imodintro
      iapply Hk; iexact H

set_option maxHeartbeats 1000000 in
/-- Loop 3 does its turns. -/
theorem loop3_le (i : grid0.Coords) (E : Set ℕ) (C : Fixed F) :
    ∀ (n : ℕ) (w : BitVec 32) (s : Loop F), Counter n w → ∀ K, spec c arg3 arg4 arg14 arg15 C n s K
      ⊢ wp frame (wpE (defs₀ (F := F)) 𝒱₀ (c : Thread nD τ) (some n)) E
          (defs₀ (F := F) .tc 3 ⟨i, arg3, harg3, C.qs, C.tri, C.dtot, arg4, harg4, C.dos, C.lo, C.hi, arg14, harg14, arg15, harg15,
            w, s.run, s.grun, s.dq⟩) K := by
  intro n
  induction n with
  | zero =>
    intro w s hw K
    rw [spec_apply]
    show _ ⊢ wp frame (wpE (defs₀ (F := F)) 𝒱₀ (c : Thread nD τ) (some 0)) E
      (cc0_while3 i arg3 harg3 C.qs C.tri C.dtot arg4 harg4 C.dos C.lo C.hi arg14 harg14 arg15 harg15 w s.run s.grun s.dq) K
    simp only [cc0_while3_eq_skeleton]; unfold cc0_while3_skel
    have h0 : ¬ (0#1 : BitVec 1) = 1#1 := by decide
    simp only [counter_zero hw, andi_zero, h0, ↓reduceIte, Prog.pure_eq_ret, turns]
    iintro ⟨H, Hk⟩
    rw [wp_ret]; imodintro
    iapply Hk; iexact H
  | succ n ih =>
    intro w s hw K
    obtain ⟨hn, rfl⟩ := counter_succ hw
    rw [spec_apply]
    show _ ⊢ wp frame (wpE (defs₀ (F := F)) 𝒱₀ (c : Thread nD τ) (some (n + 1))) E
      (cc0_while3 i arg3 harg3 C.qs C.tri C.dtot arg4 harg4 C.dos C.lo C.hi arg14 harg14 arg15 harg15 (BitVec.ofNat 32 n) s.run s.grun s.dq) K
    simp only [cc0_while3_eq_skeleton]; unfold cc0_while3_skel
    simp only [sge_ofNat n hn, andi_one]
    by_cases hgo : goesOn s.run
    · rw [turns_go C n s hgo]
      have hgo' : Scalar.cmpf .ogt (k0_pay9 s.run) (Named.named κ "cutoff" 0xC2B40000#32 : F .f32) = 1#1 := hgo
      simp only [hgo', ↓reduceIte]
      simp only [k0_part23_eq_skeleton, k0_part24_eq_skeleton]; unfold k0_part23_skel k0_part24_skel
      simp only [Prog.lift, Prog.bind_op, Prog.bind_ret, Prog.pure_eq_ret]
      unfold held
      iintro ⟨⟨Hq, Hv, Ha, Hb⟩, Hk⟩
      iapply (wp_assume 𝒱₀ (c : Thread nD τ) (some (n + 1)) E (show k0_chk3 (BitVec.ofNat 32 n) from chk_of_lt n hn))
      have hoff : k0_off5 (BitVec.ofNat 32 n) = ![256 * n, 0] := off_of_lt n hn
      iapply (load_owned 𝒱₀ c (some (n + 1)) E) $$ Hq; iintro Hq
      iapply (load_owned 𝒱₀ c (some (n + 1)) E) $$ Hq; iintro Hq
      iapply (load_owned 𝒱₀ c (some (n + 1)) E) $$ Hv; iintro Hv
      iapply (load_owned 𝒱₀ c (some (n + 1)) E) $$ Ha; iintro Ha
      iapply (load_owned 𝒱₀ c (some (n + 1)) E) $$ Ha; iintro Ha
      iapply (store_owned 𝒱₀ c (some (n + 1)) E) $$ Ha; iintro Ha
      iapply (load_owned 𝒱₀ c (some (n + 1)) E) $$ Hb; iintro Hb
      iapply (load_owned 𝒱₀ c (some (n + 1)) E) $$ Hb; iintro Hb
      iapply (store_owned 𝒱₀ c (some (n + 1)) E) $$ Hb; iintro Hb
      simp only [window_strip _ hoff, put_strip _ hoff]
      iapply (wp_call_spec 𝒱₀ (c : Thread nD τ) (some (n + 1)) E (spec c arg3 arg4 arg14 arg15 C n (turn C n s)) n
        (fun u hu => by cases hu; exact Nat.lt_succ_self n) (ih _ (turn C n s) (counter_pred n hn)))
      rw [spec_apply]; unfold held
      isplitl [Hq Hv Ha Hb]
      · isplitl [Hq]; · iexact Hq
        isplitl [Hv]; · iexact Hv
        isplitl [Ha]; · iexact Ha
        iexact Hb
      iintro %w H
      rw [wp_ret]; imodintro
      iapply Hk; iexact H
    · rw [turns_stop C n s hgo]
      have hgo' : ¬ Scalar.cmpf .ogt (k0_pay9 s.run) (Named.named κ "cutoff" 0xC2B40000#32 : F .f32) = 1#1 := hgo
      simp only [hgo', ↓reduceIte, Prog.pure_eq_ret]
      iintro ⟨H, Hk⟩
      rw [wp_ret]; imodintro
      iapply Hk; iexact H

set_option maxHeartbeats 1000000 in
/-- Loop 4 does its turns. -/
theorem loop4_le (i : grid0.Coords) (E : Set ℕ) (C : Fixed F) :
    ∀ (n : ℕ) (w : BitVec 32) (s : Loop F), Counter n w → ∀ K, spec c arg3 arg4 arg14 arg15 C n s K
      ⊢ wp frame (wpE (defs₀ (F := F)) 𝒱₀ (c : Thread nD τ) (some n)) E
          (defs₀ (F := F) .tc 4 ⟨i, arg3, harg3, C.qs, C.tri, C.dtot, arg4, harg4, C.dos, C.lo, C.hi, arg14, harg14, arg15, harg15,
            w, s.run, s.grun, s.dq⟩) K := by
  intro n
  induction n with
  | zero =>
    intro w s hw K
    rw [spec_apply]
    show _ ⊢ wp frame (wpE (defs₀ (F := F)) 𝒱₀ (c : Thread nD τ) (some 0)) E
      (cc0_while4 i arg3 harg3 C.qs C.tri C.dtot arg4 harg4 C.dos C.lo C.hi arg14 harg14 arg15 harg15 w s.run s.grun s.dq) K
    simp only [cc0_while4_eq_skeleton]; unfold cc0_while4_skel
    have h0 : ¬ (0#1 : BitVec 1) = 1#1 := by decide
    simp only [counter_zero hw, andi_zero, h0, ↓reduceIte, Prog.pure_eq_ret, turns]
    iintro ⟨H, Hk⟩
    rw [wp_ret]; imodintro
    iapply Hk; iexact H
  | succ n ih =>
    intro w s hw K
    obtain ⟨hn, rfl⟩ := counter_succ hw
    rw [spec_apply]
    show _ ⊢ wp frame (wpE (defs₀ (F := F)) 𝒱₀ (c : Thread nD τ) (some (n + 1))) E
      (cc0_while4 i arg3 harg3 C.qs C.tri C.dtot arg4 harg4 C.dos C.lo C.hi arg14 harg14 arg15 harg15 (BitVec.ofNat 32 n) s.run s.grun s.dq) K
    simp only [cc0_while4_eq_skeleton]; unfold cc0_while4_skel
    simp only [sge_ofNat n hn, andi_one]
    by_cases hgo : goesOn s.run
    · rw [turns_go C n s hgo]
      have hgo' : Scalar.cmpf .ogt (k0_pay11 s.run) (Named.named κ "cutoff" 0xC2B40000#32 : F .f32) = 1#1 := hgo
      simp only [hgo', ↓reduceIte]
      simp only [k0_part25_eq_skeleton, k0_part26_eq_skeleton]; unfold k0_part25_skel k0_part26_skel
      simp only [Prog.lift, Prog.bind_op, Prog.bind_ret, Prog.pure_eq_ret]
      unfold held
      iintro ⟨⟨Hq, Hv, Ha, Hb⟩, Hk⟩
      iapply (wp_assume 𝒱₀ (c : Thread nD τ) (some (n + 1)) E (show k0_chk4 (BitVec.ofNat 32 n) from chk_of_lt n hn))
      have hoff : k0_off6 (BitVec.ofNat 32 n) = ![256 * n, 0] := off_of_lt n hn
      iapply (load_owned 𝒱₀ c (some (n + 1)) E) $$ Hq; iintro Hq
      iapply (load_owned 𝒱₀ c (some (n + 1)) E) $$ Hq; iintro Hq
      iapply (load_owned 𝒱₀ c (some (n + 1)) E) $$ Hv; iintro Hv
      iapply (load_owned 𝒱₀ c (some (n + 1)) E) $$ Ha; iintro Ha
      iapply (load_owned 𝒱₀ c (some (n + 1)) E) $$ Ha; iintro Ha
      iapply (store_owned 𝒱₀ c (some (n + 1)) E) $$ Ha; iintro Ha
      iapply (load_owned 𝒱₀ c (some (n + 1)) E) $$ Hb; iintro Hb
      iapply (load_owned 𝒱₀ c (some (n + 1)) E) $$ Hb; iintro Hb
      iapply (store_owned 𝒱₀ c (some (n + 1)) E) $$ Hb; iintro Hb
      simp only [window_strip _ hoff, put_strip _ hoff]
      iapply (wp_call_spec 𝒱₀ (c : Thread nD τ) (some (n + 1)) E (spec c arg3 arg4 arg14 arg15 C n (turn C n s)) n
        (fun u hu => by cases hu; exact Nat.lt_succ_self n) (ih _ (turn C n s) (counter_pred n hn)))
      rw [spec_apply]; unfold held
      isplitl [Hq Hv Ha Hb]
      · isplitl [Hq]; · iexact Hq
        isplitl [Hv]; · iexact Hv
        isplitl [Ha]; · iexact Ha
        iexact Hb
      iintro %w H
      rw [wp_ret]; imodintro
      iapply Hk; iexact H
    · rw [turns_stop C n s hgo]
      have hgo' : ¬ Scalar.cmpf .ogt (k0_pay11 s.run) (Named.named κ "cutoff" 0xC2B40000#32 : F .f32) = 1#1 := hgo
      simp only [hgo', ↓reduceIte, Prog.pure_eq_ret]
      iintro ⟨H, Hk⟩
      rw [wp_ret]; imodintro
      iapply Hk; iexact H

end Cert.Proof.Attn

end
-- ==== Proof.AttnBlock.lean ====
module

public import proofs.«01_k».proof.Proof.AttnLoop

/-!
  What the body computes at one step, from the blocks it is given: for each of its four strips of queries the two turns
  whose weights were kept and then the turns of the loop; and that what is printed for each strip, cut differently each
  time, is this same computation.
-/

@[expose] public section

set_option maxRecDepth 16384

noncomputable section

namespace Cert.Proof.Attn

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Parts of arrays -/

/-- Strip `u` of four of an array of 1024 rows. -/
def rows {α : Type} (x : S1024x128.Idx → α) (u : Fin 4) : S256x128.Idx → α :=
  fun y => x (ix2 (n0 := 1024) (n1 := 128) ⟨256 * u.val + (y 0).val, by have := u.isLt; have : (y 0).val < 256 := (y 0).isLt; omega⟩ (y 1))

/-- The kept weights of strip `u` at slot `p`. -/
def saved {α : Type} (x : S1x4x2x512x256.Idx → α) (u : Fin 4) (p : Fin 2) : S1x1x1x512x256.Idx → α :=
  fun y => x (ix5 (n0 := 1) (n1 := 4) (n2 := 2) (n3 := 512) (n4 := 256) 0 u p (y 3) (y 4))

/-- The kept running sums of strip `u`. -/
def sums {α : Type} (x : S1x4x512x128.Idx → α) (u : Fin 4) : S1x1x512x128.Idx → α :=
  fun y => x (ix4 (n0 := 1) (n1 := 4) (n2 := 512) (n3 := 128) 0 u (y 2) (y 3))

theorem window_rows {α : Type} (x : S1024x128.Idx → α) (u : Fin 4) {off : Fin 2 → ℕ} {inb : ∀ a, off a + S256x128.size a ≤ S1024x128.size a}
    (h : off = ![256 * u.val, 0]) : VecWindow.window x off S256x128.size inb = rows x u := by
  subst h
  funext y
  refine congrArg x (funext fun a => Fin.ext ?_)
  match a with
  | ⟨0, _⟩ => show 256 * u.val + 1 * (y 0).val = 256 * u.val + (y 0).val; omega
  | ⟨1, _⟩ => show 0 + 1 * (y 1).val = (y 1).val; omega

theorem window_saved {α : Type} (x : S1x4x2x512x256.Idx → α) (u : Fin 4) (p : Fin 2) {off : Fin 5 → ℕ}
    {inb : ∀ a, off a + S1x1x1x512x256.size a ≤ S1x4x2x512x256.size a} (h : off = ![0, u.val, p.val, 0, 0]) :
    VecWindow.window x off S1x1x1x512x256.size inb = saved x u p := by
  subst h
  funext y
  refine congrArg x (funext fun a => Fin.ext ?_)
  have y0 : (y 0).val < 1 := (y 0).isLt
  have y1 : (y 1).val < 1 := (y 1).isLt
  have y2 : (y 2).val < 1 := (y 2).isLt
  match a with
  | ⟨0, _⟩ => show 0 + 1 * (y 0).val = 0; omega
  | ⟨1, _⟩ => show u.val + 1 * (y 1).val = u.val; omega
  | ⟨2, _⟩ => show p.val + 1 * (y 2).val = p.val; omega
  | ⟨3, _⟩ => show 0 + 1 * (y 3).val = (y 3).val; omega
  | ⟨4, _⟩ => show 0 + 1 * (y 4).val = (y 4).val; omega

theorem window_sums {α : Type} (x : S1x4x512x128.Idx → α) (u : Fin 4) {off : Fin 4 → ℕ}
    {inb : ∀ a, off a + S1x1x512x128.size a ≤ S1x4x512x128.size a} (h : off = ![0, u.val, 0, 0]) :
    VecWindow.window x off S1x1x512x128.size inb = sums x u := by
  subst h
  funext y
  refine congrArg x (funext fun a => Fin.ext ?_)
  have y0 : (y 0).val < 1 := (y 0).isLt
  have y1 : (y 1).val < 1 := (y 1).isLt
  match a with
  | ⟨0, _⟩ => show 0 + 1 * (y 0).val = 0; omega
  | ⟨1, _⟩ => show u.val + 1 * (y 1).val = u.val; omega
  | ⟨2, _⟩ => show 0 + 1 * (y 2).val = (y 2).val; omega
  | ⟨3, _⟩ => show 0 + 1 * (y 3).val = (y 3).val; omega

theorem window_tri {α : Type} (x : S256x256.Idx → α) {off : Fin 2 → ℕ} {inb : ∀ a, off a + S256x256.size a ≤ S256x256.size a} (h : off = ![0, 0]) :
    VecWindow.window x off S256x256.size inb = x := by
  subst h
  funext y
  refine congrArg x (funext fun a => Fin.ext ?_)
  match a with
  | ⟨0, _⟩ => show 0 + 1 * (y 0).val = (y 0).val; omega
  | ⟨1, _⟩ => show 0 + 1 * (y 1).val = (y 1).val; omega

theorem window_all {α : Type} (x : S8192x128.Idx → α) {off : Fin 2 → ℕ} {inb : ∀ a, off a + S8192x128.size a ≤ S8192x128.size a} (h : off = ![0, 0]) :
    VecWindow.window x off S8192x128.size inb = x := by
  subst h
  funext y
  refine congrArg x (funext fun a => Fin.ext ?_)
  match a with
  | ⟨0, _⟩ => show 0 + 1 * (y 0).val = (y 0).val; omega
  | ⟨1, _⟩ => show 0 + 1 * (y 1).val = (y 1).val; omega

theorem put_all {α : Type} (x w : S8192x128.Idx → α) : VecWindow.put x ![0, 0] S8192x128.size w = w :=
  (window_all (off := ![0, 0]) (inb := by decide) _ rfl).symm.trans (VecWindow.window_put_same x ![0, 0] S8192x128.size (by decide) w)

/-! ## One strip of queries -/

/-- The blocks of a step: queries, keys, values, output, gradient of the output, the triangle, the kept weights, their
    derivatives' factors and the kept running sums. -/
structure Blocks (F : FTy → Type) [FloatOps F] where
  q : Vec F S1024x128 .bf16
  k : Vec F S8192x128 .bf16
  v : Vec F S8192x128 .bf16
  o : Vec F S1024x128 .f32
  ct : Vec F S1024x128 .bf16
  tri : Vec F S256x256 .bf16
  a : Vec F S1x4x2x512x256 .bf16
  beta : Vec F S1x4x2x512x256 .bf16
  run : Vec F S1x4x512x128 .f32

/-- The loop's constants, of strip `u`. -/
def fixedOf (X : Blocks F) (u : Fin 4) : Fixed F where
  tri := k0_pay15 X.tri
  lo := k0_pay16
  hi := k0_pay17
  qs := k0_pay18 (rows X.q u)
  dos := k0_pay20 k0_pay17 (rows X.ct u) (k0_pay19 (rows X.ct u))
  dtot := k0_pay21 k0_pay16 k0_pay17 (rows X.ct u) (rows X.o u)
  keys := X.k
  vals := X.v

/-- A turn at block `j` whose weights `ab` and factors `bt` were kept. -/
def keptTurn (C : Fixed F) (ab : FVec F S512x256 .bf16) (bt : FVec F S512x256 .f32) (j : ℕ) (s : Loop F) : Loop F where
  run := s.run
  grun := k0_pay33 C.tri C.dos s.grun ab (strip C.vals j) (constant S512x256 .f32 0x00000000#32)
  dq := k0_pay30 C.tri C.lo C.hi C.dos s.dq ab bt (subf C.dtot s.grun) (strip C.keys j) (strip C.vals j) (constant S512x256 .f32 0x00000000#32)
  accK := putStrip s.accK j (k0_pay134 (k0_pay31 C.tri C.qs C.dos ab bt (subf C.dtot s.grun) (strip C.vals j) (constant S512x256 .f32 0x00000000#32)) (strip s.accK j))
  accV := putStrip s.accV j (k0_pay135 (k0_pay32 C.dos ab) (strip s.accV j))

/-- What strip `u` starts from. -/
def startOf (X : Blocks F) (u : Fin 4) (accK accV : Vec F S8192x128 .f32) : Loop F where
  run := k0_pay42 (sums X.run u)
  grun := k0_pay22
  dq := k0_pay23
  accK := accK
  accV := accV

/-- After its first kept turn, at its own block `i`. -/
def kept0 (X : Blocks F) (u : Fin 4) (i : ℕ) (accK accV : Vec F S8192x128 .f32) : Loop F :=
  keptTurn (fixedOf X u) (k0_pay24 (saved X.a u 0)) (k0_pay25 (saved X.beta u 0)) i (startOf X u accK accV)

/-- After both, the second at the block before (or block `0`, with weights zero, when there is none). -/
def kept1 (X : Blocks F) (u : Fin 4) (i : ℕ) (accK accV : Vec F S8192x128 .f32) : Loop F :=
  keptTurn (fixedOf X u) (k0_pay24 (saved X.a u 1)) (k0_pay25 (saved X.beta u 1)) (i - 1) (kept0 X u i accK accV)

/-- The whole strip. -/
def chain (X : Blocks F) (u : Fin 4) (i : ℕ) (accK accV : Vec F S8192x128 .f32) : Loop F :=
  turns (fixedOf X u) (i - 1) (kept1 X u i accK accV)

/-- The strip, spelt out: the loop's turns from the two kept turns. -/
theorem chain_eq (X : Blocks F) (u : Fin 4) (i : ℕ) (aK aV : Vec F S8192x128 .f32) :
    turns ⟨(k0_pay15 X.tri), k0_pay16, k0_pay17, (k0_pay18 (rows X.q u)), (k0_pay20 k0_pay17 (rows X.ct u) (k0_pay19 (rows X.ct u))), (k0_pay21 k0_pay16 k0_pay17 (rows X.ct u) (rows X.o u)), X.k, X.v⟩ (i - 1)
      ⟨k0_pay42 (sums X.run u), (k0_pay33 (k0_pay15 X.tri) (k0_pay20 k0_pay17 (rows X.ct u) (k0_pay19 (rows X.ct u))) (k0_pay33 (k0_pay15 X.tri) (k0_pay20 k0_pay17 (rows X.ct u) (k0_pay19 (rows X.ct u))) k0_pay22 (k0_pay24 (saved X.a u 0)) (strip X.v i) (constant S512x256 .f32 0x00000000#32)) (k0_pay24 (saved X.a u 1)) (strip X.v (i - 1)) (constant S512x256 .f32 0x00000000#32)), (k0_pay30 (k0_pay15 X.tri) k0_pay16 k0_pay17 (k0_pay20 k0_pay17 (rows X.ct u) (k0_pay19 (rows X.ct u))) (k0_pay30 (k0_pay15 X.tri) k0_pay16 k0_pay17 (k0_pay20 k0_pay17 (rows X.ct u) (k0_pay19 (rows X.ct u))) k0_pay23 (k0_pay24 (saved X.a u 0)) (k0_pay25 (saved X.beta u 0)) (subf (k0_pay21 k0_pay16 k0_pay17 (rows X.ct u) (rows X.o u)) k0_pay22) (strip X.k i) (strip X.v i) (constant S512x256 .f32 0x00000000#32)) (k0_pay24 (saved X.a u 1)) (k0_pay25 (saved X.beta u 1)) (subf (k0_pay21 k0_pay16 k0_pay17 (rows X.ct u) (rows X.o u)) (k0_pay33 (k0_pay15 X.tri) (k0_pay20 k0_pay17 (rows X.ct u) (k0_pay19 (rows X.ct u))) k0_pay22 (k0_pay24 (saved X.a u 0)) (strip X.v i) (constant S512x256 .f32 0x00000000#32))) (strip X.k (i - 1)) (strip X.v (i - 1)) (constant S512x256 .f32 0x00000000#32)), (putStrip (putStrip aK i (k0_pay134 (k0_pay31 (k0_pay15 X.tri) (k0_pay18 (rows X.q u)) (k0_pay20 k0_pay17 (rows X.ct u) (k0_pay19 (rows X.ct u))) (k0_pay24 (saved X.a u 0)) (k0_pay25 (saved X.beta u 0)) (subf (k0_pay21 k0_pay16 k0_pay17 (rows X.ct u) (rows X.o u)) k0_pay22) (strip X.v i) (constant S512x256 .f32 0x00000000#32)) (strip aK i))) (i - 1) (k0_pay134 (k0_pay31 (k0_pay15 X.tri) (k0_pay18 (rows X.q u)) (k0_pay20 k0_pay17 (rows X.ct u) (k0_pay19 (rows X.ct u))) (k0_pay24 (saved X.a u 1)) (k0_pay25 (saved X.beta u 1)) (subf (k0_pay21 k0_pay16 k0_pay17 (rows X.ct u) (rows X.o u)) (k0_pay33 (k0_pay15 X.tri) (k0_pay20 k0_pay17 (rows X.ct u) (k0_pay19 (rows X.ct u))) k0_pay22 (k0_pay24 (saved X.a u 0)) (strip X.v i) (constant S512x256 .f32 0x00000000#32))) (strip X.v (i - 1)) (constant S512x256 .f32 0x00000000#32)) (strip (putStrip aK i (k0_pay134 (k0_pay31 (k0_pay15 X.tri) (k0_pay18 (rows X.q u)) (k0_pay20 k0_pay17 (rows X.ct u) (k0_pay19 (rows X.ct u))) (k0_pay24 (saved X.a u 0)) (k0_pay25 (saved X.beta u 0)) (subf (k0_pay21 k0_pay16 k0_pay17 (rows X.ct u) (rows X.o u)) k0_pay22) (strip X.v i) (constant S512x256 .f32 0x00000000#32)) (strip aK i))) (i - 1)))), (putStrip (putStrip aV i (k0_pay135 (k0_pay32 (k0_pay20 k0_pay17 (rows X.ct u) (k0_pay19 (rows X.ct u))) (k0_pay24 (saved X.a u 0))) (strip aV i))) (i - 1) (k0_pay135 (k0_pay32 (k0_pay20 k0_pay17 (rows X.ct u) (k0_pay19 (rows X.ct u))) (k0_pay24 (saved X.a u 1))) (strip (putStrip aV i (k0_pay135 (k0_pay32 (k0_pay20 k0_pay17 (rows X.ct u) (k0_pay19 (rows X.ct u))) (k0_pay24 (saved X.a u 0))) (strip aV i))) (i - 1))))⟩ = chain X u i aK aV := by
  simp only [chain, kept1, kept0, keptTurn, startOf, fixedOf]

/-! ## What is printed, strip by strip -/

theorem dos_0 (v19) :
    (k0_pay20 (F := F) k0_pay17 v19 (k0_pay19 v19)) = k0_pay20 k0_pay17 v19 (k0_pay19 v19) := rfl
theorem dq0_0 (v4 v10 v16 v44 v64 v66 v19 v46 v73 v75) :
    (k0_pay30 (F := F) v4 v10 v16 v44 (k0_pay23 (F := F)) (k0_pay24 v64) (k0_pay25 v66) (k0_pay26 v10 v16 v19 v46) v73 v75 (constant S512x256 .f32 0x00000000#32)) = k0_pay30 v4 v10 v16 v44 (k0_pay23 (F := F)) (k0_pay24 v64) (k0_pay25 v66) (subf (k0_pay21 v10 v16 v19 v46) (k0_pay22 (F := F))) v73 v75 (constant S512x256 .f32 0x00000000#32) := rfl
theorem dk0_0 (v4 v33 v44 v64 v66 v10 v16 v19 v46 v75) :
    (k0_pay31 (F := F) v4 v33 v44 (k0_pay24 v64) (k0_pay25 v66) (k0_pay26 v10 v16 v19 v46) v75 (constant S512x256 .f32 0x00000000#32)) = k0_pay31 v4 v33 v44 (k0_pay24 v64) (k0_pay25 v66) (subf (k0_pay21 v10 v16 v19 v46) (k0_pay22 (F := F))) v75 (constant S512x256 .f32 0x00000000#32) := rfl
theorem dv0_0 (v44 v64) :
    (k0_pay32 (F := F) v44 (k0_pay24 v64)) = k0_pay32 v44 (k0_pay24 v64) := rfl
theorem g0_0 (v4 v44 v64 v75) :
    (k0_pay33 (F := F) v4 v44 (k0_pay22 (F := F)) (k0_pay24 v64) v75 (constant S512x256 .f32 0x00000000#32)) = k0_pay33 v4 v44 (k0_pay22 (F := F)) (k0_pay24 v64) v75 (constant S512x256 .f32 0x00000000#32) := rfl
theorem dq1_0 (v4 v10 v16 v44 v61 v110 v113 v116 v118 v125 v127) :
    (k0_pay38 (F := F) v4 v10 v16 v44 v61 v110 v113 (k0_pay34 v116) v118 v125 v127) = k0_pay30 v4 v10 v16 v44 v110 (k0_pay24 v116) (k0_pay25 v118) (subf v61 v113) v125 v127 (constant S512x256 .f32 0x00000000#32) := rfl
theorem dk1_0 (v4 v33 v44 v61 v113 v116 v118 v127) :
    (k0_pay39 (F := F) v4 v33 v44 v61 v113 (k0_pay34 v116) v118 v127) = k0_pay31 v4 v33 v44 (k0_pay24 v116) (k0_pay25 v118) (subf v61 v113) v127 (constant S512x256 .f32 0x00000000#32) := rfl
theorem dv1_0 (v44 v116) :
    (k0_pay40 (F := F) v44 (k0_pay34 v116)) = k0_pay32 v44 (k0_pay24 v116) := rfl
theorem g1_0 (v4 v44 v113 v116 v127) :
    (k0_pay41 (F := F) v4 v44 v113 (k0_pay34 v116) v127) = k0_pay33 v4 v44 v113 (k0_pay24 v116) v127 (constant S512x256 .f32 0x00000000#32) := rfl
theorem qs_1 (v172) :
    (k0_pay43 (F := F) k0_pay16 k0_pay17 v172) = k0_pay18 v172 := rfl
theorem dos_1 (v171) :
    (k0_pay44 (F := F) k0_pay16 k0_pay17 v171) = k0_pay20 k0_pay17 v171 (k0_pay19 v171) := rfl
theorem dtot_1 (v171 v198 v10 v16) :
    (k0_pay48 (F := F) (k0_pay45 v171 v198) (k0_pay46 v10 v171 v198) (Scalar.ofBits .f32 0x00000000#32) (k0_pay47 v16)) = k0_pay21 v10 v16 v171 v198 := rfl
theorem dq0_1 (v10 v16 v225 v4 v196 v171 v198 v216 v218 v227) :
    (k0_pay57 (F := F) v10 v16 (k0_pay50 (F := F)) v225 (k0_pay56 v4 v196 (k0_pay45 v171 v198) (k0_pay46 v10 v171 v198) (Scalar.ofBits .f32 0x00000000#32) (k0_pay47 v16) v216 v218 v227)) = k0_pay30 v4 v10 v16 v196 (k0_pay23 (F := F)) (k0_pay24 v216) (k0_pay25 v218) (subf (k0_pay21 v10 v16 v171 v198) (k0_pay22 (F := F))) v225 v227 (constant S512x256 .f32 0x00000000#32) := rfl
theorem dk0_1 (v185 v4 v196 v171 v198 v10 v16 v216 v218 v227) :
    (k0_pay58 (F := F) v185 (k0_pay55 v4 v196 (k0_pay45 v171 v198) (k0_pay46 v10 v171 v198) (Scalar.ofBits .f32 0x00000000#32) (k0_pay47 v16) v216 v218 v227)) = k0_pay31 v4 v185 v196 (k0_pay24 v216) (k0_pay25 v218) (subf (k0_pay21 v10 v16 v171 v198) (k0_pay22 (F := F))) v227 (constant S512x256 .f32 0x00000000#32) := rfl
theorem dv0_1 (v196 v216) :
    (k0_pay59 (F := F) v196 (k0_pay51 v216)) = k0_pay32 v196 (k0_pay24 v216) := rfl
theorem g0_1 (v4 v196 v216 v227) :
    (k0_pay60 (F := F) (k0_pay49 (F := F)) (k0_pay54 v4 v196 v216 v227)) = k0_pay33 v4 v196 (k0_pay22 (F := F)) (k0_pay24 v216) v227 (constant S512x256 .f32 0x00000000#32) := rfl
theorem dq1_1 (v4 v10 v16 v262 v270 v213 v196 v216 v227 v277 v268 v279) :
    (k0_pay68 (F := F) v4 v10 v16 v262 (k0_pay62 v270) (k0_pay63 v213 (k0_pay49 (F := F)) (k0_pay54 v4 v196 v216 v227)) v277 (k0_pay64 v196 v268 v279) (k0_pay65 v196 v268 v279) (constant S1024x256 .f32 0x00000000#32)) = k0_pay30 v4 v10 v16 v196 v262 (k0_pay24 v268) (k0_pay25 v270) (subf v213 (k0_pay33 v4 v196 (k0_pay22 (F := F)) (k0_pay24 v216) v227 (constant S512x256 .f32 0x00000000#32))) v277 v279 (constant S512x256 .f32 0x00000000#32) := rfl
theorem dk1_1 (v4 v185 v270 v213 v196 v216 v227 v268 v279) :
    (k0_pay69 (F := F) v4 v185 (k0_pay62 v270) (k0_pay63 v213 (k0_pay49 (F := F)) (k0_pay54 v4 v196 v216 v227)) (k0_pay64 v196 v268 v279) (k0_pay65 v196 v268 v279) (constant S1024x256 .f32 0x00000000#32)) = k0_pay31 v4 v185 v196 (k0_pay24 v268) (k0_pay25 v270) (subf v213 (k0_pay33 v4 v196 (k0_pay22 (F := F)) (k0_pay24 v216) v227 (constant S512x256 .f32 0x00000000#32))) v279 (constant S512x256 .f32 0x00000000#32) := rfl
theorem dv1_1 (v196 v268) :
    (k0_pay70 (F := F) v196 (k0_pay61 v268)) = k0_pay32 v196 (k0_pay24 v268) := rfl
theorem g1_1 (v4 v265 v196 v268 v279) :
    (k0_pay71 (F := F) v4 v265 (k0_pay65 v196 v268 v279) (constant S1024x256 .f32 0x00000000#32)) = k0_pay33 v4 v196 v265 (k0_pay24 v268) v279 (constant S512x256 .f32 0x00000000#32) := rfl
theorem run_1 (v318) :
    (k0_pay72 (F := F) v318) = k0_pay42 v318 := rfl
theorem qs_2 (v324) :
    (k0_pay76 (F := F) k0_pay17 (k0_pay73 v324) (k0_pay74 k0_pay16) (k0_pay75 (F := F))) = k0_pay18 v324 := rfl
theorem dos_2 (v323) :
    (k0_pay77 (F := F) k0_pay16 k0_pay17 v323) = k0_pay20 k0_pay17 v323 (k0_pay19 v323) := rfl
theorem dtot_2 (v10 v16 v323 v350) :
    (k0_pay78 (F := F) v10 v16 v323 v350) = k0_pay21 v10 v16 v323 v350 := rfl
theorem dq0_2 (v4 v10 v16 v348 v365 v368 v370 v377 v379) :
    (k0_pay85 (F := F) v4 v10 v16 v348 v365 (k0_pay79 (F := F)) (k0_pay80 (F := F)) (k0_pay81 v368) v370 v377 v379) = k0_pay30 v4 v10 v16 v348 (k0_pay23 (F := F)) (k0_pay24 v368) (k0_pay25 v370) (subf v365 (k0_pay22 (F := F))) v377 v379 (constant S512x256 .f32 0x00000000#32) := rfl
theorem dk0_2 (v4 v337 v348 v365 v368 v370 v379) :
    (k0_pay86 (F := F) v4 v337 v348 v365 (k0_pay79 (F := F)) (k0_pay81 v368) v370 v379) = k0_pay31 v4 v337 v348 (k0_pay24 v368) (k0_pay25 v370) (subf v365 (k0_pay22 (F := F))) v379 (constant S512x256 .f32 0x00000000#32) := rfl
theorem dv0_2 (v348 v368) :
    (k0_pay87 (F := F) v348 (k0_pay81 v368)) = k0_pay32 v348 (k0_pay24 v368) := rfl
theorem g0_2 (v4 v348 v368 v379) :
    (k0_pay88 (F := F) v4 v348 (k0_pay79 (F := F)) (k0_pay81 v368) v379) = k0_pay33 v4 v348 (k0_pay22 (F := F)) (k0_pay24 v368) v379 (constant S512x256 .f32 0x00000000#32) := rfl
theorem dq1_2 (v414 v429 v4 v348 v365 v417 v420 v422 v431 v10 v16) :
    (k0_pay98 (F := F) v414 v429 (k0_pay94 v4 v348 v365 v417 v420 v422 v431) (k0_pay95 v10 v429) (k0_pay96 (F := F)) (k0_pay97 v16)) = k0_pay30 v4 v10 v16 v348 v414 (k0_pay24 v420) (k0_pay25 v422) (subf v365 v417) v429 v431 (constant S512x256 .f32 0x00000000#32) := rfl
theorem dk1_2 (v337 v4 v348 v365 v417 v420 v422 v431) :
    (k0_pay99 (F := F) v337 (k0_pay93 v4 v348 v365 v417 v420 v422 v431)) = k0_pay31 v4 v337 v348 (k0_pay24 v420) (k0_pay25 v422) (subf v365 v417) v431 (constant S512x256 .f32 0x00000000#32) := rfl
theorem dv1_2 (v348 v420) :
    (k0_pay100 (F := F) v348 (k0_pay89 v420)) = k0_pay32 v348 (k0_pay24 v420) := rfl
theorem g1_2 (v417 v4 v348 v420 v431) :
    (k0_pay101 (F := F) v417 (k0_pay92 v4 v348 v420 v431)) = k0_pay33 v4 v348 v417 (k0_pay24 v420) v431 (constant S512x256 .f32 0x00000000#32) := rfl
theorem run_2 (v470) :
    (k0_pay102 (F := F) v470) = k0_pay42 v470 := rfl
theorem qs_3 (v476) :
    (k0_pay103 (F := F) k0_pay16 k0_pay17 v476) = k0_pay18 v476 := rfl
theorem dos_3 (v475) :
    (k0_pay104 (F := F) k0_pay16 k0_pay17 v475) = k0_pay20 k0_pay17 v475 (k0_pay19 v475) := rfl
theorem dtot_3 (v10 v16 v475 v502) :
    (k0_pay106 (F := F) v10 v16 (k0_pay105 v475) v502) = k0_pay21 v10 v16 v475 v502 := rfl
theorem dq0_3 (v4 v10 v16 v522 v475 v502 v529 v500 v520 v531) :
    (k0_pay116 (F := F) v4 v10 v16 (k0_pay108 (F := F)) (k0_pay110 v522) (k0_pay111 v10 v16 (k0_pay105 v475) v502) v529 (k0_pay112 v500 v520 v531) (k0_pay113 v500 v520 v531) (constant S1024x256 .f32 0x00000000#32)) = k0_pay30 v4 v10 v16 v500 (k0_pay23 (F := F)) (k0_pay24 v520) (k0_pay25 v522) (subf (k0_pay21 v10 v16 v475 v502) (k0_pay22 (F := F))) v529 v531 (constant S512x256 .f32 0x00000000#32) := rfl
theorem dk0_3 (v4 v489 v522 v10 v16 v475 v502 v500 v520 v531) :
    (k0_pay117 (F := F) v4 v489 (k0_pay110 v522) (k0_pay111 v10 v16 (k0_pay105 v475) v502) (k0_pay112 v500 v520 v531) (k0_pay113 v500 v520 v531) (constant S1024x256 .f32 0x00000000#32)) = k0_pay31 v4 v489 v500 (k0_pay24 v520) (k0_pay25 v522) (subf (k0_pay21 v10 v16 v475 v502) (k0_pay22 (F := F))) v531 (constant S512x256 .f32 0x00000000#32) := rfl
theorem dv0_3 (v500 v520) :
    (k0_pay118 (F := F) v500 (k0_pay109 v520)) = k0_pay32 v500 (k0_pay24 v520) := rfl
theorem g0_3 (v4 v500 v520 v531) :
    (k0_pay119 (F := F) v4 (k0_pay107 (F := F)) (k0_pay113 v500 v520 v531) (constant S1024x256 .f32 0x00000000#32)) = k0_pay33 v4 v500 (k0_pay22 (F := F)) (k0_pay24 v520) v531 (constant S512x256 .f32 0x00000000#32) := rfl
theorem dq1_3 (v4 v10 v16 v500 v566 v572 v574 v517 v520 v531 v581 v583) :
    (k0_pay126 (F := F) v4 v10 v16 v500 v566 (k0_pay120 v572) (k0_pay121 v574) (k0_pay122 v4 v517 (k0_pay107 (F := F)) (k0_pay113 v500 v520 v531) (constant S1024x256 .f32 0x00000000#32)) v581 v583) = k0_pay30 v4 v10 v16 v500 v566 (k0_pay24 v572) (k0_pay25 v574) (subf v517 (k0_pay33 v4 v500 (k0_pay22 (F := F)) (k0_pay24 v520) v531 (constant S512x256 .f32 0x00000000#32))) v581 v583 (constant S512x256 .f32 0x00000000#32) := rfl
theorem dk1_3 (v4 v489 v500 v572 v574 v517 v520 v531 v583) :
    (k0_pay127 (F := F) v4 v489 v500 (k0_pay120 v572) (k0_pay121 v574) (k0_pay122 v4 v517 (k0_pay107 (F := F)) (k0_pay113 v500 v520 v531) (constant S1024x256 .f32 0x00000000#32)) v583) = k0_pay31 v4 v489 v500 (k0_pay24 v572) (k0_pay25 v574) (subf v517 (k0_pay33 v4 v500 (k0_pay22 (F := F)) (k0_pay24 v520) v531 (constant S512x256 .f32 0x00000000#32))) v583 (constant S512x256 .f32 0x00000000#32) := rfl
theorem dv1_3 (v500 v572) :
    (k0_pay128 (F := F) v500 (k0_pay120 v572)) = k0_pay32 v500 (k0_pay24 v572) := rfl
theorem g1_3 (v4 v500 v569 v572 v583) :
    (k0_pay129 (F := F) v4 v500 v569 (k0_pay120 v572) v583) = k0_pay33 v4 v500 v569 (k0_pay24 v572) v583 (constant S512x256 .f32 0x00000000#32) := rfl
theorem run_3 (v622) :
    (k0_pay130 (F := F) v622) = k0_pay42 v622 := rfl
theorem add_a (a b) : k0_pay132 (k0_pay131 a b) = k0_pay134 (F := F) a b := rfl
theorem addK_137 : k0_pay137 = k0_pay134 (F := F) := rfl
theorem addK_139 : k0_pay139 = k0_pay134 (F := F) := rfl
theorem addK_142 : k0_pay142 = k0_pay134 (F := F) := rfl
theorem addK_144 : k0_pay144 = k0_pay134 (F := F) := rfl
theorem addK_147 : k0_pay147 = k0_pay134 (F := F) := rfl
theorem addK_149 : k0_pay149 = k0_pay134 (F := F) := rfl
theorem addV_133 : k0_pay133 = k0_pay135 (F := F) := rfl
theorem addV_138 : k0_pay138 = k0_pay135 (F := F) := rfl
theorem addV_140 : k0_pay140 = k0_pay135 (F := F) := rfl
theorem addV_143 : k0_pay143 = k0_pay135 (F := F) := rfl
theorem addV_145 : k0_pay145 = k0_pay135 (F := F) := rfl
theorem addV_148 : k0_pay148 = k0_pay135 (F := F) := rfl
theorem addV_1 : k0_pay1 = k0_pay135 (F := F) := rfl
theorem out_141 : k0_pay141 = k0_pay136 (F := F) := rfl
theorem out_146 : k0_pay146 = k0_pay136 (F := F) := rfl
theorem out_2 : k0_pay2 = k0_pay136 (F := F) := rfl

end Cert.Proof.Attn

end
-- ==== Proof.AttnParts.lean ====
module

public import proofs.«01_k».proof.Proof.AttnBlock

/-!
  The reading half of the body: each printed part loads from the blocks and hands on what it computed from them.
-/

@[expose] public section

set_option maxRecDepth 16384

noncomputable section

namespace Cert.Proof.Attn

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A block held whole. -/
abbrev own (c : Dev nD) {s : Shape} {e : EltTy} (a : Memref sig .tc .vmem s e) (x : Vec F s e) : sProp 𝕄 := owns (c : Thread nD τ) a fullShare x

/-- What a run of a program leaves. -/
abbrev does (c : Dev nD) {β : Type} (p : Prog (TpuEff nD τ sig (Elt F) (Λ₀ F) .tc) β) (K : β → sProp 𝕄) : sProp 𝕄 :=
  wp frame (wpE (defs₀ (F := F)) 𝒱₀ (c : Thread nD τ) none) Set.univ p K

section Parts

variable (c : Dev nD) {i : grid0.Coords}
variable {arg2 : Memref sig .tc .vmem S1024x128 .bf16} {harg2 : arg2.IsWhole}
  {arg3 : Memref sig .tc .vmem S8192x128 .bf16} {harg3 : arg3.IsWhole}
  {arg4 : Memref sig .tc .vmem S8192x128 .bf16} {harg4 : arg4.IsWhole}
  {arg5 : Memref sig .tc .vmem S1024x128 .f32} {harg5 : arg5.IsWhole}
  {arg6 : Memref sig .tc .vmem S1024x128 .bf16} {harg6 : arg6.IsWhole}
  {arg7 : Memref sig .tc .vmem S256x256 .bf16} {harg7 : arg7.IsWhole}
  {arg8 : Memref sig .tc .vmem S1x4x2x512x256 .bf16} {harg8 : arg8.IsWhole}
  {arg9 : Memref sig .tc .vmem S1x4x2x512x256 .bf16} {harg9 : arg9.IsWhole}
  {arg10 : Memref sig .tc .vmem S1x4x512x128 .f32} {harg10 : arg10.IsWhole}
  {arg11 : Memref sig .tc .vmem S1024x128 .bf16} {harg11 : arg11.IsWhole}
  {arg12 : Memref sig .tc .vmem S8192x128 .bf16} {harg12 : arg12.IsWhole}
  {arg13 : Memref sig .tc .vmem S8192x128 .bf16} {harg13 : arg13.IsWhole}
  {arg14 : Memref sig .tc .vmem S8192x128 .f32} {harg14 : arg14.IsWhole}
  {arg15 : Memref sig .tc .vmem S8192x128 .f32} {harg15 : arg15.IsWhole}
variable {x2 : Vec F S1024x128 .bf16}
  {x3 : Vec F S8192x128 .bf16}
  {x4 : Vec F S8192x128 .bf16}
  {x5 : Vec F S1024x128 .f32}
  {x6 : Vec F S1024x128 .bf16}
  {x7 : Vec F S256x256 .bf16}
  {x8 : Vec F S1x4x2x512x256 .bf16}
  {x9 : Vec F S1x4x2x512x256 .bf16}
  {x10 : Vec F S1x4x512x128 .f32}
  {x11 : Vec F S1024x128 .bf16}
  {x12 : Vec F S8192x128 .bf16}
  {x13 : Vec F S8192x128 .bf16}
  {x14 : Vec F S8192x128 .f32}
  {x15 : Vec F S8192x128 .f32}

/-- Part 1 of the body. -/
theorem part1_run  {β : Type} {k : _ → Prog (TpuEff nD τ sig (Elt F) (Λ₀ F) .tc) β} {K : β → sProp 𝕄} :
    (own c arg7 x7 : sProp 𝕄) ⊢ iprop(own c arg6 x6 -∗ own c arg2 x2 -∗ own c arg14 x14 -∗ own c arg15 x15 -∗ (own c arg7 x7 -∗ own c arg6 x6 -∗ own c arg2 x2 -∗ own c arg14 (if isFirst i then k0_pay13 else x14) -∗ own c arg15 (if isFirst i then k0_pay14 else x15) -∗ does c (k ⟨(BitVec.ofNat 32 (i 1).val), (k0_pay15 (VecWindow.window x7 ![0, 0] _ inb_S256x256_S256x256_0_0)), (k0_pay16), (k0_pay17), (Scalar.addi (Scalar.muli (BitVec.ofNat 32 (i 1).val) 4#32) 0#32), (VecWindow.window x6 ![0, 0] _ inb_S1024x128_S256x128_0_0), (k0_pay18 (VecWindow.window x2 ![0, 0] _ inb_S1024x128_S256x128_0_0)), (k0_pay19 (VecWindow.window x6 ![0, 0] _ inb_S1024x128_S256x128_0_0))⟩) K) -∗
      does c (k0_part1 i arg2 harg2 arg3 harg3 arg4 harg4 arg5 harg5 arg6 harg6 arg7 harg7 arg8 harg8 arg9 harg9 arg10 harg10 arg11 harg11 arg12 harg12 arg13 harg13 arg14 harg14 arg15 harg15 >>= k) K) := by
  rw [k0_part1_eq_skeleton]; unfold k0_part1_skel
  by_cases h : isFirst i
  · simp only [if_pos h]
    have h' : (Scalar.cmpi .ne (Scalar.extui (Scalar.cmpi .eq (BitVec.ofNat 32 (i 1).val) 0#32)) 0#32) = 1#1 := h
    simp only [h', ↓reduceIte, ↓reduceDIte, Prog.lift, Prog.bind_op, Prog.bind_ret, Prog.pure_eq_ret]
    iintro H7 H6 H2 H14 H15 Hk
    iapply (load_owned _ _ _ _) $$ H14; iintro H14
    iapply (store_owned _ _ _ _) $$ H14; iintro H14
    iapply (load_owned _ _ _ _) $$ H15; iintro H15
    iapply (store_owned _ _ _ _) $$ H15; iintro H15
    have e14 : VecWindow.put (s := S8192x128) x14 ![0, 0] ![8192, 128] (k0_pay13 (F := F)) = k0_pay13 := put_all x14 _
    have e15 : VecWindow.put (s := S8192x128) x15 ![0, 0] ![8192, 128] (k0_pay14 (F := F)) = k0_pay14 := put_all x15 _
    rw [e14, e15]
    iapply (load_owned _ _ _ _) $$ H7; iintro H7
    iapply (load_owned _ _ _ _) $$ H6; iintro H6
    iapply (load_owned _ _ _ _) $$ H2; iintro H2
    iapply Hk $$ H7 H6 H2 H14 H15
  · simp only [if_neg h]
    have h' : ¬ (Scalar.cmpi .ne (Scalar.extui (Scalar.cmpi .eq (BitVec.ofNat 32 (i 1).val) 0#32)) 0#32) = 1#1 := h
    simp only [h', ↓reduceIte, ↓reduceDIte, Prog.lift, Prog.bind_op, Prog.bind_ret, Prog.pure_eq_ret]
    iintro H7 H6 H2 H14 H15 Hk
    iapply (load_owned _ _ _ _) $$ H7; iintro H7
    iapply (load_owned _ _ _ _) $$ H6; iintro H6
    iapply (load_owned _ _ _ _) $$ H2; iintro H2
    iapply Hk $$ H7 H6 H2 H14 H15

/-- Part 2 of the body. -/
theorem part2_run {v10 v16 : IVec S1x128 1} {v18 : BitVec 32} {v19 v38 : Vec F S256x128 .bf16} {β : Type} {k : _ → Prog (TpuEff nD τ sig (Elt F) (Λ₀ F) .tc) β} {K : β → sProp 𝕄} :
    (own c arg5 x5 : sProp 𝕄) ⊢ iprop(own c arg8 x8 -∗ own c arg9 x9 -∗ own c arg3 x3 -∗ own c arg4 x4 -∗ (own c arg5 x5 -∗ own c arg8 x8 -∗ own c arg9 x9 -∗ own c arg3 x3 -∗ own c arg4 x4 -∗ does c (k ⟨(k0_pay20 v16 v19 v38), (k0_pay21 v10 v16 v19 (VecWindow.window x5 ![0, 0] _ inb_S1024x128_S256x128_0_0)), (k0_pay22 (F := F)), (k0_pay23 (F := F)), (k0_pay24 (VecWindow.window x8 ![0, 0, 0, 0, 0] _ inb_S1x4x2x512x256_S1x1x1x512x256_0_0_0_0_0)), (k0_pay25 (VecWindow.window x9 ![0, 0, 0, 0, 0] _ inb_S1x4x2x512x256_S1x1x1x512x256_0_0_0_0_0)), (k0_pay26 v10 v16 v19 (VecWindow.window x5 ![0, 0] _ inb_S1024x128_S256x128_0_0)), ((Scalar.muli v18 256#32)), (VecWindow.window x3 (k0_off1 i 0#32) S256x128.size (k0_off1_inb i 0)), (VecWindow.window x4 (k0_off1 i 0#32) S256x128.size (k0_off1_inb i 0)), (constant S512x256 .f32 0x00000000#32)⟩) K) -∗
      does c (k0_part2 i arg2 harg2 arg3 harg3 arg4 harg4 arg5 harg5 arg6 harg6 arg7 harg7 arg8 harg8 arg9 harg9 arg10 harg10 arg11 harg11 arg12 harg12 arg13 harg13 arg14 harg14 arg15 harg15 v10 v16 v18 v19 v38 >>= k) K) := by
  rw [k0_part2_eq_skeleton]; unfold k0_part2_skel
  simp only [Prog.lift, Prog.bind_op, Prog.bind_ret, Prog.pure_eq_ret]
  iintro H5 H8 H9 H3 H4 Hk
  iapply (load_owned _ _ _ _) $$ H5; iintro H5
  iapply (load_owned _ _ _ _) $$ H8; iintro H8
  iapply (load_owned _ _ _ _) $$ H9; iintro H9
  iapply (load_owned _ _ _ _) $$ H3; iintro H3
  iapply (load_owned _ _ _ _) $$ H4; iintro H4
  iapply Hk $$ H5 H8 H9 H3 H4

/-- Part 3 of the body. -/
theorem part3_run {v4 : FVec F S256x256 .bf16} {v10 v16 : IVec S1x128 1} {v18 : BitVec 32} {v33 v44 : FVec F S512x128 .bf16} {v62 : FVec F S512x1 .f32} {v63 : FVec F S256x128 .f32} {v65 : FVec F S512x256 .bf16} {v68 : FVec F S512x256 .f32} {v69 : FVec F S512x1 .f32} {v73 v75 : Vec F S256x128 .bf16} {cst_33 : FVec F S512x256 .f32} {β : Type} {k : _ → Prog (TpuEff nD τ sig (Elt F) (Λ₀ F) .tc) β} {K : β → sProp 𝕄} :
    (own c arg8 x8 : sProp 𝕄) ⊢ iprop((own c arg8 x8 -∗ does c (k ⟨(k0_pay30 v4 v10 v16 v44 v63 v65 v68 v69 v73 v75 cst_33), (k0_pay31 v4 v33 v44 v65 v68 v69 v75 cst_33), (k0_pay32 v44 v65), (k0_pay33 v4 v44 v62 v65 v75 cst_33), (Scalar.maxsi (Scalar.subi v18 1#32) 0#32), (k0_pay34 (VecWindow.window x8 ![0, 0, 1, 0, 0] _ inb_S1x4x2x512x256_S1x1x1x512x256_0_0_1_0_0))⟩) K) -∗
      does c (k0_part3 i arg2 harg2 arg3 harg3 arg4 harg4 arg5 harg5 arg6 harg6 arg7 harg7 arg8 harg8 arg9 harg9 arg10 harg10 arg11 harg11 arg12 harg12 arg13 harg13 arg14 harg14 arg15 harg15 v4 v10 v16 v18 v33 v44 v62 v63 v65 v68 v69 v73 v75 cst_33 >>= k) K) := by
  rw [k0_part3_eq_skeleton]; unfold k0_part3_skel
  simp only [Prog.lift, Prog.bind_op, Prog.bind_ret, Prog.pure_eq_ret]
  iintro H8 Hk
  iapply (load_owned _ _ _ _) $$ H8; iintro H8
  iapply Hk $$ H8

/-- Part 4 of the body. -/
theorem part4_run {v4 : FVec F S256x256 .bf16} {v10 v16 : IVec S1x128 1} {v33 v44 : FVec F S512x128 .bf16} {v61 : FVec F S512x1 .f32} {v110 : FVec F S256x128 .f32} {v113 : FVec F S512x1 .f32} {v115 : BitVec 32} {v117 : FVec F S512x256 .bf16} {β : Type} {k : _ → Prog (TpuEff nD τ sig (Elt F) (Λ₀ F) .tc) β} {K : β → sProp 𝕄} :
    (own c arg9 x9 : sProp 𝕄) ⊢ iprop(own c arg3 x3 -∗ own c arg4 x4 -∗ (own c arg9 x9 -∗ own c arg3 x3 -∗ own c arg4 x4 -∗ does c (k ⟨((Scalar.muli v115 256#32)), (k0_pay38 v4 v10 v16 v44 v61 v110 v113 v117 (VecWindow.window x9 ![0, 0, 1, 0, 0] _ inb_S1x4x2x512x256_S1x1x1x512x256_0_0_1_0_0) (VecWindow.window x3 (k0_off2 i 0#32) S256x128.size (k0_off2_inb i 0)) (VecWindow.window x4 (k0_off2 i 0#32) S256x128.size (k0_off2_inb i 0))), (k0_pay39 v4 v33 v44 v61 v113 v117 (VecWindow.window x9 ![0, 0, 1, 0, 0] _ inb_S1x4x2x512x256_S1x1x1x512x256_0_0_1_0_0) (VecWindow.window x4 (k0_off2 i 0#32) S256x128.size (k0_off2_inb i 0))), (k0_pay40 v44 v117), (k0_pay41 v4 v44 v113 v117 (VecWindow.window x4 (k0_off2 i 0#32) S256x128.size (k0_off2_inb i 0)))⟩) K) -∗
      does c (k0_part4 i arg2 harg2 arg3 harg3 arg4 harg4 arg5 harg5 arg6 harg6 arg7 harg7 arg8 harg8 arg9 harg9 arg10 harg10 arg11 harg11 arg12 harg12 arg13 harg13 arg14 harg14 arg15 harg15 v4 v10 v16 v33 v44 v61 v110 v113 v115 v117 >>= k) K) := by
  rw [k0_part4_eq_skeleton]; unfold k0_part4_skel
  simp only [Prog.lift, Prog.bind_op, Prog.bind_ret, Prog.pure_eq_ret]
  iintro H9 H3 H4 Hk
  iapply (load_owned _ _ _ _) $$ H9; iintro H9
  iapply (load_owned _ _ _ _) $$ H3; iintro H3
  iapply (load_owned _ _ _ _) $$ H4; iintro H4
  iapply Hk $$ H9 H3 H4

/-- Part 5 of the body. -/
theorem part5_run {v10 v16 : IVec S1x128 1} {arg1 : BitVec 32} {β : Type} {k : _ → Prog (TpuEff nD τ sig (Elt F) (Λ₀ F) .tc) β} {K : β → sProp 𝕄} :
    (own c arg10 x10 : sProp 𝕄) ⊢ iprop(own c arg6 x6 -∗ own c arg2 x2 -∗ own c arg5 x5 -∗ (own c arg10 x10 -∗ own c arg6 x6 -∗ own c arg2 x2 -∗ own c arg5 x5 -∗ does c (k ⟨(k0_pay42 (VecWindow.window x10 ![0, 0, 0, 0] _ inb_S1x4x512x128_S1x1x512x128_0_0_0_0)), (Scalar.addi (Scalar.muli arg1 4#32) 1#32), (k0_pay43 v10 v16 (VecWindow.window x2 ![256, 0] _ inb_S1024x128_S256x128_256_0)), (k0_pay44 v10 v16 (VecWindow.window x6 ![256, 0] _ inb_S1024x128_S256x128_256_0)), (k0_pay45 (VecWindow.window x6 ![256, 0] _ inb_S1024x128_S256x128_256_0) (VecWindow.window x5 ![256, 0] _ inb_S1024x128_S256x128_256_0)), (k0_pay46 v10 (VecWindow.window x6 ![256, 0] _ inb_S1024x128_S256x128_256_0) (VecWindow.window x5 ![256, 0] _ inb_S1024x128_S256x128_256_0)), (Scalar.ofBits .f32 0x00000000#32), (k0_pay47 v16)⟩) K) -∗
      does c (k0_part5 i arg2 harg2 arg3 harg3 arg4 harg4 arg5 harg5 arg6 harg6 arg7 harg7 arg8 harg8 arg9 harg9 arg10 harg10 arg11 harg11 arg12 harg12 arg13 harg13 arg14 harg14 arg15 harg15 arg1 v10 v16 >>= k) K) := by
  rw [k0_part5_eq_skeleton]; unfold k0_part5_skel
  simp only [Prog.lift, Prog.bind_op, Prog.bind_ret, Prog.pure_eq_ret]
  iintro H10 H6 H2 H5 Hk
  iapply (load_owned _ _ _ _) $$ H10; iintro H10
  iapply (load_owned _ _ _ _) $$ H6; iintro H6
  iapply (load_owned _ _ _ _) $$ H2; iintro H2
  iapply (load_owned _ _ _ _) $$ H5; iintro H5
  iapply Hk $$ H10 H6 H2 H5

/-- Part 6 of the body. -/
theorem part6_run {v4 : FVec F S256x256 .bf16} {v170 : BitVec 32} {v196 : FVec F S512x128 .bf16} {v200 : FVec F S256x128 .f32} {v206 : FVec F S256x1 .f32} {cst_78 : F .f32} {v207 : IVec S1x128 1} {β : Type} {k : _ → Prog (TpuEff nD τ sig (Elt F) (Λ₀ F) .tc) β} {K : β → sProp 𝕄} :
    (own c arg8 x8 : sProp 𝕄) ⊢ iprop(own c arg9 x9 -∗ own c arg3 x3 -∗ own c arg4 x4 -∗ (own c arg8 x8 -∗ own c arg9 x9 -∗ own c arg3 x3 -∗ own c arg4 x4 -∗ does c (k ⟨(k0_pay48 v200 v206 cst_78 v207), (k0_pay49 (F := F)), (k0_pay50 (F := F)), (k0_pay51 (VecWindow.window x8 ![0, 1, 0, 0, 0] _ inb_S1x4x2x512x256_S1x1x1x512x256_0_1_0_0_0)), ((Scalar.muli v170 256#32)), (VecWindow.window x3 (k0_off1 i 1#32) S256x128.size (k0_off1_inb i 1)), (k0_pay54 v4 v196 (VecWindow.window x8 ![0, 1, 0, 0, 0] _ inb_S1x4x2x512x256_S1x1x1x512x256_0_1_0_0_0) (VecWindow.window x4 (k0_off1 i 1#32) S256x128.size (k0_off1_inb i 1))), (k0_pay55 v4 v196 v200 v206 cst_78 v207 (VecWindow.window x8 ![0, 1, 0, 0, 0] _ inb_S1x4x2x512x256_S1x1x1x512x256_0_1_0_0_0) (VecWindow.window x9 ![0, 1, 0, 0, 0] _ inb_S1x4x2x512x256_S1x1x1x512x256_0_1_0_0_0) (VecWindow.window x4 (k0_off1 i 1#32) S256x128.size (k0_off1_inb i 1))), (k0_pay56 v4 v196 v200 v206 cst_78 v207 (VecWindow.window x8 ![0, 1, 0, 0, 0] _ inb_S1x4x2x512x256_S1x1x1x512x256_0_1_0_0_0) (VecWindow.window x9 ![0, 1, 0, 0, 0] _ inb_S1x4x2x512x256_S1x1x1x512x256_0_1_0_0_0) (VecWindow.window x4 (k0_off1 i 1#32) S256x128.size (k0_off1_inb i 1)))⟩) K) -∗
      does c (k0_part6 i arg2 harg2 arg3 harg3 arg4 harg4 arg5 harg5 arg6 harg6 arg7 harg7 arg8 harg8 arg9 harg9 arg10 harg10 arg11 harg11 arg12 harg12 arg13 harg13 arg14 harg14 arg15 harg15 v4 v170 v196 v200 v206 cst_78 v207 >>= k) K) := by
  rw [k0_part6_eq_skeleton]; unfold k0_part6_skel
  simp only [Prog.lift, Prog.bind_op, Prog.bind_ret, Prog.pure_eq_ret]
  iintro H8 H9 H3 H4 Hk
  iapply (load_owned _ _ _ _) $$ H8; iintro H8
  iapply (load_owned _ _ _ _) $$ H9; iintro H9
  iapply (load_owned _ _ _ _) $$ H3; iintro H3
  iapply (load_owned _ _ _ _) $$ H4; iintro H4
  iapply Hk $$ H8 H9 H3 H4

/-- Part 7 of the body. -/
theorem part7_run {v10 v16 : IVec S1x128 1} {v170 : BitVec 32} {v185 v196 : FVec F S512x128 .bf16} {v213 v214 : FVec F S512x1 .f32} {v215 : FVec F S256x128 .f32} {v217 : FVec F S512x256 .bf16} {v225 : Vec F S256x128 .bf16} {v240 : FVec F S512x1 .f32} {v246 : FVec F S512x256 .bf16} {v249 : FVec F S256x512 .bf16} {β : Type} {k : _ → Prog (TpuEff nD τ sig (Elt F) (Λ₀ F) .tc) β} {K : β → sProp 𝕄} :
    (own c arg8 x8 : sProp 𝕄) ⊢ iprop(own c arg9 x9 -∗ own c arg3 x3 -∗ own c arg4 x4 -∗ (own c arg8 x8 -∗ own c arg9 x9 -∗ own c arg3 x3 -∗ own c arg4 x4 -∗ does c (k ⟨(k0_pay57 v10 v16 v215 v225 v249), (k0_pay58 v185 v246), (k0_pay59 v196 v217), (k0_pay60 v214 v240), (k0_pay61 (VecWindow.window x8 ![0, 1, 1, 0, 0] _ inb_S1x4x2x512x256_S1x1x1x512x256_0_1_1_0_0)), (k0_pay62 (VecWindow.window x9 ![0, 1, 1, 0, 0] _ inb_S1x4x2x512x256_S1x1x1x512x256_0_1_1_0_0)), (k0_pay63 v213 v214 v240), ((Scalar.muli (Scalar.maxsi (Scalar.subi v170 1#32) 0#32) 256#32)), (VecWindow.window x3 (k0_off2 i 1#32) S256x128.size (k0_off2_inb i 1)), (k0_pay64 v196 (VecWindow.window x8 ![0, 1, 1, 0, 0] _ inb_S1x4x2x512x256_S1x1x1x512x256_0_1_1_0_0) (VecWindow.window x4 (k0_off2 i 1#32) S256x128.size (k0_off2_inb i 1))), (k0_pay65 v196 (VecWindow.window x8 ![0, 1, 1, 0, 0] _ inb_S1x4x2x512x256_S1x1x1x512x256_0_1_1_0_0) (VecWindow.window x4 (k0_off2 i 1#32) S256x128.size (k0_off2_inb i 1))), (constant S1024x256 .f32 0x00000000#32)⟩) K) -∗
      does c (k0_part7 i arg2 harg2 arg3 harg3 arg4 harg4 arg5 harg5 arg6 harg6 arg7 harg7 arg8 harg8 arg9 harg9 arg10 harg10 arg11 harg11 arg12 harg12 arg13 harg13 arg14 harg14 arg15 harg15 v10 v16 v170 v185 v196 v213 v214 v215 v217 v225 v240 v246 v249 >>= k) K) := by
  rw [k0_part7_eq_skeleton]; unfold k0_part7_skel
  simp only [Prog.lift, Prog.bind_op, Prog.bind_ret, Prog.pure_eq_ret]
  iintro H8 H9 H3 H4 Hk
  iapply (load_owned _ _ _ _) $$ H8; iintro H8
  iapply (load_owned _ _ _ _) $$ H9; iintro H9
  iapply (load_owned _ _ _ _) $$ H3; iintro H3
  iapply (load_owned _ _ _ _) $$ H4; iintro H4
  iapply Hk $$ H8 H9 H3 H4

/-- Part 8 of the body. -/
theorem part8_run {v4 : FVec F S256x256 .bf16} {v10 v16 : IVec S1x128 1} {v185 v196 : FVec F S512x128 .bf16} {v262 : FVec F S256x128 .f32} {v265 : FVec F S512x1 .f32} {v269 : FVec F S512x256 .bf16} {v272 : FVec F S512x256 .f32} {v273 : FVec F S512x1 .f32} {v277 : Vec F S256x128 .bf16} {v282 : FVec F S512x256 .f32} {v287 : FVec F S1024x256 .bf16} {cst_118 : FVec F S1024x256 .f32} {arg1 : BitVec 32} {β : Type} {k : _ → Prog (TpuEff nD τ sig (Elt F) (Λ₀ F) .tc) β} {K : β → sProp 𝕄} :
    (own c arg10 x10 : sProp 𝕄) ⊢ iprop(own c arg6 x6 -∗ own c arg2 x2 -∗ (own c arg10 x10 -∗ own c arg6 x6 -∗ own c arg2 x2 -∗ does c (k ⟨(k0_pay68 v4 v10 v16 v262 v272 v273 v277 v282 v287 cst_118), (k0_pay69 v4 v185 v272 v273 v282 v287 cst_118), (k0_pay70 v196 v269), (k0_pay71 v4 v265 v287 cst_118), (k0_pay72 (VecWindow.window x10 ![0, 1, 0, 0] _ inb_S1x4x512x128_S1x1x512x128_0_1_0_0)), (Scalar.addi (Scalar.muli arg1 4#32) 2#32), (VecWindow.window x6 ![512, 0] _ inb_S1024x128_S256x128_512_0), (k0_pay73 (VecWindow.window x2 ![512, 0] _ inb_S1024x128_S256x128_512_0)), (k0_pay74 v10), (k0_pay75 (F := F))⟩) K) -∗
      does c (k0_part8 i arg2 harg2 arg3 harg3 arg4 harg4 arg5 harg5 arg6 harg6 arg7 harg7 arg8 harg8 arg9 harg9 arg10 harg10 arg11 harg11 arg12 harg12 arg13 harg13 arg14 harg14 arg15 harg15 arg1 v4 v10 v16 v185 v196 v262 v265 v269 v272 v273 v277 v282 v287 cst_118 >>= k) K) := by
  rw [k0_part8_eq_skeleton]; unfold k0_part8_skel
  simp only [Prog.lift, Prog.bind_op, Prog.bind_ret, Prog.pure_eq_ret]
  iintro H10 H6 H2 Hk
  iapply (load_owned _ _ _ _) $$ H10; iintro H10
  iapply (load_owned _ _ _ _) $$ H6; iintro H6
  iapply (load_owned _ _ _ _) $$ H2; iintro H2
  iapply Hk $$ H10 H6 H2

/-- Part 9 of the body. -/
theorem part9_run {v10 v16 : IVec S1x128 1} {v323 : Vec F S256x128 .bf16} {v326 : FVec F S256x128 .bf16} {v329 : IVec S256x128 1} {v330 : FVec F S256x128 .bf16} {β : Type} {k : _ → Prog (TpuEff nD τ sig (Elt F) (Λ₀ F) .tc) β} {K : β → sProp 𝕄} :
    (own c arg5 x5 : sProp 𝕄) ⊢ iprop(own c arg8 x8 -∗ (own c arg5 x5 -∗ own c arg8 x8 -∗ does c (k ⟨(k0_pay76 v16 v326 v329 v330), (k0_pay77 v10 v16 v323), (k0_pay78 v10 v16 v323 (VecWindow.window x5 ![512, 0] _ inb_S1024x128_S256x128_512_0)), (k0_pay79 (F := F)), (k0_pay80 (F := F)), (k0_pay81 (VecWindow.window x8 ![0, 2, 0, 0, 0] _ inb_S1x4x2x512x256_S1x1x1x512x256_0_2_0_0_0))⟩) K) -∗
      does c (k0_part9 i arg2 harg2 arg3 harg3 arg4 harg4 arg5 harg5 arg6 harg6 arg7 harg7 arg8 harg8 arg9 harg9 arg10 harg10 arg11 harg11 arg12 harg12 arg13 harg13 arg14 harg14 arg15 harg15 v10 v16 v323 v326 v329 v330 >>= k) K) := by
  rw [k0_part9_eq_skeleton]; unfold k0_part9_skel
  simp only [Prog.lift, Prog.bind_op, Prog.bind_ret, Prog.pure_eq_ret]
  iintro H5 H8 Hk
  iapply (load_owned _ _ _ _) $$ H5; iintro H5
  iapply (load_owned _ _ _ _) $$ H8; iintro H8
  iapply Hk $$ H5 H8

/-- Part 10 of the body. -/
theorem part10_run {v4 : FVec F S256x256 .bf16} {v10 v16 : IVec S1x128 1} {v322 : BitVec 32} {v337 v348 : FVec F S512x128 .bf16} {v365 v366 : FVec F S512x1 .f32} {v367 : FVec F S256x128 .f32} {v369 : FVec F S512x256 .bf16} {β : Type} {k : _ → Prog (TpuEff nD τ sig (Elt F) (Λ₀ F) .tc) β} {K : β → sProp 𝕄} :
    (own c arg9 x9 : sProp 𝕄) ⊢ iprop(own c arg3 x3 -∗ own c arg4 x4 -∗ (own c arg9 x9 -∗ own c arg3 x3 -∗ own c arg4 x4 -∗ does c (k ⟨((Scalar.muli v322 256#32)), (k0_pay85 v4 v10 v16 v348 v365 v366 v367 v369 (VecWindow.window x9 ![0, 2, 0, 0, 0] _ inb_S1x4x2x512x256_S1x1x1x512x256_0_2_0_0_0) (VecWindow.window x3 (k0_off1 i 2#32) S256x128.size (k0_off1_inb i 2)) (VecWindow.window x4 (k0_off1 i 2#32) S256x128.size (k0_off1_inb i 2))), (k0_pay86 v4 v337 v348 v365 v366 v369 (VecWindow.window x9 ![0, 2, 0, 0, 0] _ inb_S1x4x2x512x256_S1x1x1x512x256_0_2_0_0_0) (VecWindow.window x4 (k0_off1 i 2#32) S256x128.size (k0_off1_inb i 2))), (k0_pay87 v348 v369), (k0_pay88 v4 v348 v366 v369 (VecWindow.window x4 (k0_off1 i 2#32) S256x128.size (k0_off1_inb i 2))), (Scalar.subi v322 1#32)⟩) K) -∗
      does c (k0_part10 i arg2 harg2 arg3 harg3 arg4 harg4 arg5 harg5 arg6 harg6 arg7 harg7 arg8 harg8 arg9 harg9 arg10 harg10 arg11 harg11 arg12 harg12 arg13 harg13 arg14 harg14 arg15 harg15 v4 v10 v16 v322 v337 v348 v365 v366 v367 v369 >>= k) K) := by
  rw [k0_part10_eq_skeleton]; unfold k0_part10_skel
  simp only [Prog.lift, Prog.bind_op, Prog.bind_ret, Prog.pure_eq_ret]
  iintro H9 H3 H4 Hk
  iapply (load_owned _ _ _ _) $$ H9; iintro H9
  iapply (load_owned _ _ _ _) $$ H3; iintro H3
  iapply (load_owned _ _ _ _) $$ H4; iintro H4
  iapply Hk $$ H9 H3 H4

/-- Part 11 of the body. -/
theorem part11_run {v4 : FVec F S256x256 .bf16} {v10 v16 : IVec S1x128 1} {v348 : FVec F S512x128 .bf16} {v365 v417 : FVec F S512x1 .f32} {v418 : BitVec 32} {β : Type} {k : _ → Prog (TpuEff nD τ sig (Elt F) (Λ₀ F) .tc) β} {K : β → sProp 𝕄} :
    (own c arg8 x8 : sProp 𝕄) ⊢ iprop(own c arg9 x9 -∗ own c arg3 x3 -∗ own c arg4 x4 -∗ (own c arg8 x8 -∗ own c arg9 x9 -∗ own c arg3 x3 -∗ own c arg4 x4 -∗ does c (k ⟨(k0_pay89 (VecWindow.window x8 ![0, 2, 1, 0, 0] _ inb_S1x4x2x512x256_S1x1x1x512x256_0_2_1_0_0)), ((Scalar.muli (Scalar.maxsi v418 0#32) 256#32)), (VecWindow.window x3 (k0_off2 i 2#32) S256x128.size (k0_off2_inb i 2)), (k0_pay92 v4 v348 (VecWindow.window x8 ![0, 2, 1, 0, 0] _ inb_S1x4x2x512x256_S1x1x1x512x256_0_2_1_0_0) (VecWindow.window x4 (k0_off2 i 2#32) S256x128.size (k0_off2_inb i 2))), (k0_pay93 v4 v348 v365 v417 (VecWindow.window x8 ![0, 2, 1, 0, 0] _ inb_S1x4x2x512x256_S1x1x1x512x256_0_2_1_0_0) (VecWindow.window x9 ![0, 2, 1, 0, 0] _ inb_S1x4x2x512x256_S1x1x1x512x256_0_2_1_0_0) (VecWindow.window x4 (k0_off2 i 2#32) S256x128.size (k0_off2_inb i 2))), (k0_pay94 v4 v348 v365 v417 (VecWindow.window x8 ![0, 2, 1, 0, 0] _ inb_S1x4x2x512x256_S1x1x1x512x256_0_2_1_0_0) (VecWindow.window x9 ![0, 2, 1, 0, 0] _ inb_S1x4x2x512x256_S1x1x1x512x256_0_2_1_0_0) (VecWindow.window x4 (k0_off2 i 2#32) S256x128.size (k0_off2_inb i 2))), (k0_pay95 v10 (VecWindow.window x3 (k0_off2 i 2#32) S256x128.size (k0_off2_inb i 2))), (k0_pay96 (F := F)), (k0_pay97 v16)⟩) K) -∗
      does c (k0_part11 i arg2 harg2 arg3 harg3 arg4 harg4 arg5 harg5 arg6 harg6 arg7 harg7 arg8 harg8 arg9 harg9 arg10 harg10 arg11 harg11 arg12 harg12 arg13 harg13 arg14 harg14 arg15 harg15 v4 v10 v16 v348 v365 v417 v418 >>= k) K) := by
  rw [k0_part11_eq_skeleton]; unfold k0_part11_skel
  simp only [Prog.lift, Prog.bind_op, Prog.bind_ret, Prog.pure_eq_ret]
  iintro H8 H9 H3 H4 Hk
  iapply (load_owned _ _ _ _) $$ H8; iintro H8
  iapply (load_owned _ _ _ _) $$ H9; iintro H9
  iapply (load_owned _ _ _ _) $$ H3; iintro H3
  iapply (load_owned _ _ _ _) $$ H4; iintro H4
  iapply Hk $$ H8 H9 H3 H4

/-- Part 12 of the body. -/
theorem part12_run {v10 v16 : IVec S1x128 1} {v337 v348 : FVec F S512x128 .bf16} {v414 : FVec F S256x128 .f32} {v417 : FVec F S512x1 .f32} {v421 : FVec F S512x256 .bf16} {v429 : Vec F S256x128 .bf16} {v444 : FVec F S512x1 .f32} {v450 : FVec F S512x256 .bf16} {v453 : FVec F S256x512 .bf16} {v458 : Vec F S256x128 .bf16} {v459 : F .bf16} {v460 : IVec S1x128 1} {arg1 : BitVec 32} {β : Type} {k : _ → Prog (TpuEff nD τ sig (Elt F) (Λ₀ F) .tc) β} {K : β → sProp 𝕄} :
    (own c arg10 x10 : sProp 𝕄) ⊢ iprop(own c arg6 x6 -∗ own c arg2 x2 -∗ (own c arg10 x10 -∗ own c arg6 x6 -∗ own c arg2 x2 -∗ does c (k ⟨(k0_pay98 v414 v429 v453 v458 v459 v460), (k0_pay99 v337 v450), (k0_pay100 v348 v421), (k0_pay101 v417 v444), (k0_pay102 (VecWindow.window x10 ![0, 2, 0, 0] _ inb_S1x4x512x128_S1x1x512x128_0_2_0_0)), (Scalar.addi (Scalar.muli arg1 4#32) 3#32), (k0_pay103 v10 v16 (VecWindow.window x2 ![768, 0] _ inb_S1024x128_S256x128_768_0)), (k0_pay104 v10 v16 (VecWindow.window x6 ![768, 0] _ inb_S1024x128_S256x128_768_0)), (k0_pay105 (VecWindow.window x6 ![768, 0] _ inb_S1024x128_S256x128_768_0))⟩) K) -∗
      does c (k0_part12 i arg2 harg2 arg3 harg3 arg4 harg4 arg5 harg5 arg6 harg6 arg7 harg7 arg8 harg8 arg9 harg9 arg10 harg10 arg11 harg11 arg12 harg12 arg13 harg13 arg14 harg14 arg15 harg15 arg1 v10 v16 v337 v348 v414 v417 v421 v429 v444 v450 v453 v458 v459 v460 >>= k) K) := by
  rw [k0_part12_eq_skeleton]; unfold k0_part12_skel
  simp only [Prog.lift, Prog.bind_op, Prog.bind_ret, Prog.pure_eq_ret]
  iintro H10 H6 H2 Hk
  iapply (load_owned _ _ _ _) $$ H10; iintro H10
  iapply (load_owned _ _ _ _) $$ H6; iintro H6
  iapply (load_owned _ _ _ _) $$ H2; iintro H2
  iapply Hk $$ H10 H6 H2

/-- Part 13 of the body. -/
theorem part13_run {v10 v16 : IVec S1x128 1} {v474 : BitVec 32} {v500 : FVec F S512x128 .bf16} {v501 : FVec F S256x128 .f32} {β : Type} {k : _ → Prog (TpuEff nD τ sig (Elt F) (Λ₀ F) .tc) β} {K : β → sProp 𝕄} :
    (own c arg5 x5 : sProp 𝕄) ⊢ iprop(own c arg8 x8 -∗ own c arg9 x9 -∗ own c arg3 x3 -∗ own c arg4 x4 -∗ (own c arg5 x5 -∗ own c arg8 x8 -∗ own c arg9 x9 -∗ own c arg3 x3 -∗ own c arg4 x4 -∗ does c (k ⟨(k0_pay106 v10 v16 v501 (VecWindow.window x5 ![768, 0] _ inb_S1024x128_S256x128_768_0)), (k0_pay107 (F := F)), (k0_pay108 (F := F)), (k0_pay109 (VecWindow.window x8 ![0, 3, 0, 0, 0] _ inb_S1x4x2x512x256_S1x1x1x512x256_0_3_0_0_0)), (k0_pay110 (VecWindow.window x9 ![0, 3, 0, 0, 0] _ inb_S1x4x2x512x256_S1x1x1x512x256_0_3_0_0_0)), (k0_pay111 v10 v16 v501 (VecWindow.window x5 ![768, 0] _ inb_S1024x128_S256x128_768_0)), ((Scalar.muli v474 256#32)), (VecWindow.window x3 (k0_off1 i 3#32) S256x128.size (k0_off1_inb i 3)), (k0_pay112 v500 (VecWindow.window x8 ![0, 3, 0, 0, 0] _ inb_S1x4x2x512x256_S1x1x1x512x256_0_3_0_0_0) (VecWindow.window x4 (k0_off1 i 3#32) S256x128.size (k0_off1_inb i 3))), (k0_pay113 v500 (VecWindow.window x8 ![0, 3, 0, 0, 0] _ inb_S1x4x2x512x256_S1x1x1x512x256_0_3_0_0_0) (VecWindow.window x4 (k0_off1 i 3#32) S256x128.size (k0_off1_inb i 3))), (constant S1024x256 .f32 0x00000000#32)⟩) K) -∗
      does c (k0_part13 i arg2 harg2 arg3 harg3 arg4 harg4 arg5 harg5 arg6 harg6 arg7 harg7 arg8 harg8 arg9 harg9 arg10 harg10 arg11 harg11 arg12 harg12 arg13 harg13 arg14 harg14 arg15 harg15 v10 v16 v474 v500 v501 >>= k) K) := by
  rw [k0_part13_eq_skeleton]; unfold k0_part13_skel
  simp only [Prog.lift, Prog.bind_op, Prog.bind_ret, Prog.pure_eq_ret]
  iintro H5 H8 H9 H3 H4 Hk
  iapply (load_owned _ _ _ _) $$ H5; iintro H5
  iapply (load_owned _ _ _ _) $$ H8; iintro H8
  iapply (load_owned _ _ _ _) $$ H9; iintro H9
  iapply (load_owned _ _ _ _) $$ H3; iintro H3
  iapply (load_owned _ _ _ _) $$ H4; iintro H4
  iapply Hk $$ H5 H8 H9 H3 H4

/-- Part 14 of the body. -/
theorem part14_run {v4 : FVec F S256x256 .bf16} {v10 v16 : IVec S1x128 1} {v474 : BitVec 32} {v489 v500 : FVec F S512x128 .bf16} {v517 v518 : FVec F S512x1 .f32} {v519 : FVec F S256x128 .f32} {v521 : FVec F S512x256 .bf16} {v524 : FVec F S512x256 .f32} {v525 : FVec F S512x1 .f32} {v529 : Vec F S256x128 .bf16} {v534 : FVec F S512x256 .f32} {v539 : FVec F S1024x256 .bf16} {cst_220 : FVec F S1024x256 .f32} {β : Type} {k : _ → Prog (TpuEff nD τ sig (Elt F) (Λ₀ F) .tc) β} {K : β → sProp 𝕄} :
    (own c arg8 x8 : sProp 𝕄) ⊢ iprop(own c arg9 x9 -∗ (own c arg8 x8 -∗ own c arg9 x9 -∗ does c (k ⟨(k0_pay116 v4 v10 v16 v519 v524 v525 v529 v534 v539 cst_220), (k0_pay117 v4 v489 v524 v525 v534 v539 cst_220), (k0_pay118 v500 v521), (k0_pay119 v4 v518 v539 cst_220), (k0_pay120 (VecWindow.window x8 ![0, 3, 1, 0, 0] _ inb_S1x4x2x512x256_S1x1x1x512x256_0_3_1_0_0)), (k0_pay121 (VecWindow.window x9 ![0, 3, 1, 0, 0] _ inb_S1x4x2x512x256_S1x1x1x512x256_0_3_1_0_0)), (k0_pay122 v4 v517 v518 v539 cst_220), ((Scalar.muli (Scalar.maxsi (Scalar.subi v474 1#32) 0#32) 256#32))⟩) K) -∗
      does c (k0_part14 i arg2 harg2 arg3 harg3 arg4 harg4 arg5 harg5 arg6 harg6 arg7 harg7 arg8 harg8 arg9 harg9 arg10 harg10 arg11 harg11 arg12 harg12 arg13 harg13 arg14 harg14 arg15 harg15 v4 v10 v16 v474 v489 v500 v517 v518 v519 v521 v524 v525 v529 v534 v539 cst_220 >>= k) K) := by
  rw [k0_part14_eq_skeleton]; unfold k0_part14_skel
  simp only [Prog.lift, Prog.bind_op, Prog.bind_ret, Prog.pure_eq_ret]
  iintro H8 H9 Hk
  iapply (load_owned _ _ _ _) $$ H8; iintro H8
  iapply (load_owned _ _ _ _) $$ H9; iintro H9
  iapply Hk $$ H8 H9

/-- Part 15 of the body. -/
theorem part15_run {v4 : FVec F S256x256 .bf16} {v10 v16 : IVec S1x128 1} {v71 : BitVec 32} {v111 : FVec F S256x128 .f32} {v489 v500 : FVec F S512x128 .bf16} {v566 : FVec F S256x128 .f32} {v569 : FVec F S512x1 .f32} {v573 : FVec F S512x256 .bf16} {v576 : FVec F S512x256 .f32} {v577 : FVec F S512x1 .f32} {v579 : BitVec 32} {β : Type} {k : _ → Prog (TpuEff nD τ sig (Elt F) (Λ₀ F) .tc) β} {K : β → sProp 𝕄} :
    (own c arg3 x3 : sProp 𝕄) ⊢ iprop(own c arg4 x4 -∗ own c arg10 x10 -∗ own c arg14 x14 -∗ (own c arg3 x3 -∗ own c arg4 x4 -∗ own c arg10 x10 -∗ own c arg14 x14 -∗ does c (k ⟨(k0_pay126 v4 v10 v16 v500 v566 v573 v576 v577 (VecWindow.window x3 (k0_off2 i 3#32) S256x128.size (k0_off2_inb i 3)) (VecWindow.window x4 (k0_off2 i 3#32) S256x128.size (k0_off2_inb i 3))), (k0_pay127 v4 v489 v500 v573 v576 v577 (VecWindow.window x4 (k0_off2 i 3#32) S256x128.size (k0_off2_inb i 3))), (k0_pay128 v500 v573), (k0_pay129 v4 v500 v569 v573 (VecWindow.window x4 (k0_off2 i 3#32) S256x128.size (k0_off2_inb i 3))), (k0_pay130 (VecWindow.window x10 ![0, 3, 0, 0] _ inb_S1x4x512x128_S1x1x512x128_0_3_0_0)), (k0_pay131 v111 (VecWindow.window x14 (k0_off1 i 0#32) S256x128.size (k0_off1_inb i 0)))⟩) K) -∗
      does c (k0_part15 i arg2 harg2 arg3 harg3 arg4 harg4 arg5 harg5 arg6 harg6 arg7 harg7 arg8 harg8 arg9 harg9 arg10 harg10 arg11 harg11 arg12 harg12 arg13 harg13 arg14 harg14 arg15 harg15 v4 v10 v16 v71 v111 v489 v500 v566 v569 v573 v576 v577 v579 >>= k) K) := by
  rw [k0_part15_eq_skeleton]; unfold k0_part15_skel
  simp only [Prog.lift, Prog.bind_op, Prog.bind_ret, Prog.pure_eq_ret]
  iintro H3 H4 H10 H14 Hk
  iapply (load_owned _ _ _ _) $$ H3; iintro H3
  iapply (load_owned _ _ _ _) $$ H4; iintro H4
  iapply (load_owned _ _ _ _) $$ H10; iintro H10
  iapply (load_owned _ _ _ _) $$ H14; iintro H14
  iapply Hk $$ H3 H4 H10 H14

end Parts

end Cert.Proof.Attn

end
-- ==== Proof.AttnBody.lean ====
module

public import proofs.«01_k».proof.Proof.AttnParts

/-!
  The body of the attention gradient at one step: from its blocks and the two accumulators it leaves the four strips of
  the queries' gradient, the accumulators with every strip's turns done, and at the last step of a pair of heads the
  accumulators written out.
-/

@[expose] public section

set_option maxRecDepth 16384

noncomputable section

namespace Cert.Proof.Attn

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Where a step is -/

theorem off1 : ∀ (u : Fin 4) (g : Fin 8), ![BitVec.toNat (Scalar.indexCast (Scalar.muli (Scalar.addi (Scalar.muli (BitVec.ofNat 32 g.val) 4#32) (BitVec.ofNat 32 u.val)) 256#32)), 0]
    = (![256 * (4 * g.val + u.val), 0] : Fin 2 → ℕ) := by decide
theorem off2 : ∀ (u : Fin 4) (g : Fin 8), ![BitVec.toNat (Scalar.indexCast (Scalar.muli (Scalar.maxsi (Scalar.subi (Scalar.addi (Scalar.muli (BitVec.ofNat 32 g.val) 4#32) (BitVec.ofNat 32 u.val)) 1#32) 0#32) 256#32)), 0]
    = (![256 * (4 * g.val + u.val - 1), 0] : Fin 2 → ℕ) := by decide
theorem counter (u : Fin 4) (g : Fin 8) :
    Counter (4 * g.val + u.val - 1) (Scalar.subi (Scalar.addi (Scalar.muli (BitVec.ofNat 32 g.val) 4#32) (BitVec.ofNat 32 u.val)) 2#32) := by
  have h := (by decide : ∀ (u : Fin 4) (g : Fin 8), (4 * g.val + u.val - 1 = 0 ∧ Scalar.cmpi .sge (Scalar.subi (Scalar.addi (Scalar.muli (BitVec.ofNat 32 g.val) 4#32) (BitVec.ofNat 32 u.val)) 2#32) 0#32 = 0#1)
    ∨ (4 * g.val + u.val - 1 ≠ 0 ∧ 4 * g.val + u.val - 2 < 32 ∧ Scalar.subi (Scalar.addi (Scalar.muli (BitVec.ofNat 32 g.val) 4#32) (BitVec.ofNat 32 u.val)) 2#32 = BitVec.ofNat 32 (4 * g.val + u.val - 2))) u g
  rcases h with h | ⟨h0, h1, h2⟩
  · exact Or.inl h
  · exact Or.inr ⟨4 * g.val + u.val - 2, h1, by omega, h2⟩
theorem off1_0 (i : grid0.Coords) : k0_off1 i 0#32 = ![256 * (4 * (i 1).val + 0), 0] := off1 0 (i 1)
theorem off2_0 (i : grid0.Coords) : k0_off2 i 0#32 = ![256 * (4 * (i 1).val + 0 - 1), 0] := off2 0 (i 1)
theorem counter_0 (i : grid0.Coords) :
    Counter (4 * (i 1).val + 0 - 1) (Scalar.subi (Scalar.addi (Scalar.muli (BitVec.ofNat 32 (i 1).val) 4#32) 0#32) 2#32) := counter 0 (i 1)
theorem off1_1 (i : grid0.Coords) : k0_off1 i 1#32 = ![256 * (4 * (i 1).val + 1), 0] := off1 1 (i 1)
theorem off2_1 (i : grid0.Coords) : k0_off2 i 1#32 = ![256 * (4 * (i 1).val + 1 - 1), 0] := off2 1 (i 1)
theorem counter_1 (i : grid0.Coords) :
    Counter (4 * (i 1).val + 1 - 1) (Scalar.subi (Scalar.addi (Scalar.muli (BitVec.ofNat 32 (i 1).val) 4#32) 1#32) 2#32) := counter 1 (i 1)
theorem off1_2 (i : grid0.Coords) : k0_off1 i 2#32 = ![256 * (4 * (i 1).val + 2), 0] := off1 2 (i 1)
theorem off2_2 (i : grid0.Coords) : k0_off2 i 2#32 = ![256 * (4 * (i 1).val + 2 - 1), 0] := off2 2 (i 1)
theorem counter_2 (i : grid0.Coords) :
    Counter (4 * (i 1).val + 2 - 1) (Scalar.subi (Scalar.addi (Scalar.muli (BitVec.ofNat 32 (i 1).val) 4#32) 2#32) 2#32) := counter 2 (i 1)
theorem off1_3 (i : grid0.Coords) : k0_off1 i 3#32 = ![256 * (4 * (i 1).val + 3), 0] := off1 3 (i 1)
theorem off2_3 (i : grid0.Coords) : k0_off2 i 3#32 = ![256 * (4 * (i 1).val + 3 - 1), 0] := off2 3 (i 1)
theorem counter_3 (i : grid0.Coords) :
    Counter (4 * (i 1).val + 3 - 1) (Scalar.subi (Scalar.addi (Scalar.muli (BitVec.ofNat 32 (i 1).val) 4#32) 3#32) 2#32) := counter 3 (i 1)

section Call

variable (c : Dev nD) {i : grid0.Coords} {arg3 : Memref sig .tc .vmem S8192x128 .bf16} {harg3 : arg3.IsWhole} {arg4 : Memref sig .tc .vmem S8192x128 .bf16} {harg4 : arg4.IsWhole}
  {arg14 : Memref sig .tc .vmem S8192x128 .f32} {harg14 : arg14.IsWhole} {arg15 : Memref sig .tc .vmem S8192x128 .f32} {harg15 : arg15.IsWhole}
  {tri : FVec F S256x256 .bf16} {lo hi : IVec S1x128 1} {qs dos : FVec F S512x128 .bf16} {dtot run grun : FVec F S512x1 .f32} {dq : FVec F S256x128 .f32}
  {keys vals : Vec F S8192x128 .bf16} {aK aV : Vec F S8192x128 .f32}

/-- A call of loop 1. -/
theorem call1 {n : ℕ} {w₀ : BitVec 32} (hn : Counter n w₀) {β : Type} {k : BitVec 32 × FVec F S512x1 .f32 × FVec F S512x1 .f32 × FVec F S256x128 .f32 → Prog (TpuEff nD τ sig (Elt F) (Λ₀ F) .tc) β} {K : β → sProp 𝕄} :
    (own c arg3 keys : sProp 𝕄) ⊢ iprop(own c arg4 vals -∗ own c arg14 aK -∗ own c arg15 aV -∗
      (∀ w : BitVec 32, own c arg3 keys -∗ own c arg4 vals -∗ own c arg14 (turns ⟨tri, lo, hi, qs, dos, dtot, keys, vals⟩ n ⟨run, grun, dq, aK, aV⟩).accK -∗ own c arg15 (turns ⟨tri, lo, hi, qs, dos, dtot, keys, vals⟩ n ⟨run, grun, dq, aK, aV⟩).accV -∗
        does c (k (w, (turns ⟨tri, lo, hi, qs, dos, dtot, keys, vals⟩ n ⟨run, grun, dq, aK, aV⟩).run, (turns ⟨tri, lo, hi, qs, dos, dtot, keys, vals⟩ n ⟨run, grun, dq, aK, aV⟩).grun, (turns ⟨tri, lo, hi, qs, dos, dtot, keys, vals⟩ n ⟨run, grun, dq, aK, aV⟩).dq)) K) -∗
      does c (.op (.call (1 : (Λ₀ F).Label) ⟨i, arg3, harg3, qs, tri, dtot, arg4, harg4, dos, lo, hi, arg14, harg14, arg15, harg15, w₀, run, grun, dq⟩) k) K) := by
  iintro H3 H4 H14 H15 Hk
  iapply (wp_call_spec 𝒱₀ (c : Thread nD τ) none Set.univ (spec c arg3 arg4 arg14 arg15 ⟨tri, lo, hi, qs, dos, dtot, keys, vals⟩ n ⟨run, grun, dq, aK, aV⟩) n (fun u hu => nomatch hu)
    (loop1_le c arg3 harg3 arg4 harg4 arg14 harg14 arg15 harg15 i Set.univ ⟨tri, lo, hi, qs, dos, dtot, keys, vals⟩ n w₀ ⟨run, grun, dq, aK, aV⟩ hn))
  rw [spec_apply]; unfold held
  isplitl [H3 H4 H14 H15]
  · isplitl [H3]; · iexact H3
    isplitl [H4]; · iexact H4
    isplitl [H14]; · iexact H14
    iexact H15
  iintro %w ⟨H3, H4, H14, H15⟩
  iapply Hk $$ %w H3 H4 H14 H15

/-- A call of loop 2. -/
theorem call2 {n : ℕ} {w₀ : BitVec 32} (hn : Counter n w₀) {β : Type} {k : BitVec 32 × FVec F S512x1 .f32 × FVec F S512x1 .f32 × FVec F S256x128 .f32 → Prog (TpuEff nD τ sig (Elt F) (Λ₀ F) .tc) β} {K : β → sProp 𝕄} :
    (own c arg3 keys : sProp 𝕄) ⊢ iprop(own c arg4 vals -∗ own c arg14 aK -∗ own c arg15 aV -∗
      (∀ w : BitVec 32, own c arg3 keys -∗ own c arg4 vals -∗ own c arg14 (turns ⟨tri, lo, hi, qs, dos, dtot, keys, vals⟩ n ⟨run, grun, dq, aK, aV⟩).accK -∗ own c arg15 (turns ⟨tri, lo, hi, qs, dos, dtot, keys, vals⟩ n ⟨run, grun, dq, aK, aV⟩).accV -∗
        does c (k (w, (turns ⟨tri, lo, hi, qs, dos, dtot, keys, vals⟩ n ⟨run, grun, dq, aK, aV⟩).run, (turns ⟨tri, lo, hi, qs, dos, dtot, keys, vals⟩ n ⟨run, grun, dq, aK, aV⟩).grun, (turns ⟨tri, lo, hi, qs, dos, dtot, keys, vals⟩ n ⟨run, grun, dq, aK, aV⟩).dq)) K) -∗
      does c (.op (.call (2 : (Λ₀ F).Label) ⟨i, arg3, harg3, qs, tri, dtot, arg4, harg4, dos, lo, hi, arg14, harg14, arg15, harg15, w₀, run, grun, dq⟩) k) K) := by
  iintro H3 H4 H14 H15 Hk
  iapply (wp_call_spec 𝒱₀ (c : Thread nD τ) none Set.univ (spec c arg3 arg4 arg14 arg15 ⟨tri, lo, hi, qs, dos, dtot, keys, vals⟩ n ⟨run, grun, dq, aK, aV⟩) n (fun u hu => nomatch hu)
    (loop2_le c arg3 harg3 arg4 harg4 arg14 harg14 arg15 harg15 i Set.univ ⟨tri, lo, hi, qs, dos, dtot, keys, vals⟩ n w₀ ⟨run, grun, dq, aK, aV⟩ hn))
  rw [spec_apply]; unfold held
  isplitl [H3 H4 H14 H15]
  · isplitl [H3]; · iexact H3
    isplitl [H4]; · iexact H4
    isplitl [H14]; · iexact H14
    iexact H15
  iintro %w ⟨H3, H4, H14, H15⟩
  iapply Hk $$ %w H3 H4 H14 H15

/-- A call of loop 3. -/
theorem call3 {n : ℕ} {w₀ : BitVec 32} (hn : Counter n w₀) {β : Type} {k : BitVec 32 × FVec F S512x1 .f32 × FVec F S512x1 .f32 × FVec F S256x128 .f32 → Prog (TpuEff nD τ sig (Elt F) (Λ₀ F) .tc) β} {K : β → sProp 𝕄} :
    (own c arg3 keys : sProp 𝕄) ⊢ iprop(own c arg4 vals -∗ own c arg14 aK -∗ own c arg15 aV -∗
      (∀ w : BitVec 32, own c arg3 keys -∗ own c arg4 vals -∗ own c arg14 (turns ⟨tri, lo, hi, qs, dos, dtot, keys, vals⟩ n ⟨run, grun, dq, aK, aV⟩).accK -∗ own c arg15 (turns ⟨tri, lo, hi, qs, dos, dtot, keys, vals⟩ n ⟨run, grun, dq, aK, aV⟩).accV -∗
        does c (k (w, (turns ⟨tri, lo, hi, qs, dos, dtot, keys, vals⟩ n ⟨run, grun, dq, aK, aV⟩).run, (turns ⟨tri, lo, hi, qs, dos, dtot, keys, vals⟩ n ⟨run, grun, dq, aK, aV⟩).grun, (turns ⟨tri, lo, hi, qs, dos, dtot, keys, vals⟩ n ⟨run, grun, dq, aK, aV⟩).dq)) K) -∗
      does c (.op (.call (3 : (Λ₀ F).Label) ⟨i, arg3, harg3, qs, tri, dtot, arg4, harg4, dos, lo, hi, arg14, harg14, arg15, harg15, w₀, run, grun, dq⟩) k) K) := by
  iintro H3 H4 H14 H15 Hk
  iapply (wp_call_spec 𝒱₀ (c : Thread nD τ) none Set.univ (spec c arg3 arg4 arg14 arg15 ⟨tri, lo, hi, qs, dos, dtot, keys, vals⟩ n ⟨run, grun, dq, aK, aV⟩) n (fun u hu => nomatch hu)
    (loop3_le c arg3 harg3 arg4 harg4 arg14 harg14 arg15 harg15 i Set.univ ⟨tri, lo, hi, qs, dos, dtot, keys, vals⟩ n w₀ ⟨run, grun, dq, aK, aV⟩ hn))
  rw [spec_apply]; unfold held
  isplitl [H3 H4 H14 H15]
  · isplitl [H3]; · iexact H3
    isplitl [H4]; · iexact H4
    isplitl [H14]; · iexact H14
    iexact H15
  iintro %w ⟨H3, H4, H14, H15⟩
  iapply Hk $$ %w H3 H4 H14 H15

/-- A call of loop 4. -/
theorem call4 {n : ℕ} {w₀ : BitVec 32} (hn : Counter n w₀) {β : Type} {k : BitVec 32 × FVec F S512x1 .f32 × FVec F S512x1 .f32 × FVec F S256x128 .f32 → Prog (TpuEff nD τ sig (Elt F) (Λ₀ F) .tc) β} {K : β → sProp 𝕄} :
    (own c arg3 keys : sProp 𝕄) ⊢ iprop(own c arg4 vals -∗ own c arg14 aK -∗ own c arg15 aV -∗
      (∀ w : BitVec 32, own c arg3 keys -∗ own c arg4 vals -∗ own c arg14 (turns ⟨tri, lo, hi, qs, dos, dtot, keys, vals⟩ n ⟨run, grun, dq, aK, aV⟩).accK -∗ own c arg15 (turns ⟨tri, lo, hi, qs, dos, dtot, keys, vals⟩ n ⟨run, grun, dq, aK, aV⟩).accV -∗
        does c (k (w, (turns ⟨tri, lo, hi, qs, dos, dtot, keys, vals⟩ n ⟨run, grun, dq, aK, aV⟩).run, (turns ⟨tri, lo, hi, qs, dos, dtot, keys, vals⟩ n ⟨run, grun, dq, aK, aV⟩).grun, (turns ⟨tri, lo, hi, qs, dos, dtot, keys, vals⟩ n ⟨run, grun, dq, aK, aV⟩).dq)) K) -∗
      does c (.op (.call (4 : (Λ₀ F).Label) ⟨i, arg3, harg3, qs, tri, dtot, arg4, harg4, dos, lo, hi, arg14, harg14, arg15, harg15, w₀, run, grun, dq⟩) k) K) := by
  iintro H3 H4 H14 H15 Hk
  iapply (wp_call_spec 𝒱₀ (c : Thread nD τ) none Set.univ (spec c arg3 arg4 arg14 arg15 ⟨tri, lo, hi, qs, dos, dtot, keys, vals⟩ n ⟨run, grun, dq, aK, aV⟩) n (fun u hu => nomatch hu)
    (loop4_le c arg3 harg3 arg4 harg4 arg14 harg14 arg15 harg15 i Set.univ ⟨tri, lo, hi, qs, dos, dtot, keys, vals⟩ n w₀ ⟨run, grun, dq, aK, aV⟩ hn))
  rw [spec_apply]; unfold held
  isplitl [H3 H4 H14 H15]
  · isplitl [H3]; · iexact H3
    isplitl [H4]; · iexact H4
    isplitl [H14]; · iexact H14
    iexact H15
  iintro %w ⟨H3, H4, H14, H15⟩
  iapply Hk $$ %w H3 H4 H14 H15

end Call

/-! ## What a step leaves -/

/-- The strips before and with strip `u`, one after another: the state of strip `u` once it is done. -/
def step0 (X : Blocks F) (g : ℕ) (accK accV : Vec F S8192x128 .f32) : Loop F := chain X 0 (4 * g + 0) accK accV
def step1 (X : Blocks F) (g : ℕ) (accK accV : Vec F S8192x128 .f32) : Loop F :=
  chain X 1 (4 * g + 1) (step0 X g accK accV).accK (step0 X g accK accV).accV
def step2 (X : Blocks F) (g : ℕ) (accK accV : Vec F S8192x128 .f32) : Loop F :=
  chain X 2 (4 * g + 2) (step1 X g accK accV).accK (step1 X g accK accV).accV
def step3 (X : Blocks F) (g : ℕ) (accK accV : Vec F S8192x128 .f32) : Loop F :=
  chain X 3 (4 * g + 3) (step2 X g accK accV).accK (step2 X g accK accV).accV

/-- The queries' gradient block, written strip by strip over `d`. -/
def outs (X : Blocks F) (g : ℕ) (accK accV : Vec F S8192x128 .f32) (d : Vec F S1024x128 .bf16) : Vec F S1024x128 .bf16 :=
  VecWindow.put (VecWindow.put (VecWindow.put (VecWindow.put d ![0, 0] S256x128.size (k0_pay136 (step0 X g accK accV).dq))
    ![256, 0] S256x128.size (k0_pay136 (step1 X g accK accV).dq)) ![512, 0] S256x128.size (k0_pay136 (step2 X g accK accV).dq))
    ![768, 0] S256x128.size (k0_pay136 (step3 X g accK accV).dq)

section Body

variable (c : Dev nD) (i : grid0.Coords)
variable (arg2 : Memref sig .tc .vmem S1024x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .bf16) (harg6 : arg6.IsWhole)
  (arg7 : Memref sig .tc .vmem S256x256 .bf16) (harg7 : arg7.IsWhole)
  (arg8 : Memref sig .tc .vmem S1x4x2x512x256 .bf16) (harg8 : arg8.IsWhole)
  (arg9 : Memref sig .tc .vmem S1x4x2x512x256 .bf16) (harg9 : arg9.IsWhole)
  (arg10 : Memref sig .tc .vmem S1x4x512x128 .f32) (harg10 : arg10.IsWhole)
  (arg11 : Memref sig .tc .vmem S1024x128 .bf16) (harg11 : arg11.IsWhole)
  (arg12 : Memref sig .tc .vmem S8192x128 .bf16) (harg12 : arg12.IsWhole)
  (arg13 : Memref sig .tc .vmem S8192x128 .bf16) (harg13 : arg13.IsWhole)
  (arg14 : Memref sig .tc .vmem S8192x128 .f32) (harg14 : arg14.IsWhole)
  (arg15 : Memref sig .tc .vmem S8192x128 .f32) (harg15 : arg15.IsWhole)

set_option maxHeartbeats 400000 in
/-- The body. -/
theorem body_run (X : Blocks F) (x11 : Vec F S1024x128 .bf16) (x12 x13 : Vec F S8192x128 .bf16) (x14 x15 : Vec F S8192x128 .f32) {K : PUnit → sProp 𝕄} :
    (own c arg2 X.q : sProp 𝕄) ⊢ iprop(own c arg3 X.k -∗ own c arg4 X.v -∗ own c arg5 X.o -∗ own c arg6 X.ct -∗ own c arg7 X.tri -∗ own c arg8 X.a -∗ own c arg9 X.beta -∗ own c arg10 X.run -∗ own c arg11 x11 -∗ own c arg12 x12 -∗ own c arg13 x13 -∗ own c arg14 x14 -∗ own c arg15 x15 -∗
      (own c arg2 X.q -∗ own c arg3 X.k -∗ own c arg4 X.v -∗ own c arg5 X.o -∗ own c arg6 X.ct -∗ own c arg7 X.tri -∗ own c arg8 X.a -∗ own c arg9 X.beta -∗ own c arg10 X.run -∗ own c arg11 (outs X (i 1).val (if isFirst i then k0_pay13 else x14) (if isFirst i then k0_pay14 else x15) x11) -∗ own c arg12 (if k0_cond2 i = 1#1 then k0_pay3 (step3 X (i 1).val (if isFirst i then k0_pay13 else x14) (if isFirst i then k0_pay14 else x15)).accK else x12) -∗ own c arg13 (if k0_cond2 i = 1#1 then k0_pay4 (step3 X (i 1).val (if isFirst i then k0_pay13 else x14) (if isFirst i then k0_pay14 else x15)).accV else x13) -∗ own c arg14 (step3 X (i 1).val (if isFirst i then k0_pay13 else x14) (if isFirst i then k0_pay14 else x15)).accK -∗ own c arg15 (step3 X (i 1).val (if isFirst i then k0_pay13 else x14) (if isFirst i then k0_pay14 else x15)).accV -∗ K ⟨⟩) -∗
      does c (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K) := by
  rw [cc0_attn_bwd_eq_skeleton]; unfold cc0_attn_bwd_skel
  iintro H2 H3 H4 H5 H6 H7 H8 H9 H10 H11 H12 H13 H14 H15 Hk
  iapply (part1_run c) $$ H7 H6 H2 H14 H15; iintro H7 H6 H2 H14 H15
  generalize ek : (if isFirst i then k0_pay13 else x14) = aK
  generalize ev : (if isFirst i then k0_pay14 else x15) = aV
  have e0 : chain X 0 (4 * (i 1).val + 0) aK aV = step0 X (i 1).val aK aV := rfl
  have e1 : chain X 1 (4 * (i 1).val + 1) (step0 X (i 1).val aK aV).accK (step0 X (i 1).val aK aV).accV = step1 X (i 1).val aK aV := rfl
  have e2 : chain X 2 (4 * (i 1).val + 2) (step1 X (i 1).val aK aV).accK (step1 X (i 1).val aK aV).accV = step2 X (i 1).val aK aV := rfl
  have e3 : chain X 3 (4 * (i 1).val + 3) (step2 X (i 1).val aK aV).accK (step2 X (i 1).val aK aV).accV = step3 X (i 1).val aK aV := rfl
  iapply (part2_run c) $$ H5 H8 H9 H3 H4; iintro H5 H8 H9 H3 H4
  iapply (part3_run c) $$ H8; iintro H8
  iapply (part4_run c) $$ H9 H3 H4; iintro H9 H3 H4
  simp only [window_tri _ (off := ![0, 0]) rfl, window_rows _ 0 (off := ![0, 0]) rfl, window_rows _ 1 (off := ![256, 0]) rfl, window_saved _ 0 0 (off := ![0, 0, 0, 0, 0]) rfl, window_saved _ 0 1 (off := ![0, 0, 1, 0, 0]) rfl, window_saved _ 1 0 (off := ![0, 1, 0, 0, 0]) rfl, window_saved _ 1 1 (off := ![0, 1, 1, 0, 0]) rfl, window_sums _ 0 (off := ![0, 0, 0, 0]) rfl, window_sums _ 1 (off := ![0, 1, 0, 0]) rfl, window_strip _ (off1_0 i), window_strip _ (off2_0 i), window_strip _ (off1_1 i), window_strip _ (off2_1 i), dq0_0, dk0_0, dq1_0, dk1_0, dv1_0, g1_0, qs_1, dos_1, dtot_1, dq0_1, dk0_1, dv0_1, g0_1, dq1_1, dk1_1, dv1_1, g1_1, run_1]
  iapply (part5_run c) $$ H10 H6 H2 H5; iintro H10 H6 H2 H5
  iapply (part6_run c) $$ H8 H9 H3 H4; iintro H8 H9 H3 H4
  iapply (part7_run c) $$ H8 H9 H3 H4; iintro H8 H9 H3 H4
  iapply (part8_run c) $$ H10 H6 H2; iintro H10 H6 H2
  simp only [window_rows _ 1 (off := ![256, 0]) rfl, window_rows _ 2 (off := ![512, 0]) rfl, window_saved _ 1 0 (off := ![0, 1, 0, 0, 0]) rfl, window_saved _ 1 1 (off := ![0, 1, 1, 0, 0]) rfl, window_saved _ 2 0 (off := ![0, 2, 0, 0, 0]) rfl, window_saved _ 2 1 (off := ![0, 2, 1, 0, 0]) rfl, window_sums _ 1 (off := ![0, 1, 0, 0]) rfl, window_sums _ 2 (off := ![0, 2, 0, 0]) rfl, window_strip _ (off1_1 i), window_strip _ (off2_1 i), window_strip _ (off1_2 i), window_strip _ (off2_2 i), qs_1, dos_1, dtot_1, dq0_1, dk0_1, dv0_1, g0_1, dq1_1, dk1_1, dv1_1, g1_1, run_1, qs_2, dos_2, dtot_2, dq0_2, dk0_2, dv0_2, g0_2, dq1_2, dk1_2, dv1_2, g1_2, run_2]
  iapply (part9_run c) $$ H5 H8; iintro H5 H8
  iapply (part10_run c) $$ H9 H3 H4; iintro H9 H3 H4
  iapply (part11_run c) $$ H8 H9 H3 H4; iintro H8 H9 H3 H4
  iapply (part12_run c) $$ H10 H6 H2; iintro H10 H6 H2
  simp only [window_rows _ 2 (off := ![512, 0]) rfl, window_rows _ 3 (off := ![768, 0]) rfl, window_saved _ 2 0 (off := ![0, 2, 0, 0, 0]) rfl, window_saved _ 2 1 (off := ![0, 2, 1, 0, 0]) rfl, window_saved _ 3 0 (off := ![0, 3, 0, 0, 0]) rfl, window_saved _ 3 1 (off := ![0, 3, 1, 0, 0]) rfl, window_sums _ 2 (off := ![0, 2, 0, 0]) rfl, window_sums _ 3 (off := ![0, 3, 0, 0]) rfl, window_strip _ (off1_2 i), window_strip _ (off2_2 i), window_strip _ (off1_3 i), window_strip _ (off2_3 i), qs_2, dos_2, dtot_2, dq0_2, dk0_2, dv0_2, g0_2, dq1_2, dk1_2, dv1_2, g1_2, run_2, qs_3, dos_3, dtot_3, dq0_3, dk0_3, dv0_3, g0_3, dq1_3, dk1_3, dv1_3, g1_3, run_3]
  iapply (part13_run c) $$ H5 H8 H9 H3 H4; iintro H5 H8 H9 H3 H4
  iapply (part14_run c) $$ H8 H9; iintro H8 H9
  iapply (part15_run c) $$ H3 H4 H10 H14; iintro H3 H4 H10 H14
  simp only [window_tri _ (off := ![0, 0]) rfl, window_rows _ 0 (off := ![0, 0]) rfl, window_rows _ 1 (off := ![256, 0]) rfl, window_rows _ 2 (off := ![512, 0]) rfl, window_rows _ 3 (off := ![768, 0]) rfl, window_saved _ 0 0 (off := ![0, 0, 0, 0, 0]) rfl, window_saved _ 0 1 (off := ![0, 0, 1, 0, 0]) rfl, window_saved _ 1 0 (off := ![0, 1, 0, 0, 0]) rfl, window_saved _ 1 1 (off := ![0, 1, 1, 0, 0]) rfl, window_saved _ 2 0 (off := ![0, 2, 0, 0, 0]) rfl, window_saved _ 2 1 (off := ![0, 2, 1, 0, 0]) rfl, window_saved _ 3 0 (off := ![0, 3, 0, 0, 0]) rfl, window_saved _ 3 1 (off := ![0, 3, 1, 0, 0]) rfl, window_sums _ 0 (off := ![0, 0, 0, 0]) rfl, window_sums _ 1 (off := ![0, 1, 0, 0]) rfl, window_sums _ 2 (off := ![0, 2, 0, 0]) rfl, window_sums _ 3 (off := ![0, 3, 0, 0]) rfl, window_strip _ (off1_0 i), window_strip _ (off2_0 i), window_strip _ (off1_1 i), window_strip _ (off2_1 i), window_strip _ (off1_2 i), window_strip _ (off2_2 i), window_strip _ (off1_3 i), window_strip _ (off2_3 i), dq0_0, dk0_0, dq1_0, dk1_0, dv1_0, g1_0, qs_1, dos_1, dtot_1, dq0_1, dk0_1, dv0_1, g0_1, dq1_1, dk1_1, dv1_1, g1_1, run_1, qs_2, dos_2, dtot_2, dq0_2, dk0_2, dv0_2, g0_2, dq1_2, dk1_2, dv1_2, g1_2, run_2, qs_3, dos_3, dtot_3, dq0_3, dk0_3, dv0_3, g0_3, dq1_3, dk1_3, dv1_3, g1_3, run_3]
  simp only [k0_part16_eq_skeleton, k0_part17_eq_skeleton, k0_part18_eq_skeleton]; unfold k0_part16_skel k0_part17_skel k0_part18_skel
  simp only [Prog.lift, Prog.bind_op, Prog.bind_ret, Prog.pure_eq_ret]
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  simp only [window_strip _ (off1_0 i), window_strip _ (off2_0 i), put_strip _ (off1_0 i), put_strip _ (off2_0 i), add_a, addK_137, addK_139, addK_142, addK_144, addK_147, addK_149, addV_133, addV_138, addV_140, addV_143, addV_145, addV_148, addV_1, out_141, out_146, out_2]
  iapply (call1 c (counter_0 i)) $$ H3 H4 H14 H15; iintro %w0 H3 H4 H14 H15
  simp only [chain_eq X 0 (4 * (i 1).val + 0)]
  simp only [e0]
  iapply (load_owned _ _ _ _) $$ H11; iintro H11
  iapply (store_owned _ _ _ _) $$ H11; iintro H11
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  simp only [window_strip _ (off1_1 i), window_strip _ (off2_1 i), put_strip _ (off1_1 i), put_strip _ (off2_1 i), add_a, addK_137, addK_139, addK_142, addK_144, addK_147, addK_149, addV_133, addV_138, addV_140, addV_143, addV_145, addV_148, addV_1, out_141, out_146, out_2]
  iapply (call2 c (counter_1 i)) $$ H3 H4 H14 H15; iintro %w1 H3 H4 H14 H15
  simp only [chain_eq X 1 (4 * (i 1).val + 1)]
  simp only [e1]
  iapply (load_owned _ _ _ _) $$ H11; iintro H11
  iapply (store_owned _ _ _ _) $$ H11; iintro H11
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  simp only [window_strip _ (off1_2 i), window_strip _ (off2_2 i), put_strip _ (off1_2 i), put_strip _ (off2_2 i), add_a, addK_137, addK_139, addK_142, addK_144, addK_147, addK_149, addV_133, addV_138, addV_140, addV_143, addV_145, addV_148, addV_1, out_141, out_146, out_2]
  iapply (call3 c (counter_2 i)) $$ H3 H4 H14 H15; iintro %w2 H3 H4 H14 H15
  simp only [chain_eq X 2 (4 * (i 1).val + 2)]
  simp only [e2]
  iapply (load_owned _ _ _ _) $$ H11; iintro H11
  iapply (store_owned _ _ _ _) $$ H11; iintro H11
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  iapply (load_owned _ _ _ _) $$ H14; iintro H14
  iapply (load_owned _ _ _ _) $$ H14; iintro H14
  iapply (store_owned _ _ _ _) $$ H14; iintro H14
  iapply (load_owned _ _ _ _) $$ H15; iintro H15
  iapply (load_owned _ _ _ _) $$ H15; iintro H15
  iapply (store_owned _ _ _ _) $$ H15; iintro H15
  simp only [window_strip _ (off1_3 i), window_strip _ (off2_3 i), put_strip _ (off1_3 i), put_strip _ (off2_3 i), add_a, addK_137, addK_139, addK_142, addK_144, addK_147, addK_149, addV_133, addV_138, addV_140, addV_143, addV_145, addV_148, addV_1, out_141, out_146, out_2]
  iapply (call4 c (counter_3 i)) $$ H3 H4 H14 H15; iintro %w3 H3 H4 H14 H15
  simp only [chain_eq X 3 (4 * (i 1).val + 3)]
  simp only [e3]
  iapply (load_owned _ _ _ _) $$ H11; iintro H11
  iapply (store_owned _ _ _ _) $$ H11; iintro H11
  simp only [add_a, addK_137, addK_139, addK_142, addK_144, addK_147, addK_149, addV_133, addV_138, addV_140, addV_143, addV_145, addV_148, addV_1, out_141, out_146, out_2]
  by_cases h : k0_cond2 i = 1#1
  · simp only [h, ↓reduceIte, ↓reduceDIte, Prog.lift, Prog.bind_op, Prog.bind_ret, Prog.pure_eq_ret]
    iapply (load_owned _ _ _ _) $$ H14; iintro H14
    iapply (load_owned _ _ _ _) $$ H12; iintro H12
    iapply (store_owned _ _ _ _) $$ H12; iintro H12
    iapply (load_owned _ _ _ _) $$ H15; iintro H15
    iapply (load_owned _ _ _ _) $$ H13; iintro H13
    iapply (store_owned _ _ _ _) $$ H13; iintro H13
    have e12 : ∀ w, VecWindow.put (s := S8192x128) x12 ![0, 0] ![8192, 128] w = w := put_all x12
    have e13 : ∀ w, VecWindow.put (s := S8192x128) x13 ![0, 0] ![8192, 128] w = w := put_all x13
    rw [e12, e13]
    simp only [window_all _ (off := ![0, 0]) rfl]
    unfold outs
    rw [wp_ret]; imodintro
    iapply Hk $$ H2 H3 H4 H5 H6 H7 H8 H9 H10 H11 H12 H13 H14 H15
  · simp only [h, ↓reduceIte, ↓reduceDIte, Prog.lift, Prog.bind_op, Prog.bind_ret, Prog.pure_eq_ret]
    unfold outs
    rw [wp_ret]; imodintro
    iapply Hk $$ H2 H3 H4 H5 H6 H7 H8 H9 H10 H11 H12 H13 H14 H15

end Body

end Cert.Proof.Attn

end
-- ==== Proof.AttnFrame.lean ====
module

public import proofs.«01_k».proof.Proof.AttnBody

/-!
  The run of the attention gradient: what the two accumulators hold after every point, the proof data of the pipeline, and
  the launch. Every statement is over any values.
-/

@[expose] public section

set_option maxRecDepth 16384

noncomputable section

namespace Cert.Proof.Attn

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point leaves -/

/-- The output block does not depend on what its buffer held: the four stores cover it. -/
theorem outs_any (X : Blocks F) (g : ℕ) (aK aV : Vec F S8192x128 .f32) (d d' : Vec F S1024x128 .bf16) : outs X g aK aV d = outs X g aK aV d' := by
  funext y
  have h0 : (y 0).val < 1024 := (y 0).isLt
  have h1 : (y 1).val < 128 := (y 1).isLt
  unfold outs VecWindow.put
  by_cases c3 : ∀ a, (![768, 0] : Fin 2 → ℕ) a ≤ (y a).val ∧ (y a).val < (![768, 0] : Fin 2 → ℕ) a + S256x128.size a
  · rw [dif_pos c3, dif_pos c3]
  rw [dif_neg c3, dif_neg c3]
  by_cases c2 : ∀ a, (![512, 0] : Fin 2 → ℕ) a ≤ (y a).val ∧ (y a).val < (![512, 0] : Fin 2 → ℕ) a + S256x128.size a
  · rw [dif_pos c2, dif_pos c2]
  rw [dif_neg c2, dif_neg c2]
  by_cases c1 : ∀ a, (![256, 0] : Fin 2 → ℕ) a ≤ (y a).val ∧ (y a).val < (![256, 0] : Fin 2 → ℕ) a + S256x128.size a
  · rw [dif_pos c1, dif_pos c1]
  rw [dif_neg c1, dif_neg c1]
  by_cases c0 : ∀ a, (![0, 0] : Fin 2 → ℕ) a ≤ (y a).val ∧ (y a).val < (![0, 0] : Fin 2 → ℕ) a + S256x128.size a
  · rw [dif_pos c0, dif_pos c0]
  exfalso
  have hin : ∀ off : ℕ, off ≤ (y 0).val → (y 0).val < off + 256 → ∀ a, (![off, 0] : Fin 2 → ℕ) a ≤ (y a).val ∧ (y a).val < (![off, 0] : Fin 2 → ℕ) a + S256x128.size a := by
    intro off g0 g1 a
    match a with
    | ⟨0, _⟩ => exact ⟨g0, g1⟩
    | ⟨1, _⟩ => exact ⟨Nat.zero_le _, by show (y 1).val < 0 + 128; omega⟩
  by_cases a0 : (y 0).val < 256
  · exact c0 (hin 0 (by omega) (by omega))
  by_cases a1 : (y 0).val < 512
  · exact c1 (hin 256 (by omega) (by omega))
  by_cases a2 : (y 0).val < 768
  · exact c2 (hin 512 (by omega) (by omega))
  exact c3 (hin 768 (by omega) (by omega))

/-- The blocks of the inputs at point `t`. -/
def blocksAt (c : Dev nD) (t : Fin (cfg0 (F := F)).N) : Blocks F :=
  ⟨iblk m c 0 t, iblk m c 1 t, iblk m c 2 t, iblk m c 3 t, iblk m c 4 t, iblk m c 5 t, iblk m c 6 t, iblk m c 7 t, iblk m c 8 t⟩

/-- The step of point `t` among those of its pair of heads. -/
def stepOf (t : Fin (cfg0 (F := F)).N) : ℕ := (grid0.coords t 1).val

/-- The two accumulators after point `n`: zeroed at the first step of a pair of heads, and at what the point before left otherwise,
    then taken through the four chains of the point. -/
def accAfter (c : Dev nD) : (n : ℕ) → n < (cfg0 (F := F)).N → Vec F S8192x128 .f32 × Vec F S8192x128 .f32
  | 0, h => ((step3 (blocksAt m c ⟨0, h⟩) (stepOf ⟨0, h⟩) k0_pay13 k0_pay14).accK, (step3 (blocksAt m c ⟨0, h⟩) (stepOf ⟨0, h⟩) k0_pay13 k0_pay14).accV)
  | n + 1, h =>
    let aK := if (n + 1) % 8 = 0 then k0_pay13 else (accAfter c n (Nat.lt_of_succ_lt h)).1
    let aV := if (n + 1) % 8 = 0 then k0_pay14 else (accAfter c n (Nat.lt_of_succ_lt h)).2
    ((step3 (blocksAt m c ⟨n + 1, h⟩) (stepOf ⟨n + 1, h⟩) aK aV).accK, (step3 (blocksAt m c ⟨n + 1, h⟩) (stepOf ⟨n + 1, h⟩) aK aV).accV)

/-- The keys' accumulator as the chains of point `n` find it. -/
def startK (c : Dev nD) : (n : ℕ) → n < (cfg0 (F := F)).N → Vec F S8192x128 .f32
  | 0, _ => k0_pay13
  | n + 1, h => if (n + 1) % 8 = 0 then k0_pay13 else (accAfter m c n (Nat.lt_of_succ_lt h)).1

/-- The values' accumulator as the chains of point `n` find it. -/
def startV (c : Dev nD) : (n : ℕ) → n < (cfg0 (F := F)).N → Vec F S8192x128 .f32
  | 0, _ => k0_pay14
  | n + 1, h => if (n + 1) % 8 = 0 then k0_pay14 else (accAfter m c n (Nat.lt_of_succ_lt h)).2

theorem accAfter_eq (c : Dev nD) (n : ℕ) (h : n < (cfg0 (F := F)).N) :
    accAfter m c n h = ((step3 (blocksAt m c ⟨n, h⟩) (stepOf ⟨n, h⟩) (startK m c n h) (startV m c n h)).accK,
      (step3 (blocksAt m c ⟨n, h⟩) (stepOf ⟨n, h⟩) (startK m c n h) (startV m c n h)).accV) := by
  cases n with
  | zero => rfl
  | succ n => rfl

/-- The queries' gradient of point `t`, and the two accumulators rounded. -/
def leftQ (c : Dev nD) (t : Fin (cfg0 (F := F)).N) : Vec F S1024x128 .bf16 := outs (blocksAt m c t) (stepOf t) (startK m c t.val t.isLt) (startV m c t.val t.isLt) (iblk m c 0 t)
def leftK (c : Dev nD) (t : Fin (cfg0 (F := F)).N) : Vec F S8192x128 .bf16 := k0_pay3 (accAfter m c t.val t.isLt).1
def leftV (c : Dev nD) (t : Fin (cfg0 (F := F)).N) : Vec F S8192x128 .bf16 := k0_pay4 (accAfter m c t.val t.isLt).2

/-! ## The proof data of the pipeline -/

/-- The invariant before position `n`: the accumulators at what the point before left, at anything before the first one, and the
    generator's register. -/
def PhiS (c : Dev nD) : (n : ℕ) → n ≤ (cfg0 (F := F)).N → sProp 𝕄
  | 0, _ => Pipeline.ΦA spec0 c
  | n + 1, hn => iprop(iprop(own c accK (accAfter m c n hn).1 ∗ own c accV (accAfter m c n hn).2) ∗ (∃ r, prngReg c r))

theorem PhiS_zero (c : Dev nD) (n : ℕ) (h : n ≤ (cfg0 (F := F)).N) (hz : n = 0) : PhiS m c n h = Pipeline.ΦA spec0 c := by
  subst hz; rfl

theorem PhiS_succ (c : Dev nD) (n : ℕ) (hn : n < (cfg0 (F := F)).N) :
    PhiS m c (n + 1) hn = iprop(iprop(own c accK (accAfter m c n hn).1 ∗ own c accV (accAfter m c n hn).2) ∗ (∃ r, prngReg c r)) := rfl

theorem PhiS_pos (c : Dev nD) (n : ℕ) (h : n ≤ (cfg0 (F := F)).N) (hz : n ≠ 0) :
    PhiS m c n h = iprop(iprop(own c accK (accAfter m c (n - 1) (by omega)).1 ∗ own c accV (accAfter m c (n - 1) (by omega)).2) ∗ (∃ r, prngReg c r)) := by
  cases n with
  | zero => exact absurd rfl hz
  | succ n => rfl

/-- The proof data: the arrays as the grid finds them; after a point each input at its block and each output at what the point
    leaves; the invariant above; nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => leftQ m c t
    | ⟨10, _⟩ => leftK m c t
    | ⟨11, _⟩ => leftV m c t
  Φ t := PhiS m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem PhiS_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl
theorem after0_8 (c : Dev nD) (t : Fin (cfg0 (F := F)).N) : (dats m 0 c).after 8 t = iblk m c 8 t := by dsimp only [dats]; rfl
theorem after0_9 (c : Dev nD) (t : Fin (cfg0 (F := F)).N) : (dats m 0 c).after 9 t = leftQ m c t := by dsimp only [dats]; rfl
theorem after0_10 (c : Dev nD) (t : Fin (cfg0 (F := F)).N) : (dats m 0 c).after 10 t = leftK m c t := by dsimp only [dats]; rfl
theorem after0_11 (c : Dev nD) (t : Fin (cfg0 (F := F)).N) : (dats m 0 c).after 11 t = leftV m c t := by dsimp only [dats]; rfl

/-- Every input's buffer holds its block at every point, brought in there or before. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 (F := F)).N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin (cfg0 (F := F)).N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-! ## The body at a point -/

def bodyPre (c : Dev nD) (t : Fin (cfg0 (F := F)).N) : sProp 𝕄 :=
  iprop((dats m 0 c).Φ t.castSucc ∗ (dats m 0 c).owesAt () t.castSucc
    ∗ (∃ d, own c (ms0 t) ((dats m 0 c).before 0 t d))
    ∗ (∃ d, own c (ms1 t) ((dats m 0 c).before 1 t d))
    ∗ (∃ d, own c (ms2 t) ((dats m 0 c).before 2 t d))
    ∗ (∃ d, own c (ms3 t) ((dats m 0 c).before 3 t d))
    ∗ (∃ d, own c (ms4 t) ((dats m 0 c).before 4 t d))
    ∗ (∃ d, own c (ms5 t) ((dats m 0 c).before 5 t d))
    ∗ (∃ d, own c (ms6 t) ((dats m 0 c).before 6 t d))
    ∗ (∃ d, own c (ms7 t) ((dats m 0 c).before 7 t d))
    ∗ (∃ d, own c (ms8 t) ((dats m 0 c).before 8 t d))
    ∗ (∃ d, own c (ms9 t) ((dats m 0 c).before 9 t d))
    ∗ (∃ d, own c (ms10 t) ((dats m 0 c).before 10 t d))
    ∗ (∃ d, own c (ms11 t) ((dats m 0 c).before 11 t d)))

def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- What the buffer of the keys' gradient is left at: written at the last step of a pair of heads, untouched at any other. -/
theorem leaves_10 (c : Dev nD) (t : Fin (cfg0 (F := F)).N) (d) (x : Vec F S8192x128 .bf16) (hx : x = (dats m 0 c).before 10 t d) :
    (own c (ms10 t) (if k0_cond2 (grid0.coords t) = 1#1 then k0_pay3 (accAfter m c t.val t.isLt).1 else x) : sProp 𝕄) ⊢ (dats m 0 c).leavesExact 10 t := by
  by_cases h : k0_cond2 (grid0.coords t) = 1#1
  · rw [if_pos h, show (dats m 0 c).leavesExact 10 t = own c (ms10 t) ((dats m 0 c).after 10 t) from by
      unfold Dat.leavesExact; rw [live_10 t h]; try rfl, after0_10]
    exact Idealize.SL.BI.Entails.refl _
  · rw [if_neg h, Dat.leavesExact_idle (dats m 0 c) 10 t (idle_10 t h) (noFlush_10 t h)]
    iintro H; subst hx; iexists d; iexact H

theorem leaves_11 (c : Dev nD) (t : Fin (cfg0 (F := F)).N) (d) (x : Vec F S8192x128 .bf16) (hx : x = (dats m 0 c).before 11 t d) :
    (own c (ms11 t) (if k0_cond2 (grid0.coords t) = 1#1 then k0_pay4 (accAfter m c t.val t.isLt).2 else x) : sProp 𝕄) ⊢ (dats m 0 c).leavesExact 11 t := by
  by_cases h : k0_cond2 (grid0.coords t) = 1#1
  · rw [if_pos h, show (dats m 0 c).leavesExact 11 t = own c (ms11 t) ((dats m 0 c).after 11 t) from by
      unfold Dat.leavesExact; rw [live_11 t h]; try rfl, after0_11]
    exact Idealize.SL.BI.Entails.refl _
  · rw [if_neg h, Dat.leavesExact_idle (dats m 0 c) 11 t (idle_11 t h) (noFlush_11 t h)]
    iintro H; subst hx; iexists d; iexact H

/-- The accumulators as the invariant gives them to the body: some contents which, unless they are zeroed, are those the point starts from. -/
theorem accs_in (c : Dev nD) (t : Fin (cfg0 (F := F)).N) :
    PhiS m c t.val (Nat.le_of_lt t.isLt) ⊢ iprop(∃ x y, ⌜(if isFirst (grid0.coords t) then k0_pay13 else x) = startK m c t.val t.isLt ∧ (if isFirst (grid0.coords t) then k0_pay14 else y) = startV m c t.val t.isLt⌝
      ∗ own c accK x ∗ own c accV y ∗ (∃ r, prngReg c r)) := by
  obtain ⟨n, hn⟩ := t
  cases n with
  | zero =>
    have hf : isFirst (grid0.coords (⟨0, hn⟩ : Fin (cfg0 (F := F)).N)) := (isFirst_iff ⟨0, hn⟩).mpr rfl
    rw [PhiS_zero m c _ _ rfl, PhiA_eq]
    iintro ⟨⟨⟨%x, H0⟩, ⟨%y, H1⟩⟩, Hg⟩
    iexists x; iexists y
    isplitr; · ipureintro; rw [if_pos hf, if_pos hf]; exact ⟨rfl, rfl⟩
    isplitl [H0]; · iexact H0
    isplitl [H1]; · iexact H1
    iexact Hg
  | succ n =>
    rw [PhiS_succ m c n (Nat.lt_of_succ_lt hn)]
    iintro ⟨⟨H0, H1⟩, Hg⟩
    iexists _; iexists _
    isplitr
    swap
    · isplitl [H0]; · iexact H0
      isplitl [H1]; · iexact H1
      iexact Hg
    ipureintro
    by_cases h : (n + 1) % 8 = 0
    · have hf : isFirst (grid0.coords (⟨n + 1, hn⟩ : Fin (cfg0 (F := F)).N)) := (isFirst_iff ⟨n + 1, hn⟩).mpr h
      rw [if_pos hf, if_pos hf]; exact ⟨(if_pos h).symm, (if_pos h).symm⟩
    · have hf : ¬ isFirst (grid0.coords (⟨n + 1, hn⟩ : Fin (cfg0 (F := F)).N)) := fun k => h ((isFirst_iff ⟨n + 1, hn⟩).mp k)
      rw [if_neg hf, if_neg hf]; exact ⟨(if_neg h).symm, (if_neg h).symm⟩

set_option maxHeartbeats 4000000 in
/-- The body's triple at the buffers and the blocks of point `t`. -/
theorem point_run (c : Dev nD) (t : Fin (cfg0 (F := F)).N) (x11 : Vec F S1024x128 .bf16) (x12 x13 : Vec F S8192x128 .bf16) (x y : Vec F S8192x128 .f32) {K : PUnit → sProp 𝕄} :
    (own c (ms0 t) (iblk m c 0 t) : sProp 𝕄) ⊢ iprop(own c (ms1 t) (iblk m c 1 t) -∗ own c (ms2 t) (iblk m c 2 t) -∗ own c (ms3 t) (iblk m c 3 t) -∗ own c (ms4 t) (iblk m c 4 t) -∗ own c (ms5 t) (iblk m c 5 t) -∗ own c (ms6 t) (iblk m c 6 t) -∗ own c (ms7 t) (iblk m c 7 t) -∗ own c (ms8 t) (iblk m c 8 t) -∗ own c (ms9 t) x11 -∗ own c (ms10 t) x12 -∗ own c (ms11 t) x13 -∗ own c accK x -∗ own c accV y -∗
      (own c (ms0 t) (iblk m c 0 t) -∗ own c (ms1 t) (iblk m c 1 t) -∗ own c (ms2 t) (iblk m c 2 t) -∗ own c (ms3 t) (iblk m c 3 t) -∗ own c (ms4 t) (iblk m c 4 t) -∗ own c (ms5 t) (iblk m c 5 t) -∗ own c (ms6 t) (iblk m c 6 t) -∗ own c (ms7 t) (iblk m c 7 t) -∗ own c (ms8 t) (iblk m c 8 t) -∗ own c (ms9 t) (outs (blocksAt m c t) (grid0.coords t 1).val (if isFirst (grid0.coords t) then k0_pay13 else x) (if isFirst (grid0.coords t) then k0_pay14 else y) x11)
        -∗ own c (ms10 t) (if k0_cond2 (grid0.coords t) = 1#1 then k0_pay3 (step3 (blocksAt m c t) (grid0.coords t 1).val (if isFirst (grid0.coords t) then k0_pay13 else x) (if isFirst (grid0.coords t) then k0_pay14 else y)).accK else x12)
        -∗ own c (ms11 t) (if k0_cond2 (grid0.coords t) = 1#1 then k0_pay4 (step3 (blocksAt m c t) (grid0.coords t 1).val (if isFirst (grid0.coords t) then k0_pay13 else x) (if isFirst (grid0.coords t) then k0_pay14 else y)).accV else x13)
        -∗ own c accK (step3 (blocksAt m c t) (grid0.coords t 1).val (if isFirst (grid0.coords t) then k0_pay13 else x) (if isFirst (grid0.coords t) then k0_pay14 else y)).accK -∗ own c accV (step3 (blocksAt m c t) (grid0.coords t 1).val (if isFirst (grid0.coords t) then k0_pay13 else x) (if isFirst (grid0.coords t) then k0_pay14 else y)).accV -∗ K ⟨⟩) -∗
      does c (bodyAt0 t) K) :=
  body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) accK (Memref.isWhole_whole _) accV (Memref.isWhole_whole _) (blocksAt m c t) x11 x12 x13 x y

set_option maxHeartbeats 4000000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = own c (ms0 t) ((dats m 0 c).after 0 t) from by
    unfold Dat.leavesExact; rw [show (cfg0 (F := F)).idle 0 (grid0.coords t) = false from rfl]; try rfl, after0_0]
  rw [show (dats m 0 c).leavesExact 1 t = own c (ms1 t) ((dats m 0 c).after 1 t) from by
    unfold Dat.leavesExact; rw [show (cfg0 (F := F)).idle 1 (grid0.coords t) = false from rfl]; try rfl, after0_1]
  rw [show (dats m 0 c).leavesExact 2 t = own c (ms2 t) ((dats m 0 c).after 2 t) from by
    unfold Dat.leavesExact; rw [show (cfg0 (F := F)).idle 2 (grid0.coords t) = false from rfl]; try rfl, after0_2]
  rw [show (dats m 0 c).leavesExact 3 t = own c (ms3 t) ((dats m 0 c).after 3 t) from by
    unfold Dat.leavesExact; rw [show (cfg0 (F := F)).idle 3 (grid0.coords t) = false from rfl]; try rfl, after0_3]
  rw [show (dats m 0 c).leavesExact 4 t = own c (ms4 t) ((dats m 0 c).after 4 t) from by
    unfold Dat.leavesExact; rw [show (cfg0 (F := F)).idle 4 (grid0.coords t) = false from rfl]; try rfl, after0_4]
  rw [show (dats m 0 c).leavesExact 5 t = own c (ms5 t) ((dats m 0 c).after 5 t) from by
    unfold Dat.leavesExact; rw [show (cfg0 (F := F)).idle 5 (grid0.coords t) = false from rfl]; try rfl, after0_5]
  rw [show (dats m 0 c).leavesExact 6 t = own c (ms6 t) ((dats m 0 c).after 6 t) from by
    unfold Dat.leavesExact; rw [show (cfg0 (F := F)).idle 6 (grid0.coords t) = false from rfl]; try rfl, after0_6]
  rw [show (dats m 0 c).leavesExact 7 t = own c (ms7 t) ((dats m 0 c).after 7 t) from by
    unfold Dat.leavesExact; rw [show (cfg0 (F := F)).idle 7 (grid0.coords t) = false from rfl]; try rfl, after0_7]
  rw [show (dats m 0 c).leavesExact 8 t = own c (ms8 t) ((dats m 0 c).after 8 t) from by
    unfold Dat.leavesExact; rw [show (cfg0 (F := F)).idle 8 (grid0.coords t) = false from rfl]; try rfl, after0_8]
  rw [show (dats m 0 c).leavesExact 9 t = own c (ms9 t) ((dats m 0 c).after 9 t) from by
    unfold Dat.leavesExact; rw [show (cfg0 (F := F)).idle 9 (grid0.coords t) = false from rfl]; try rfl, after0_9]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HP := (accs_in m c t) $$ HP
  icases HP with ⟨%x, %y, %hxy, HS0, HS1, Hg⟩
  obtain ⟨hx, hy⟩ := hxy
  iapply (point_run m c t ((dats m 0 c).before 9 t d9) ((dats m 0 c).before 10 t d10) ((dats m 0 c).before 11 t d11) x y) $$ H0 H1 H2 H3 H4 H5 H6 H7 H8 H9 H10 H11 HS0 HS1
  iintro H0 H1 H2 H3 H4 H5 H6 H7 H8 H9 H10 H11 HS0 HS1
  rw [hx, hy]
  rw [show step3 (blocksAt m c t) (grid0.coords t 1).val (startK m c t.val t.isLt) (startV m c t.val t.isLt) = step3 (blocksAt m c ⟨t.val, t.isLt⟩) (stepOf ⟨t.val, t.isLt⟩) (startK m c t.val t.isLt) (startV m c t.val t.isLt) from rfl]
  have ea := accAfter_eq m c t.val t.isLt
  have ea1 := (congrArg Prod.fst ea).symm
  have ea2 := (congrArg Prod.snd ea).symm
  dsimp only at ea1 ea2
  rw [ea1, ea2]
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold leftQ
    rw [outs_any (blocksAt m c t) (stepOf t) (startK m c t.val t.isLt) (startV m c t.val t.isLt) (iblk m c 0 t) ((dats m 0 c).before 9 t d9)]
    iexact H9
  isplitl [H10]
  · iapply (leaves_10 m c t d10 _ rfl) $$ H10
  iapply (leaves_11 m c t d11 _ rfl) $$ H11

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last (cfg0 (F := F)).N) ⊢ Pipeline.ΦA spec0 c := by
  have hz : (Fin.last (cfg0 (F := F)).N).val ≠ 0 := by rw [Fin.val_last]; have : (cfg0 (F := F)).N = 32 := N_0; omega
  rw [show (dats m 0 c).Φ (Fin.last (cfg0 (F := F)).N) = PhiS m c (Fin.last (cfg0 (F := F)).N).val (Nat.le_of_lt_succ (Fin.last (cfg0 (F := F)).N).isLt) from rfl, PhiS_pos m c _ _ hz, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: from any memory with zero counters every execution ends with every array of the pipeline at what the proof data gives,
    every other unscoped buffer as the grid found it, and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hin := hin m) (hout := hout m)

/-- Both arguments end unchanged, and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (((dats m 0 c).arrAt_in 2 rfl _).trans ((A_eq m c 2).trans (V_arg m c main_arg0 (Or.inl rfl)))),
      ((h.1 c).1 4).trans (((dats m 0 c).arrAt_in 4 rfl _).trans ((A_eq m c 4).trans (V_arg m c main_arg1 (Or.inr rfl))))⟩, h.2⟩) (run m ρ)

end Cert.Proof.Attn

end
-- ==== Proof.AttnReal.lean ====
module

public import proofs.«01_k».proof.Proof.AttnBlock
public import Idealize.ShloMosaic.Lib.WordCmp

/-!
  What one turn of the loop computes over the reals. Every array of a turn is taken to hold real numbers, and each of them is
  written out: the scores, the running sums inside a block of keys, the weights, the derivative of the scores, and what these add to
  the three gradients.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.Tactic
open scoped BigOperators

/-! ## Real numbers among the extended ones -/

/-- A sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The larger of two real numbers is the same among the extended reals. -/
theorem coe_max (x y : ℝ) : ((max x y : ℝ) : EReal) = max (x : EReal) (y : EReal) :=
  (EReal.coe_strictMono.monotone.map_max : _)

/-- The logarithm of a positive real number. -/
theorem log_coe_pos {x : ℝ} (h : 0 < x) : Ideal.log (x : EReal) = (Real.log x : EReal) := by
  rw [Ideal.log_coe, if_neg (not_le.mpr h)]

/-- `- log (1 + e^{-|z|}) - max z 0` is `- log (1 + e^z)`. -/
theorem log_one_minus (z : ℝ) : 0 - Real.log (1 + Real.exp (0 - max z (-z))) - max z 0 = - Real.log (1 + Real.exp z) := by
  rcases le_total 0 z with h | h
  · rw [max_eq_left (by linarith : -z ≤ z), max_eq_left h]
    have e : 1 + Real.exp z = Real.exp z * (1 + Real.exp (0 - z)) := by
      rw [mul_add, ← Real.exp_add]; simp; ring
    rw [e, Real.log_mul (Real.exp_pos z).ne' (by positivity), Real.log_exp]
    ring
  · rw [max_eq_right (by linarith : z ≤ -z), max_eq_right h]
    simp

/-! ## The real loop -/

/-- What the loop carries, over the reals. -/
structure LoopR where
  run : Fin 512 → ℝ
  grun : Fin 512 → ℝ
  dq : Fin 256 → Fin 128 → ℝ
  accK : ℕ → Fin 128 → ℝ
  accV : ℕ → Fin 128 → ℝ

/-- The loop's constants, over the reals. -/
structure FixedR where
  Q : Fin 512 → Fin 128 → ℝ
  D : Fin 512 → Fin 128 → ℝ
  dtot : Fin 512 → ℝ
  K : ℕ → Fin 128 → ℝ
  V : ℕ → Fin 128 → ℝ

/-- The score of query `r` and key `s`. -/
def FixedR.z (C : FixedR) (r : Fin 512) (s : ℕ) : ℝ := ∑ c, C.Q r c * C.K s c
/-- The logarithm of one minus the score's sigmoid. -/
def FixedR.lg (C : FixedR) (r : Fin 512) (s : ℕ) : ℝ := - Real.log (1 + Real.exp (C.z r s))
/-- The derivative of a weight. -/
def FixedR.da (C : FixedR) (r : Fin 512) (s : ℕ) : ℝ := ∑ c, C.D r c * C.V s c

/-- Inside a block of 256, the sum from `x` on. -/
def tail (f : Fin 256 → ℝ) (x : Fin 256) : ℝ := ∑ y, if x ≤ y then f y else 0

/-- The weights of block `j` from the running sums. -/
def FixedR.wt (C : FixedR) (j : ℕ) (run : Fin 512 → ℝ) (r : Fin 512) (x : Fin 256) : ℝ :=
  Real.exp (C.z r (256 * j + x) + tail (fun y => C.lg r (256 * j + y)) x + run r)

/-- A block's weights times their derivatives. -/
def FixedR.gg (C : FixedR) (j : ℕ) (A : Fin 512 → Fin 256 → ℝ) (r : Fin 512) (x : Fin 256) : ℝ := A r x * C.da r (256 * j + x)

/-- The derivative of a block's scores. -/
def FixedR.dz (C : FixedR) (j : ℕ) (A B : Fin 512 → Fin 256 → ℝ) (left : Fin 512 → ℝ) (r : Fin 512) (x : Fin 256) : ℝ :=
  C.gg j A r x - B r x * (C.gg j A r x + (left r - tail (C.gg j A r) x))

/-- The row of the two stacked heads that query `r` has in the head of lane `c`. -/
def side (r : Fin 256) (c : Fin 128) : Fin 512 := ⟨r.val + 256 * (c.val / 64), by omega⟩

/-- A turn over the reals, of the weights `A` and factors `B`. -/
def FixedR.through (C : FixedR) (j : ℕ) (A B : Fin 512 → Fin 256 → ℝ) (s : LoopR) : LoopR where
  run := s.run
  grun r := s.grun r + tail (C.gg j A r) 0
  dq r c := s.dq r c + ∑ x, C.dz j A B (fun r => C.dtot r - s.grun r) (side r c) x * C.K (256 * j + x) c
  accK t c := s.accK t c + if t / 256 = j then ∑ r, C.dz j A B (fun r => C.dtot r - s.grun r) r ⟨t % 256, Nat.mod_lt _ (by decide)⟩ * C.Q r c else 0
  accV t c := s.accV t c + if t / 256 = j then ∑ r, A r ⟨t % 256, Nat.mod_lt _ (by decide)⟩ * C.D r c else 0

/-- A turn of the loop over the reals. -/
def FixedR.turn (C : FixedR) (j : ℕ) (s : LoopR) : LoopR :=
  { C.through j (C.wt j s.run) (fun r x => 1 - Real.exp (C.lg r (256 * j + x))) s with
    run := fun r => s.run r + tail (fun y => C.lg r (256 * j + y)) 0 }

/-- All the turns over the reals: the loop does not end before the first block. -/
def FixedR.turns (C : FixedR) : ℕ → LoopR → LoopR
  | 0, s => s
  | n + 1, s => C.turns n (C.turn n s)

/-! ## The arrays hold the real numbers -/

/-- The constants of the loop are these real numbers. -/
structure Fixed.Is (C : Fixed Ideal) (R : FixedR) : Prop where
  tri : ∀ x y : Fin 256, C.tri (ix2 x y) = (((if y ≤ x then 1 else 0 : ℝ)) : EReal)
  lo : ∀ c : Fin 128, C.lo (ix2 0 c) = if c.val / 64 = 0 then 1#1 else 0#1
  hi : ∀ c : Fin 128, C.hi (ix2 0 c) = if c.val / 64 = 1 then 1#1 else 0#1
  qs : ∀ r c, C.qs (ix2 r c) = (R.Q r c : EReal)
  dos : ∀ r c, C.dos (ix2 r c) = (R.D r c : EReal)
  dtot : ∀ r, C.dtot (ix2 r 0) = (R.dtot r : EReal)
  keys : ∀ (s : Fin 8192) c, C.keys (ix2 s c) = (R.K s c : EReal)
  vals : ∀ (s : Fin 8192) c, C.vals (ix2 s c) = (R.V s c : EReal)

/-- The loop carries these real numbers. -/
structure Loop.Is (s : Loop Ideal) (R : LoopR) : Prop where
  run : ∀ r, s.run (ix2 r 0) = (R.run r : EReal)
  grun : ∀ r, s.grun (ix2 r 0) = (R.grun r : EReal)
  dq : ∀ r c, s.dq (ix2 r c) = (R.dq r c : EReal)
  accK : ∀ (t : Fin 8192) c, s.accK (ix2 t c) = (R.accK t c : EReal)
  accV : ∀ (t : Fin 8192) c, s.accV (ix2 t c) = (R.accV t c : EReal)

/-- A strip's entry. -/
theorem strip_coe {x : S8192x128.Idx → EReal} {X : ℕ → Fin 128 → ℝ} (h : ∀ (s : Fin 8192) c, x (ix2 s c) = (X s c : EReal)) {j : ℕ} (hj : j < 32)
    (y : Fin 256) (c : Fin 128) : strip x j (ix2 y c) = (X (256 * j + y) c : EReal) := by
  have e : (256 * j + y.val) % 8192 = 256 * j + y.val := Nat.mod_eq_of_lt (by omega)
  refine (h ⟨(256 * j + y.val) % 8192, Nat.mod_lt _ (by decide)⟩ c).trans ?_
  show ((X ((256 * j + y.val) % 8192) c : ℝ) : EReal) = _
  rw [e]

/-- A replaced strip, entry by entry. -/
theorem putStrip_apply {α : Type} (x : S8192x128.Idx → α) {j : ℕ} (hj : j < 32) (w : S256x128.Idx → α) (t : Fin 8192) (c : Fin 128) :
    putStrip x j w (ix2 t c) = if t.val / 256 = j then w (ix2 ⟨t.val % 256, Nat.mod_lt _ (by decide)⟩ c) else x (ix2 t c) := by
  unfold putStrip VecWindow.put
  have hc := c.isLt
  by_cases h : t.val / 256 = j
  · have cond : ∀ a, (![256 * j, 0] : Fin 2 → ℕ) a ≤ ((ix2 t c : S8192x128.Idx) a).val ∧ ((ix2 t c : S8192x128.Idx) a).val < (![256 * j, 0] : Fin 2 → ℕ) a + S256x128.size a := by
      intro a
      match a with
      | ⟨0, _⟩ => show 256 * j ≤ t.val ∧ t.val < 256 * j + 256; omega
      | ⟨1, _⟩ => show 0 ≤ c.val ∧ c.val < 0 + 128; omega
    rw [dif_pos cond, if_pos h]
    refine congrArg w (funext fun a => Fin.ext ?_)
    match a with
    | ⟨0, _⟩ => show t.val - 256 * j = t.val % 256; omega
    | ⟨1, _⟩ => show c.val - 0 = c.val; omega
  · rw [if_neg h, dif_neg]
    intro cond
    have h0 : 256 * j ≤ t.val ∧ t.val < 256 * j + 256 := cond (0 : Fin 2)
    omega

section Reads

variable {C : Fixed Ideal} {R : FixedR} (hC : C.Is R) {j : ℕ} (hj : j < 32)

include hC hj in
theorem z_coe (r : Fin 512) (x : Fin 256) : k0_pay150 C.qs (strip C.keys j) (ix2 r x) = (R.z r (256 * j + x) : EReal) := by
  pointwise [k0_pay150]
  unfold FixedR.z
  rw [coe_sum]
  exact Finset.sum_congr rfl fun c _ => by rw [hC.qs, strip_coe hC.keys hj, EReal.coe_mul]

include hC hj in
theorem lg_coe (r : Fin 512) (x : Fin 256) : k0_pay151 C.qs (strip C.keys j) (ix2 r x) = (R.lg r (256 * j + x) : EReal) := by
  pointwise [k0_pay151]
  rw [Ideal.absf_def, z_coe hC hj r x]
  have e : (0 : EReal) - max (R.z r (256 * j + x) : EReal) (-(R.z r (256 * j + x) : EReal)) = ((0 - max (R.z r (256 * j + x)) (-(R.z r (256 * j + x))) : ℝ) : EReal) := by
    rw [EReal.coe_sub, coe_max, EReal.coe_neg, EReal.coe_zero]
  rw [e, Ideal.exp_coe, ← EReal.coe_one, ← EReal.coe_add, log_coe_pos (by positivity), ← EReal.coe_zero, ← coe_max, ← EReal.coe_sub, ← EReal.coe_sub,
    log_one_minus]
  rfl

/-- The product with the triangle sums from the column on. -/
theorem sum_tri {tri : FVec Ideal S256x256 .bf16} (ht : ∀ x y : Fin 256, tri (ix2 x y) = (((if y ≤ x then 1 else 0 : ℝ)) : EReal))
    (f : Fin 256 → ℝ) (x : Fin 256) :
    (∑ y : Fin 256, (f y : EReal) * tri (ix2 y x)) + ∑ y : Fin 256, ((f y : EReal) - (f y : EReal)) * tri (ix2 y x) = (tail f x : EReal) := by
  have h0 : ∀ y : Fin 256, ((f y : EReal) - (f y : EReal)) * tri (ix2 y x) = 0 := fun y => by
    rw [← EReal.coe_sub, sub_self, EReal.coe_zero, zero_mul]
  rw [Finset.sum_congr rfl fun y _ => h0 y, Finset.sum_const_zero, add_zero]
  unfold tail
  rw [coe_sum]
  refine Finset.sum_congr rfl fun y _ => ?_
  rw [ht, ← EReal.coe_mul]
  by_cases h : x ≤ y <;> simp [h]

include hC hj in
theorem cs_coe (r : Fin 512) (x : Fin 256) : k0_pay152 C.qs C.tri (strip C.keys j) (ix2 r x) = (tail (fun y => R.lg r (256 * j + y)) x : EReal) := by
  pointwise [k0_pay152]
  simp only [lg_coe hC hj]
  exact sum_tri hC.tri (fun y => R.lg r (256 * j + y)) x

include hC hj in
theorem total_coe (r : Fin 512) : k0_pay153 C.qs C.tri (strip C.keys j) (ix2 r 0) = (tail (fun y => R.lg r (256 * j + y)) 0 : EReal) := by
  pointwise [k0_pay153]
  exact cs_coe hC hj r 0

include hC hj in
theorem wt_coe {run : FVec Ideal S512x1 .f32} {rr : Fin 512 → ℝ} (hr : ∀ r, run (ix2 r 0) = (rr r : EReal)) (r : Fin 512) (x : Fin 256) :
    k0_pay154 C.qs C.tri run (strip C.keys j) (ix2 r x) = (R.wt j rr r x : EReal) := by
  pointwise [k0_pay154]
  rw [z_coe hC hj, cs_coe hC hj, hr, ← EReal.coe_add, ← EReal.coe_add, Ideal.exp_coe]
  rfl

include hC hj in
theorem beta_coe (r : Fin 512) (x : Fin 256) :
    k0_pay156 C.qs (strip C.keys j) (ix2 r x) = ((1 - Real.exp (R.lg r (256 * j + x)) : ℝ) : EReal) := by
  pointwise [k0_pay156]
  rw [lg_coe hC hj, Ideal.exp_coe, EReal.coe_sub, EReal.coe_one]

/-- The named constant stands for no number at all: it lies below every real one. -/
theorem cutoff_lt (x : ℝ) : (Named.named κ "cutoff" 0xC2B40000#32 : Ideal .f32) < (x : EReal) := EReal.bot_lt_coe x

theorem left_coe {dt run g : FVec Ideal S512x1 .f32} {dd rr gr : Fin 512 → ℝ} (hd : ∀ r, dt (ix2 r 0) = (dd r : EReal))
    (hr : ∀ r, run (ix2 r 0) = (rr r : EReal)) (hg : ∀ r, g (ix2 r 0) = (gr r : EReal)) (r : Fin 512) :
    k0_pay155 dt run g (ix2 r 0) = ((dd r - gr r : ℝ) : EReal) := by
  pointwise [k0_pay155]
  rw [hr, if_pos (cutoff_lt _), hd, hg, EReal.coe_sub]

variable {ab : FVec Ideal S512x256 .bf16} {A : Fin 512 → Fin 256 → ℝ} (hA : ∀ r x, ab (ix2 r x) = (A r x : EReal))
  {bt : FVec Ideal S512x256 .f32} {B : Fin 512 → Fin 256 → ℝ} (hB : ∀ r x, bt (ix2 r x) = (B r x : EReal))
  {left : FVec Ideal S512x1 .f32} {ll : Fin 512 → ℝ} (hl : ∀ r, left (ix2 r 0) = (ll r : EReal))

include hC hj hA in
theorem gg_coe (r : Fin 512) (x : Fin 256) : k0_pay157 C.dos ab (strip C.vals j) (ix2 r x) = (R.gg j A r x : EReal) := by
  pointwise [k0_pay157]
  rw [hA]
  unfold FixedR.gg FixedR.da
  rw [EReal.coe_mul, coe_sum]
  exact congrArg _ (Finset.sum_congr rfl fun c _ => by rw [hC.dos, strip_coe hC.vals hj, EReal.coe_mul])

include hC hj hA in
theorem gcs_coe (r : Fin 512) (x : Fin 256) : k0_pay158 C.tri C.dos ab (strip C.vals j) (ix2 r x) = (tail (R.gg j A r) x : EReal) := by
  pointwise [k0_pay158]
  simp only [gg_coe hC hj hA]
  exact sum_tri hC.tri (R.gg j A r) x

include hC hj hA hB hl in
theorem dz_coe (r : Fin 512) (x : Fin 256) : k0_pay159 C.tri C.dos ab left bt (strip C.vals j) (ix2 r x) = (R.dz j A B ll r x : EReal) := by
  pointwise [k0_pay159]
  rw [gg_coe hC hj hA, gcs_coe hC hj hA, hB, hl]
  unfold FixedR.dz
  simp only [EReal.coe_sub, EReal.coe_mul, EReal.coe_add]

include hC hj hA in
theorem grun_coe {g : FVec Ideal S512x1 .f32} {gr : Fin 512 → ℝ} (hg : ∀ r, g (ix2 r 0) = (gr r : EReal)) (r : Fin 512) :
    k0_pay162 C.tri C.dos g ab (strip C.vals j) (ix2 r 0) = ((gr r + tail (R.gg j A r) 0 : ℝ) : EReal) := by
  pointwise [k0_pay162]
  rw [hg, EReal.coe_add]
  exact congrArg _ (gcs_coe hC hj hA r 0)

include hC hj hA hB hl in
theorem dq_coe {d : FVec Ideal S256x128 .f32} {dd : Fin 256 → Fin 128 → ℝ} (hd : ∀ r c, d (ix2 r c) = (dd r c : EReal)) (r : Fin 256) (c : Fin 128) :
    k0_pay160 C.tri C.dos C.lo C.hi d ab left bt (strip C.keys j) (strip C.vals j) (ix2 r c)
      = ((dd r c + ∑ x, R.dz j A B ll (side r c) x * R.K (256 * j + x) c : ℝ) : EReal) := by
  pointwise [k0_pay160]
  simp only [dz_coe hC hj hA hB hl]
  rw [hd, EReal.coe_add, coe_sum]
  refine congrArg _ ?_
  have h0 : (((0#32 : BitVec 32).toInt : ℝ) : EReal) = 0 := by simp
  rw [hC.lo, hC.hi]
  have hc : c.val / 64 = 0 ∨ c.val / 64 = 1 := by omega
  rcases hc with hc | hc
  · have es : side r c = ⟨r.val, by omega⟩ := Fin.ext (by show r.val + 256 * (c.val / 64) = r.val; omega)
    rw [if_pos hc, if_neg (by omega : ¬ c.val / 64 = 1), es]
    simp only [Scalar.select, h0]
    simp
    exact Finset.sum_congr rfl fun x _ => by rw [strip_coe hC.keys hj]
  · have es : side r c = ⟨256 + r.val, by omega⟩ := Fin.ext (by show r.val + 256 * (c.val / 64) = 256 + r.val; omega)
    rw [if_pos hc, if_neg (by omega : ¬ c.val / 64 = 0), es]
    simp only [Scalar.select, h0]
    simp
    exact Finset.sum_congr rfl fun x _ => by rw [strip_coe hC.keys hj]

include hC hj hA hB hl in
theorem dk_coe {acc : FVec Ideal S256x128 .f32} {aa : Fin 256 → Fin 128 → ℝ} (ha : ∀ r c, acc (ix2 r c) = (aa r c : EReal)) (x : Fin 256) (c : Fin 128) :
    k0_pay164 C.qs C.tri C.dos ab left bt (strip C.vals j) acc (ix2 x c) = ((aa x c + ∑ r, R.dz j A B ll r x * R.Q r c : ℝ) : EReal) := by
  pointwise [k0_pay164]
  simp only [dz_coe hC hj hA hB hl]
  rw [ha, EReal.coe_add, coe_sum]
  exact congrArg _ (Finset.sum_congr rfl fun r _ => by rw [hC.qs, EReal.coe_mul])

include hC hA in
theorem dv_coe {acc : FVec Ideal S256x128 .f32} {aa : Fin 256 → Fin 128 → ℝ} (ha : ∀ r c, acc (ix2 r c) = (aa r c : EReal)) (x : Fin 256) (c : Fin 128) :
    k0_pay6 (k0_pay161 C.dos ab) acc (ix2 x c) = ((aa x c + ∑ r, A r x * R.D r c : ℝ) : EReal) := by
  pointwise [k0_pay6, k0_pay161]
  rw [ha, EReal.coe_add, coe_sum]
  exact congrArg _ (Finset.sum_congr rfl fun r _ => by rw [hC.dos, hA, EReal.coe_mul])

end Reads

/-- The kept turn's sums are those of a turn of the loop. -/
theorem kept_reads (C : Fixed Ideal) (ab : FVec Ideal S512x256 .bf16) (bt : FVec Ideal S512x256 .f32) (left : FVec Ideal S512x1 .f32) (kb vb : Vec Ideal S256x128 .bf16)
    (g : FVec Ideal S512x1 .f32) (d acc : FVec Ideal S256x128 .f32) :
    k0_pay33 C.tri C.dos g ab vb (constant S512x256 .f32 0x00000000#32) = k0_pay162 C.tri C.dos g ab vb
    ∧ k0_pay30 C.tri C.lo C.hi C.dos d ab bt left kb vb (constant S512x256 .f32 0x00000000#32) = k0_pay160 C.tri C.dos C.lo C.hi d ab left bt kb vb
    ∧ k0_pay134 (k0_pay31 C.tri C.qs C.dos ab bt left vb (constant S512x256 .f32 0x00000000#32)) acc = k0_pay164 C.qs C.tri C.dos ab left bt vb acc
    ∧ k0_pay135 (k0_pay32 C.dos ab) acc = k0_pay6 (k0_pay161 C.dos ab) acc := ⟨rfl, rfl, rfl, rfl⟩

theorem keptTurn_is {C : Fixed Ideal} {R : FixedR} (hC : C.Is R) {j : ℕ} (hj : j < 32)
    {ab : FVec Ideal S512x256 .bf16} {A : Fin 512 → Fin 256 → ℝ} (hA : ∀ r x, ab (ix2 r x) = (A r x : EReal))
    {bt : FVec Ideal S512x256 .f32} {B : Fin 512 → Fin 256 → ℝ} (hB : ∀ r x, bt (ix2 r x) = (B r x : EReal))
    {s : Loop Ideal} {σ : LoopR} (hs : s.Is σ) : (keptTurn C ab bt j s).Is (R.through j A B σ) := by
  have hl : ∀ r, (subf C.dtot s.grun : FVec Ideal S512x1 .f32) (ix2 r 0) = ((R.dtot r - σ.grun r : ℝ) : EReal) := fun r => by
    pointwise []
    rw [hC.dtot, hs.grun, EReal.coe_sub]
  have hk := kept_reads C ab bt (subf C.dtot s.grun) (strip C.keys j) (strip C.vals j) s.grun s.dq
  constructor
  · exact hs.run
  · intro r
    show k0_pay33 C.tri C.dos s.grun ab (strip C.vals j) (constant S512x256 .f32 0x00000000#32) (ix2 r 0) = _
    rw [(hk (strip s.accK j)).1]
    exact grun_coe hC hj hA hs.grun r
  · intro r c
    show k0_pay30 C.tri C.lo C.hi C.dos s.dq ab bt (subf C.dtot s.grun) (strip C.keys j) (strip C.vals j) (constant S512x256 .f32 0x00000000#32) (ix2 r c) = _
    rw [(hk (strip s.accK j)).2.1]
    exact dq_coe hC hj hA hB hl hs.dq r c
  · intro t c
    show putStrip s.accK j (k0_pay134 (k0_pay31 C.tri C.qs C.dos ab bt (subf C.dtot s.grun) (strip C.vals j) (constant S512x256 .f32 0x00000000#32)) (strip s.accK j)) (ix2 t c) = _
    rw [(hk (strip s.accK j)).2.2.1, putStrip_apply _ hj]
    show _ = ((σ.accK t c + if t.val / 256 = j then _ else 0 : ℝ) : EReal)
    by_cases h : t.val / 256 = j
    · rw [if_pos h, if_pos h, dk_coe hC hj hA hB hl (fun y c => strip_coe hs.accK hj y c)]
      have e : 256 * j + t.val % 256 = t.val := by omega
      show ((σ.accK (256 * j + t.val % 256) c + _ : ℝ) : EReal) = _
      rw [e]
    · rw [if_neg h, if_neg h, add_zero]; exact hs.accK t c
  · intro t c
    show putStrip s.accV j (k0_pay135 (k0_pay32 C.dos ab) (strip s.accV j)) (ix2 t c) = _
    rw [(hk (strip s.accV j)).2.2.2, putStrip_apply _ hj]
    show _ = ((σ.accV t c + if t.val / 256 = j then _ else 0 : ℝ) : EReal)
    by_cases h : t.val / 256 = j
    · rw [if_pos h, if_pos h, dv_coe hC hA (fun y c => strip_coe hs.accV hj y c)]
      have e : 256 * j + t.val % 256 = t.val := by omega
      show ((σ.accV (256 * j + t.val % 256) c + _ : ℝ) : EReal) = _
      rw [e]
    · rw [if_neg h, if_neg h, add_zero]; exact hs.accV t c

theorem turn_is {C : Fixed Ideal} {R : FixedR} (hC : C.Is R) {j : ℕ} (hj : j < 32)
    {s : Loop Ideal} {σ : LoopR} (hs : s.Is σ) : (turn C j s).Is (R.turn j σ) := by
  have hA := wt_coe hC hj hs.run
  have hB := beta_coe hC hj
  have hl := left_coe hC.dtot hs.run hs.grun
  constructor
  · intro r
    show k0_pay163 s.run (k0_pay153 C.qs C.tri (strip C.keys j)) (ix2 r 0) = ((σ.run r + _ : ℝ) : EReal)
    pointwise [k0_pay163]
    rw [hs.run, total_coe hC hj, EReal.coe_add]
  · exact grun_coe hC hj hA hs.grun
  · exact dq_coe hC hj hA hB hl hs.dq
  · intro t c
    show putStrip s.accK j _ (ix2 t c) = _
    rw [putStrip_apply _ hj]
    show _ = ((σ.accK t c + if t.val / 256 = j then _ else 0 : ℝ) : EReal)
    by_cases h : t.val / 256 = j
    · rw [if_pos h, if_pos h, dk_coe hC hj hA hB hl (fun y c => strip_coe hs.accK hj y c)]
      have e : 256 * j + t.val % 256 = t.val := by omega
      show ((σ.accK (256 * j + t.val % 256) c + _ : ℝ) : EReal) = _
      rw [e]
    · rw [if_neg h, if_neg h, add_zero]; exact hs.accK t c
  · intro t c
    show putStrip s.accV j _ (ix2 t c) = _
    rw [putStrip_apply _ hj]
    show _ = ((σ.accV t c + if t.val / 256 = j then _ else 0 : ℝ) : EReal)
    by_cases h : t.val / 256 = j
    · rw [if_pos h, if_pos h, dv_coe hC hA (fun y c => strip_coe hs.accV hj y c)]
      have e : 256 * j + t.val % 256 = t.val := by omega
      show ((σ.accV (256 * j + t.val % 256) c + _ : ℝ) : EReal) = _
      rw [e]
    · rw [if_neg h, if_neg h, add_zero]; exact hs.accV t c

/-- Running sums that are real numbers are above the cutoff: the loop goes on. -/
theorem goesOn_is {s : Loop Ideal} {σ : LoopR} (hs : s.Is σ) : goesOn s.run := by
  have h : k0_pay5 s.run = Finset.fold max (Ideal.ofBits FTy.f32 4286578688#32) (fun x : Fin 512 × Fin 1 => s.run (ix2 x.1 0)) Finset.univ := by
    pointwise [k0_pay5]
  have h2 : (Named.named κ "cutoff" 0xC2B40000#32 : Ideal .f32) < k0_pay5 s.run := by
    rw [h]
    refine lt_of_lt_of_le (cutoff_lt (σ.run 0)) ?_
    rw [← hs.run 0]
    exact Finset.le_fold_max _ |>.mpr (Or.inr ⟨(0, 0), Finset.mem_univ _, le_refl _⟩)
  unfold goesOn
  show Ideal.cmp .ogt _ _ = 1#1
  unfold Ideal.cmp
  simp [h2]

theorem turns_is {C : Fixed Ideal} {R : FixedR} (hC : C.Is R) : ∀ (n : ℕ), n ≤ 32 → ∀ {s : Loop Ideal} {σ : LoopR}, s.Is σ → (turns C n s).Is (R.turns n σ)
  | 0, _, _, _, hs => hs
  | n + 1, hn, s, σ, hs => by
    show (if goesOn s.run then turns C n (turn C n s) else s).Is _
    rw [if_pos (goesOn_is hs)]
    exact turns_is hC n (by omega) (turn_is hC (by omega) hs)

end Cert.Proof.Attn
-- ==== Proof.AttnSum.lean ====
module

public import proofs.«01_k».proof.Proof.AttnReal

/-!
  A whole chain over the reals. For one query the weights of its keys, their running sums and the derivative of its scores are
  written as sums over all 8192 keys; a chain that has taken its turns down to block `n` holds exactly the part of each of these sums
  that lies at the keys from `256 n` on, and after block `0` it holds them whole.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.Tactic
open scoped BigOperators

/-! ## One query -/

namespace Row

variable (z da : ℕ → ℝ) (t : ℕ)

/-- The logarithm of one minus the sigmoid of the score of key `s`, nothing at keys that are not before the query. -/
def lm (s : ℕ) : ℝ := if s < t then - Real.log (1 + Real.exp (z s)) else 0
/-- Its sum over the keys from `s` on. -/
def later (s : ℕ) : ℝ := ∑ y ∈ Finset.Ico s 8192, lm z t y
/-- The weight of key `s`. -/
def w (s : ℕ) : ℝ := if s < t then Real.exp (z s + later z t s) else 0
/-- The sigmoid of the score of key `s`. -/
def beta (s : ℕ) : ℝ := 1 - Real.exp (lm z t s)
/-- The weight times its derivative. -/
def g (s : ℕ) : ℝ := w z t s * da s
/-- Its sum over the keys from `s` on. -/
def glater (s : ℕ) : ℝ := ∑ y ∈ Finset.Ico s 8192, g z da t y
/-- The derivative of the score of key `s`. -/
def dz (s : ℕ) : ℝ := g z da t s - beta z t s * (g z da t s + (glater z da t 0 - glater z da t s))

/-- Keys that are not before the query count for nothing. -/
theorem w_of_le {s : ℕ} (h : t ≤ s) : w z t s = 0 := if_neg (by omega)
theorem g_of_le {s : ℕ} (h : t ≤ s) : g z da t s = 0 := by unfold g; rw [w_of_le z t h, zero_mul]
theorem lm_of_le {s : ℕ} (h : t ≤ s) : lm z t s = 0 := if_neg (by omega)
theorem beta_of_le {s : ℕ} (h : t ≤ s) : beta z t s = 0 := by unfold beta; rw [lm_of_le z t h]; simp
theorem dz_of_le {s : ℕ} (h : t ≤ s) : dz z da t s = 0 := by unfold dz; rw [g_of_le z da t h, beta_of_le z t h]; simp
theorem later_of_le {s : ℕ} (h : t ≤ s) : later z t s = 0 :=
  Finset.sum_eq_zero fun y hy => lm_of_le z t (le_trans h (Finset.mem_Ico.mp hy).1)
theorem glater_of_le {s : ℕ} (h : t ≤ s) : glater z da t s = 0 :=
  Finset.sum_eq_zero fun y hy => g_of_le z da t (le_trans h (Finset.mem_Ico.mp hy).1)

end Row

/-- A sum from inside block `j` on is the rest of the block's and that of the blocks after it. -/
theorem sum_from (f : ℕ → ℝ) {j : ℕ} (hj : j < 32) (x : Fin 256) :
    ∑ y ∈ Finset.Ico (256 * j + x.val) 8192, f y = tail (fun y => f (256 * j + y)) x + ∑ y ∈ Finset.Ico (256 * (j + 1)) 8192, f y := by
  have hx := x.isLt
  rw [← Finset.sum_Ico_consecutive f (by omega : 256 * j + x.val ≤ 256 * (j + 1)) (by omega : 256 * (j + 1) ≤ 8192)]
  congr 1
  unfold tail
  rw [Fin.sum_univ_eq_sum_range (fun y => if x.val ≤ y then f (256 * j + y) else 0) 256 |> fun h => (show _ = _ from (Finset.sum_congr rfl fun y _ => by
    by_cases h : x ≤ y
    · rw [if_pos h, if_pos (show x.val ≤ y.val from h)]
    · rw [if_neg h, if_neg (show ¬ x.val ≤ y.val from h)]).trans h)]
  rw [← Finset.sum_filter, show 256 * (j + 1) = 256 * j + 256 by ring]
  have e : Finset.Ico (256 * j + x.val) (256 * j + 256) = (Finset.Ico x.val 256).map (addLeftEmbedding (256 * j)) := by
    rw [Finset.map_add_left_Ico]
  rw [e, Finset.sum_map]
  refine Finset.sum_congr ?_ fun y _ => rfl
  ext y
  simp only [Finset.mem_Ico, Finset.mem_filter, Finset.mem_range]
  omega

/-- A sum from the head of block `j` on is the block's and that of the blocks after it. -/
theorem sum_block (f : ℕ → ℝ) {j : ℕ} (hj : j < 32) :
    ∑ y ∈ Finset.Ico (256 * j) 8192, f y = (∑ y : Fin 256, f (256 * j + y)) + ∑ y ∈ Finset.Ico (256 * (j + 1)) 8192, f y := by
  refine (sum_from f hj 0).trans ?_
  congr 1

/-! ## One chain -/

/-- The position of row `r` of the two stacked heads, in query block `i`. -/
def pos (i : ℕ) (r : Fin 512) : ℕ := 256 * i + r.val % 256

/-- A row's quantities, from the chain's constants. -/
abbrev FixedR.lmR (C : FixedR) (i : ℕ) (r : Fin 512) : ℕ → ℝ := Row.lm (C.z r) (pos i r)
abbrev FixedR.laterR (C : FixedR) (i : ℕ) (r : Fin 512) : ℕ → ℝ := Row.later (C.z r) (pos i r)
abbrev FixedR.wR (C : FixedR) (i : ℕ) (r : Fin 512) : ℕ → ℝ := Row.w (C.z r) (pos i r)
abbrev FixedR.betaR (C : FixedR) (i : ℕ) (r : Fin 512) : ℕ → ℝ := Row.beta (C.z r) (pos i r)
abbrev FixedR.gR (C : FixedR) (i : ℕ) (r : Fin 512) : ℕ → ℝ := Row.g (C.z r) (C.da r) (pos i r)
abbrev FixedR.glaterR (C : FixedR) (i : ℕ) (r : Fin 512) : ℕ → ℝ := Row.glater (C.z r) (C.da r) (pos i r)
abbrev FixedR.dzR (C : FixedR) (i : ℕ) (r : Fin 512) : ℕ → ℝ := Row.dz (C.z r) (C.da r) (pos i r)

/-- The chain has taken its turns down to block `n`: what it carries, but for the running sums of the logarithms. -/
structure Done (C : FixedR) (i n : ℕ) (aK aV : ℕ → Fin 128 → ℝ) (s : LoopR) : Prop where
  grun : ∀ r, s.grun r = C.glaterR i r (256 * n)
  dq : ∀ r c, s.dq r c = ∑ y ∈ Finset.Ico (256 * n) 8192, C.dzR i (side r c) y * C.K y c
  accK : ∀ t c, t < 8192 → s.accK t c = aK t c + if 256 * n ≤ t then ∑ r, C.dzR i r t * C.Q r c else 0
  accV : ∀ t c, t < 8192 → s.accV t c = aV t c + if 256 * n ≤ t then ∑ r, C.wR i r t * C.D r c else 0

section Chain

variable {C : FixedR} {i : ℕ} {aK aV : ℕ → Fin 128 → ℝ}

/-- Before its own block a chain has nothing. -/
theorem done_start (h : i < 32) {s : LoopR} (hg : ∀ r, s.grun r = 0) (hq : ∀ r c, s.dq r c = 0) (hK : s.accK = aK) (hV : s.accV = aV) :
    Done C i (i + 1) aK aV s := by
  have hp : ∀ (r : Fin 512) y, 256 * (i + 1) ≤ y → pos i r ≤ y := fun r y hy => by unfold pos; omega
  refine ⟨fun r => ?_, fun r c => ?_, fun t c _ => ?_, fun t c _ => ?_⟩
  · rw [hg]; exact (Row.glater_of_le _ _ _ (hp r _ le_rfl)).symm
  · rw [hq]
    refine (Finset.sum_eq_zero fun y hy => ?_).symm
    show Row.dz _ _ _ y * _ = 0
    rw [Row.dz_of_le _ _ _ (hp _ y (Finset.mem_Ico.mp hy).1), zero_mul]
  · rw [hK]
    by_cases ht : 256 * (i + 1) ≤ t
    · rw [if_pos ht, Finset.sum_eq_zero fun r _ => ?_, add_zero]
      show Row.dz _ _ _ t * _ = 0
      rw [Row.dz_of_le _ _ _ (hp r t ht), zero_mul]
    · rw [if_neg ht, add_zero]
  · rw [hV]
    by_cases ht : 256 * (i + 1) ≤ t
    · rw [if_pos ht, Finset.sum_eq_zero fun r _ => ?_, add_zero]
      show Row.w _ _ t * _ = 0
      rw [Row.w_of_le _ _ (hp r t ht), zero_mul]
    · rw [if_neg ht, add_zero]

variable (hd : ∀ r, C.dtot r = C.glaterR i r 0)
include hd

/-- A turn with the weights and factors of block `j` takes the chain from block `j + 1` down to block `j`. -/
theorem done_through {j : ℕ} (hj : j < 32) {A B : Fin 512 → Fin 256 → ℝ} (hA : ∀ r x, A r x = C.wR i r (256 * j + x))
    (hB : ∀ r x, B r x = C.betaR i r (256 * j + x)) {s : LoopR} (hs : Done C i (j + 1) aK aV s) : Done C i j aK aV (C.through j A B s) := by
  have hg : ∀ r, C.gg j A r = fun x => C.gR i r (256 * j + x.val) := fun r => funext fun x => by
    show A r x * C.da r (256 * j + x) = Row.w _ _ _ * _
    rw [hA]
  have hz : ∀ r x, C.dz j A B (fun r => C.dtot r - s.grun r) r x = C.dzR i r (256 * j + x) := fun r x => by
    unfold FixedR.dz
    have hl : (fun r => C.dtot r - s.grun r) = fun r => C.glaterR i r 0 - C.glaterR i r (256 * (j + 1)) := funext fun r => by rw [hd, hs.grun]
    rw [hB, hl, hg r]
    show _ = Row.g _ _ _ _ - Row.beta _ _ _ * (Row.g _ _ _ _ + (Row.glater _ _ _ 0 - Row.glater _ _ _ (256 * j + x)))
    have e : C.glaterR i r (256 * j + x) = tail (fun x => C.gR i r (256 * j + x.val)) x + C.glaterR i r (256 * (j + 1)) := sum_from _ hj x
    show _ = C.gR i r (256 * j + x) - C.betaR i r (256 * j + x) * (C.gR i r (256 * j + x) + (C.glaterR i r 0 - C.glaterR i r (256 * j + x)))
    rw [e]
    ring
  refine ⟨fun r => ?_, fun r c => ?_, fun t c ht => ?_, fun t c ht => ?_⟩
  · show s.grun r + tail (C.gg j A r) 0 = _
    rw [hs.grun, hg r, add_comm]
    exact (sum_from (C.gR i r) hj 0).symm
  · show s.dq r c + ∑ x, _ = _
    rw [hs.dq, sum_block _ hj, add_comm]
    congr 1
    exact Finset.sum_congr rfl fun x _ => by rw [hz]
  · show s.accK t c + (if t / 256 = j then _ else 0) = _
    rw [hs.accK t c ht, add_assoc]
    congr 1
    by_cases h1 : t / 256 = j
    · rw [if_pos h1, if_neg (by omega), if_pos (by omega), zero_add]
      have e : 256 * j + t % 256 = t := by omega
      refine Finset.sum_congr rfl fun r _ => ?_
      rw [hz]
      show C.dzR i r (256 * j + t % 256) * _ = _
      rw [e]
    · rw [if_neg h1, add_zero]
      by_cases h2 : 256 * (j + 1) ≤ t
      · rw [if_pos h2, if_pos (by omega)]
      · rw [if_neg h2, if_neg (by omega)]
  · show s.accV t c + (if t / 256 = j then _ else 0) = _
    rw [hs.accV t c ht, add_assoc]
    congr 1
    by_cases h1 : t / 256 = j
    · rw [if_pos h1, if_neg (by omega), if_pos (by omega), zero_add]
      have e : 256 * j + t % 256 = t := by omega
      refine Finset.sum_congr rfl fun r _ => ?_
      rw [hA]
      show C.wR i r (256 * j + t % 256) * _ = _
      rw [e]
    · rw [if_neg h1, add_zero]
      by_cases h2 : 256 * (j + 1) ≤ t
      · rw [if_pos h2, if_pos (by omega)]
      · rw [if_neg h2, if_neg (by omega)]

omit hd in
/-- A turn whose weights and factors are zero changes nothing. -/
theorem done_nothing {j n : ℕ} {A B : Fin 512 → Fin 256 → ℝ} (hA : ∀ r x, A r x = 0) (hB : ∀ r x, B r x = 0) {s : LoopR}
    (hs : Done C i n aK aV s) : Done C i n aK aV (C.through j A B s) := by
  have hg : ∀ r, C.gg j A r = fun _ => 0 := fun r => funext fun x => by
    show A r x * _ = 0
    rw [hA, zero_mul]
  have ht : ∀ x, tail (fun _ => (0 : ℝ)) x = 0 := fun x => Finset.sum_eq_zero fun y _ => by simp
  have hz : ∀ left r x, C.dz j A B left r x = 0 := fun left r x => by
    unfold FixedR.dz
    rw [hB, hg r]
    simp
  refine ⟨fun r => ?_, fun r c => ?_, fun t c h => ?_, fun t c h => ?_⟩
  · show s.grun r + tail (C.gg j A r) 0 = _
    rw [hg r, ht, add_zero]; exact hs.grun r
  · show s.dq r c + ∑ x, _ = _
    rw [Finset.sum_eq_zero fun x _ => by rw [hz, zero_mul], add_zero]; exact hs.dq r c
  · show s.accK t c + (if t / 256 = j then _ else 0) = _
    rw [Finset.sum_eq_zero fun r _ => by rw [hz, zero_mul], ite_self, add_zero]; exact hs.accK t c h
  · show s.accV t c + (if t / 256 = j then _ else 0) = _
    rw [Finset.sum_eq_zero fun r _ => by rw [hA, zero_mul], ite_self, add_zero]; exact hs.accV t c h

/-- All the turns of the loop, from block `n - 1` down: the chain is done. -/
theorem done_turns : ∀ (n : ℕ), n ≤ i → i < 32 → ∀ {s : LoopR}, Done C i n aK aV s → (∀ r, s.run r = C.laterR i r (256 * n)) →
    Done C i 0 aK aV (C.turns n s)
  | 0, _, _, s, hs, _ => hs
  | n + 1, hn, hi, s, hs, hr => by
    have hlt : ∀ (r : Fin 512) (x : Fin 256), 256 * n + x.val < pos i r := fun r x => by unfold pos; omega
    have hlm : ∀ r, (fun y : Fin 256 => C.lg r (256 * n + y)) = fun y : Fin 256 => C.lmR i r (256 * n + y.val) := fun r => funext fun y =>
      (if_pos (hlt r y)).symm
    have hA : ∀ r x, C.wt n s.run r x = C.wR i r (256 * n + x) := fun r x => by
      show Real.exp _ = Row.w _ _ _
      unfold Row.w
      rw [if_pos (hlt r x), hr, hlm r]
      have e : C.laterR i r (256 * n + x) = tail (fun y => C.lmR i r (256 * n + y.val)) x + C.laterR i r (256 * (n + 1)) := sum_from _ (by omega) x
      show _ = Real.exp (_ + C.laterR i r (256 * n + x))
      rw [e, add_assoc]
    have hB : ∀ r x, (fun (r : Fin 512) (x : Fin 256) => 1 - Real.exp (C.lg r (256 * n + x))) r x = C.betaR i r (256 * n + x) := fun r x => by
      show 1 - Real.exp _ = 1 - Real.exp (if 256 * n + x.val < pos i r then _ else _)
      rw [if_pos (hlt r x)]
      rfl
    have ht := done_through hd (by omega : n < 32) hA hB hs
    refine done_turns n (by omega) hi (s := C.turn n s) ⟨ht.grun, ht.dq, ht.accK, ht.accV⟩ fun r => ?_
    show s.run r + tail (fun y => C.lg r (256 * n + y)) 0 = _
    rw [hr, hlm r, add_comm]
    exact (sum_from (C.lmR i r) (by omega) 0).symm

end Chain

/-- The weights and factors kept of a chain, and its running sums. -/
structure Kept where
  a0 : Fin 512 → Fin 256 → ℝ
  b0 : Fin 512 → Fin 256 → ℝ
  a1 : Fin 512 → Fin 256 → ℝ
  b1 : Fin 512 → Fin 256 → ℝ
  run : Fin 512 → ℝ

/-- The kept numbers are those of the chain at query block `i`: of its own block of keys, and of the block before it, if there is one. -/
structure Kept.Of (W : Kept) (C : FixedR) (i : ℕ) : Prop where
  a0 : ∀ r x, W.a0 r x = C.wR i r (256 * i + x)
  b0 : ∀ r x, W.b0 r x = C.betaR i r (256 * i + x)
  a1 : ∀ r x, W.a1 r x = if i = 0 then 0 else C.wR i r (256 * (i - 1) + x)
  b1 : ∀ r x, W.b1 r x = if i = 0 then 0 else C.betaR i r (256 * (i - 1) + x)
  run : ∀ r, W.run r = C.laterR i r (256 * (i - 1))

/-- A chain over the reals: its two kept turns, then the loop. -/
def FixedR.chain (C : FixedR) (W : Kept) (i : ℕ) (aK aV : ℕ → Fin 128 → ℝ) : LoopR :=
  C.turns (i - 1) (C.through (i - 1) W.a1 W.b1 (C.through i W.a0 W.b0 ⟨W.run, fun _ => 0, fun _ _ => 0, aK, aV⟩))

/-- A chain ends with its sums over all keys. -/
theorem chain_done {C : FixedR} {W : Kept} {i : ℕ} (hi : i < 32) (hd : ∀ r, C.dtot r = C.glaterR i r 0) (hW : W.Of C i) (aK aV : ℕ → Fin 128 → ℝ) :
    Done C i 0 aK aV (C.chain W i aK aV) := by
  have h0 : Done C i i aK aV (C.through i W.a0 W.b0 ⟨W.run, fun _ => 0, fun _ _ => 0, aK, aV⟩) :=
    done_through hd hi hW.a0 hW.b0 (done_start hi (fun _ => rfl) (fun _ _ => rfl) rfl rfl)
  have h1 : Done C i (i - 1) aK aV (C.through (i - 1) W.a1 W.b1 (C.through i W.a0 W.b0 ⟨W.run, fun _ => 0, fun _ _ => 0, aK, aV⟩)) := by
    cases i with
    | zero => exact done_nothing (fun r x => (hW.a1 r x).trans (if_pos rfl)) (fun r x => (hW.b1 r x).trans (if_pos rfl)) h0
    | succ k =>
      exact done_through hd (by omega) (fun r x => (hW.a1 r x).trans (if_neg (by omega))) (fun r x => (hW.b1 r x).trans (if_neg (by omega))) h0
  exact done_turns hd (i - 1) (by omega) hi h1 hW.run

end Cert.Proof.Attn
-- ==== Proof.AttnChain.lean ====
module

public import proofs.«01_k».proof.Proof.AttnSum

/-!
  A chain of the kernel, from blocks that hold real numbers, is the chain over the reals: its queries and output gradients are stacked
  by head, the lanes of the other head at zero.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.Tactic
open scoped BigOperators

theorem lo_read : ∀ c : Fin 128, (k0_pay16 : IVec S1x128 1) (ix2 0 c) = if c.val / 64 = 0 then 1#1 else 0#1 := by
  decide +kernel

theorem hi_read : ∀ c : Fin 128, (k0_pay17 : IVec S1x128 1) (ix2 0 c) = if c.val / 64 = 1 then 1#1 else 0#1 := by
  decide +kernel

/-- Row `r` of the two stacked heads, among the 256 of its strip. -/
abbrev low (r : Fin 512) : Fin 256 := ⟨r.val % 256, Nat.mod_lt _ (by decide)⟩

theorem eighth_bf16 : Ideal.ofBits FTy.bf16 15872#16 = ((1 / 8 : ℝ) : EReal) := by
  simp [Ideal.ofBits, Ideal.ieee, -EReal.coe_mul]; norm_num
theorem eighth_f32 : Ideal.ofBits FTy.f32 1040187392#32 = ((1 / 8 : ℝ) : EReal) := by
  simp [Ideal.ofBits, Ideal.ieee, -EReal.coe_mul]; norm_num

theorem select_one {α : Type} (a b : α) : Scalar.select 1#1 a b = a := rfl
theorem select_zero {α : Type} (a b : α) : Scalar.select 0#1 a b = b := rfl
theorem zero_toInt : ((((0#32 : BitVec 32).toInt : ℝ)) : EReal) = 0 := by simp

theorem low_of_lt {r : Fin 512} (h : r.val < 256) : low r = ⟨r.val, h⟩ := Fin.ext (Nat.mod_eq_of_lt h)
theorem low_of_ge {r : Fin 512} (h : ¬ r.val < 256) : low r = ⟨r.val - 256, by omega⟩ := Fin.ext (by show r.val % 256 = r.val - 256; omega)

/-- Which of the two heads' lanes are selected. -/
theorem lo_select (c : Fin 128) (a b : EReal) : Scalar.select ((k0_pay16 : IVec S1x128 1) (ix2 0 c)) a b = if c.val / 64 = 0 then a else b := by
  rw [lo_read]
  by_cases h : c.val / 64 = 0
  · rw [if_pos h, if_pos h, select_one]
  · rw [if_neg h, if_neg h, select_zero]
theorem hi_select (c : Fin 128) (a b : EReal) : Scalar.select ((k0_pay17 : IVec S1x128 1) (ix2 0 c)) a b = if c.val / 64 = 1 then a else b := by
  rw [hi_read]
  by_cases h : c.val / 64 = 1
  · rw [if_pos h, if_pos h, select_one]
  · rw [if_neg h, if_neg h, select_zero]

theorem qs_read (q : Vec Ideal S256x128 .bf16) (r : Fin 512) (c : Fin 128) :
    k0_pay18 q (ix2 r c) = if c.val / 64 = r.val / 256 then q (ix2 (low r) c) * ((1 / 8 : ℝ) : EReal) else 0 := by
  pointwise [k0_pay18]
  by_cases h : r.val < 256
  · rw [dif_pos h, low_of_lt h, eighth_bf16, zero_toInt, show r.val / 256 = 0 by omega]; exact lo_select c _ _
  · rw [dif_neg h, low_of_ge h, eighth_bf16, zero_toInt, show r.val / 256 = 1 by omega]; exact hi_select c _ _

theorem dos_read (q : Vec Ideal S256x128 .bf16) (r : Fin 512) (c : Fin 128) :
    k0_pay20 k0_pay17 q (k0_pay19 q) (ix2 r c) = if c.val / 64 = r.val / 256 then q (ix2 (low r) c) else 0 := by
  pointwise [k0_pay20, k0_pay19]
  by_cases h : r.val < 256
  · rw [dif_pos h, low_of_lt h, zero_toInt, show r.val / 256 = 0 by omega]; exact lo_select c _ _
  · rw [dif_neg h, low_of_ge h, zero_toInt, show r.val / 256 = 1 by omega]; exact hi_select c _ _

theorem dtot_read (q : Vec Ideal S256x128 .bf16) (o : Vec Ideal S256x128 .f32) (r : Fin 512) :
    k0_pay21 k0_pay16 k0_pay17 q o (ix2 r 0) = ∑ c : Fin 128, if c.val / 64 = r.val / 256 then q (ix2 (low r) c) * o (ix2 (low r) c) else 0 := by
  pointwise [k0_pay21]
  by_cases h : r.val < 256
  · rw [dif_pos h, low_of_lt h, show r.val / 256 = 0 by omega]; exact Finset.sum_congr rfl fun c _ => lo_select c _ _
  · rw [dif_neg h, low_of_ge h, show r.val / 256 = 1 by omega]; exact Finset.sum_congr rfl fun c _ => hi_select c _ _

theorem a_read (x : Vec Ideal S1x1x1x512x256 .bf16) (r : Fin 512) (c : Fin 256) : k0_pay24 x (ix2 r c) = x (ix5 0 0 0 r c) := by
  pointwise [k0_pay24]
theorem b_read (x : Vec Ideal S1x1x1x512x256 .bf16) (r : Fin 512) (c : Fin 256) : k0_pay25 x (ix2 r c) = x (ix5 0 0 0 r c) := by
  pointwise [k0_pay25]
theorem run_read (x : Vec Ideal S1x1x512x128 .f32) (r : Fin 512) : k0_pay42 x (ix2 r 0) = x (ix4 0 0 r 0) := by
  pointwise [k0_pay42]
theorem zero_read (r : Fin 512) : (k0_pay22 : FVec Ideal S512x1 .f32) (ix2 r 0) = 0 := by
  pointwise [k0_pay22]
theorem zeroQ_read (r : Fin 256) (c : Fin 128) : (k0_pay23 : FVec Ideal S256x128 .f32) (ix2 r c) = 0 := by
  pointwise [k0_pay23]
theorem zeroK_read (r : Fin 8192) (c : Fin 128) : (k0_pay13 : FVec Ideal S8192x128 .f32) (ix2 r c) = 0 := by
  pointwise [k0_pay13]
theorem zeroV_read (r : Fin 8192) (c : Fin 128) : (k0_pay14 : FVec Ideal S8192x128 .f32) (ix2 r c) = 0 := by
  pointwise [k0_pay14]
theorem outK_read (x : FVec Ideal S8192x128 .f32) (r : Fin 8192) (c : Fin 128) : (k0_pay3 (F := Ideal) x (ix2 r c) : EReal) = x (ix2 r c) := by
  pointwise [k0_pay3]
theorem outV_read (x : FVec Ideal S8192x128 .f32) (r : Fin 8192) (c : Fin 128) : (k0_pay4 (F := Ideal) x (ix2 r c) : EReal) = x (ix2 r c) := by
  pointwise [k0_pay4]
theorem outQ_read (x : FVec Ideal S256x128 .f32) (r : Fin 256) (c : Fin 128) : k0_pay136 x (ix2 r c) = x (ix2 r c) * ((1 / 8 : ℝ) : EReal) := by
  pointwise [k0_pay136]
  rw [eighth_f32]

/-! ## A point's blocks -/

/-- The kernel's arguments for one pair of heads, over the reals: queries, keys, values, output and the output's gradient. -/
structure PairR where
  q : ℕ → Fin 128 → ℝ
  k : ℕ → Fin 128 → ℝ
  v : ℕ → Fin 128 → ℝ
  o : ℕ → Fin 128 → ℝ
  ct : ℕ → Fin 128 → ℝ

/-- The constants of the chain at query block `i`. -/
def PairR.fixed (A : PairR) (i : ℕ) : FixedR where
  Q r c := if c.val / 64 = r.val / 256 then A.q (pos i r) c * (1 / 8) else 0
  D r c := if c.val / 64 = r.val / 256 then A.ct (pos i r) c else 0
  dtot r := ∑ c : Fin 128, if c.val / 64 = r.val / 256 then A.ct (pos i r) c * A.o (pos i r) c else 0
  K := A.k
  V := A.v

/-- The blocks of step `g` hold these real numbers, and the kept ones are those of its four chains. -/
structure Blocks.Is (X : Blocks Ideal) (A : PairR) (g : ℕ) : Prop where
  q : ∀ (r : Fin 1024) c, X.q (ix2 r c) = (A.q (1024 * g + r) c : EReal)
  k : ∀ (s : Fin 8192) c, X.k (ix2 s c) = (A.k s c : EReal)
  v : ∀ (s : Fin 8192) c, X.v (ix2 s c) = (A.v s c : EReal)
  o : ∀ (r : Fin 1024) c, X.o (ix2 r c) = (A.o (1024 * g + r) c : EReal)
  ct : ∀ (r : Fin 1024) c, X.ct (ix2 r c) = (A.ct (1024 * g + r) c : EReal)
  tri : ∀ x y : Fin 256, X.tri (ix2 x y) = (((if y ≤ x then 1 else 0 : ℝ)) : EReal)
  a0 : ∀ (u : Fin 4) (r : Fin 512) (x : Fin 256), X.a (ix5 0 u 0 r x) = ((A.fixed (4 * g + u)).wR (4 * g + u) r (256 * (4 * g + u) + x) : EReal)
  b0 : ∀ (u : Fin 4) (r : Fin 512) (x : Fin 256), X.beta (ix5 0 u 0 r x) = ((A.fixed (4 * g + u)).betaR (4 * g + u) r (256 * (4 * g + u) + x) : EReal)
  a1 : ∀ (u : Fin 4) (r : Fin 512) (x : Fin 256), X.a (ix5 0 u 1 r x)
    = ((if 4 * g + u.val = 0 then 0 else (A.fixed (4 * g + u)).wR (4 * g + u) r (256 * (4 * g + u - 1) + x) : ℝ) : EReal)
  b1 : ∀ (u : Fin 4) (r : Fin 512) (x : Fin 256), X.beta (ix5 0 u 1 r x)
    = ((if 4 * g + u.val = 0 then 0 else (A.fixed (4 * g + u)).betaR (4 * g + u) r (256 * (4 * g + u - 1) + x) : ℝ) : EReal)
  run : ∀ (u : Fin 4) (r : Fin 512), X.run (ix4 0 u r 0) = ((A.fixed (4 * g + u)).laterR (4 * g + u) r (256 * (4 * g + u - 1)) : EReal)

/-- The kept numbers of the chain at query block `i`. -/
def PairR.kept (A : PairR) (i : ℕ) : Kept where
  a0 r x := (A.fixed i).wR i r (256 * i + x)
  b0 r x := (A.fixed i).betaR i r (256 * i + x)
  a1 r x := if i = 0 then 0 else (A.fixed i).wR i r (256 * (i - 1) + x)
  b1 r x := if i = 0 then 0 else (A.fixed i).betaR i r (256 * (i - 1) + x)
  run r := (A.fixed i).laterR i r (256 * (i - 1))

theorem kept_of (A : PairR) (i : ℕ) : (A.kept i).Of (A.fixed i) i := ⟨fun _ _ => rfl, fun _ _ => rfl, fun _ _ => rfl, fun _ _ => rfl, fun _ => rfl⟩

theorem tri_read (x : Vec Ideal S256x256 .bf16) (r c : Fin 256) : k0_pay15 x (ix2 r c) = x (ix2 r c) := by
  pointwise [k0_pay15]

section Chain
variable {X : Blocks Ideal} {A : PairR} {g : ℕ}

theorem row_pos (u : Fin 4) (r : Fin 512) : 1024 * g + (256 * u.val + (low r).val) = pos (4 * g + u) r := by unfold pos; show _ + (_ + r.val % 256) = _; omega

theorem fixed_is (hX : X.Is A g) (u : Fin 4) : (fixedOf X u).Is (A.fixed (4 * g + u)) where
  tri x y := (tri_read _ x y).trans (hX.tri x y)
  lo := lo_read
  hi := hi_read
  qs r c := by
    refine (qs_read _ r c).trans ?_
    show _ = ((if _ then _ else _ : ℝ) : EReal)
    by_cases h : c.val / 64 = r.val / 256
    · rw [if_pos h, if_pos h, EReal.coe_mul, ← row_pos]; exact congrArg (· * _) (hX.q ⟨256 * u.val + (low r).val, _⟩ c)
    · rw [if_neg h, if_neg h, EReal.coe_zero]
  dos r c := by
    refine (dos_read _ r c).trans ?_
    show _ = ((if _ then _ else _ : ℝ) : EReal)
    by_cases h : c.val / 64 = r.val / 256
    · rw [if_pos h, if_pos h, ← row_pos]; exact hX.ct ⟨256 * u.val + (low r).val, _⟩ c
    · rw [if_neg h, if_neg h, EReal.coe_zero]
  dtot r := by
    refine (dtot_read _ _ r).trans ?_
    refine Eq.trans ?_ (coe_sum Finset.univ (fun c : Fin 128 => if c.val / 64 = r.val / 256 then A.ct (pos (4 * g + u) r) c * A.o (pos (4 * g + u) r) c else 0)).symm
    refine Finset.sum_congr rfl fun c _ => ?_
    by_cases h : c.val / 64 = r.val / 256
    · rw [if_pos h, if_pos h, EReal.coe_mul, ← row_pos]
      exact congrArg₂ (· * ·) (hX.ct ⟨256 * u.val + (low r).val, _⟩ c) (hX.o ⟨256 * u.val + (low r).val, _⟩ c)
    · rw [if_neg h, if_neg h, EReal.coe_zero]
  keys := hX.k
  vals := hX.v

/-- The chain of strip `u` is the chain over the reals. -/
theorem chain_is (hX : X.Is A g) (u : Fin 4) (hi : 4 * g + u.val < 32) {aK aV : Vec Ideal S8192x128 .f32} {rK rV : ℕ → Fin 128 → ℝ}
    (hK : ∀ (t : Fin 8192) c, aK (ix2 t c) = (rK t c : EReal)) (hV : ∀ (t : Fin 8192) c, aV (ix2 t c) = (rV t c : EReal)) :
    (chain X u (4 * g + u) aK aV).Is ((A.fixed (4 * g + u)).chain (A.kept (4 * g + u)) (4 * g + u) rK rV) := by
  have hC := fixed_is hX u
  have h0 : (startOf X u aK aV).Is ⟨(A.kept (4 * g + u)).run, fun _ => 0, fun _ _ => 0, rK, rV⟩ :=
    ⟨fun r => (run_read (sums X.run u) r).trans (hX.run u r), fun r => (zero_read r).trans EReal.coe_zero.symm, fun r c => (zeroQ_read r c).trans EReal.coe_zero.symm, hK, hV⟩
  have h1 := keptTurn_is hC hi (ab := k0_pay24 (saved X.a u 0)) (A := (A.kept (4 * g + u)).a0) (fun r x => (a_read _ r x).trans (hX.a0 u r x))
    (bt := k0_pay25 (saved X.beta u 0)) (B := (A.kept (4 * g + u)).b0) (fun r x => (b_read _ r x).trans (hX.b0 u r x)) h0
  have h2 := keptTurn_is hC (by omega : 4 * g + u.val - 1 < 32) (ab := k0_pay24 (saved X.a u 1)) (A := (A.kept (4 * g + u)).a1) (fun r x => (a_read _ r x).trans (hX.a1 u r x))
    (bt := k0_pay25 (saved X.beta u 1)) (B := (A.kept (4 * g + u)).b1) (fun r x => (b_read _ r x).trans (hX.b1 u r x)) h1
  exact turns_is hC _ (by omega) h2

/-- What the chain of strip `u` computes. -/
theorem chain_val (hX : X.Is A g) (u : Fin 4) (hi : 4 * g + u.val < 32) (hd : ∀ r, (A.fixed (4 * g + u)).dtot r = (A.fixed (4 * g + u)).glaterR (4 * g + u) r 0)
    {aK aV : Vec Ideal S8192x128 .f32} {rK rV : ℕ → Fin 128 → ℝ}
    (hK : ∀ (t : Fin 8192) c, aK (ix2 t c) = (rK t c : EReal)) (hV : ∀ (t : Fin 8192) c, aV (ix2 t c) = (rV t c : EReal)) :
    (∀ r c, (chain X u (4 * g + u) aK aV).dq (ix2 r c) = ((∑ y ∈ Finset.Ico 0 8192, (A.fixed (4 * g + u)).dzR (4 * g + u) (side r c) y * A.k y c : ℝ) : EReal))
    ∧ (∀ (t : Fin 8192) c, (chain X u (4 * g + u) aK aV).accK (ix2 t c)
      = ((rK t c + ∑ r, (A.fixed (4 * g + u)).dzR (4 * g + u) r t * (A.fixed (4 * g + u)).Q r c : ℝ) : EReal))
    ∧ (∀ (t : Fin 8192) c, (chain X u (4 * g + u) aK aV).accV (ix2 t c)
      = ((rV t c + ∑ r, (A.fixed (4 * g + u)).wR (4 * g + u) r t * (A.fixed (4 * g + u)).D r c : ℝ) : EReal)) := by
  have h := chain_is hX u hi hK hV
  have e := chain_done hi hd (kept_of A _) rK rV
  refine ⟨fun r c => ?_, fun t c => ?_, fun t c => ?_⟩
  · rw [h.dq, e.dq]; rfl
  · rw [h.accK, e.accK t c t.isLt, if_pos (Nat.zero_le _)]
  · rw [h.accV, e.accV t c t.isLt, if_pos (Nat.zero_le _)]

end Chain

end Cert.Proof.Attn
-- ==== Proof.AttnCumsum.lean ====
module

public import proofs.«01_k».proof.Proof.AttnSum
public import Idealize.ShloMosaic.Lib.Pointwise.Index

/-!
  The host's running sums along the last axis, over the reals: the window of the whole axis, padded after its end, sums from an entry
  on; padded before its start, it sums up to an entry.
-/

@[expose] public section
set_option maxRecDepth 16384
noncomputable section

namespace Cert.Proof.Attn
open Idealize.ShloMosaic Idealize.ShloMosaic.TcCoe Idealize.SL.Sem Idealize.ShloMosaic.Tactic
open scoped BigOperators

/-- Adding one after the other is adding the sum. -/
theorem foldl_sum (n : ℕ) (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- A sum over windows, as one sum over the window's places. -/
theorem window_sum {φ : FTy} {s t u : Shape} (window strides lo hi : Fin s.rank → ℕ) (x : FVec Ideal s φ) (init : FVec Ideal u φ)
    (h : s.ReduceWindows window strides lo hi t) (hu : 0 < u.numel) (j : t.Idx) :
    Host.reduceWindowAdd (F := Ideal) window strides lo hi x init h hu j
      = (init (Shape.Idx.first hu) : EReal) + ∑ n : (⟨s.rank, window⟩ : Shape).Idx,
          if hin : ∀ a, lo a ≤ (j (a.cast h.1.symm)).val * strides a + (n a).val ∧ (j (a.cast h.1.symm)).val * strides a + (n a).val - lo a < s.size a
          then (x fun a => ⟨(j (a.cast h.1.symm)).val * strides a + (n a).val - lo a, (hin a).2⟩ : EReal) else init (Shape.Idx.first hu) := by
  rw [← Equiv.sum_comp (⟨s.rank, window⟩ : Shape).rowMajor.symm]
  refine Eq.trans ?_ (foldl_sum _ (fun n => _) _)
  show Ideal.hostReduceWindowAdd window strides lo hi h x (init (Shape.Idx.first hu)) j = _
  unfold Ideal.hostReduceWindowAdd Host.reduceWindow
  refine congrArg (fun f => List.foldl f _ _) (funext fun r => funext fun n => ?_)
  refine congrArg (fun z : EReal => r + z) ?_
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- A sum over a window that is one whole last axis. -/
theorem sum_keys {N : ℕ} (G : (⟨3, ![1, 1, N]⟩ : Shape).Idx → EReal) : ∑ n, G n = ∑ n : Fin N, G (ix3 0 0 n) := by
  rw [sum_idx3]
  simp

variable {A B N : ℕ} {u : Shape} {hi lo : Fin 3 → ℕ} (x : FVec Ideal ⟨3, ![A, B, N]⟩ .f32) (init : FVec Ideal u .f32) {hu : 0 < u.numel}

/-- Padded after the end: the sum from entry `s` on. -/
theorem window_after {hi : Fin 3 → ℕ} {h : (⟨3, ![A, B, N]⟩ : Shape).ReduceWindows ![1, 1, N] ![1, 1, 1] ![0, 0, 0] hi ⟨3, ![A, B, N]⟩}
    (h0 : ∀ i, init i = (0 : EReal)) (a : Fin A) (t : Fin B) {X : ℕ → ℝ} (hx : ∀ s : Fin N, x (ix3 a t s) = (X s : EReal)) (s : Fin N) :
    Host.reduceWindowAdd (F := Ideal) ![1, 1, N] ![1, 1, 1] ![0, 0, 0] hi x init h hu (ix3 a t s) = ((∑ y ∈ Finset.Ico s.val N, X y : ℝ) : EReal) := by
  have hs := s.isLt
  refine (window_sum (s := ⟨3, ![A, B, N]⟩) _ _ _ _ x init h hu _).trans ?_
  rw [h0, zero_add]
  refine (sum_keys _).trans ?_
  refine (Finset.sum_congr rfl (g := fun n : Fin N => ((if s.val + n.val < N then X (s.val + n.val) else 0 : ℝ) : EReal)) fun n _ => ?_).trans ?_
  · show _ = ((if s.val + n.val < N then X (s.val + n.val) else 0 : ℝ) : EReal)
    by_cases hn : s.val + n.val < N
    · rw [if_pos hn, ← hx ⟨s.val + n.val, hn⟩]
      refine (dif_pos ?_).trans ?_
      · intro b
        match b with
        | ⟨0, _⟩ => show 0 ≤ a.val * 1 + 0 ∧ a.val * 1 + 0 - 0 < A; have := a.isLt; omega
        | ⟨1, _⟩ => show 0 ≤ t.val * 1 + 0 ∧ t.val * 1 + 0 - 0 < B; have := t.isLt; omega
        | ⟨2, _⟩ => show 0 ≤ s.val * 1 + n.val ∧ s.val * 1 + n.val - 0 < N; omega
      · refine congrArg x (funext fun b => Fin.ext ?_)
        match b with
        | ⟨0, _⟩ => show a.val * 1 + 0 - 0 = a.val; omega
        | ⟨1, _⟩ => show t.val * 1 + 0 - 0 = t.val; omega
        | ⟨2, _⟩ => show s.val * 1 + n.val - 0 = s.val + n.val; omega
    · rw [if_neg hn]
      refine dif_neg fun hin => ?_
      have h2 : 0 ≤ s.val * 1 + n.val ∧ s.val * 1 + n.val - 0 < N := hin (2 : Fin 3)
      omega
  rw [← coe_sum]
  congr 1
  rw [Fin.sum_univ_eq_sum_range (fun n => if s.val + n < N then X (s.val + n) else 0) N, ← Finset.sum_filter]
  rw [show Finset.Ico s.val N = (Finset.range (N - s.val)).map (addLeftEmbedding s.val) by
    rw [Finset.range_eq_Ico, Finset.map_add_left_Ico, add_zero, Nat.add_sub_cancel' hs.le], Finset.sum_map]
  refine Finset.sum_congr ?_ fun _ _ => rfl
  ext y
  simp only [Finset.mem_filter, Finset.mem_range]
  omega

/-- Padded before the start: the sum up to entry `s`. -/
theorem window_before {M : ℕ} {h : (⟨3, ![A, B, M + 1]⟩ : Shape).ReduceWindows ![1, 1, M + 1] ![1, 1, 1] ![0, 0, M] ![0, 0, 0] ⟨3, ![A, B, M + 1]⟩}
    (x : FVec Ideal ⟨3, ![A, B, M + 1]⟩ .f32)
    (h0 : ∀ i, init i = (0 : EReal)) (a : Fin A) (t : Fin B) {X : ℕ → ℝ} (hx : ∀ s : Fin (M + 1), x (ix3 a t s) = (X s : EReal)) (s : Fin (M + 1)) :
    Host.reduceWindowAdd (F := Ideal) ![1, 1, M + 1] ![1, 1, 1] ![0, 0, M] ![0, 0, 0] x init h hu (ix3 a t s)
      = ((∑ y ∈ Finset.Ico 0 (s.val + 1), X y : ℝ) : EReal) := by
  have hs := s.isLt
  refine (window_sum (s := ⟨3, ![A, B, M + 1]⟩) _ _ _ _ x init h hu _).trans ?_
  rw [h0, zero_add]
  refine (sum_keys _).trans ?_
  refine (Finset.sum_congr rfl (g := fun n : Fin (M + 1) => ((if M ≤ s.val + n.val then X (s.val + n.val - M) else 0 : ℝ) : EReal)) fun n _ => ?_).trans ?_
  · show _ = ((if M ≤ s.val + n.val then X (s.val + n.val - M) else 0 : ℝ) : EReal)
    have hn1 := n.isLt
    by_cases hn : M ≤ s.val + n.val
    · rw [if_pos hn, ← hx ⟨s.val + n.val - M, by omega⟩]
      refine (dif_pos ?_).trans ?_
      · intro b
        match b with
        | ⟨0, _⟩ => show 0 ≤ a.val * 1 + 0 ∧ a.val * 1 + 0 - 0 < A; have := a.isLt; omega
        | ⟨1, _⟩ => show 0 ≤ t.val * 1 + 0 ∧ t.val * 1 + 0 - 0 < B; have := t.isLt; omega
        | ⟨2, _⟩ => show M ≤ s.val * 1 + n.val ∧ s.val * 1 + n.val - M < M + 1; omega
      · refine congrArg x (funext fun b => Fin.ext ?_)
        match b with
        | ⟨0, _⟩ => show a.val * 1 + 0 - 0 = a.val; omega
        | ⟨1, _⟩ => show t.val * 1 + 0 - 0 = t.val; omega
        | ⟨2, _⟩ => show s.val * 1 + n.val - M = s.val + n.val - M; omega
    · rw [if_neg hn]
      refine dif_neg fun hin => ?_
      have h2 : M ≤ s.val * 1 + n.val ∧ s.val * 1 + n.val - M < M + 1 := hin (2 : Fin 3)
      omega
  rw [← coe_sum]
  congr 1
  rw [Fin.sum_univ_eq_sum_range (fun n => if M ≤ s.val + n then X (s.val + n - M) else 0) (M + 1), ← Finset.sum_filter]
  refine Finset.sum_nbij' (fun n => s.val + n - M) (fun y => y + M - s.val) ?_ ?_ ?_ ?_ fun _ _ => rfl <;>
    · intro y hy
      simp only [Finset.mem_filter, Finset.mem_range, Finset.mem_Ico] at hy ⊢
      omega

end Cert.Proof.Attn
-- ==== Proof.AttnRef.lean ====
module

public import proofs.«01_k».proof.Proof.AttnChain
public import proofs.«01_k».proof.Proof.AttnCumsum
public import proofs.«01_k».proof.Proof.Gen.AttnReferenceIdeal.Read

/-!
  The reference over the reals: its scores, weights and the derivatives of its scores are the sums over keys that the kernel's chains
  compute.
-/

@[expose] public section
set_option maxRecDepth 16384
noncomputable section

namespace Cert.Proof.Attn
open Cert.AttnReferenceIdeal Cert.AttnReferenceIdeal.Gen Cert.AttnReferenceIdeal.Read
open Idealize.ShloMosaic Idealize.ShloMosaic.TcCoe Idealize.SL.Sem Idealize.ShloMosaic.Tactic
open scoped BigOperators

/-! ## Real numbers -/

theorem softplus_neg (z : ℝ) : Real.log (1 + Real.exp (-z)) = Real.log (1 + Real.exp z) - z := by
  have e : 1 + Real.exp z = Real.exp z * (1 + Real.exp (-z)) := by
    rw [mul_add, ← Real.exp_add]; simp; ring
  rw [e, Real.log_mul (Real.exp_pos z).ne' (by positivity), Real.log_exp]
  ring

/-- The sigmoid, as the exponential of its logarithm and as one minus the sigmoid of the negated score. -/
theorem sigmoid_eq (z : ℝ) : Real.exp (z - Real.log (1 + Real.exp z)) = 1 - Real.exp (-Real.log (1 + Real.exp z)) := by
  have hp : (0 : ℝ) < 1 + Real.exp z := by positivity
  rw [Real.exp_sub, Real.exp_neg, Real.exp_log hp]
  field_simp
  ring

theorem softplus_scalar (x : ℝ) : max (x : EReal) 0 + Ideal.log1p (Ideal.exp (-FloatOps.absf (F := Ideal) (φ := .f32) (x : EReal))) = (Real.log (1 + Real.exp x) : EReal) := by
  rw [Ideal.absf_def]
  show _ + Ideal.log (1 + _) = _
  rw [← EReal.coe_neg, ← coe_max, ← EReal.coe_neg, Ideal.exp_coe, ← EReal.coe_one, ← EReal.coe_add, log_coe_pos (by positivity), ← EReal.coe_zero, ← coe_max, ← EReal.coe_add]
  have h := log_one_minus x
  congr 1
  rw [zero_sub] at h
  linarith [h, (by ring : (0:ℝ) - max x (-x) = -max x (-x)) ▸ h]

theorem inf_f32 : Ideal.ofBits FTy.f32 2139095040#32 = ⊤ := by
  simp [Ideal.ofBits, Ideal.ieee]

/-! ## The arguments, and what is computed from them -/

/-- The projected rows of the attention: 8192 by 5120. -/
abbrev Proj : Type := (⟨S8192x5120, .bf16⟩ : BufTy).Contents (Elt Ideal)
/-- The gradient of the heads' outputs: 8192 by 512. -/
abbrev Grad : Type := (⟨S8192x512, .bf16⟩ : BufTy).Contents (Elt Ideal)

/-- The columns of queries, keys and values, and the gradient of the output, are these real numbers. -/
structure ArgsAre (x0 : Proj) (x1 : Grad) (P O : ℕ → ℕ → ℝ) : Prop where
  p : ∀ (t : Fin 8192) (j : Fin 5120), 1536 ≤ j.val → j.val < 3072 → x0 (ix2 t j) = (P t j : EReal)
  o : ∀ (t : Fin 8192) (j : Fin 512), x1 (ix2 t j) = (O t j : EReal)

/-- The score of query `t` and key `s` in head `h`. -/
def Z (P : ℕ → ℕ → ℝ) (h t s : ℕ) : ℝ := (∑ d : Fin 64, P t (1536 + (h * 64 + d)) * P s (2048 + (h * 64 + d))) * (1 / 8)
/-- The derivative of its weight. -/
def DA (P O : ℕ → ℕ → ℝ) (h t s : ℕ) : ℝ := ∑ d : Fin 64, O t (h * 64 + d) * P s (2560 + (h * 64 + d))

section Ref
variable {x0 : Proj} {x1 : Grad} {P O : ℕ → ℕ → ℝ} (H : ArgsAre x0 x1 P O) (h : Fin 8) (t s : Fin 8192) (d : Fin 64)
include H

theorem q_coe : val_main_v9 (F := Ideal) x0 (ix3 h t d) = (P t (1536 + (h.val * 64 + d.val)) : EReal) := by
  pointwise [val_main_v9, val_main_v2, val_main_v1, val_main_v0]
  exact H.p t ⟨1536 + (h.val * 64 + d.val), by omega⟩ (by show 1536 ≤ 1536 + _; omega) (by show 1536 + (h.val * 64 + d.val) < 3072; omega)
theorem k_coe : val_main_v10 (F := Ideal) x0 (ix3 h t d) = (P t (2048 + (h.val * 64 + d.val)) : EReal) := by
  pointwise [val_main_v10, val_main_v5, val_main_v4, val_main_v3]
  exact H.p t ⟨2048 + (h.val * 64 + d.val), by omega⟩ (by show 1536 ≤ 2048 + _; omega) (by show 2048 + (h.val * 64 + d.val) < 3072; omega)
theorem v_coe : val_main_v11 (F := Ideal) x0 (ix3 h t d) = (P t (2560 + (h.val * 64 + d.val)) : EReal) := by
  pointwise [val_main_v11, val_main_v8, val_main_v7, val_main_v6]
  exact H.p t ⟨2560 + (h.val * 64 + d.val), by omega⟩ (by show 1536 ≤ 2560 + _; omega) (by show 2560 + (h.val * 64 + d.val) < 3072; omega)
theorem ct_coe : val_main_v35 (F := Ideal) x1 (ix3 h t d) = (O t (h.val * 64 + d.val) : EReal) := by
  pointwise [val_main_v35, val_main_v34, val_main_v33]
  exact H.o t ⟨h.val * 64 + d.val, by omega⟩

omit H in
/-- The mask: the keys before the query. -/
theorem mask_read : val_main_v23_1 (F := Ideal) (ix3 h t s) = if s.val < t.val then 1#1 else 0#1 := by
  pointwise [val_main_v23_1, val_main_v20, val_main_v18, val_main_v19, val_main_v17, val_main_v16, val_main_v12]
  have hs := s.isLt
  have ht := t.isLt
  have e : (BitVec.ofNat 32 s.val).slt (BitVec.ofNat 32 t.val) = decide (s.val < t.val) := by
    rw [BitVec.slt_eq_ult_of_msb_eq, BitVec.ult]
    · simp only [BitVec.toNat_ofNat]
      rw [Nat.mod_eq_of_lt (by omega), Nat.mod_eq_of_lt (by omega)]
    · rw [BitVec.msb_eq_false_iff_two_mul_lt.mpr, BitVec.msb_eq_false_iff_two_mul_lt.mpr] <;> simp only [BitVec.toNat_ofNat] <;> omega
  show BitVec.ofBool ((BitVec.ofNat 32 s.val).slt (BitVec.ofNat 32 t.val)) = _
  rw [e]
  by_cases h : s.val < t.val <;> simp [h]

omit H in
/-- A masked number. -/
theorem masked {a : EReal} {r : ℝ} {p : Prop} [Decidable p] (ha : p → a = (r : EReal)) :
    Scalar.select (if p then 1#1 else 0#1) a (0 : EReal) = ((if p then r else 0 : ℝ) : EReal) := by
  by_cases hp : p
  · rw [if_pos hp, if_pos hp, ha hp]; rfl
  · rw [if_neg hp, if_neg hp, EReal.coe_zero]; rfl

theorem ref_z : val_main_v15 (F := Ideal) x0 (ix3 h t s) = (Z P h t s : EReal) := by
  pointwise [val_main_v15, val_main_v14, val_main_cst, val_main_v13]
  rw [eighth_f32]
  unfold Z
  rw [EReal.coe_mul, coe_sum]
  exact congrArg (· * _) (Finset.sum_congr rfl fun d _ => by rw [q_coe H, k_coe H, EReal.coe_mul])

omit H in
theorem soft_call0 {x : ℝ} (hx : val_main_call0_v0 (F := Ideal) x0 (ix3 h t s) = (x : EReal)) :
    val_main_call0_v1_0 (F := Ideal) x0 (ix3 h t s) = (Real.log (1 + Real.exp x) : EReal) := by
  pointwise [val_main_call0_v1_0, val_main_call0_call0_v4, val_main_call0_call0_v6, val_main_call0_call0_v11, val_main_call0_call0_v3, val_main_call0_call0_v5, val_main_call0_call0_v1,
    val_main_call0_call0_v10, val_main_call0_call0_v9, val_main_call0_call0_v8, val_main_call0_call0_v7, val_main_call0_call0_v2, val_main_call0_call0_v0, val_main_call0_call0_cst]
  rw [hx, if_neg (fun hn => hn rfl)]
  exact softplus_scalar x

omit H in
theorem sig_call0 {x : ℝ} (hx : val_main_call0_v0 (F := Ideal) x0 (ix3 h t s) = (x : EReal)) :
    val_main_v22_1 (F := Ideal) x0 (ix3 h t s) = (Real.exp (x - Real.log (1 + Real.exp x)) : EReal) := by
  pointwise [val_main_v22_1, val_main_call0_call0_v21, val_main_call0_call0_v20, val_main_call0_call0_v16, val_main_call0_call0_v14, val_main_call0_call0_v13, val_main_call0_call0_cst_0,
    val_main_call0_call0_v15, val_main_call0_call0_cst_1, val_main_call0_call0_v18, val_main_call0_call0_v17, val_main_call0_call0_cst_2, val_main_call0_call0_v19, val_main_call0_call0_cst_3]
  rw [soft_call0 h t s hx, hx, inf_f32, if_neg (EReal.coe_ne_top _), if_neg (EReal.coe_ne_top _), ← EReal.coe_sub, Ideal.exp_coe]

omit H in
theorem soft_call3 {x : ℝ} (hx : val_main_call3_v0 (F := Ideal) x0 (ix3 h t s) = (x : EReal)) :
    val_main_call3_v1_0 (F := Ideal) x0 (ix3 h t s) = (Real.log (1 + Real.exp x) : EReal) := by
  pointwise [val_main_call3_v1_0, val_main_call3_call0_v4, val_main_call3_call0_v6, val_main_call3_call0_v11, val_main_call3_call0_v3, val_main_call3_call0_v5, val_main_call3_call0_v1,
    val_main_call3_call0_v10, val_main_call3_call0_v9, val_main_call3_call0_v8, val_main_call3_call0_v7, val_main_call3_call0_v2, val_main_call3_call0_v0, val_main_call3_call0_cst]
  rw [hx, if_neg (fun hn => hn rfl)]
  exact softplus_scalar x

omit H in
theorem sig_call3 {x : ℝ} (hx : val_main_call3_v0 (F := Ideal) x0 (ix3 h t s) = (x : EReal)) :
    val_main_v25_1 (F := Ideal) x0 (ix3 h t s) = (Real.exp (x - Real.log (1 + Real.exp x)) : EReal) := by
  pointwise [val_main_v25_1, val_main_call3_call0_v21, val_main_call3_call0_v20, val_main_call3_call0_v16, val_main_call3_call0_v14, val_main_call3_call0_v13, val_main_call3_call0_cst_0,
    val_main_call3_call0_v15, val_main_call3_call0_cst_1, val_main_call3_call0_v18, val_main_call3_call0_v17, val_main_call3_call0_cst_2, val_main_call3_call0_v19, val_main_call3_call0_cst_3]
  rw [soft_call3 h t s hx, hx, inf_f32, if_neg (EReal.coe_ne_top _), if_neg (EReal.coe_ne_top _), ← EReal.coe_sub, Ideal.exp_coe]

theorem ref_pos : val_main_call0_v0 (F := Ideal) x0 (ix3 h t s) = (Z P h t s : EReal) := by
  pointwise [val_main_call0_v0, val_main_v21]
  rw [ref_z H, ← EReal.coe_neg, ← EReal.coe_neg, neg_neg]
theorem ref_neg : val_main_call3_v0 (F := Ideal) x0 (ix3 h t s) = ((-Z P h t s : ℝ) : EReal) := by
  pointwise [val_main_call3_v0]
  rw [ref_z H, EReal.coe_neg]

/-- The masked logarithms. -/
theorem ref_lm : val_main_v23_0 (F := Ideal) x0 (ix3 h t s) = (Row.lm (Z P h t) t s : EReal) := by
  have e : val_main_v23_0 (F := Ideal) x0 (ix3 h t s) = Scalar.select (val_main_v23_1 (F := Ideal) (ix3 h t s)) (-(val_main_call0_v1_0 (F := Ideal) x0 (ix3 h t s) : EReal)) 0 := by
    pointwise [val_main_v23_0, val_main_v22_0, val_main_call1_v2, val_main_call1_v0, val_main_cst_0]
    show Scalar.select _ _ (Ideal.ofBits FTy.f32 0#32) = _
    rw [Ideal.ofBits_zero_f32]
  rw [e, mask_read, soft_call0 h t s (ref_pos H h t s), ← EReal.coe_neg]
  exact masked fun _ => rfl

/-- Their sums from a key on. -/
theorem ref_later : val_main_v24 (F := Ideal) x0 (ix3 h t s) = (Row.later (Z P h t) t s : EReal) := by
  unfold val_main_v24
  exact window_after (A := 8) (B := 8192) (N := 8192) (val_main_v23_0 (F := Ideal) x0) (val_main_call2_v0 (F := Ideal)) (fun i => by pointwise [val_main_call2_v0, val_main_call2_cst]) h t (fun s => ref_lm H h t s) s

/-- The weights before masking. -/
theorem ref_w' (hs : s.val < t.val) : val_main_v28 (F := Ideal) x0 (ix3 h t s) = (Row.w (Z P h t) t s : EReal) := by
  pointwise [val_main_v28, val_main_v27, val_main_v26, val_main_v25_0]
  rw [soft_call3 h t s (ref_neg H h t s), ref_later H, ref_lm H, ← EReal.coe_neg, ← EReal.coe_sub, ← EReal.coe_add, Ideal.exp_coe]
  congr 1
  unfold Row.w
  rw [if_pos hs, softplus_neg]
  congr 1
  unfold Row.lm
  rw [if_pos hs]
  ring

theorem ref_real : ∃ r : ℝ, val_main_v28 (F := Ideal) x0 (ix3 h t s) = (r : EReal) := by
  pointwise [val_main_v28, val_main_v27, val_main_v26, val_main_v25_0]
  rw [soft_call3 h t s (ref_neg H h t s), ref_later H, ref_lm H, ← EReal.coe_neg, ← EReal.coe_sub, ← EReal.coe_add, Ideal.exp_coe]
  exact ⟨_, rfl⟩

/-- The weights. -/
theorem ref_w : val_main_v29_0 (F := Ideal) x0 (ix3 h t s) = (Row.w (Z P h t) t s : EReal) := by
  have e : val_main_v29_0 (F := Ideal) x0 (ix3 h t s) = Scalar.select (val_main_v23_1 (F := Ideal) (ix3 h t s)) (val_main_v28 (F := Ideal) x0 (ix3 h t s) : EReal) 0 := by
    pointwise [val_main_v29_0, val_main_v29_1, val_main_v23_1, val_main_call4_v2, val_main_call4_v0, val_main_cst_1]
    show Scalar.select _ _ (Ideal.ofBits FTy.f32 0#32) = _
    rw [Ideal.ofBits_zero_f32]
  rw [e, mask_read]
  refine (masked (r := Row.w (Z P h t) t s) fun hs => ref_w' H h t s hs).trans ?_
  congr 1
  unfold Row.w
  split_ifs <;> rfl

/-- The output of the heads. -/
theorem ref_o (j : Fin 512) : val_main_v32 (F := Ideal) x0 (ix2 t j) = ((∑ s : Fin 8192, Row.w (Z P (j.val / 64) t) t s * P s (2560 + j.val) : ℝ) : EReal) := by
  pointwise [val_main_v32, val_main_v31, val_main_v30]
  rw [coe_sum]
  refine Finset.sum_congr rfl fun s _ => ?_
  rw [ref_w H, v_coe H, EReal.coe_mul]
  show _ * ((P s (2560 + (j.val / 64 * 64 + j.val % 64)) : ℝ) : EReal) = _
  rw [show j.val / 64 * 64 + j.val % 64 = j.val by omega]

/-- The derivative of a weight times the weight. -/
theorem ref_g : val_main_v40 (F := Ideal) x0 x1 (ix3 h t s) = (Row.g (Z P h t) (DA P O h t) t s : EReal) := by
  have e : val_main_v40 (F := Ideal) x0 x1 (ix3 h t s) = Scalar.select (val_main_v23_1 (F := Ideal) (ix3 h t s)) (∑ d : Fin 64, val_main_v35 (F := Ideal) x1 (ix3 h t d) * val_main_v11 (F := Ideal) x0 (ix3 h s d) : EReal) 0
      * (val_main_v28 (F := Ideal) x0 (ix3 h t s) : EReal) := by
    pointwise [val_main_v40, val_main_v39, val_main_v38, val_main_v29_1, val_main_v23_1, val_main_call5_v0, val_main_call5_cst]
  have ed : (∑ d : Fin 64, val_main_v35 (F := Ideal) x1 (ix3 h t d) * val_main_v11 (F := Ideal) x0 (ix3 h s d) : EReal) = (DA P O h t s : EReal) := by
    unfold DA
    rw [coe_sum]
    exact Finset.sum_congr rfl fun d _ => by rw [ct_coe H, v_coe H, EReal.coe_mul]
  rw [e, mask_read, ed, masked fun _ => rfl]
  by_cases hs : s.val < t.val
  · rw [if_pos hs, ref_w' H h t s hs, ← EReal.coe_mul, mul_comm]; rfl
  · obtain ⟨r, hr⟩ := ref_real H h t s
    rw [if_neg hs, hr, ← EReal.coe_mul, zero_mul, Row.g_of_le _ _ _ (by omega)]

/-- The sums of these up to a key. -/
theorem ref_upto : val_main_v43 (F := Ideal) x0 x1 (ix3 h t s) = ((∑ y ∈ Finset.Ico 0 (s.val + 1), Row.g (Z P h t) (DA P O h t) t y : ℝ) : EReal) := by
  unfold val_main_v43
  exact window_before (A := 8) (B := 8192) (M := 8191) (val_main_call7_v0 (F := Ideal)) (val_main_v40 (F := Ideal) x0 x1) (fun i => by pointwise [val_main_call7_v0, val_main_call7_cst]) h t (fun s => ref_g H h t s) s

omit H in
theorem upto_eq (z da : ℕ → ℝ) (t s : ℕ) (hs : s < 8192) :
    ∑ y ∈ Finset.Ico 0 (s + 1), Row.g z da t y = Row.g z da t s + (Row.glater z da t 0 - Row.glater z da t s) := by
  unfold Row.glater
  rw [Finset.sum_Ico_succ_top (Nat.zero_le _), ← Finset.sum_Ico_consecutive _ (Nat.zero_le s) hs.le]
  ring

/-- The derivative of a score. -/
theorem ref_dz : val_main_v48 (F := Ideal) x0 x1 (ix3 h t s) = (Row.dz (Z P h t) (DA P O h t) t s : EReal) := by
  have e : val_main_v48 (F := Ideal) x0 x1 (ix3 h t s)
      = -(-(val_main_v40 (F := Ideal) x0 x1 (ix3 h t s) : EReal) * val_main_v25_1 (F := Ideal) x0 (ix3 h t s))
        + - -(-(Scalar.select (val_main_v23_1 (F := Ideal) (ix3 h t s)) (-(val_main_v40 (F := Ideal) x0 x1 (ix3 h t s) : EReal) + val_main_v43 (F := Ideal) x0 x1 (ix3 h t s)) 0 : EReal)
            * val_main_v22_1 (F := Ideal) x0 (ix3 h t s)) := by
    pointwise [val_main_v48, val_main_v42, val_main_call6_v1, val_main_call6_v0, val_main_v47, val_main_v46, val_main_call9_v1, val_main_call9_v0, val_main_v45, val_main_v44, val_main_v41, val_main_call8_v0, val_main_call8_cst]
  rw [e, mask_read, ref_g H, ref_upto H, sig_call3 h t s (ref_neg H h t s), sig_call0 h t s (ref_pos H h t s), ← EReal.coe_neg, ← EReal.coe_add, masked fun _ => rfl]
  rw [← EReal.coe_mul, ← EReal.coe_neg, ← EReal.coe_neg, ← EReal.coe_mul, ← EReal.coe_neg, ← EReal.coe_neg, ← EReal.coe_add]
  congr 1
  rw [upto_eq _ _ _ _ s.isLt, softplus_neg, sigmoid_eq]
  unfold Row.dz Row.beta
  by_cases hs : s.val < t.val
  · rw [if_pos hs]
    unfold Row.lm
    rw [if_pos hs, show -Z P h t s - (Real.log (1 + Real.exp (Z P h t s)) - Z P h t s) = -Real.log (1 + Real.exp (Z P h t s)) by ring]
    ring
  · rw [if_neg hs, Row.g_of_le _ _ _ (by omega), Row.lm_of_le _ _ (by omega)]
    simp

theorem ref_dz8 : val_main_v50 (F := Ideal) x0 x1 (ix3 h t s) = ((Row.dz (Z P h t) (DA P O h t) t s * (1 / 8) : ℝ) : EReal) := by
  pointwise [val_main_v50, val_main_v49, val_main_cst_2]
  rw [ref_dz H, eighth_f32, EReal.coe_mul]

/-! ## The results -/

theorem ref_dq (j : Fin 512) : (val_main_v57 (F := Ideal) x0 x1 (ix2 t j) : EReal)
    = ((∑ s : Fin 8192, Row.dz (Z P (j.val / 64) t) (DA P O (j.val / 64) t) t s * (1 / 8) * P s (2048 + j.val) : ℝ) : EReal) := by
  pointwise [val_main_v57, val_main_v56, val_main_v55, val_main_v52]
  rw [coe_sum]
  refine Finset.sum_congr rfl fun s _ => ?_
  rw [ref_dz8 H, k_coe H, EReal.coe_mul (Row.dz _ _ _ _ * _)]
  show _ * ((P s (2048 + (j.val / 64 * 64 + j.val % 64)) : ℝ) : EReal) = _
  rw [show j.val / 64 * 64 + j.val % 64 = j.val by omega]

theorem ref_dk (j : Fin 512) : (val_main_v59 (F := Ideal) x0 x1 (ix2 s j) : EReal)
    = ((∑ t : Fin 8192, Row.dz (Z P (j.val / 64) t) (DA P O (j.val / 64) t) t s * (1 / 8) * P t (1536 + j.val) : ℝ) : EReal) := by
  pointwise [val_main_v59, val_main_v58, val_main_v54, val_main_v51]
  rw [coe_sum]
  refine Finset.sum_congr rfl fun t _ => ?_
  rw [ref_dz8 H, q_coe H, EReal.coe_mul (Row.dz _ _ _ _ * _)]
  show _ * ((P t (1536 + (j.val / 64 * 64 + j.val % 64)) : ℝ) : EReal) = _
  rw [show j.val / 64 * 64 + j.val % 64 = j.val by omega]

theorem ref_dv (j : Fin 512) : (val_main_v61 (F := Ideal) x0 x1 (ix2 s j) : EReal)
    = ((∑ t : Fin 8192, O t j.val * Row.w (Z P (j.val / 64) t) t s : ℝ) : EReal) := by
  pointwise [val_main_v61, val_main_v60, val_main_v53, val_main_v37, val_main_v36]
  rw [coe_sum]
  refine Finset.sum_congr rfl fun t _ => ?_
  rw [ref_w H, ct_coe H, EReal.coe_mul]
  show ((O t (j.val / 64 * 64 + j.val % 64) : ℝ) : EReal) * _ = _
  rw [show j.val / 64 * 64 + j.val % 64 = j.val by omega]

end Ref

end Cert.Proof.Attn
-- ==== Proof.AttnPair.lean ====
module

public import proofs.«01_k».proof.Proof.AttnRef

/-!
  The chains of a pair of heads, from the projections and the gradient of the output: their scores are those of the two heads, and
  their sums, over all blocks of queries, are the gradients.
-/

@[expose] public section
set_option maxRecDepth 16384
noncomputable section

namespace Cert.Proof.Attn
open Cert.AttnIdeal Cert.AttnIdeal.Gen Idealize.ShloMosaic Idealize.ShloMosaic.TcCoe Idealize.SL.Sem
open scoped BigOperators

/-! ## Sums over lanes and rows -/

/-- One of two halves of the lanes. -/
theorem sum_half (f : ℕ → ℝ) {b : ℕ} (hb : b < 2) : (∑ c : Fin 128, if c.val / 64 = b then f c.val else 0) = ∑ d : Fin 64, f (64 * b + d.val) := by
  rw [show (∑ c : Fin 128, if c.val / 64 = b then f c.val else 0) = ∑ c : Fin (64 + 64), if c.val / 64 = b then f c.val else 0 from rfl, Fin.sum_univ_add]
  have h0 : ∀ d : Fin 64, (Fin.castAdd 64 d).val / 64 = 0 := fun d => by show d.val / 64 = 0; omega
  have h1 : ∀ d : Fin 64, (Fin.natAdd 64 d).val / 64 = 1 := fun d => by show (64 + d.val) / 64 = 1; omega
  simp only [h0, h1]
  obtain rfl | rfl : b = 0 ∨ b = 1 := by omega
  · simp
  · simp [add_comm]

/-- One of two halves of the rows, over all blocks of queries: all the queries. -/
theorem sum_rows (f : ℕ → ℝ) {b : ℕ} (hb : b < 2) :
    (∑ i ∈ Finset.range 32, ∑ r : Fin 512, if b = r.val / 256 then f (pos i r) else 0) = ∑ t : Fin 8192, f t.val := by
  have e : ∀ i, (∑ r : Fin 512, if b = r.val / 256 then f (pos i r) else 0) = ∑ x ∈ Finset.range 256, f (256 * i + x) := fun i => by
    rw [show (∑ r : Fin 512, if b = r.val / 256 then f (pos i r) else 0) = ∑ r : Fin (256 + 256), if b = r.val / 256 then f (256 * i + r.val % 256) else 0 from rfl, Fin.sum_univ_add, Finset.sum_range]
    have h0 : ∀ d : Fin 256, (Fin.castAdd 256 d).val / 256 = 0 := fun d => by show d.val / 256 = 0; omega
    have h1 : ∀ d : Fin 256, (Fin.natAdd 256 d).val / 256 = 1 := fun d => by show (256 + d.val) / 256 = 1; omega
    have m0 : ∀ d : Fin 256, (Fin.castAdd 256 d).val % 256 = d.val := fun d => by show d.val % 256 = _; omega
    have m1 : ∀ d : Fin 256, (Fin.natAdd 256 d).val % 256 = d.val := fun d => by show (256 + d.val) % 256 = _; omega
    simp only [h0, h1, m0, m1]
    obtain rfl | rfl : b = 0 ∨ b = 1 := by omega
    · simp
    · simp
  have h : ∀ n, ∑ i ∈ Finset.range n, ∑ x ∈ Finset.range 256, f (256 * i + x) = ∑ y ∈ Finset.range (256 * n), f y := fun n => by
    induction n with
    | zero => simp
    | succ n ih => rw [Finset.sum_range_succ, ih, Nat.mul_succ, Finset.sum_range_add]
  rw [Finset.sum_congr rfl fun i _ => e i, h, Finset.sum_range]

/-! ## A pair of heads -/

variable (P O : ℕ → ℕ → ℝ) (p : ℕ)

/-- What the columns of pair `p` hold. -/
def pairOf : PairR where
  q t c := P t (1536 + (128 * p + c.val))
  k s c := P s (2048 + (128 * p + c.val))
  v s c := P s (2560 + (128 * p + c.val))
  o t c := ∑ s : Fin 8192, Row.w (Z P (2 * p + c.val / 64) t) t s * P s (2560 + (128 * p + c.val))
  ct t c := O t (128 * p + c.val)

theorem row_half (r : Fin 512) : r.val / 256 < 2 := by omega
theorem lane_half (c : Fin 128) : c.val / 64 < 2 := by omega

theorem pair_z (i : ℕ) (r : Fin 512) : ((pairOf P O p).fixed i).z r = Z P (2 * p + r.val / 256) (pos i r) := by
  funext s
  show (∑ c : Fin 128, (if c.val / 64 = r.val / 256 then P (pos i r) (1536 + (128 * p + c.val)) * (1 / 8) else 0) * P s (2048 + (128 * p + c.val))) = _
  rw [Finset.sum_congr rfl (g := fun c : Fin 128 => if c.val / 64 = r.val / 256 then P (pos i r) (1536 + (128 * p + c.val)) * (1 / 8) * P s (2048 + (128 * p + c.val)) else 0)
    fun c _ => by rw [ite_mul, zero_mul],
    sum_half (fun c => P (pos i r) (1536 + (128 * p + c)) * (1 / 8) * P s (2048 + (128 * p + c))) (row_half r)]
  unfold Z
  rw [Finset.sum_mul]
  refine Finset.sum_congr rfl fun d _ => ?_
  rw [show (2 * p + r.val / 256) * 64 + d.val = 128 * p + (64 * (r.val / 256) + d.val) by omega]
  ring

theorem pair_da (i : ℕ) (r : Fin 512) : ((pairOf P O p).fixed i).da r = DA P O (2 * p + r.val / 256) (pos i r) := by
  funext s
  show (∑ c : Fin 128, (if c.val / 64 = r.val / 256 then O (pos i r) (128 * p + c.val) else 0) * P s (2560 + (128 * p + c.val))) = _
  rw [Finset.sum_congr rfl (g := fun c : Fin 128 => if c.val / 64 = r.val / 256 then O (pos i r) (128 * p + c.val) * P s (2560 + (128 * p + c.val)) else 0)
    fun c _ => by rw [ite_mul, zero_mul],
    sum_half (fun c => O (pos i r) (128 * p + c) * P s (2560 + (128 * p + c))) (row_half r)]
  unfold DA
  refine Finset.sum_congr rfl fun d _ => ?_
  rw [show (2 * p + r.val / 256) * 64 + d.val = 128 * p + (64 * (r.val / 256) + d.val) by omega]

theorem pair_w (i : ℕ) (r : Fin 512) : ((pairOf P O p).fixed i).wR i r = Row.w (Z P (2 * p + r.val / 256) (pos i r)) (pos i r) := by
  show Row.w _ _ = _; rw [pair_z]
theorem pair_lm (i : ℕ) (r : Fin 512) : ((pairOf P O p).fixed i).lmR i r = Row.lm (Z P (2 * p + r.val / 256) (pos i r)) (pos i r) := by
  show Row.lm _ _ = _; rw [pair_z]
theorem pair_beta (i : ℕ) (r : Fin 512) : ((pairOf P O p).fixed i).betaR i r = Row.beta (Z P (2 * p + r.val / 256) (pos i r)) (pos i r) := by
  show Row.beta _ _ = _; rw [pair_z]
theorem pair_later (i : ℕ) (r : Fin 512) : ((pairOf P O p).fixed i).laterR i r = Row.later (Z P (2 * p + r.val / 256) (pos i r)) (pos i r) := by
  show Row.later _ _ = _; rw [pair_z]
theorem pair_dz (i : ℕ) (r : Fin 512) : ((pairOf P O p).fixed i).dzR i r
    = Row.dz (Z P (2 * p + r.val / 256) (pos i r)) (DA P O (2 * p + r.val / 256) (pos i r)) (pos i r) := by
  show Row.dz _ _ _ = _; rw [pair_z, pair_da]

/-- The product of a row of the output with its gradient is the row's sum of weights times their derivatives. -/
theorem pair_dtot (i : ℕ) (r : Fin 512) : ((pairOf P O p).fixed i).dtot r = ((pairOf P O p).fixed i).glaterR i r 0 := by
  show (∑ c : Fin 128, if c.val / 64 = r.val / 256 then O (pos i r) (128 * p + c.val)
    * ∑ s : Fin 8192, Row.w (Z P (2 * p + c.val / 64) (pos i r)) (pos i r) s * P s (2560 + (128 * p + c.val)) else 0) = Row.glater _ _ _ 0
  rw [pair_z, pair_da, sum_half (fun c => O (pos i r) (128 * p + c) * ∑ s : Fin 8192, Row.w (Z P (2 * p + c / 64) (pos i r)) (pos i r) s * P s (2560 + (128 * p + c))) (row_half r)]
  unfold Row.glater
  rw [← Finset.range_eq_Ico, Finset.sum_range]
  rw [Finset.sum_congr rfl (g := fun d : Fin 64 => ∑ s : Fin 8192, O (pos i r) (128 * p + (64 * (r.val / 256) + d.val)) * (Row.w (Z P (2 * p + r.val / 256) (pos i r)) (pos i r) s * P s (2560 + (128 * p + (64 * (r.val / 256) + d.val)))))
    fun d _ => by rw [Finset.mul_sum, show (64 * (r.val / 256) + d.val) / 64 = r.val / 256 by omega], Finset.sum_comm]
  refine Finset.sum_congr rfl fun s _ => ?_
  unfold Row.g DA
  rw [Finset.mul_sum]
  refine Finset.sum_congr rfl fun d _ => ?_
  rw [show (2 * p + r.val / 256) * 64 + d.val = 128 * p + (64 * (r.val / 256) + d.val) by omega]
  ring

/-! ## The sums over the blocks of queries -/

/-- The keys' sum after the first `n` blocks of queries. -/
def PairR.sumK (A : PairR) (n : ℕ) (t : ℕ) (c : Fin 128) : ℝ := ∑ i ∈ Finset.range n, ∑ r, (A.fixed i).dzR i r t * (A.fixed i).Q r c
/-- The values' sum after the first `n` blocks of queries. -/
def PairR.sumV (A : PairR) (n : ℕ) (t : ℕ) (c : Fin 128) : ℝ := ∑ i ∈ Finset.range n, ∑ r, (A.fixed i).wR i r t * (A.fixed i).D r c
/-- The queries' sum of block `i`. -/
def PairR.sumQ (A : PairR) (i : ℕ) (r : Fin 256) (c : Fin 128) : ℝ := ∑ y ∈ Finset.Ico 0 8192, (A.fixed i).dzR i (side r c) y * A.k y c

/-- Over all blocks, the keys' gradient. -/
theorem sumK_all (s : ℕ) (c : Fin 128) : (pairOf P O p).sumK 32 s c
    = ∑ t : Fin 8192, Row.dz (Z P ((128 * p + c.val) / 64) t) (DA P O ((128 * p + c.val) / 64) t) t s * (1 / 8) * P t (1536 + (128 * p + c.val)) := by
  rw [show (128 * p + c.val) / 64 = 2 * p + c.val / 64 by omega]
  rw [← sum_rows (fun t => Row.dz (Z P (2 * p + c.val / 64) t) (DA P O (2 * p + c.val / 64) t) t s * (1 / 8) * P t (1536 + (128 * p + c.val))) (lane_half c)]
  refine Finset.sum_congr rfl fun i _ => Finset.sum_congr rfl fun r _ => ?_
  rw [pair_dz]
  show _ * (if c.val / 64 = r.val / 256 then P (pos i r) (1536 + (128 * p + c.val)) * (1 / 8) else 0) = _
  by_cases h : c.val / 64 = r.val / 256
  · rw [if_pos h, if_pos h, h]; ring
  · rw [if_neg h, if_neg h, mul_zero]

/-- Over all blocks, the values' gradient. -/
theorem sumV_all (s : ℕ) (c : Fin 128) : (pairOf P O p).sumV 32 s c
    = ∑ t : Fin 8192, O t (128 * p + c.val) * Row.w (Z P ((128 * p + c.val) / 64) t) t s := by
  rw [show (128 * p + c.val) / 64 = 2 * p + c.val / 64 by omega]
  rw [← sum_rows (fun t => O t (128 * p + c.val) * Row.w (Z P (2 * p + c.val / 64) t) t s) (lane_half c)]
  refine Finset.sum_congr rfl fun i _ => Finset.sum_congr rfl fun r _ => ?_
  rw [pair_w]
  show _ * (if c.val / 64 = r.val / 256 then O (pos i r) (128 * p + c.val) else 0) = _
  by_cases h : c.val / 64 = r.val / 256
  · rw [if_pos h, if_pos h, h]; ring
  · rw [if_neg h, if_neg h, mul_zero]

/-- A block's sum, by an eighth, is the queries' gradient of its rows. -/
theorem sumQ_eq (i : ℕ) (r : Fin 256) (c : Fin 128) {t : ℕ} (ht : t = 256 * i + r.val) : (pairOf P O p).sumQ i r c * (1 / 8)
    = ∑ s : Fin 8192, Row.dz (Z P ((128 * p + c.val) / 64) t) (DA P O ((128 * p + c.val) / 64) t) t s * (1 / 8) * P s (2048 + (128 * p + c.val)) := by
  rw [show (128 * p + c.val) / 64 = 2 * p + c.val / 64 by omega]
  unfold PairR.sumQ
  rw [pair_dz, ← Finset.range_eq_Ico, Finset.sum_range, Finset.sum_mul]
  have e1 : (side r c).val / 256 = c.val / 64 := by show (r.val + 256 * (c.val / 64)) / 256 = _; omega
  have e2 : pos i (side r c) = t := by show 256 * i + (r.val + 256 * (c.val / 64)) % 256 = _; omega
  rw [e1, e2]
  refine Finset.sum_congr rfl fun s _ => ?_
  show _ * P s (2048 + (128 * p + c.val)) * (1 / 8) = _
  ring

end Cert.Proof.Attn
-- ==== Proof.AttnHost.lean ====
module

public import proofs.«01_k».proof.Proof.AttnKit
public import proofs.«01_k».proof.Proof.Gen.AttnReferenceIdeal.Read

/-!
  What the host prepares for the grid. The weights, the logarithms and their running sums are the same lines of the forward pass as the
  reference's; each array of the grid is then a layout of one of them.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo

variable {F : FTy → Type} [FloatOps F] [Named F]

/-- The buffers of a device once the weights are there. -/
def weighed (V0 : Valuation τ sig (Elt F)) : Valuation τ sig (Elt F) :=
  after (hostOps0_7 (F := F)) (after hostOps0_6 (after hostOps0_5 (after hostOps0_4 (after hostOps0_3 (after hostOps0_2 (after hostOps0_1 (after hostOps0 V0)))))))

set_option maxHeartbeats 4000000 in
theorem weighed_v23 (V0 : Valuation τ sig (Elt F)) : weighed V0 (no_index (Proc.devRef .tc main_v23)) = Cert.AttnReferenceIdeal.Read.val_main_v23_0 (F := F) (V0 (Proc.devRef .tc main_arg0)) := by
  unfold weighed
  simp only [hostOps0, hostOps0_1, hostOps0_2, hostOps0_3, hostOps0_4, hostOps0_5, hostOps0_6, hostOps0_7, TRef.ternary, TRef.binary, TRef.nullary, TRef.unary, TRef.toBuf, TRef.ofBuf, cast_eq]
  after_results_simp
  rfl

set_option maxHeartbeats 4000000 in
theorem weighed_v24 (V0 : Valuation τ sig (Elt F)) : weighed V0 (no_index (Proc.devRef .tc main_v24)) = Cert.AttnReferenceIdeal.Read.val_main_v24 (F := F) (V0 (Proc.devRef .tc main_arg0)) := by
  unfold weighed
  simp only [hostOps0, hostOps0_1, hostOps0_2, hostOps0_3, hostOps0_4, hostOps0_5, hostOps0_6, hostOps0_7, TRef.ternary, TRef.binary, TRef.nullary, TRef.unary, TRef.toBuf, TRef.ofBuf, cast_eq]
  after_results_simp
  rfl

set_option maxHeartbeats 4000000 in
theorem weighed_v29 (V0 : Valuation τ sig (Elt F)) : weighed V0 (no_index (Proc.devRef .tc main_v29)) = Cert.AttnReferenceIdeal.Read.val_main_v29_0 (F := F) (V0 (Proc.devRef .tc main_arg0)) := by
  unfold weighed
  simp only [hostOps0, hostOps0_1, hostOps0_2, hostOps0_3, hostOps0_4, hostOps0_5, hostOps0_6, hostOps0_7, TRef.ternary, TRef.binary, TRef.nullary, TRef.unary, TRef.toBuf, TRef.ofBuf, cast_eq]
  after_results_simp
  rfl

set_option maxHeartbeats 4000000 in
theorem weighed_v11 (V0 : Valuation τ sig (Elt F)) : weighed V0 (no_index (Proc.devRef .tc main_v11)) = Cert.AttnReferenceIdeal.Read.val_main_v11 (F := F) (V0 (Proc.devRef .tc main_arg0)) := by
  unfold weighed
  simp only [hostOps0, hostOps0_1, hostOps0_2, hostOps0_3, hostOps0_4, hostOps0_5, hostOps0_6, hostOps0_7, TRef.ternary, TRef.binary, TRef.nullary, TRef.unary, TRef.toBuf, TRef.ofBuf, cast_eq]
  after_results_simp
  rfl

/-! ## The layouts -/

/-- A head's square of scores in blocks of 256 × 256, the two block indices in front, on one axis. -/
def tiles (x : FVec F S8x8192x8192 .f32) : FVec F S1024x8x256x256 .f32 :=
  shapeCast S1024x8x256x256 (transpose S32x32x8x256x256 [1, 3, 0, 2, 4] (shapeCast S8x32x256x32x256 x shapeCasts_S8x8192x8192_S8x32x256x32x256) transposes_S8x32x256x32x256_S32x32x8x256x256_1_3_0_2_4) shapeCasts_S32x32x8x256x256_S1024x8x256x256

/-- The blocks on the diagonal. -/
def ownTile (x : FVec F S8x8192x8192 .f32) : FVec F S32x8x256x256 .f32 :=
  Host.slice S32x8x256x256 ![0, 0, 0, 0] ![33, 1, 1, 1] (tiles x) slicesBy_S1024x8x256x256_S32x8x256x256_0s33_0s1_0s1_0s1

/-- The blocks left of the diagonal, a block of zeros before the first. -/
def leftTile (x : FVec F S8x8192x8192 .f32) : FVec F S32x8x256x256 .f32 :=
  concatenate S32x8x256x256 0 [⟨S1x8x256x256, broadcastInDim S1x8x256x256 ![] bcast_S_S1x8x256x256 (constant S_ .f32 0x00000000#32 : FVec F S_ .f32)⟩,
    ⟨S31x8x256x256, Host.slice S31x8x256x256 ![32, 0, 0, 0] ![33, 1, 1, 1] (tiles x) slicesBy_S1024x8x256x256_S31x8x256x256_32s33_0s1_0s1_0s1⟩] concatenates_S1x8x256x256_S31x8x256x256_S32x8x256x256_d0

/-- Both, by pairs of heads: what the grid keeps of an array of scores. -/
def strips (x : FVec F S8x8192x8192 .f32) : FVec F S4x32x2x512x256 .f32 :=
  transpose S4x32x2x512x256 [2, 0, 1, 3, 4] (shapeCast S32x2x4x512x256 (concatenate S32x2x8x256x256 1
    [⟨S32x1x8x256x256, broadcastInDim S32x1x8x256x256 ![0, 2, 3, 4] bcast_S32x8x256x256_S32x1x8x256x256_0_2_3_4 (ownTile x)⟩,
      ⟨S32x1x8x256x256, broadcastInDim S32x1x8x256x256 ![0, 2, 3, 4] bcast_S32x8x256x256_S32x1x8x256x256_0_2_3_4 (leftTile x)⟩] concatenates_S32x1x8x256x256_S32x1x8x256x256_S32x2x8x256x256_d1)
    shapeCasts_S32x2x8x256x256_S32x2x4x512x256) transposes_S32x2x4x512x256_S4x32x2x512x256_2_0_1_3_4

/-- Every 256th column of a running sum, by the row's block and the column's. -/
def sumTiles (x : FVec F S8x8192x8192 .f32) : FVec F S1024x8x256x1 .f32 :=
  shapeCast S1024x8x256x1 (transpose S32x32x8x256x1 [1, 3, 0, 2, 4] (shapeCast S8x32x256x32x1 (Host.slice S8x8192x32 ![0, 0, 0] ![1, 1, 256] x slicesBy_S8x8192x8192_S8x8192x32_0s1_0s1_0s256) shapeCasts_S8x8192x32_S8x32x256x32x1) transposes_S8x32x256x32x1_S32x32x8x256x1_1_3_0_2_4) shapeCasts_S32x32x8x256x1_S1024x8x256x1

/-- Of a row's block, the running sum at its own block's start. -/
def ownSum (x : FVec F S8x8192x8192 .f32) : FVec F S32x8x256x1 .f32 :=
  Host.slice S32x8x256x1 ![0, 0, 0, 0] ![33, 1, 1, 1] (sumTiles x) slicesBy_S1024x8x256x1_S32x8x256x1_0s33_0s1_0s1_0s1

/-- … and at the start of the block left of it, the first block's own before. -/
def leftSum (x : FVec F S8x8192x8192 .f32) : FVec F S32x8x256x1 .f32 :=
  concatenate S32x8x256x1 0 [⟨S1x8x256x1, extractStridedSlice S1x8x256x1 ![0, 0, 0, 0] (ownSum x) slices_S32x8x256x1_S1x8x256x1_0_0_0_0⟩,
    ⟨S31x8x256x1, Host.slice S31x8x256x1 ![32, 0, 0, 0] ![33, 1, 1, 1] (sumTiles x) slicesBy_S1024x8x256x1_S31x8x256x1_32s33_0s1_0s1_0s1⟩] concatenates_S1x8x256x1_S31x8x256x1_S32x8x256x1_d0

/-- The latter by pairs of heads, along 128 lanes. -/
def sumStrips (x : FVec F S8x8192x8192 .f32) : FVec F S4x32x512x128 .f32 :=
  broadcastInDim S4x32x512x128 ![0, 1, 2, 3] bcast_S4x32x512x1_S4x32x512x128_0_1_2_3 (transpose S4x32x512x1 [1, 0, 2, 3] (shapeCast S32x4x512x1 (shapeCast S32x8x256x1 (extractStridedSlice S32x1x8x256x1 ![0, 1, 0, 0, 0]
    (concatenate S32x2x8x256x1 1
      [⟨S32x1x8x256x1, broadcastInDim S32x1x8x256x1 ![0, 2, 3, 4] bcast_S32x8x256x1_S32x1x8x256x1_0_2_3_4 (ownSum x)⟩,
        ⟨S32x1x8x256x1, broadcastInDim S32x1x8x256x1 ![0, 2, 3, 4] bcast_S32x8x256x1_S32x1x8x256x1_0_2_3_4 (leftSum x)⟩] concatenates_S32x1x8x256x1_S32x1x8x256x1_S32x2x8x256x1_d1)
    slices_S32x2x8x256x1_S32x1x8x256x1_0_1_0_0_0) shapeCasts_S32x1x8x256x1_S32x8x256x1) shapeCasts_S32x8x256x1_S32x4x512x1) transposes_S32x4x512x1_S4x32x512x1_1_0_2_3)

/-- One less the exponential, entry by entry. -/
def oneLessExp (x : FVec F S4x32x2x512x256 .f32) : FVec F S4x32x2x512x256 .f32 :=
  subf (broadcastInDim S4x32x2x512x256 ![] bcast_S_S4x32x2x512x256 (constant S_ .f32 0x3F800000#32)) (Host.exp x)

section Tail
variable (W : Valuation τ sig (Elt F))

set_option maxHeartbeats 4000000 in
theorem tail_o : after (hostOps0_8 (F := F)) W (no_index (Proc.devRef .tc main_v32))
    = shapeCast S8192x512 (transpose S8192x8x64 [1, 0, 2] (Host.dotGeneral dot_S8x8192x8192_S8x8192x64_S8x8192x64_2_1_1_2_0_0 none (W (Proc.devRef .tc main_v29)) (W (Proc.devRef .tc main_v11))) transposes_S8x8192x64_S8192x8x64_1_0_2) shapeCasts_S8192x8x64_S8192x512 := by
  simp only [hostOps0_8]
  after_results_simp
  rfl

set_option maxHeartbeats 4000000 in
theorem tail_a : after (hostOps0_8 (F := F)) W (no_index (Proc.devRef .tc main_v74)) = truncf .bf16 (strips (W (Proc.devRef .tc main_v29))) bitsLt_bf16_f32 := by
  simp only [hostOps0_8]
  after_results_simp
  rfl

set_option maxHeartbeats 4000000 in
theorem tail_beta : after (hostOps0_8 (F := F)) W (no_index (Proc.devRef .tc main_v78)) = truncf .bf16 (oneLessExp (strips (W (Proc.devRef .tc main_v23)))) bitsLt_bf16_f32 := by
  simp only [hostOps0_8]
  after_results_simp
  rfl

set_option maxHeartbeats 4000000 in
theorem tail_run : after (hostOps0_8 (F := F)) W (no_index (Proc.devRef .tc main_v79)) = sumStrips (W (Proc.devRef .tc main_v24)) := by
  simp only [hostOps0_8]
  after_results_simp
  rfl

set_option maxHeartbeats 4000000 in
theorem tail_tri : after (hostOps0_8 (F := F)) W (no_index (Proc.devRef .tc main_v83)) = uitofp .bf16 (cmpi .sge (iotaInDim S256x256 32 0) (iotaInDim S256x256 32 1)) := by
  simp only [hostOps0_8]
  after_results_simp

end Tail

end Cert.Proof.Attn
-- ==== Proof.AttnPoint.lean ====
module

public import proofs.«01_k».proof.Proof.AttnPair
public import proofs.«01_k».proof.Proof.AttnFrame
public import proofs.«01_k».proof.Proof.AttnHost

/-!
  What a point of the grid leaves: its four chains go on with the sums of the keys and values and write the queries' block.
-/

@[expose] public section
set_option maxRecDepth 16384
noncomputable section

namespace Cert.Proof.Attn
open Cert.AttnIdeal Cert.AttnIdeal.Gen Idealize.ShloMosaic Idealize.ShloMosaic.TcCoe Idealize.SL.Sem
open scoped BigOperators

/-! ## A point's four chains -/

section Steps
variable {X : Blocks Ideal} {A : PairR} {g : ℕ}

theorem one_chain (hX : X.Is A g) (u : Fin 4) {i : ℕ} (hi : i = 4 * g + u.val) (h32 : i < 32) (hd : ∀ r, (A.fixed i).dtot r = (A.fixed i).glaterR i r 0)
    {aK aV : Vec Ideal S8192x128 .f32} (hK : ∀ (t : Fin 8192) c, aK (Idealize.ShloMosaic.ix2 t c) = (A.sumK i t c : EReal))
    (hV : ∀ (t : Fin 8192) c, aV (Idealize.ShloMosaic.ix2 t c) = (A.sumV i t c : EReal)) :
    (∀ r c, (chain X u i aK aV).dq (Idealize.ShloMosaic.ix2 r c) = (A.sumQ i r c : EReal))
    ∧ (∀ (t : Fin 8192) c, (chain X u i aK aV).accK (Idealize.ShloMosaic.ix2 t c) = (A.sumK (i + 1) t c : EReal))
    ∧ (∀ (t : Fin 8192) c, (chain X u i aK aV).accV (Idealize.ShloMosaic.ix2 t c) = (A.sumV (i + 1) t c : EReal)) := by
  subst hi
  obtain ⟨h1, h2, h3⟩ := chain_val hX u h32 hd hK hV
  refine ⟨h1, fun t c => (h2 t c).trans ?_, fun t c => (h3 t c).trans ?_⟩
  · unfold PairR.sumK; rw [Finset.sum_range_succ]
  · unfold PairR.sumV; rw [Finset.sum_range_succ]

theorem steps_val (hX : X.Is A g) (hg : g < 8) (hd : ∀ i r, (A.fixed i).dtot r = (A.fixed i).glaterR i r 0)
    {aK aV : Vec Ideal S8192x128 .f32} (hK : ∀ (t : Fin 8192) c, aK (Idealize.ShloMosaic.ix2 t c) = (A.sumK (4 * g) t c : EReal))
    (hV : ∀ (t : Fin 8192) c, aV (Idealize.ShloMosaic.ix2 t c) = (A.sumV (4 * g) t c : EReal)) :
    ((∀ r c, (step0 X g aK aV).dq (Idealize.ShloMosaic.ix2 r c) = (A.sumQ (4 * g + 0) r c : EReal))
      ∧ (∀ r c, (step1 X g aK aV).dq (Idealize.ShloMosaic.ix2 r c) = (A.sumQ (4 * g + 1) r c : EReal))
      ∧ (∀ r c, (step2 X g aK aV).dq (Idealize.ShloMosaic.ix2 r c) = (A.sumQ (4 * g + 2) r c : EReal))
      ∧ (∀ r c, (step3 X g aK aV).dq (Idealize.ShloMosaic.ix2 r c) = (A.sumQ (4 * g + 3) r c : EReal)))
    ∧ (∀ (t : Fin 8192) c, (step3 X g aK aV).accK (Idealize.ShloMosaic.ix2 t c) = (A.sumK (4 * (g + 1)) t c : EReal))
    ∧ (∀ (t : Fin 8192) c, (step3 X g aK aV).accV (Idealize.ShloMosaic.ix2 t c) = (A.sumV (4 * (g + 1)) t c : EReal)) := by
  have c0 := one_chain hX 0 (i := 4 * g + 0) rfl (by omega) (hd _) hK hV
  have c1 := one_chain hX 1 (i := 4 * g + 1) rfl (by omega) (hd _) c0.2.1 c0.2.2
  have c2 := one_chain hX 2 (i := 4 * g + 2) rfl (by omega) (hd _) c1.2.1 c1.2.2
  have c3 := one_chain hX 3 (i := 4 * g + 3) rfl (by omega) (hd _) c2.2.1 c2.2.2
  exact ⟨⟨c0.1, c1.1, c2.1, c3.1⟩, c3.2.1, c3.2.2⟩

/-- The queries' block: of each row the sum of its strip, by an eighth. -/
theorem outs_val (hX : X.Is A g) (hg : g < 8) (hd : ∀ i r, (A.fixed i).dtot r = (A.fixed i).glaterR i r 0)
    {aK aV : Vec Ideal S8192x128 .f32} (hK : ∀ (t : Fin 8192) c, aK (Idealize.ShloMosaic.ix2 t c) = (A.sumK (4 * g) t c : EReal))
    (hV : ∀ (t : Fin 8192) c, aV (Idealize.ShloMosaic.ix2 t c) = (A.sumV (4 * g) t c : EReal)) (d : Vec Ideal S1024x128 .bf16) (r : Fin 1024) (c : Fin 128) :
    (outs X g aK aV d (Idealize.ShloMosaic.ix2 r c) : EReal) = ((A.sumQ (4 * g + r.val / 256) ⟨r.val % 256, by omega⟩ c * (1 / 8) : ℝ) : EReal) := by
  obtain ⟨⟨h0, h1, h2, h3⟩, -⟩ := steps_val hX hg hd hK hV
  have hr := r.isLt
  have hc := c.isLt
  have put_in : ∀ (x : Vec Ideal S1024x128 .bf16) (n : ℕ) (w : Vec Ideal S256x128 .bf16) (hn : n ≤ r.val) (hn' : r.val < n + 256),
      VecWindow.put x ![n, 0] S256x128.size w (Idealize.ShloMosaic.ix2 r c) = w (Idealize.ShloMosaic.ix2 ⟨r.val - n, by omega⟩ c) := fun x n w hn hn' => by
    unfold VecWindow.put
    have cond : ∀ a, (![n, 0] : Fin 2 → ℕ) a ≤ ((Idealize.ShloMosaic.ix2 r c : S1024x128.Idx) a).val ∧ ((Idealize.ShloMosaic.ix2 r c : S1024x128.Idx) a).val < (![n, 0] : Fin 2 → ℕ) a + S256x128.size a := by
      intro a
      match a with
      | ⟨0, _⟩ => exact ⟨hn, hn'⟩
      | ⟨1, _⟩ => exact ⟨Nat.zero_le _, by show c.val < 0 + 128; omega⟩
    rw [dif_pos cond]
    refine congrArg w (funext fun a => Fin.ext ?_)
    match a with
    | ⟨0, _⟩ => rfl
    | ⟨1, _⟩ => rfl
  have put_out : ∀ (x : Vec Ideal S1024x128 .bf16) (n : ℕ) (w : Vec Ideal S256x128 .bf16) (hn : ¬ n ≤ r.val),
      VecWindow.put x ![n, 0] S256x128.size w (Idealize.ShloMosaic.ix2 r c) = x (Idealize.ShloMosaic.ix2 r c) := fun x n w hn => by
    unfold VecWindow.put
    exact dif_neg fun cond => hn (cond (0 : Fin 2)).1
  have last : ∀ (n : ℕ) (q : Vec Ideal S256x128 .f32) (u : ℕ) (hq : ∀ r c, q (Idealize.ShloMosaic.ix2 r c) = (A.sumQ (4 * g + u) r c : EReal)) (hn : n = 256 * u) (h1 : n ≤ r.val) (h2 : r.val < n + 256),
      (k0_pay136 (F := Ideal) q (Idealize.ShloMosaic.ix2 ⟨r.val - n, by omega⟩ c) : EReal) = ((A.sumQ (4 * g + r.val / 256) ⟨r.val % 256, by omega⟩ c * (1 / 8) : ℝ) : EReal) := fun n q u hq hn h1 h2 => by
    rw [outQ_read, hq, EReal.coe_mul]
    have e1 : r.val / 256 = u := by omega
    have e2 : (⟨r.val - n, by omega⟩ : Fin 256) = ⟨r.val % 256, by omega⟩ := Fin.ext (by show r.val - n = r.val % 256; omega)
    rw [e1, e2]
  unfold outs
  by_cases b3 : 768 ≤ r.val
  · rw [put_in _ 768 _ b3 (by omega)]; exact last 768 _ 3 h3 rfl b3 (by omega)
  rw [put_out _ 768 _ b3]
  by_cases b2 : 512 ≤ r.val
  · rw [put_in _ 512 _ b2 (by omega)]; exact last 512 _ 2 h2 rfl b2 (by omega)
  rw [put_out _ 512 _ b2]
  by_cases b1 : 256 ≤ r.val
  · rw [put_in _ 256 _ b1 (by omega)]; exact last 256 _ 1 h1 rfl b1 (by omega)
  rw [put_out _ 256 _ b1, put_in _ 0 _ (Nat.zero_le _) (by omega)]
  exact last 0 _ 0 h0 rfl (Nat.zero_le _) (by omega)

end Steps

end Cert.Proof.Attn
-- ==== Proof.AttnHostV.lean ====
module

public import proofs.«01_k».proof.Proof.AttnHost

/-!
  The arrays of the grid that the host prepares, from the projections.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-! ## What the host leaves -/

section Host
variable {F : FTy → Type} [FloatOps F] [Named F] (m : (ℓ : Loc nD τ sig) → Buf (Elt F) ℓ) (c : Dev nD)

theorem V_tail (b : Ref sig .tc) : V m c b = after (hostOps0_8 (F := F)) (weighed fun b => m (c, b)) (Proc.devRef .tc b) := by
  show after (List.flatten _) _ _ = _
  simp only [List.flatten_cons, List.flatten_nil, List.append_nil, after_append]
  rfl
end Host

theorem V_o : V m c main_v32 = Cert.AttnReferenceIdeal.Read.val_main_v32 (F := Ideal) (m ((c : Thread nD τ).loc main_arg0)) := by
  rw [V_tail, tail_o, weighed_v29, weighed_v11]; rfl
theorem V_a : (V m c main_v74 : FVec Ideal S4x32x2x512x256 .bf16) = truncf (F := Ideal) .bf16 (strips (F := Ideal) (Cert.AttnReferenceIdeal.Read.val_main_v29_0 (F := Ideal) (m ((c : Thread nD τ).loc main_arg0)))) bitsLt_bf16_f32 := by
  rw [V_tail, tail_a, weighed_v29]
theorem V_beta : (V m c main_v78 : FVec Ideal S4x32x2x512x256 .bf16) = truncf (F := Ideal) .bf16 (oneLessExp (F := Ideal) (strips (F := Ideal) (Cert.AttnReferenceIdeal.Read.val_main_v23_0 (F := Ideal) (m ((c : Thread nD τ).loc main_arg0))))) bitsLt_bf16_f32 := by
  rw [V_tail, tail_beta, weighed_v23]
theorem V_run : (V m c main_v79 : FVec Ideal S4x32x512x128 .f32) = sumStrips (F := Ideal) (Cert.AttnReferenceIdeal.Read.val_main_v24 (F := Ideal) (m ((c : Thread nD τ).loc main_arg0))) := by
  rw [V_tail, tail_run, weighed_v24]
theorem V_tri : V m c main_v83 = uitofp (F := Ideal) .bf16 (cmpi .sge (iotaInDim S256x256 32 0) (iotaInDim S256x256 32 1)) := by
  rw [V_tail, tail_tri]

end Cert.Proof.Attn
-- ==== Proof.AttnWindows.lean ====
module

public import proofs.«01_k».proof.Proof.AttnKit
public import proofs.«01_k».proof.Proof.AttnRef
public import Idealize.ShloMosaic.Lib.Pipeline.ValueKit

/-!
  The blocks a point of the grid is given, from the arrays: point `t` is step `t % 8` of pair of heads `t / 8`.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo
open Idealize.ShloMosaic.Pipeline (Dat)

/-- Which block each window stages at point `t`. -/
theorem idx : ∀ t : Fin grid0.N, win0_0.index t = ![t.val % 8, 12 + t.val / 8] ∧ win0_1.index t = ![0, 16 + t.val / 8] ∧ win0_2.index t = ![0, 20 + t.val / 8]
   ∧ win0_3.index t = ![t.val % 8, t.val / 8] ∧ win0_4.index t = ![t.val % 8, t.val / 8] ∧ win0_5.index t = ![0, 0]
   ∧ win0_6.index t = ![t.val / 8, t.val % 8, 0, 0, 0] ∧ win0_7.index t = ![t.val / 8, t.val % 8, 0, 0, 0] ∧ win0_8.index t = ![t.val / 8, t.val % 8, 0, 0]
   ∧ win0_9.index t = ![t.val % 8, t.val / 8] ∧ win0_10.index t = ![0, t.val / 8] ∧ win0_11.index t = ![0, t.val / 8] :=
  (by decide +kernel : ∀ t : Fin grid0.N, _)

variable (m : (ℓ : Loc nD τ sig) → Buf (Elt Ideal) ℓ) (c : Dev nD)

/-- The projections on device `c`. -/
abbrev projOf : Proj := m ((c : Thread nD τ).loc main_arg0)
/-- The gradient of the output on device `c`. -/
abbrev gradOf : Grad := m ((c : Thread nD τ).loc main_arg1)

/-! ## The blocks of the windows -/

section Windows
variable (t : Fin (cfg0 (F := Ideal)).N)

theorem lt32 : t.val < 32 := lt_of_lt_of_eq t.isLt N_0
theorem step_of : (grid0.coords t 1).val = t.val % 8 := by
  have h : (grid0.coords t 1).val = t.val / 1 % 8 := Pipeline.Grid.coords_val t 1 (by decide) rfl
  rw [Nat.div_one] at h
  exact h

/-- The block of the queries. -/
theorem blk_q (r : Fin 1024) (x : Fin 128) : (iblk m c 0 t : Vec Ideal S1024x128 .bf16) (Idealize.ShloMosaic.ix2 r x)
    = projOf m c (Idealize.ShloMosaic.ix2 ⟨1024 * (t.val % 8) + r.val, by omega⟩ ⟨1536 + (128 * (t.val / 8) + x.val), by have := lt32 t; omega⟩) := by
  have ht := lt32 t
  have e : V m c (Pipeline.arrRef spec0 0) = projOf m c := V_arg m c main_arg0 (Or.inl rfl)
  unfold iblk
  rw [e]
  blk_point [idx t]

/-- The block of the keys. -/
theorem blk_k (r : Fin 8192) (x : Fin 128) : (iblk m c 1 t : Vec Ideal S8192x128 .bf16) (Idealize.ShloMosaic.ix2 r x)
    = projOf m c (Idealize.ShloMosaic.ix2 r ⟨2048 + (128 * (t.val / 8) + x.val), by have := lt32 t; omega⟩) := by
  have ht := lt32 t
  have e : V m c (Pipeline.arrRef spec0 1) = projOf m c := V_arg m c main_arg0 (Or.inl rfl)
  unfold iblk
  rw [e]
  blk_point [idx t]

/-- The block of the values. -/
theorem blk_v (r : Fin 8192) (x : Fin 128) : (iblk m c 2 t : Vec Ideal S8192x128 .bf16) (Idealize.ShloMosaic.ix2 r x)
    = projOf m c (Idealize.ShloMosaic.ix2 r ⟨2560 + (128 * (t.val / 8) + x.val), by have := lt32 t; omega⟩) := by
  have ht := lt32 t
  have e : V m c (Pipeline.arrRef spec0 2) = projOf m c := V_arg m c main_arg0 (Or.inl rfl)
  unfold iblk
  rw [e]
  blk_point [idx t]

/-- The block of the gradient of the output. -/
theorem blk_ct (r : Fin 1024) (x : Fin 128) : (iblk m c 4 t : Vec Ideal S1024x128 .bf16) (Idealize.ShloMosaic.ix2 r x)
    = gradOf m c (Idealize.ShloMosaic.ix2 ⟨1024 * (t.val % 8) + r.val, by omega⟩ ⟨128 * (t.val / 8) + x.val, by have := lt32 t; omega⟩) := by
  have ht := lt32 t
  have e : V m c (Pipeline.arrRef spec0 4) = gradOf m c := V_arg m c main_arg1 (Or.inr rfl)
  unfold iblk
  rw [e]
  blk_point [idx t]

/-- The block of the output. -/
theorem blk_o (r : Fin 1024) (x : Fin 128) : (iblk m c 3 t : Vec Ideal S1024x128 .f32) (Idealize.ShloMosaic.ix2 r x)
    = (V m c main_v32 : FVec Ideal S8192x512 .f32) (Idealize.ShloMosaic.ix2 ⟨1024 * (t.val % 8) + r.val, by omega⟩ ⟨128 * (t.val / 8) + x.val, by have := lt32 t; omega⟩) := by
  have ht := lt32 t
  unfold iblk
  generalize V m c = W
  blk_point [idx t]

/-- The triangle. -/
theorem blk_tri (x y : Fin 256) : (iblk m c 5 t : Vec Ideal S256x256 .bf16) (Idealize.ShloMosaic.ix2 x y) = (V m c main_v83 : FVec Ideal S256x256 .bf16) (Idealize.ShloMosaic.ix2 x y) := by
  have ht := lt32 t
  unfold iblk
  generalize V m c = W
  blk_point [idx t]

/-- The kept weights. -/
theorem blk_a (u : Fin 4) (s : Fin 2) (r : Fin 512) (x : Fin 256) : (iblk m c 6 t : Vec Ideal S1x4x2x512x256 .bf16) (Idealize.ShloMosaic.ix5 0 u s r x)
    = (V m c main_v74 : FVec Ideal S4x32x2x512x256 .bf16) (Idealize.ShloMosaic.ix5 ⟨t.val / 8, by have := lt32 t; omega⟩ ⟨4 * (t.val % 8) + u.val, by omega⟩ s r x) := by
  have ht := lt32 t
  unfold iblk
  generalize V m c = W
  blk_point [idx t]

/-- The kept factors. -/
theorem blk_beta (u : Fin 4) (s : Fin 2) (r : Fin 512) (x : Fin 256) : (iblk m c 7 t : Vec Ideal S1x4x2x512x256 .bf16) (Idealize.ShloMosaic.ix5 0 u s r x)
    = (V m c main_v78 : FVec Ideal S4x32x2x512x256 .bf16) (Idealize.ShloMosaic.ix5 ⟨t.val / 8, by have := lt32 t; omega⟩ ⟨4 * (t.val % 8) + u.val, by omega⟩ s r x) := by
  have ht := lt32 t
  unfold iblk
  generalize V m c = W
  blk_point [idx t]

/-- The kept sums. -/
theorem blk_run (u : Fin 4) (r : Fin 512) (x : Fin 128) : (iblk m c 8 t : Vec Ideal S1x4x512x128 .f32) (Idealize.ShloMosaic.ix4 0 u r x)
    = (V m c main_v79 : FVec Ideal S4x32x512x128 .f32) (Idealize.ShloMosaic.ix4 ⟨t.val / 8, by have := lt32 t; omega⟩ ⟨4 * (t.val % 8) + u.val, by omega⟩ r x) := by
  have ht := lt32 t
  unfold iblk
  generalize V m c = W
  blk_point [idx t]

end Windows

end Cert.Proof.Attn
-- ==== Proof.AttnTiles.lean ====
module

public import proofs.«01_k».proof.Proof.AttnHost
public import Idealize.ShloMosaic.Lib.Pointwise

/-!
  The blocks of scores, entry by entry.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo

/-- Block `n` of a head: row block `n / 32`, column block `n % 32`. -/
theorem tiles_read (x : FVec Ideal S8x8192x8192 .f32) (n : Fin 1024) (h : Fin 8) (r y : Fin 256) : tiles x (Idealize.ShloMosaic.ix4 n h r y)
    = x (Idealize.ShloMosaic.ix3 h ⟨n.val / 32 * 256 + r.val, by omega⟩ ⟨n.val % 32 * 256 + y.val, by omega⟩) := by
  pointwise [tiles]

end Cert.Proof.Attn
-- ==== Proof.AttnTilesS.lean ====
module

public import proofs.«01_k».proof.Proof.AttnHost
public import Idealize.ShloMosaic.Lib.Pointwise

/-!
  The running sums by blocks, entry by entry.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo

/-- The running sum at the start of column block `n % 32`, of the rows of block `n / 32`. -/
theorem sumTiles_read (x : FVec Ideal S8x8192x8192 .f32) (n : Fin 1024) (h : Fin 8) (r : Fin 256) : sumTiles x (Idealize.ShloMosaic.ix4 n h r 0)
    = x (Idealize.ShloMosaic.ix3 h ⟨n.val / 32 * 256 + r.val, by omega⟩ ⟨256 * (n.val % 32), by omega⟩) := by
  pointwise [sumTiles]

end Cert.Proof.Attn
-- ==== Proof.AttnLayout.lean ====
module

public import proofs.«01_k».proof.Proof.AttnTiles
public import proofs.«01_k».proof.Proof.AttnTilesS

/-!
  The layouts of the host, entry by entry.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo

theorem ix3_eq {n m k : ℕ} {a a' : Fin n} {b b' : Fin m} {c c' : Fin k} (ha : a.val = a'.val) (hb : b.val = b'.val) (hc : c.val = c'.val) :
    Idealize.ShloMosaic.ix3 a b c = Idealize.ShloMosaic.ix3 a' b' c' := by rw [Fin.ext ha, Fin.ext hb, Fin.ext hc]

/-- A block on the diagonal. -/
theorem ownTile_read (x : FVec Ideal S8x8192x8192 .f32) (i : Fin 32) (h : Fin 8) (r y : Fin 256) : ownTile x (Idealize.ShloMosaic.ix4 i h r y)
    = tiles x (Idealize.ShloMosaic.ix4 ⟨33 * i.val, by omega⟩ h r y) := by
  pointwise [ownTile]

/-- A block left of the diagonal. -/
theorem leftTile_read (x : FVec Ideal S8x8192x8192 .f32) (i : Fin 32) (h : Fin 8) (r y : Fin 256) : (leftTile x (Idealize.ShloMosaic.ix4 i h r y) : EReal)
    = if h0 : i.val < 1 then 0 else tiles x (Idealize.ShloMosaic.ix4 ⟨32 + 33 * (i.val - 1), by omega⟩ h r y) := by
  pointwise [leftTile]

theorem ownSum_read (x : FVec Ideal S8x8192x8192 .f32) (i : Fin 32) (h : Fin 8) (r : Fin 256) : ownSum x (Idealize.ShloMosaic.ix4 i h r 0)
    = sumTiles x (Idealize.ShloMosaic.ix4 ⟨33 * i.val, by omega⟩ h r 0) := by
  pointwise [ownSum]

theorem leftSum_read (x : FVec Ideal S8x8192x8192 .f32) (i : Fin 32) (h : Fin 8) (r : Fin 256) : leftSum x (Idealize.ShloMosaic.ix4 i h r 0)
    = if h0 : i.val < 1 then ownSum x (Idealize.ShloMosaic.ix4 i h r 0) else sumTiles x (Idealize.ShloMosaic.ix4 ⟨32 + 33 * (i.val - 1), by omega⟩ h r 0) := by
  pointwise [leftSum]

/-- The kept block on the diagonal. -/
theorem strips_own (x : FVec Ideal S8x8192x8192 .f32) (p : Fin 4) (i : Fin 32) (r : Fin 512) (y : Fin 256) (h : Fin 8) (t s : Fin 8192)
    (hh : h.val = 2 * p.val + r.val / 256) (ht : t.val = 256 * i.val + r.val % 256) (hs : s.val = 256 * i.val + y.val) :
    strips x (Idealize.ShloMosaic.ix5 p i 0 r y) = x (Idealize.ShloMosaic.ix3 h t s) := by
  have e : strips x (Idealize.ShloMosaic.ix5 p i 0 r y) = ownTile x (Idealize.ShloMosaic.ix4 i ⟨p.val * 2 + r.val / 256, by omega⟩ ⟨r.val % 256, by omega⟩ y) := by
    pointwise [strips]
  refine e.trans ((ownTile_read x _ _ _ _).trans ((tiles_read x _ _ _ _).trans (congrArg x (ix3_eq ?_ ?_ ?_))))
  · show p.val * 2 + r.val / 256 = h.val; omega
  · show 33 * i.val / 32 * 256 + r.val % 256 = t.val; omega
  · show 33 * i.val % 32 * 256 + y.val = s.val; omega

/-- The kept block left of it. -/
theorem strips_left (x : FVec Ideal S8x8192x8192 .f32) (p : Fin 4) (i : Fin 32) (r : Fin 512) (y : Fin 256) (h : Fin 8) (t s : Fin 8192)
    (hh : h.val = 2 * p.val + r.val / 256) (ht : t.val = 256 * i.val + r.val % 256) (hs : s.val = 256 * (i.val - 1) + y.val) :
    (strips x (Idealize.ShloMosaic.ix5 p i 1 r y) : EReal) = if i.val = 0 then 0 else x (Idealize.ShloMosaic.ix3 h t s) := by
  have e : strips x (Idealize.ShloMosaic.ix5 p i 1 r y) = leftTile x (Idealize.ShloMosaic.ix4 i ⟨p.val * 2 + r.val / 256, by omega⟩ ⟨r.val % 256, by omega⟩ y) := by
    pointwise [strips]
  refine e.trans ((leftTile_read x _ _ _ _).trans ?_)
  by_cases hi : i.val = 0
  · exact (dif_pos (by omega)).trans (if_pos hi).symm
  refine (dif_neg (by omega)).trans (Eq.trans ?_ (if_neg hi).symm)
  refine (tiles_read x _ _ _ _).trans (congrArg x (ix3_eq ?_ ?_ ?_))
  · show p.val * 2 + r.val / 256 = h.val; omega
  · show (32 + 33 * (i.val - 1)) / 32 * 256 + r.val % 256 = t.val; omega
  · show (32 + 33 * (i.val - 1)) % 32 * 256 + y.val = s.val; omega

/-- The kept sums, at the start of the block left of the diagonal. -/
theorem sumStrips_read (x : FVec Ideal S8x8192x8192 .f32) (p : Fin 4) (i : Fin 32) (r : Fin 512) (c : Fin 128) (h : Fin 8) (t s : Fin 8192)
    (hh : h.val = 2 * p.val + r.val / 256) (ht : t.val = 256 * i.val + r.val % 256) (hs : s.val = 256 * (i.val - 1)) :
    sumStrips x (Idealize.ShloMosaic.ix4 p i r c) = x (Idealize.ShloMosaic.ix3 h t s) := by
  have e : sumStrips x (Idealize.ShloMosaic.ix4 p i r c) = leftSum x (Idealize.ShloMosaic.ix4 i ⟨p.val * 2 + r.val / 256, by omega⟩ ⟨r.val % 256, by omega⟩ 0) := by
    pointwise [sumStrips]
  refine e.trans ((leftSum_read x _ _ _).trans ?_)
  by_cases hi : i.val < 1
  · refine (dif_pos hi).trans ((ownSum_read x _ _ _).trans ((sumTiles_read x _ _ _).trans (congrArg x (ix3_eq ?_ ?_ ?_))))
    · show p.val * 2 + r.val / 256 = h.val; omega
    · show 33 * i.val / 32 * 256 + r.val % 256 = t.val; omega
    · show 256 * (33 * i.val % 32) = s.val; omega
  refine (dif_neg hi).trans ((sumTiles_read x _ _ _).trans (congrArg x (ix3_eq ?_ ?_ ?_)))
  · show p.val * 2 + r.val / 256 = h.val; omega
  · show (32 + 33 * (i.val - 1)) / 32 * 256 + r.val % 256 = t.val; omega
  · show 256 * ((32 + 33 * (i.val - 1)) % 32) = s.val; omega

end Cert.Proof.Attn
-- ==== Proof.AttnInput.lean ====
module

public import proofs.«01_k».proof.Proof.AttnPoint
public import proofs.«01_k».proof.Proof.AttnHostV
public import proofs.«01_k».proof.Proof.AttnWindows
public import proofs.«01_k».proof.Proof.AttnLayout

/-!
  The blocks a point of the grid is given hold the real numbers of its pair of heads: point `t` is step `t % 8` of pair `t / 8`.
-/

@[expose] public section
set_option maxRecDepth 16384
noncomputable section

namespace Cert.Proof.Attn
open Cert.AttnIdeal Cert.AttnIdeal.Gen Idealize.ShloMosaic Idealize.ShloMosaic.TcCoe Idealize.SL.Sem Idealize.ShloMosaic.StableHlo

variable (m : (ℓ : Loc nD τ sig) → Buf (Elt Ideal) ℓ) (c : Dev nD)
variable {P O : ℕ → ℕ → ℝ} (hA : ArgsAre (projOf m c) (gradOf m c) P O)
variable (t : Fin (cfg0 (F := Ideal)).N)

theorem one_f32 : (Ideal.ofBits FTy.f32 0x3F800000#32 : EReal) = ((1 : ℝ) : EReal) := by
  simp [Ideal.ofBits, Ideal.ieee, -EReal.coe_mul]
  norm_num

theorem oneLessExp_read (x : FVec Ideal S4x32x2x512x256 .f32) (j : S4x32x2x512x256.Idx) {r : ℝ} (h : x j = (r : EReal)) :
    oneLessExp x j = ((1 - Real.exp r : ℝ) : EReal) := by
  show ((Ideal.ofBits FTy.f32 0x3F800000#32 : EReal) - Ideal.exp (x j) : EReal) = _
  rw [h, one_f32, Ideal.exp_coe, EReal.coe_sub]

theorem tri_val (x y : Fin 256) : (V m c main_v83 : FVec Ideal S256x256 .bf16) (Idealize.ShloMosaic.ix2 x y) = (((if y ≤ x then 1 else 0 : ℝ)) : EReal) := by
  rw [V_tri]
  pointwise []
  have hx := x.isLt
  have hy := y.isLt
  have e : (BitVec.ofNat 32 y.val).sle (BitVec.ofNat 32 x.val) = decide (y.val ≤ x.val) := by
    rw [BitVec.sle_eq_ule_of_msb_eq, BitVec.ule]
    · simp only [BitVec.toNat_ofNat]
      rw [Nat.mod_eq_of_lt (by omega), Nat.mod_eq_of_lt (by omega)]
    · rw [BitVec.msb_eq_false_iff_two_mul_lt.mpr, BitVec.msb_eq_false_iff_two_mul_lt.mpr] <;> simp only [BitVec.toNat_ofNat] <;> omega
  have e' : IntOp.cmpi CmpIPredicate.sge (BitVec.ofNat 32 x.val) (BitVec.ofNat 32 y.val) = BitVec.ofBool (decide (y.val ≤ x.val)) := by
    show BitVec.ofBool ((BitVec.ofNat 32 y.val).sle (BitVec.ofNat 32 x.val)) = _
    rw [e]
  rw [e']
  by_cases h : y ≤ x
  · rw [if_pos h, decide_eq_true (show y.val ≤ x.val from h)]
    show (((1 : ℕ) : ℝ) : EReal) = _
    norm_num
  · rw [if_neg h, decide_eq_false (show ¬ y.val ≤ x.val from h)]
    show (((0 : ℕ) : ℝ) : EReal) = _
    norm_num

set_option maxHeartbeats 1600000 in
include hA in
/-- The queries. -/
theorem is_q : ∀ (r : Fin 1024) y, (blocksAt m c t).q (Idealize.ShloMosaic.ix2 r y) = ((pairOf P O (t.val / 8)).q (1024 * (t.val % 8) + r) y : EReal) := by
  intro r x
  exact (blk_q m c t r x).trans (hA.p _ _ (by show 1536 ≤ 1536 + _; omega) (by have := lt32 t; show 1536 + (128 * (t.val / 8) + x.val) < 3072; omega))

set_option maxHeartbeats 1600000 in
include hA in
/-- The keys. -/
theorem is_k : ∀ (s : Fin 8192) y, (blocksAt m c t).k (Idealize.ShloMosaic.ix2 s y) = ((pairOf P O (t.val / 8)).k s y : EReal) := by
  intro s x
  exact (blk_k m c t s x).trans (hA.p _ _ (by show 1536 ≤ 2048 + _; omega) (by have := lt32 t; show 2048 + (128 * (t.val / 8) + x.val) < 3072; omega))

set_option maxHeartbeats 1600000 in
include hA in
/-- The values. -/
theorem is_v : ∀ (s : Fin 8192) y, (blocksAt m c t).v (Idealize.ShloMosaic.ix2 s y) = ((pairOf P O (t.val / 8)).v s y : EReal) := by
  intro s x
  exact (blk_v m c t s x).trans (hA.p _ _ (by show 1536 ≤ 2560 + _; omega) (by have := lt32 t; show 2560 + (128 * (t.val / 8) + x.val) < 3072; omega))

set_option maxHeartbeats 1600000 in
include hA in
/-- The forward output. -/
theorem is_o : ∀ (r : Fin 1024) y, (blocksAt m c t).o (Idealize.ShloMosaic.ix2 r y) = ((pairOf P O (t.val / 8)).o (1024 * (t.val % 8) + r) y : EReal) := by
  intro r x
  refine (blk_o m c t r x).trans ?_
  rw [V_o]
  refine (ref_o hA _ _).trans (congrArg Real.toEReal ?_)
  have e : (128 * (t.val / 8) + x.val) / 64 = 2 * (t.val / 8) + x.val / 64 := by omega
  show (∑ s : Fin 8192, Row.w (Z P ((128 * (t.val / 8) + x.val) / 64) (1024 * (t.val % 8) + r.val)) (1024 * (t.val % 8) + r.val) s * P s (2560 + (128 * (t.val / 8) + x.val))) = _
  rw [e]
  rfl

set_option maxHeartbeats 1600000 in
include hA in
/-- The gradient of the output. -/
theorem is_ct : ∀ (r : Fin 1024) y, (blocksAt m c t).ct (Idealize.ShloMosaic.ix2 r y) = ((pairOf P O (t.val / 8)).ct (1024 * (t.val % 8) + r) y : EReal) := by
  intro r x
  exact (blk_ct m c t r x).trans (hA.o _ _)

set_option maxHeartbeats 1600000 in
include hA in
/-- The triangle. -/
theorem is_tri : ∀ x y : Fin 256, (blocksAt m c t).tri (Idealize.ShloMosaic.ix2 x y) = (((if y ≤ x then 1 else 0 : ℝ)) : EReal) := by
  intro x y
  exact (blk_tri m c t x y).trans (tri_val m c x y)

set_option maxHeartbeats 1600000 in
include hA in
/-- The kept weights of a query block against its own keys. -/
theorem is_a0 : ∀ (u : Fin 4) (r : Fin 512) (x : Fin 256), (blocksAt m c t).a (Idealize.ShloMosaic.ix5 0 u 0 r x) = (((pairOf P O (t.val / 8)).fixed (4 * (t.val % 8) + u)).wR (4 * (t.val % 8) + u) r (256 * (4 * (t.val % 8) + u) + x) : EReal) := by
  intro u r x
  have ht := lt32 t
  refine (blk_a m c t u 0 r x).trans ?_
  rw [V_a]
  refine (strips_own _ _ _ r x ⟨2 * (t.val / 8) + r.val / 256, by omega⟩ ⟨256 * (4 * (t.val % 8) + u.val) + r.val % 256, by omega⟩ ⟨256 * (4 * (t.val % 8) + u.val) + x.val, by omega⟩ rfl rfl rfl).trans ?_
  rw [pair_w]
  exact ref_w hA _ _ _

set_option maxHeartbeats 1600000 in
include hA in
/-- The same against the previous keys. -/
theorem is_a1 : ∀ (u : Fin 4) (r : Fin 512) (x : Fin 256), (blocksAt m c t).a (Idealize.ShloMosaic.ix5 0 u 1 r x) = ((if 4 * (t.val % 8) + u.val = 0 then 0 else ((pairOf P O (t.val / 8)).fixed (4 * (t.val % 8) + u)).wR (4 * (t.val % 8) + u) r (256 * (4 * (t.val % 8) + u - 1) + x) : ℝ) : EReal) := by
  intro u r x
  have ht := lt32 t
  refine (blk_a m c t u 1 r x).trans ?_
  rw [V_a]
  refine (strips_left _ _ _ r x ⟨2 * (t.val / 8) + r.val / 256, by omega⟩ ⟨256 * (4 * (t.val % 8) + u.val) + r.val % 256, by omega⟩ ⟨256 * (4 * (t.val % 8) + u.val - 1) + x.val, by omega⟩ rfl rfl rfl).trans ?_
  rw [pair_w]
  by_cases h : 4 * (t.val % 8) + u.val = 0
  · rw [if_pos h, if_pos h, EReal.coe_zero]
  · rw [if_neg h, if_neg h]; exact ref_w hA _ _ _

set_option maxHeartbeats 1600000 in
include hA in
/-- The kept factors of a query block against its own keys. -/
theorem is_b0 : ∀ (u : Fin 4) (r : Fin 512) (x : Fin 256), (blocksAt m c t).beta (Idealize.ShloMosaic.ix5 0 u 0 r x) = (((pairOf P O (t.val / 8)).fixed (4 * (t.val % 8) + u)).betaR (4 * (t.val % 8) + u) r (256 * (4 * (t.val % 8) + u) + x) : EReal) := by
  intro u r x
  have ht := lt32 t
  refine (blk_beta m c t u 0 r x).trans ?_
  rw [V_beta, pair_beta]
  refine oneLessExp_read _ _ ((strips_own _ _ _ r x ⟨2 * (t.val / 8) + r.val / 256, by omega⟩ ⟨256 * (4 * (t.val % 8) + u.val) + r.val % 256, by omega⟩ ⟨256 * (4 * (t.val % 8) + u.val) + x.val, by omega⟩ rfl rfl rfl).trans ?_)
  exact ref_lm hA _ _ _

set_option maxHeartbeats 1600000 in
include hA in
/-- The same against the previous keys. -/
theorem is_b1 : ∀ (u : Fin 4) (r : Fin 512) (x : Fin 256), (blocksAt m c t).beta (Idealize.ShloMosaic.ix5 0 u 1 r x) = ((if 4 * (t.val % 8) + u.val = 0 then 0 else ((pairOf P O (t.val / 8)).fixed (4 * (t.val % 8) + u)).betaR (4 * (t.val % 8) + u) r (256 * (4 * (t.val % 8) + u - 1) + x) : ℝ) : EReal) := by
  intro u r x
  have ht := lt32 t
  refine (blk_beta m c t u 1 r x).trans ?_
  rw [V_beta, pair_beta]
  have e := strips_left (Cert.AttnReferenceIdeal.Read.val_main_v23_0 (F := Ideal) (m ((c : Thread nD τ).loc main_arg0))) ⟨t.val / 8, by omega⟩ ⟨4 * (t.val % 8) + u.val, by omega⟩ r x ⟨2 * (t.val / 8) + r.val / 256, by omega⟩ ⟨256 * (4 * (t.val % 8) + u.val) + r.val % 256, by omega⟩ ⟨256 * (4 * (t.val % 8) + u.val - 1) + x.val, by omega⟩ rfl rfl rfl
  by_cases h : 4 * (t.val % 8) + u.val = 0
  · rw [if_pos h]
    refine (oneLessExp_read _ _ (r := 0) (e.trans ((if_pos h).trans EReal.coe_zero.symm))).trans ?_
    simp
  · rw [if_neg h]
    exact oneLessExp_read _ _ (e.trans ((if_neg h).trans (ref_lm hA _ _ _)))

set_option maxHeartbeats 1600000 in
include hA in
/-- The kept sums. -/
theorem is_run : ∀ (u : Fin 4) (r : Fin 512), (blocksAt m c t).run (Idealize.ShloMosaic.ix4 0 u r 0) = (((pairOf P O (t.val / 8)).fixed (4 * (t.val % 8) + u)).laterR (4 * (t.val % 8) + u) r (256 * (4 * (t.val % 8) + u - 1)) : EReal) := by
  intro u r
  have ht := lt32 t
  refine (blk_run m c t u r 0).trans ?_
  rw [V_run]
  refine (sumStrips_read _ _ _ r 0 ⟨2 * (t.val / 8) + r.val / 256, by omega⟩ ⟨256 * (4 * (t.val % 8) + u.val) + r.val % 256, by omega⟩ ⟨256 * (4 * (t.val % 8) + u.val - 1), by omega⟩ rfl rfl rfl).trans ?_
  rw [pair_later]
  exact ref_later hA _ _ _

include hA in
/-- The blocks of a point hold the real numbers of its pair of heads. -/
theorem blocks_is : (blocksAt m c t).Is (pairOf P O (t.val / 8)) (t.val % 8) :=
  { q := is_q m c hA t, k := is_k m c hA t, v := is_v m c hA t, o := is_o m c hA t, ct := is_ct m c hA t, tri := is_tri m c hA t, a0 := is_a0 m c hA t, a1 := is_a1 m c hA t, b0 := is_b0 m c hA t, b1 := is_b1 m c hA t, run := is_run m c hA t }

/-! ## The accumulators -/

theorem startK_zero (h : 0 < (cfg0 (F := Ideal)).N) : startK m c 0 h = k0_pay13 (F := Ideal) := rfl
theorem startV_zero (h : 0 < (cfg0 (F := Ideal)).N) : startV m c 0 h = k0_pay14 (F := Ideal) := rfl
theorem startK_succ (n : ℕ) (h : n + 1 < (cfg0 (F := Ideal)).N) : startK m c (n + 1) h = if (n + 1) % 8 = 0 then k0_pay13 (F := Ideal) else (accAfter m c n (Nat.lt_of_succ_lt h)).1 := rfl
theorem startV_succ (n : ℕ) (h : n + 1 < (cfg0 (F := Ideal)).N) : startV m c (n + 1) h = if (n + 1) % 8 = 0 then k0_pay14 (F := Ideal) else (accAfter m c n (Nat.lt_of_succ_lt h)).2 := rfl

/-- The keys' accumulator holds the sums of a pair's first `n` blocks of queries. -/
def HoldsK (A : PairR) (n : ℕ) (x : Vec Ideal S8192x128 .f32) : Prop := ∀ (s : Fin 8192) y, x (Idealize.ShloMosaic.ix2 s y) = (A.sumK n s y : EReal)
/-- The values' accumulator does. -/
def HoldsV (A : PairR) (n : ℕ) (x : Vec Ideal S8192x128 .f32) : Prop := ∀ (s : Fin 8192) y, x (Idealize.ShloMosaic.ix2 s y) = (A.sumV n s y : EReal)

theorem holdsK_zero (A : PairR) : HoldsK A 0 (k0_pay13 (F := Ideal)) := fun s x =>
  (zeroK_read s x).trans (by unfold PairR.sumK; rw [Finset.range_zero, Finset.sum_empty, EReal.coe_zero])
theorem holdsV_zero (A : PairR) : HoldsV A 0 (k0_pay14 (F := Ideal)) := fun s x =>
  (zeroV_read s x).trans (by unfold PairR.sumV; rw [Finset.range_zero, Finset.sum_empty, EReal.coe_zero])

include hA in
/-- A point adds its four blocks of queries. -/
theorem acc_step (n : ℕ) (h : n < (cfg0 (F := Ideal)).N) (hK : HoldsK (pairOf P O (n / 8)) (4 * (n % 8)) (startK m c n h))
    (hV : HoldsV (pairOf P O (n / 8)) (4 * (n % 8)) (startV m c n h)) :
    HoldsK (pairOf P O (n / 8)) (4 * (n % 8 + 1)) (accAfter m c n h).1 ∧ HoldsV (pairOf P O (n / 8)) (4 * (n % 8 + 1)) (accAfter m c n h).2 := by
  have es : stepOf (F := Ideal) ⟨n, h⟩ = n % 8 := step_of ⟨n, h⟩
  have hX := blocks_is m c hA ⟨n, h⟩
  have hp := pair_dtot P O (n / 8)
  rw [accAfter_eq, es]
  generalize blocksAt m c ⟨n, h⟩ = X at hX ⊢
  generalize startK m c n h = aK at hK ⊢
  generalize startV m c n h = aV at hV ⊢
  exact (steps_val (X := X) (A := pairOf P O (n / 8)) (g := n % 8) (aK := aK) (aV := aV) hX (Nat.mod_lt _ (by decide)) hp hK hV).2

include hA in
/-- As a point finds them, and as it leaves them, the accumulators hold the sums of the pair's blocks of queries so far. -/
theorem acc_val : ∀ (n : ℕ) (h : n < (cfg0 (F := Ideal)).N),
    HoldsK (pairOf P O (n / 8)) (4 * (n % 8)) (startK m c n h) ∧ HoldsV (pairOf P O (n / 8)) (4 * (n % 8)) (startV m c n h)
  | 0, h => by
    rw [startK_zero, startV_zero]
    exact ⟨holdsK_zero _, holdsV_zero _⟩
  | n + 1, h => by
    have ih := acc_val n (Nat.lt_of_succ_lt h)
    have i2 := acc_step m c hA n (Nat.lt_of_succ_lt h) ih.1 ih.2
    rw [startK_succ, startV_succ]
    by_cases h0 : (n + 1) % 8 = 0
    · rw [if_pos h0, if_pos h0, h0]
      exact ⟨holdsK_zero _, holdsV_zero _⟩
    · rw [if_neg h0, if_neg h0, show (n + 1) / 8 = n / 8 by omega, show (n + 1) % 8 = n % 8 + 1 by omega]
      exact i2

end Cert.Proof.Attn
-- ==== Proof.AttnArray.lean ====
module

public import proofs.«01_k».proof.Proof.AttnInput
public import Idealize.ShloMosaic.Lib.Pipeline.ValueKit

/-!
  The three arrays the attention's gradient leaves are the derivative that the reference takes.
-/

@[expose] public section
set_option maxRecDepth 16384
noncomputable section

namespace Cert.Proof.Attn
open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable {P O : ℕ → ℕ → ℝ} (hA : ArgsAre (projOf m c) (gradOf m c) P O)
variable (t : Fin (cfg0 (F := Ideal)).N)

/-- The queries' array at an index that point `t` writes. -/
theorem emb9 (r : Fin 1024) (x : Fin 128) : (((cfg0 (F := Ideal)).win 9).blk t).view.emb (Idealize.ShloMosaic.ix2 r x)
    = (Idealize.ShloMosaic.ix2 ⟨1024 * (t.val % 8) + r.val, by omega⟩ ⟨128 * (t.val / 8) + x.val, by have := lt32 t; omega⟩ : S8192x512.Idx) := by
  have ht := lt32 t
  blk_ext [idx t]
/-- The keys'. -/
theorem emb10 (s : Fin 8192) (x : Fin 128) : (((cfg0 (F := Ideal)).win 10).blk t).view.emb (Idealize.ShloMosaic.ix2 s x)
    = (Idealize.ShloMosaic.ix2 s ⟨128 * (t.val / 8) + x.val, by have := lt32 t; omega⟩ : S8192x512.Idx) := by
  have ht := lt32 t
  blk_ext [idx t]
/-- The values'. -/
theorem emb11 (s : Fin 8192) (x : Fin 128) : (((cfg0 (F := Ideal)).win 11).blk t).view.emb (Idealize.ShloMosaic.ix2 s x)
    = (Idealize.ShloMosaic.ix2 s ⟨128 * (t.val / 8) + x.val, by have := lt32 t; omega⟩ : S8192x512.Idx) := by
  have ht := lt32 t
  blk_ext [idx t]

/-- The keys' and the values' blocks are written out after a pair's last step. -/
theorem flush10 : ∀ t : Fin grid0.N, win0_10.flush t = true → t.val % 8 = 7 := by decide +kernel
theorem flush11 : ∀ t : Fin grid0.N, win0_11.flush t = true → t.val % 8 = 7 := by decide +kernel

include hA in
/-- What a point leaves in the queries' block. -/
theorem leftQ_val (r : Fin 1024) (x : Fin 128) : (leftQ m c t (Idealize.ShloMosaic.ix2 r x) : EReal)
    = Cert.AttnReferenceIdeal.Read.val_main_v57 (F := Ideal) (projOf m c) (gradOf m c)
      (Idealize.ShloMosaic.ix2 ⟨1024 * (t.val % 8) + r.val, by omega⟩ ⟨128 * (t.val / 8) + x.val, by have := lt32 t; omega⟩) := by
  have ht := lt32 t
  obtain ⟨hK, hV⟩ := acc_val m c hA t.val t.isLt
  have es : stepOf (F := Ideal) t = t.val % 8 := step_of t
  have hX := blocks_is m c hA t
  have hp := pair_dtot P O (t.val / 8)
  unfold leftQ
  rw [es]
  generalize blocksAt m c t = X at hX ⊢
  generalize startK m c t.val t.isLt = aK at hK ⊢
  generalize startV m c t.val t.isLt = aV at hV ⊢
  refine (outs_val (X := X) (A := pairOf P O (t.val / 8)) (g := t.val % 8) (aK := aK) (aV := aV) hX (Nat.mod_lt _ (by decide)) hp hK hV (iblk m c 0 t) r x).trans ?_
  rw [ref_dq hA]
  refine congrArg _ ((sumQ_eq P O (t.val / 8) (4 * (t.val % 8) + r.val / 256) ⟨r.val % 256, by omega⟩ x (t := 1024 * (t.val % 8) + r.val) ?_))
  show 1024 * (t.val % 8) + r.val = 256 * (4 * (t.val % 8) + r.val / 256) + r.val % 256
  omega

include hA in
/-- What a pair's last point leaves in the keys' block. -/
theorem leftK_val (h7 : t.val % 8 = 7) (s : Fin 8192) (x : Fin 128) : (leftK m c t (Idealize.ShloMosaic.ix2 s x) : EReal)
    = Cert.AttnReferenceIdeal.Read.val_main_v59 (F := Ideal) (projOf m c) (gradOf m c)
      (Idealize.ShloMosaic.ix2 s ⟨128 * (t.val / 8) + x.val, by have := lt32 t; omega⟩) := by
  have ht := lt32 t
  have hK := (acc_step m c hA t.val t.isLt (acc_val m c hA t.val t.isLt).1 (acc_val m c hA t.val t.isLt).2).1
  rw [h7] at hK
  unfold leftK
  refine (outK_read _ s x).trans ((hK s x).trans ?_)
  rw [ref_dk hA]
  exact congrArg _ (sumK_all P O (t.val / 8) s x)

include hA in
/-- What a pair's last point leaves in the values' block. -/
theorem leftV_val (h7 : t.val % 8 = 7) (s : Fin 8192) (x : Fin 128) : (leftV m c t (Idealize.ShloMosaic.ix2 s x) : EReal)
    = Cert.AttnReferenceIdeal.Read.val_main_v61 (F := Ideal) (projOf m c) (gradOf m c)
      (Idealize.ShloMosaic.ix2 s ⟨128 * (t.val / 8) + x.val, by have := lt32 t; omega⟩) := by
  have ht := lt32 t
  have hV := (acc_step m c hA t.val t.isLt (acc_val m c hA t.val t.isLt).1 (acc_val m c hA t.val t.isLt).2).2
  rw [h7] at hV
  unfold leftV
  refine (outV_read _ s x).trans ((hV s x).trans ?_)
  rw [ref_dv hA]
  exact congrArg _ (sumV_all P O (t.val / 8) s x)

include hA in
/-- The queries' gradient. -/
theorem final9 : (dats m 0 c).arrAt 9 (cfgs (F := Ideal) 0).N = Cert.AttnReferenceIdeal.Read.val_main_v57 (F := Ideal) (projOf m c) (gradOf m c) := by
  refine (dats m 0 c).arrAt_eq_of_covers 9 _ (by decide +kernel) fun t hf y => ?_
  blk_simp
  rw [after0_9]
  idx_vars y
  rw [emb9]
  exact leftQ_val m c hA t y0 y1

include hA in
/-- The keys' gradient. -/
theorem final10 : (dats m 0 c).arrAt 10 (cfgs (F := Ideal) 0).N = Cert.AttnReferenceIdeal.Read.val_main_v59 (F := Ideal) (projOf m c) (gradOf m c) := by
  refine (dats m 0 c).arrAt_eq_of_covers 10 _ (by decide +kernel) fun t hf y => ?_
  blk_simp
  rw [after0_10]
  idx_vars y
  rw [emb10]
  exact leftK_val m c hA t (flush10 t hf) y0 y1

include hA in
/-- The values' gradient. -/
theorem final11 : (dats m 0 c).arrAt 11 (cfgs (F := Ideal) 0).N = Cert.AttnReferenceIdeal.Read.val_main_v61 (F := Ideal) (projOf m c) (gradOf m c) := by
  refine (dats m 0 c).arrAt_eq_of_covers 11 _ (by decide +kernel) fun t hf y => ?_
  blk_simp
  rw [after0_11]
  idx_vars y
  rw [emb11]
  exact leftV_val m c hA t (flush11 t hf) y0 y1

end Cert.Proof.Attn
-- ==== Proof.AttnPre.lean ====
module

public import proofs.«01_k».proof.Defs
public import proofs.«01_k».proof.Proof.AttnWindows
public import Idealize.ShloMosaic.Lib.Pointwise

/-!
  The precondition of the attention's value claim, read: the columns of the projections that hold the queries, keys and values,
  and the gradient of the output, are real numbers.
-/

@[expose] public section
noncomputable section

namespace Cert.Proof.Attn
open Cert.AttnIdeal Idealize.ShloMosaic Idealize.ShloMosaic.TcCoe Idealize.SL.Sem

/-- The shapes the precondition's operations need fit. -/
instance preFacts : Cert.Pre_finite.Facts where
  slices_S8192x5120_S8192x1536_0_1536 := by decide
  bcast_S_S8192x1536 := by decide
  bcast_S_S8192x512 := by decide

theorem infinity : (Idealize.ShloMosaic.Ideal.ofBits .bf16 0x7F80#16 : EReal) = ⊤ := by
  simp [Idealize.ShloMosaic.Ideal.ofBits, Idealize.ShloMosaic.Ideal.ieee]

/-- A number whose absolute value is below infinity is real. -/
theorem real_of_lt {a : EReal} (h : Idealize.ShloMosaic.Ideal.cmp .olt (max a (-a)) ⊤ = 1#1) : a = (a.toReal : EReal) := by
  have h1 : max a (-a) < ⊤ := by
    by_contra hn
    simp [Idealize.ShloMosaic.Ideal.cmp, hn] at h
  refine (EReal.coe_toReal ?_ ?_).symm
  · exact (lt_of_le_of_lt (le_max_left _ _) h1).ne
  · rintro rfl
    exact absurd (lt_of_le_of_lt (le_max_right _ _) h1) (by simp)

theorem proj_real (x0 : Proj) (x1 : Grad) (h : (Cert.Pre_finite.fn (F := Ideal) x0 x1).1 = (fun _ => 1#1)) (t : Fin 8192) (j : Fin 1536) :
    (x0 (Idealize.ShloMosaic.ix2 t ⟨1536 + j.val, by omega⟩) : EReal) = ((x0 (Idealize.ShloMosaic.ix2 t ⟨1536 + j.val, by omega⟩) : EReal).toReal : EReal) := by
  refine real_of_lt ((Eq.trans ?_ (congrFun h (Idealize.ShloMosaic.ix2 t j))))
  rw [← infinity]
  pointwise [Cert.Pre_finite.fn]
  rfl

theorem grad_real (x0 : Proj) (x1 : Grad) (h : (Cert.Pre_finite.fn (F := Ideal) x0 x1).2 = (fun _ => 1#1)) (t : Fin 8192) (j : Fin 512) :
    (x1 (Idealize.ShloMosaic.ix2 t j) : EReal) = ((x1 (Idealize.ShloMosaic.ix2 t j) : EReal).toReal : EReal) := by
  refine real_of_lt ((Eq.trans ?_ (congrFun h (Idealize.ShloMosaic.ix2 t j))))
  rw [← infinity]
  pointwise [Cert.Pre_finite.fn]
  rfl

/-- Under the precondition the arguments are arrays of real numbers. -/
theorem args_real (m : (ℓ : Loc nD τ sig) → Buf (Elt Ideal) ℓ) (hpre : Cert.Pre_AttnIdeal_finite m) (c : Dev nD) :
    ∃ P O : ℕ → ℕ → ℝ, ArgsAre (projOf m c) (gradOf m c) P O := by
  refine ⟨fun t j => if h : t < 8192 ∧ j < 5120 then (projOf m c (Idealize.ShloMosaic.ix2 ⟨t, h.1⟩ ⟨j, h.2⟩) : EReal).toReal else 0,
    fun t j => if h : t < 8192 ∧ j < 512 then (gradOf m c (Idealize.ShloMosaic.ix2 ⟨t, h.1⟩ ⟨j, h.2⟩) : EReal).toReal else 0, ?_, ?_⟩
  · intro t j h1 h2
    rw [dif_pos ⟨t.isLt, j.isLt⟩]
    have e := proj_real (projOf m c) (gradOf m c) (hpre c).1 t ⟨j.val - 1536, by omega⟩
    have ej : (⟨1536 + (j.val - 1536), by omega⟩ : Fin 5120) = j := Fin.ext (by show 1536 + (j.val - 1536) = j.val; omega)
    rw [ej] at e
    exact e
  · intro t j
    rw [dif_pos ⟨t.isLt, j.isLt⟩]
    exact grad_real (projOf m c) (gradOf m c) (hpre c).2 t j

end Cert.Proof.Attn
-- ==== Proof.ConvRef.lean ====
module

public import proofs.«01_k».proof.Proof.Gen.ReferenceIdeal.Read
public import Idealize.ShloMosaic.Lib.Pointwise
public import Idealize.ShloMosaic.Lib.Pipeline.ValueKit

/-! What the reference of the short convolution's gradient computes, entry by entry. -/

@[expose] public section
set_option maxRecDepth 16384
noncomputable section

namespace Cert.Conv
open Cert.ReferenceIdeal Cert.ReferenceIdeal.Read Idealize.ShloMosaic Idealize.SL.Sem

/-- The convolution's input, two zero rows in front: row `n` of the padded array at channel `c` is
    `c_gate · u` of row `n - 2`, and zero outside. -/
def vp (x1 : FVec Ideal S8192x5120 .bf16) (n : ℕ) (c : Fin 512) : EReal :=
  if h : 2 ≤ n ∧ n < 8194 then
    x1 (ix2 ⟨n - 2, by omega⟩ ⟨512 + c.val, by omega⟩) * x1 (ix2 ⟨n - 2, by omega⟩ ⟨1024 + c.val, by omega⟩)
  else 0

/-- The cotangent of the convolution's output: `b_gate · dyc` of row `n` at channel `c`, zero past the end. -/
def gy (x0 : FVec Ideal S8192x512 .bf16) (x1 : FVec Ideal S8192x5120 .bf16) (n : ℕ) (c : Fin 512) : EReal :=
  if h : n < 8192 then x1 (ix2 ⟨n, h⟩ ⟨c.val, by omega⟩) * x0 (ix2 ⟨n, h⟩ c) else 0

/-- The convolution's output at row `r`. -/
def conv (x1 : FVec Ideal S8192x5120 .bf16) (x2 : FVec Ideal S3x512 .f32) (r : ℕ) (c : Fin 512) : EReal :=
  x2 (ix2 0 c) * vp x1 r c + x2 (ix2 1 c) * vp x1 (r + 1) c + x2 (ix2 2 c) * vp x1 (r + 2) c

/-- The cotangent of the convolution's input at row `r`. -/
def dv (x0 : FVec Ideal S8192x512 .bf16) (x1 : FVec Ideal S8192x5120 .bf16) (x2 : FVec Ideal S3x512 .f32) (r : ℕ)
    (c : Fin 512) : EReal :=
  x2 (ix2 2 c) * gy x0 x1 r c + x2 (ix2 1 c) * gy x0 x1 (r + 1) c + x2 (ix2 0 c) * gy x0 x1 (r + 2) c

variable (x0 : FVec Ideal S8192x512 .bf16) (x1 : FVec Ideal S8192x5120 .bf16) (x2 : FVec Ideal S3x512 .f32)

/-- A padded row inside the array, as a product of two entries. -/
theorem vp_row (r : Fin 8192) (c : Fin 512) :
    vp x1 (r.val + 2) c = x1 (ix2 r ⟨512 + c.val, by omega⟩) * x1 (ix2 r ⟨1024 + c.val, by omega⟩) := by
  have hr := r.isLt
  unfold vp
  rw [dif_pos ⟨by omega, by omega⟩]
  rfl

/-- A row of the cotangent inside the array, as a product of two entries. -/
theorem gy_row (r : Fin 8192) (c : Fin 512) :
    gy x0 x1 r.val c = x1 (ix2 r ⟨c.val, by omega⟩) * x0 (ix2 r c) := by
  unfold gy
  rw [dif_pos r.isLt]

/-- The three shifted copies of the padded input, and the cotangent, as the reference holds them. -/
theorem ref_shifts (r : Fin 8192) (c : Fin 512) :
    val_main_v12 (F := Ideal) x1 (ix2 r c) = vp x1 r.val c
    ∧ val_main_v20 (F := Ideal) x1 (ix2 r c) = vp x1 (r.val + 1) c
    ∧ val_main_v27 (F := Ideal) x1 (ix2 r c) = vp x1 (r.val + 2) c
    ∧ val_main_v34 (F := Ideal) x0 x1 (ix2 r c) = gy x0 x1 r.val c := by
  have hr := r.isLt
  refine ⟨?_, ?_, ?_, ?_⟩
  · pointwise [val_main_v12, val_main_v8, val_main_v7, val_main_v6, val_main_v5, val_main_v4, val_main_v3, val_main_v2, val_main_v1, val_main_v0, val_main_cst]
    unfold vp
    by_cases h : r.val < 2
    · rw [dif_pos h, dif_neg (by omega)]
    · rw [dif_neg h, dif_pos ⟨by omega, by omega⟩]
  · pointwise [val_main_v20, val_main_v8, val_main_v7, val_main_v6, val_main_v5, val_main_v4, val_main_v3, val_main_v2, val_main_v1, val_main_v0, val_main_cst]
    unfold vp
    by_cases h : 1 + r.val < 2
    · rw [dif_pos h, dif_neg (by omega)]
    · rw [dif_neg h, dif_pos ⟨by omega, by omega⟩]
      blk_point []
  · pointwise [val_main_v27, val_main_v8, val_main_v7, val_main_v6, val_main_v5, val_main_v4, val_main_v3, val_main_v2, val_main_v1, val_main_v0, val_main_cst]
    rw [vp_row]
  · pointwise [val_main_v34, val_main_v33, val_main_v1, val_main_v0]
    rw [gy_row]

/-- The reference's gradient of `b_gate`. -/
theorem ref_dbg (r : Fin 8192) (c : Fin 512) :
    val_main_v35 (F := Ideal) x0 x1 x2 (ix2 r c) = x0 (ix2 r c) * conv x1 x2 r.val c := by
  obtain ⟨h0, h1, h2, -⟩ := ref_shifts x0 x1 r c
  pointwise [val_main_v35, val_main_v33, val_main_v31, val_main_v30, val_main_v29, val_main_v28, val_main_v26, val_main_v25,
    val_main_v24, val_main_v23, val_main_v22, val_main_v21, val_main_v19, val_main_v18, val_main_v17, val_main_v16,
    val_main_v15, val_main_v14, val_main_v13, val_main_v11, val_main_v10, val_main_cst, val_main_cst_1]
  rw [h0, h1, h2]
  rfl

/-- The reference's gradient of the convolution's input. -/
theorem ref_dv (r : Fin 8192) (c : Fin 512) :
    val_main_v68 (F := Ideal) x0 x1 x2 (ix2 r c) = dv x0 x1 x2 r.val c := by
  have hr := r.isLt
  pointwise [val_main_v68, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_1, val_main_cst_2, val_main_cst_3, val_main_cst_4, val_main_cst_5, val_main_cst_6,
    val_main_cst_7, val_main_cst_8, val_main_cst_9, val_main_cst_10, val_main_cst_11, val_main_cst_12, val_main_cst_13]
  unfold dv
  rw [gy_row]
  unfold gy
  by_cases h1 : r.val + 1 < 8192
  · rw [dif_pos ⟨by omega, by omega⟩, dif_pos h1]
    by_cases h2 : r.val + 2 < 8192
    · rw [dif_pos (by omega), dif_pos h2]
      blk_point []
    · rw [dif_neg (by omega), dif_neg h2, mul_zero]
      blk_point []
  · rw [dif_neg (by omega), dif_neg (by omega), dif_neg h1, dif_neg (by omega), mul_zero, mul_zero]

/-- The reference's gradient of tap `k`: the column sums of the cotangent against the input shifted by the tap. -/
theorem ref_dw (k : Fin 3) (c : Fin 512) :
    val_main_v66 (F := Ideal) x0 x1 (ix2 k c) = ∑ r : Fin 8192, gy x0 x1 r.val c * vp x1 (r.val + k.val) c := by
  have h : ∀ r : Fin 8192, _ := fun r => ref_shifts x0 x1 r c
  obtain ⟨k, hk⟩ := k
  interval_cases k
  all_goals pointwise [val_main_v66, val_main_v65, val_main_v64, val_main_v63, val_main_v62, val_main_v61, val_main_v60, val_main_v59,
    val_main_v58, val_main_v55, val_main_v54, val_main_v53, val_main_v52, val_main_v51, val_main_v50, val_main_v49,
    val_main_v48, val_main_v47, val_main_v44, val_main_v43, val_main_v41, val_main_v40, val_main_v39, val_main_v38,
    val_main_cst, val_main_cst_1, val_main_cst_2, val_main_cst_3, val_main_cst_4, val_main_cst_5, val_main_cst_6,
    val_main_cst_7, val_main_cst_8, val_main_cst_9, val_main_cst_10, val_main_cst_11, val_main_cst_12, val_main_cst_13]
  all_goals
    rw [Fin.sum_univ_one]
    refine Fin.sum_fin_congr fun r => ?_
    obtain ⟨h0, h1, h2, h3⟩ := h r
    simp only [h0, h1, h2, h3]

/-- The reference's first result: the three gradients side by side. -/
theorem ref_cols (r : Fin 8192) (c : Fin 512) :
    val_main_v72 (F := Ideal) x0 x1 x2 (ix2 r ⟨c.val, by omega⟩) = x0 (ix2 r c) * conv x1 x2 r.val c
    ∧ val_main_v72 (F := Ideal) x0 x1 x2 (ix2 r ⟨512 + c.val, by omega⟩)
        = dv x0 x1 x2 r.val c * x1 (ix2 r ⟨1024 + c.val, by omega⟩)
    ∧ val_main_v72 (F := Ideal) x0 x1 x2 (ix2 r ⟨1024 + c.val, by omega⟩)
        = dv x0 x1 x2 r.val c * x1 (ix2 r ⟨512 + c.val, by omega⟩) := by
  refine ⟨?_, ?_, ?_⟩
  · pointwise [val_main_v72, val_main_v71]
    exact ref_dbg x0 x1 x2 r c
  · pointwise [val_main_v72, val_main_v71, val_main_v70, val_main_v5, val_main_v4]
    rw [ref_dv]
  · pointwise [val_main_v72, val_main_v71, val_main_v69, val_main_v3, val_main_v2]
    rw [dif_neg (by omega), dif_neg (by omega), ← ref_dv x0 x1 x2 r c, mul_comm]
    blk_point []

end Cert.Conv
-- ==== Proof.ConvBlock.lean ====
module

public import proofs.«01_k».proof.Proof.Gen.KernelIdeal.Value
public import proofs.«01_k».proof.Proof.ConvRef
public import Idealize.ShloMosaic.Lib.WordCmp
public import Idealize.ShloMosaic.Lib.Pipeline.ReadBack

/-! What the convolution's gradient kernel computes at one grid point, entry by entry: block `t` holds rows
`512 t … 512 t + 511`, and the rows the shifts bring in from outside the block come from the neighbouring
sixteen-row blocks. -/

@[expose] public section
set_option maxRecDepth 16384
noncomputable section

namespace Cert.Conv
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cotangent the kernel is launched with. -/
abbrev A0 : FVec Ideal S8192x512 .bf16 := m ((c : Thread nD τ).loc main_arg0)
/-- The projected activations the kernel is launched with. -/
abbrev A1 : FVec Ideal S8192x5120 .bf16 := m ((c : Thread nD τ).loc main_arg1)
/-- The taps the kernel is launched with. -/
abbrev A2 : FVec Ideal S3x512 .f32 := m ((c : Thread nD τ).loc main_arg2)

/-- Which block each window stages at grid point `t`, and the grid coordinate of that point. -/
theorem idx : ∀ t : Fin cfg0.N, win0_0.index t = ![t.val, 0] ∧ win0_1.index t = ![t.val, 0] ∧ win0_2.index t = ![t.val, 1]
   ∧ win0_3.index t = ![t.val, 2] ∧ win0_4.index t = ![t.val * 32 - 1, 1] ∧ win0_5.index t = ![t.val * 32 - 1, 2]
   ∧ win0_6.index t = ![min (t.val * 32 + 32) 511, 0] ∧ win0_7.index t = ![min (t.val * 32 + 32) 511, 0]
   ∧ win0_8.index t = ![0, 0] ∧ win0_9.index t = ![t.val, 0] ∧ win0_10.index t = ![0, 0] :=
  (by decide +kernel : ∀ t : Fin grid0.N, _)

/-- The grid has one axis, so a point is its coordinate. -/
theorem coord : ∀ t : Fin cfg0.N, (grid0.coords t 0).val = t.val :=
  (by decide +kernel : ∀ t : Fin grid0.N, _)

variable (t : Fin cfg0.N) (k d : Fin 512)

/-- There are sixteen grid points. -/
theorem lt16 : t.val < 16 := lt_of_lt_of_eq t.isLt N_0

/-- The staged blocks, at the types the body reads them at. -/
abbrev B0 : Vec Ideal S512x512 .bf16 := iblk m c 0 t
/-- The block of `b_gate`. -/
abbrev B1 : Vec Ideal S512x512 .bf16 := iblk m c 1 t
/-- The block of `c_gate`. -/
abbrev B2 : Vec Ideal S512x512 .bf16 := iblk m c 2 t
/-- The block of `u`. -/
abbrev B3 : Vec Ideal S512x512 .bf16 := iblk m c 3 t
/-- The rows of `c_gate` before the block. -/
abbrev B4 : Vec Ideal S16x512 .bf16 := iblk m c 4 t
/-- The rows of `u` before the block. -/
abbrev B5 : Vec Ideal S16x512 .bf16 := iblk m c 5 t
/-- The rows of the cotangent after the block. -/
abbrev B6 : Vec Ideal S16x512 .bf16 := iblk m c 6 t
/-- The rows of `b_gate` after the block. -/
abbrev B7 : Vec Ideal S16x512 .bf16 := iblk m c 7 t

/-- The product of the two staged blocks of `c_gate` and `u` is a run of rows of the padded product. -/
theorem prod_v : B2 m c t (ix2 k d) * B3 m c t (ix2 k d) = vp (A1 m c) (512 * t.val + k.val + 2) d := by
  have ht := lt16 t
  refine Eq.trans ?_ (vp_row (A1 m c) ⟨512 * t.val + k.val, by omega⟩ d).symm
  blk_point [iblk, V, idx t]

/-- The product of the two sixteen-row blocks before the block, wherever there are rows before it. -/
theorem prod_halo (j : Fin 16) (h0 : 0 < t.val) :
    B4 m c t (ix2 j d) * B5 m c t (ix2 j d) = vp (A1 m c) (512 * t.val + j.val - 14) d := by
  have ht := lt16 t
  have e : 512 * t.val + j.val - 14 = (⟨512 * t.val + j.val - 16, by omega⟩ : Fin 8192).val + 2 := by
    show _ = 512 * t.val + j.val - 16 + 2
    omega
  rw [e, vp_row]
  blk_point [iblk, V, idx t]

/-- The product of the staged blocks of `dyc` and `b_gate` is a run of rows of the cotangent. -/
theorem prod_g : B0 m c t (ix2 k d) * B1 m c t (ix2 k d) = gy (A0 m c) (A1 m c) (512 * t.val + k.val) d := by
  have ht := lt16 t
  refine (mul_comm _ _).trans (Eq.trans ?_ (gy_row (A0 m c) (A1 m c) ⟨512 * t.val + k.val, by omega⟩ d).symm)
  blk_point [iblk, V, idx t]

/-- The product of the two sixteen-row blocks after the block, wherever there are rows after it. -/
theorem prod_next (j : Fin 16) (h0 : t.val < 15) :
    B6 m c t (ix2 j d) * B7 m c t (ix2 j d) = gy (A0 m c) (A1 m c) (512 * t.val + 512 + j.val) d := by
  have ht := lt16 t
  refine (mul_comm _ _).trans (Eq.trans ?_ (gy_row (A0 m c) (A1 m c) ⟨512 * t.val + 512 + j.val, by omega⟩ d).symm)
  blk_point [iblk, V, idx t]

/-- The unshifted product `c_gate · u` of the block. -/
theorem blk_v : k0_pay5 (F := Ideal) (iblk m c 2 t) (iblk m c 3 t) (ix2 k d) = vp (A1 m c) (512 * t.val + k.val + 2) d := by
  pointwise [k0_pay5, k0_pay3, k0_pay4]
  exact prod_v m c t k d

/-- The product shifted down by one row. -/
theorem blk_v1 : k0_pay8 (F := Ideal) (grid0.coords t) (iblk m c 2 t) (iblk m c 3 t) (iblk m c 4 t) (iblk m c 5 t) (ix2 k d)
    = vp (A1 m c) (512 * t.val + k.val + 1) d := by
  have ht := lt16 t
  pointwise [k0_pay8, k0_pay5, k0_pay7, k0_pay6, k0_pay3, k0_pay4]
  rw [coord t]
  word_cmp
  by_cases hk : k.val = 0
  · rw [if_pos hk]
    by_cases h0 : 0 < t.val
    · rw [if_pos h0]
      refine (prod_halo m c t d 15 h0).trans (congrArg (fun n => vp (A1 m c) n d) ?_)
      show 512 * t.val + 15 - 14 = _
      omega
    · rw [if_neg h0]
      unfold vp
      rw [dif_neg (by omega)]
  · rw [if_neg hk]
    refine (prod_v m c t _ d).trans (congrArg (fun n => vp (A1 m c) n d) ?_)
    show 512 * t.val + (k.val + 512 - 1) % 512 + 2 = _
    omega

/-- The product shifted down by two rows. -/
theorem blk_v2 : k0_pay9 (F := Ideal) (grid0.coords t) (iblk m c 2 t) (iblk m c 3 t) (iblk m c 4 t) (iblk m c 5 t) (ix2 k d)
    = vp (A1 m c) (512 * t.val + k.val) d := by
  have ht := lt16 t
  pointwise [k0_pay9, k0_pay5, k0_pay7, k0_pay6, k0_pay3, k0_pay4]
  rw [coord t]
  word_cmp
  by_cases hk : k.val = 0
  · rw [if_pos hk]
    by_cases h0 : 0 < t.val
    · rw [if_pos h0]
      refine (prod_halo m c t d 14 h0).trans (congrArg (fun n => vp (A1 m c) n d) ?_)
      show 512 * t.val + 14 - 14 = _
      omega
    · rw [if_neg h0]
      unfold vp
      rw [dif_neg (by omega)]
  · rw [if_neg hk]
    by_cases hk1 : k.val = 1
    · rw [if_pos hk1]
      by_cases h0 : 0 < t.val
      · rw [if_pos h0]
        refine (prod_halo m c t d 15 h0).trans (congrArg (fun n => vp (A1 m c) n d) ?_)
        show 512 * t.val + 15 - 14 = _
        omega
      · rw [if_neg h0]
        unfold vp
        rw [dif_neg (by omega)]
    · rw [if_neg hk1]
      refine (prod_v m c t _ d).trans (congrArg (fun n => vp (A1 m c) n d) ?_)
      show 512 * t.val + (k.val + 512 - 2) % 512 + 2 = _
      omega

/-- The cotangent of the block. -/
theorem blk_g : k0_pay13 (F := Ideal) (iblk m c 0 t) (iblk m c 1 t) (ix2 k d) = gy (A0 m c) (A1 m c) (512 * t.val + k.val) d := by
  pointwise [k0_pay13, k0_pay11]
  exact prod_g m c t k d

/-- The cotangent shifted up by one row. -/
theorem blk_g1 : k0_pay17 (F := Ideal) (BitVec.ofNat 32 (grid0.coords t 0).val) (iblk m c 0 t) (iblk m c 1 t) (iblk m c 6 t)
      (iblk m c 7 t) (ix2 k d) = gy (A0 m c) (A1 m c) (512 * t.val + k.val + 1) d := by
  have ht := lt16 t
  pointwise [k0_pay17, k0_pay13, k0_pay15, k0_pay14, k0_pay11]
  rw [coord t]
  word_cmp
  by_cases hk : k.val = 511
  · rw [if_pos hk]
    by_cases h0 : t.val < 15
    · rw [if_pos h0]
      refine (prod_next m c t d 0 h0).trans (congrArg (fun n => gy (A0 m c) (A1 m c) n d) ?_)
      show 512 * t.val + 512 + 0 = _
      omega
    · rw [if_neg h0]
      unfold gy
      rw [dif_neg (by omega)]
  · rw [if_neg hk]
    refine (prod_g m c t _ d).trans (congrArg (fun n => gy (A0 m c) (A1 m c) n d) ?_)
    show 512 * t.val + (k.val + 512 - 511) % 512 = _
    omega

/-- The cotangent shifted up by two rows: the last row comes from the second row after the block. -/
theorem blk_g2 : Scalar.select (k0_pay18 (ix2 k d)) (k0_pay16 (F := Ideal) (BitVec.ofNat 32 (grid0.coords t 0).val)
      (iblk m c 6 t) (iblk m c 7 t) (ix2 0 d))
      (k0_pay19 (F := Ideal) (BitVec.ofNat 32 (grid0.coords t 0).val) (iblk m c 0 t) (iblk m c 1 t) (iblk m c 6 t)
        (iblk m c 7 t) (ix2 k d)) = gy (A0 m c) (A1 m c) (512 * t.val + k.val + 2) d := by
  have ht := lt16 t
  pointwise [k0_pay18, k0_pay16, k0_pay19, k0_pay13, k0_pay15, k0_pay14, k0_pay11]
  rw [coord t]
  word_cmp
  by_cases hk : k.val = 511
  · rw [if_pos hk]
    by_cases h0 : t.val < 15
    · rw [if_pos h0]
      refine (prod_next m c t d 1 h0).trans (congrArg (fun n => gy (A0 m c) (A1 m c) n d) ?_)
      show 512 * t.val + 512 + 1 = _
      omega
    · rw [if_neg h0]
      unfold gy
      rw [dif_neg (by omega)]
  · rw [if_neg hk]
    by_cases hk1 : k.val = 510
    · rw [if_pos hk1]
      by_cases h0 : t.val < 15
      · rw [if_pos h0]
        refine (prod_next m c t d 0 h0).trans (congrArg (fun n => gy (A0 m c) (A1 m c) n d) ?_)
        show 512 * t.val + 512 + 0 = _
        omega
      · rw [if_neg h0]
        unfold gy
        rw [dif_neg (by omega)]
    · rw [if_neg hk1]
      refine (prod_g m c t _ d).trans (congrArg (fun n => gy (A0 m c) (A1 m c) n d) ?_)
      show 512 * t.val + (k.val + 512 - 510) % 512 = _
      omega

end Cert.Conv
-- ==== Proof.ConvArray.lean ====
module

public import proofs.«01_k».proof.Proof.ConvBlock

/-! The two arrays the convolution's gradient kernel leaves, and their equality with the reference's results. -/

@[expose] public section
set_option maxRecDepth 16384
noncomputable section

namespace Cert.Conv
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Where some store of the later list holds an index, the earlier stores do not matter there. -/
theorem canon_append_of_cover {S : Shape} {e : EltTy} : ∀ (L L' : List (View.Piece (Elt Ideal) S e)) (y : S.Idx)
    (_ : ∃ p ∈ L, y ∈ p.1.set), View.canon (L ++ L') y = View.canon L y
  | [], _, _, h => by obtain ⟨p, hp, _⟩ := h; exact absurd hp List.not_mem_nil
  | p :: L, L', y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L L' y ?_
      obtain ⟨q, hq, hyq⟩ := h
      rcases List.mem_cons.mp hq with rfl | hq'
      · exact absurd hyq hm
      · exact ⟨q, hq', hyq⟩

/-- The part block `t` adds to the gradient of tap `k` at channel `d`. -/
def part (t : ℕ) (k : ℕ) (d : Fin 512) : EReal :=
  ∑ r : Fin 512, gy (A0 m c) (A1 m c) (512 * t + r.val) d * vp (A1 m c) (512 * t + r.val + k) d

variable (t : Fin cfg0.N) (d : Fin 512)

/-- One row of the tap gradients after the block: what was there, plus the block's part (tap 0). -/
theorem row0 (p : Vec Ideal S1x512 .f32) :
    k0_pay23 (F := Ideal) (k0_pay9 (F := Ideal) (grid0.coords t) (iblk m c 2 t) (iblk m c 3 t) (iblk m c 4 t) (iblk m c 5 t))
      (k0_pay13 (F := Ideal) (iblk m c 0 t) (iblk m c 1 t)) p (ix2 0 d) = p (ix2 0 d) + part m c t.val 0 d := by
  pointwise [k0_pay23]
  unfold part
  simp only [blk_g, blk_v2]
  rfl

/-- The same for tap 1. -/
theorem row1 (p : Vec Ideal S1x512 .f32) :
    k0_pay24 (F := Ideal) (k0_pay8 (F := Ideal) (grid0.coords t) (iblk m c 2 t) (iblk m c 3 t) (iblk m c 4 t) (iblk m c 5 t))
      (k0_pay13 (F := Ideal) (iblk m c 0 t) (iblk m c 1 t)) p (ix2 0 d) = p (ix2 0 d) + part m c t.val 1 d := by
  pointwise [k0_pay24]
  unfold part
  simp only [blk_g, blk_v1]

/-- The same for tap 2. -/
theorem row2 (p : Vec Ideal S1x512 .f32) :
    k0_pay1 (F := Ideal) (k0_pay25 p) (k0_pay26 (k0_pay5 (F := Ideal) (iblk m c 2 t) (iblk m c 3 t))
      (k0_pay13 (F := Ideal) (iblk m c 0 t) (iblk m c 1 t))) (ix2 0 d) = p (ix2 0 d) + part m c t.val 2 d := by
  pointwise [k0_pay1, k0_pay25, k0_pay26]
  unfold part
  simp only [blk_g, blk_v]

/-- The first block starts the taps' gradients from zero. -/
theorem acc_first (h : t.val % 16 = 0) (j : S3x512.Idx) :
    (outsAt0 m c t.val t.isLt).2 j = 0 + part m c t.val (j 0).val (j 1) := by
  rw [outsAt0_A m c t h]
  frame_open
  simp (disch := decide) only [↓ View.readCov_skip, ↓ View.readCov_cons_toLoadRect, ↓ View.readCov_fill]
  frame_out
  refine (canon_append_of_cover [_, _, _] [_] j (View.cover_of_tiled_head _ _ _ rfl j)).trans ?_
  idx_vars j
  have hz : ∀ i : S3x512.Idx, k0_pay2 (F := Ideal) i = 0 := fun i => by pointwise [k0_pay2]
  canon_tiles x h
  all_goals
    idx_vars x
    obtain rfl : x0 = 0 := Subsingleton.elim _ _
    obtain rfl : j1 = x1 := Fin.ext h1
  · refine (row2 m c t j1 _).trans ?_
    rw [View.ld_apply, hz, h0]
    rfl
  · refine (row1 m c t j1 _).trans ?_
    rw [View.ld_apply, hz, h0]
    rfl
  · refine (row0 m c t j1 _).trans ?_
    rw [View.ld_apply, hz, h0]
    rfl

/-- Every later block adds its part to what the block before left. -/
theorem acc_next (h : ¬ t.val % 16 = 0) (j : S3x512.Idx) :
    (outsAt0 m c t.val t.isLt).2 j
      = (outsAt0 m c (t.val - 1) (Nat.lt_of_le_of_lt (Nat.sub_le _ _) t.isLt)).2 j + part m c t.val (j 0).val (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2 = q
  idx_vars j
  canon_tiles x h
  all_goals
    idx_vars x
    obtain rfl : x0 = 0 := Subsingleton.elim _ _
    obtain rfl : j1 = x1 := Fin.ext h1
  · refine (row2 m c t j1 _).trans ?_
    obtain rfl : j0 = 2 := Fin.ext h0
    refine congrArg (fun z : EReal => z + part m c t.val 2 j1) ?_
    rw [View.ld_apply]
    refine congrArg q (funext fun a => Fin.ext ?_)
    match a with
    | ⟨0, _⟩ => rfl
    | ⟨1, _⟩ => show 0 + 1 * j1.val = j1.val; omega
  · refine (row1 m c t j1 _).trans ?_
    obtain rfl : j0 = 1 := Fin.ext h0
    refine congrArg (fun z : EReal => z + part m c t.val 1 j1) ?_
    rw [View.ld_apply]
    refine congrArg q (funext fun a => Fin.ext ?_)
    match a with
    | ⟨0, _⟩ => rfl
    | ⟨1, _⟩ => show 0 + 1 * j1.val = j1.val; omega
  · refine (row0 m c t j1 _).trans ?_
    obtain rfl : j0 = 0 := Fin.ext h0
    refine congrArg (fun z : EReal => z + part m c t.val 0 j1) ?_
    rw [View.ld_apply]
    refine congrArg q (funext fun a => Fin.ext ?_)
    match a with
    | ⟨0, _⟩ => rfl
    | ⟨1, _⟩ => show 0 + 1 * j1.val = j1.val; omega

/-- The taps of the block. -/
theorem taps (k : Fin 3) : iblk m c 8 t (ix2 k d) = A2 m c (ix2 k d) := by
  blk_point [iblk, V, idx t]

/-- The block's convolution times the cotangent. -/
theorem tile0 (k : Fin 512) : k0_pay12 (F := Ideal) (k0_pay5 (F := Ideal) (iblk m c 2 t) (iblk m c 3 t))
      (k0_pay8 (F := Ideal) (grid0.coords t) (iblk m c 2 t) (iblk m c 3 t) (iblk m c 4 t) (iblk m c 5 t))
      (k0_pay9 (F := Ideal) (grid0.coords t) (iblk m c 2 t) (iblk m c 3 t) (iblk m c 4 t) (iblk m c 5 t)) (iblk m c 8 t)
      (k0_pay10 (F := Ideal) (iblk m c 8 t)) (iblk m c 0 t) (ix2 k d)
    = B0 m c t (ix2 k d) * conv (A1 m c) (A2 m c) (512 * t.val + k.val) d := by
  pointwise [k0_pay12, k0_pay10, k0_pay11]
  rw [blk_v, blk_v1, blk_v2, taps, taps, taps]
  unfold conv
  refine congrArg (fun z : EReal => B0 m c t (ix2 k d) * z) ?_
  generalize A2 m c (ix2 0 d) * _ = p
  generalize A2 m c (ix2 1 d) * _ = q
  generalize A2 m c (ix2 2 d) * _ = r
  rw [add_comm r q, add_right_comm, add_comm q p]

/-- The block's gradient of the convolution's input. -/
theorem blk_dv (k : Fin 512) : k0_pay20 (F := Ideal) (iblk m c 8 t) (k0_pay13 (F := Ideal) (iblk m c 0 t) (iblk m c 1 t))
      (k0_pay16 (F := Ideal) (BitVec.ofNat 32 (grid0.coords t 0).val) (iblk m c 6 t) (iblk m c 7 t))
      (k0_pay17 (F := Ideal) (BitVec.ofNat 32 (grid0.coords t 0).val) (iblk m c 0 t) (iblk m c 1 t) (iblk m c 6 t) (iblk m c 7 t))
      k0_pay18
      (k0_pay19 (F := Ideal) (BitVec.ofNat 32 (grid0.coords t 0).val) (iblk m c 0 t) (iblk m c 1 t) (iblk m c 6 t) (iblk m c 7 t))
      (ix2 k d) = dv (A0 m c) (A1 m c) (A2 m c) (512 * t.val + k.val) d := by
  pointwise [k0_pay20]
  rw [blk_g, blk_g1, blk_g2, taps, taps, taps]
  rfl

/-- The first result's index that block index `(k, e)` of block `t` lands at. -/
theorem emb9 (k : Fin 512) (e : Fin 1536) : ((cfg0.win 9).blk t).view.emb (ix2 k e)
    = (ix2 ⟨512 * t.val + k.val, by have := lt16 t; omega⟩ e : S8192x1536.Idx) := by
  blk_ext [idx t]

/-- The three column tiles a block stores, as entries of the reference's first result. -/
theorem tile2 (k : Fin 512) : k0_pay22 (F := Ideal) (k0_pay3 (F := Ideal) (iblk m c 2 t)) (iblk m c 8 t)
      (k0_pay13 (F := Ideal) (iblk m c 0 t) (iblk m c 1 t))
      (k0_pay16 (F := Ideal) (BitVec.ofNat 32 (grid0.coords t 0).val) (iblk m c 6 t) (iblk m c 7 t))
      (k0_pay17 (F := Ideal) (BitVec.ofNat 32 (grid0.coords t 0).val) (iblk m c 0 t) (iblk m c 1 t) (iblk m c 6 t) (iblk m c 7 t))
      k0_pay18
      (k0_pay19 (F := Ideal) (BitVec.ofNat 32 (grid0.coords t 0).val) (iblk m c 0 t) (iblk m c 1 t) (iblk m c 6 t) (iblk m c 7 t))
      (ix2 k d) = Cert.ReferenceIdeal.Read.val_main_v72 (F := Ideal) (A0 m c) (A1 m c) (A2 m c)
        (ix2 ⟨512 * t.val + k.val, by have := lt16 t; omega⟩ ⟨1024 + d.val, by omega⟩) := by
  have ht := lt16 t
  refine Eq.trans ?_ (ref_cols (A0 m c) (A1 m c) (A2 m c) ⟨512 * t.val + k.val, by omega⟩ d).2.2.symm
  pointwise [k0_pay22, k0_pay3]
  rw [blk_dv]
  refine congrArg (fun z : EReal => dv (A0 m c) (A1 m c) (A2 m c) (512 * t.val + k.val) d * z) ?_
  blk_point [iblk, V, idx t]

/-- The second tile: the gradient of `c_gate`. -/
theorem tile1 (k : Fin 512) : k0_pay21 (F := Ideal) (k0_pay4 (F := Ideal) (iblk m c 3 t)) (iblk m c 8 t)
      (k0_pay13 (F := Ideal) (iblk m c 0 t) (iblk m c 1 t))
      (k0_pay16 (F := Ideal) (BitVec.ofNat 32 (grid0.coords t 0).val) (iblk m c 6 t) (iblk m c 7 t))
      (k0_pay17 (F := Ideal) (BitVec.ofNat 32 (grid0.coords t 0).val) (iblk m c 0 t) (iblk m c 1 t) (iblk m c 6 t) (iblk m c 7 t))
      k0_pay18
      (k0_pay19 (F := Ideal) (BitVec.ofNat 32 (grid0.coords t 0).val) (iblk m c 0 t) (iblk m c 1 t) (iblk m c 6 t) (iblk m c 7 t))
      (ix2 k d) = Cert.ReferenceIdeal.Read.val_main_v72 (F := Ideal) (A0 m c) (A1 m c) (A2 m c)
        (ix2 ⟨512 * t.val + k.val, by have := lt16 t; omega⟩ ⟨512 + d.val, by omega⟩) := by
  have ht := lt16 t
  refine Eq.trans ?_ (ref_cols (A0 m c) (A1 m c) (A2 m c) ⟨512 * t.val + k.val, by omega⟩ d).2.1.symm
  pointwise [k0_pay21, k0_pay4]
  rw [blk_dv]
  refine congrArg (fun z : EReal => dv (A0 m c) (A1 m c) (A2 m c) (512 * t.val + k.val) d * z) ?_
  blk_point [iblk, V, idx t]

/-- The first tile: the gradient of `b_gate`. -/
theorem tile0' (k : Fin 512) : k0_pay12 (F := Ideal) (k0_pay5 (F := Ideal) (iblk m c 2 t) (iblk m c 3 t))
      (k0_pay8 (F := Ideal) (grid0.coords t) (iblk m c 2 t) (iblk m c 3 t) (iblk m c 4 t) (iblk m c 5 t))
      (k0_pay9 (F := Ideal) (grid0.coords t) (iblk m c 2 t) (iblk m c 3 t) (iblk m c 4 t) (iblk m c 5 t)) (iblk m c 8 t)
      (k0_pay10 (F := Ideal) (iblk m c 8 t)) (iblk m c 0 t) (ix2 k d)
    = Cert.ReferenceIdeal.Read.val_main_v72 (F := Ideal) (A0 m c) (A1 m c) (A2 m c)
        (ix2 ⟨512 * t.val + k.val, by have := lt16 t; omega⟩ ⟨d.val, by omega⟩) := by
  have ht := lt16 t
  refine (tile0 m c t d k).trans (Eq.trans ?_ (ref_cols (A0 m c) (A1 m c) (A2 m c) ⟨512 * t.val + k.val, by omega⟩ d).1.symm)
  refine congrArg (fun z : EReal => z * conv (A1 m c) (A2 m c) (512 * t.val + k.val) d) ?_
  blk_point [iblk, V, idx t]

/-- What a block leaves in the first result: the three column tiles hold the reference's three gradients. -/
theorem tiles (y : S512x1536.Idx) :
    (outsAt0 m c t.val t.isLt).1 y = Cert.ReferenceIdeal.Read.val_main_v72 (F := Ideal) (A0 m c) (A1 m c) (A2 m c)
      (((cfg0.win 9).blk t).view.emb y) := by
  idx_vars y
  rw [emb9]
  by_cases h : t.val % 16 = 0
  · rw [outsAt0_A m c t h]
    frame_out
    canon_tiles x h
    all_goals
      idx_vars x
      obtain rfl : y0 = x0 := Fin.ext h0
    · rw [show y1 = ⟨1024 + x1.val, by omega⟩ from Fin.ext h1]
      exact tile2 m c t x1 y0
    · rw [show y1 = ⟨512 + x1.val, by omega⟩ from Fin.ext h1]
      exact tile1 m c t x1 y0
    · rw [show y1 = ⟨x1.val, by omega⟩ from Fin.ext h1]
      exact tile0' m c t x1 y0
  · rw [outsAt0_B m c t h]
    frame_out
    canon_tiles x h
    all_goals
      idx_vars x
      obtain rfl : y0 = x0 := Fin.ext h0
    · rw [show y1 = ⟨1024 + x1.val, by omega⟩ from Fin.ext h1]
      exact tile2 m c t x1 y0
    · rw [show y1 = ⟨512 + x1.val, by omega⟩ from Fin.ext h1]
      exact tile1 m c t x1 y0
    · rw [show y1 = ⟨x1.val, by omega⟩ from Fin.ext h1]
      exact tile0' m c t x1 y0

/-- The first result array is the reference's. -/
theorem final9 : (dats m 0 c).arrAt 9 (cfgs 0).N = Cert.ReferenceIdeal.Read.val_main_v72 (F := Ideal) (A0 m c) (A1 m c) (A2 m c) := by
  refine (dats m 0 c).arrAt_eq_of_covers 9 _ (by decide +kernel) fun t hf y => ?_
  blk_simp
  rw [after0_9]
  exact tiles m c t y

/-- The second result array is the reference's. -/
theorem final10 : (dats m 0 c).arrAt 10 (cfgs 0).N = Cert.ReferenceIdeal.Read.val_main_v66 (F := Ideal) (A0 m c) (A1 m c) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0)
    (fun p j => part m c p.val (j 0).val (j 1)) (fun t h j => acc_first m c t h j) (fun t h j => acc_next m c t h j)
    (le_of_eq N_0) t0_15 rfl j, zero_add]
  idx_vars j
  rw [ref_dw]
  unfold part
  refine Fin.sum_mul_add_congr fun p r hl => ?_
  have e : 512 * p.val + r.val = p.val * 512 + r.val := by omega
  rw [e]

end Cert.Conv
-- ==== Proof.GwInArray.lean ====
module

public import proofs.«01_k».proof.Proof.Gen.GwInIdeal.Value
public import proofs.«01_k».proof.Proof.Gen.GwInReferenceIdeal.Read
public import Idealize.ShloMosaic.Lib.Pointwise
public import Idealize.ShloMosaic.Lib.Pipeline.ValueKit
public import Idealize.ShloMosaic.Lib.Pipeline.ReadBack

/-! What the weight-gradient kernel `gw_mlp_in` leaves in its result: entry `(x, y)` is the sum over the 8192 positions of
the product of the first operand's column `x` and the second operand's column `y`. The kernel walks the positions in
four runs of 2048 for each tile of the result, and keeps the running sum of the tile in a scratch buffer. -/

@[expose] public section
set_option maxRecDepth 16384
noncomputable section

namespace Cert.GwInValue
open Cert.GwInIdeal Cert.GwInIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first operand the kernel is launched with: the activations that enter the product. -/
abbrev A0 : FVec Ideal S8192x1024 .bf16 := m ((c : Thread nD τ).loc main_arg0)
/-- The second operand the kernel is launched with: the cotangent. -/
abbrev A1 : FVec Ideal S8192x4096 .bf16 := m ((c : Thread nD τ).loc main_arg1)

/-- The product that position `r` adds to entry `(x, y)` of the gradient. -/
def term (r : Fin 8192) (x : Fin 1024) (y : Fin 4096) : EReal :=
  (A0 m c (ix2 r x) : EReal) * A1 m c (ix2 r y)

/-- Which block each window stages at grid point `t`. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- There are sixteen grid points. -/
theorem lt16 (t : Fin cfg0.N) : t.val < 16 := lt_of_lt_of_eq t.isLt N_0

variable (t : Fin cfg0.N)

/-- The staged block of the first operand. -/
abbrev B0 : Vec Ideal S2048x1024 .bf16 := iblk m c 0 t
/-- The staged block of the second operand. -/
abbrev B1 : Vec Ideal S2048x1024 .bf16 := iblk m c 1 t

/-- An entry of the staged block of the first operand. -/
theorem blk0 (r : Fin 2048) (x : Fin 1024) : B0 m c t (ix2 r x)
    = A0 m c (ix2 ⟨2048 * (t.val % 4) + r.val, by omega⟩ (have ht := lt16 t; ⟨x.val, by omega⟩)) := by
  have ht := lt16 t
  blk_point [iblk, V, idx t]

/-- An entry of the staged block of the second operand. -/
theorem blk1 (r : Fin 2048) (y : Fin 1024) : B1 m c t (ix2 r y)
    = A1 m c (ix2 ⟨2048 * (t.val % 4) + r.val, by omega⟩ (have ht := lt16 t; ⟨1024 * (t.val / 4) + y.val, by omega⟩)) := by
  have ht := lt16 t
  blk_point [iblk, V, idx t]

/-- The part grid point `t` adds to entry `(x, y)` of its tile. -/
def part (x y : Fin 1024) : EReal :=
  ∑ r : Fin 2048, term m c ⟨2048 * (t.val % 4) + r.val, by omega⟩ (have ht := lt16 t; ⟨x.val, by omega⟩) (have ht := lt16 t; ⟨1024 * (t.val / 4) + y.val, by omega⟩)

/-- The tile after the point's product: what was there, plus the point's part. -/
theorem step (q : Vec Ideal S1024x1024 .f32) (x y : Fin 1024) :
    k0_pay2 (F := Ideal) (B0 m c t) q (B1 m c t) (ix2 x y) = q (ix2 x y) + part m c t x y := by
  pointwise [k0_pay2]
  unfold part term
  simp only [blk0, blk1]

/-- The first point of a tile starts from zero. -/
theorem acc_first (h : t.val % 4 = 0) (j : S1024x1024.Idx) :
    (outsAt0 m c t.val t.isLt).2 j = 0 + part m c t (j 0) (j 1) := by
  rw [outsAt0_A m c t h (by omega)]
  frame_open
  simp (disch := decide) only [↓ View.readCov_skip, ↓ View.readCov_cons_toLoadRect, ↓ View.readCov_fill]
  frame_out
  idx_vars j
  have hz : ∀ i : S1024x1024.Idx, k0_pay1 (F := Ideal) i = 0 := fun i => by pointwise [k0_pay1]
  refine (step m c t _ j0 j1).trans ?_
  rw [hz]

/-- Every later point of a tile adds its part to what the point before left. -/
theorem acc_next (h : ¬ t.val % 4 = 0) (j : S1024x1024.Idx) :
    (outsAt0 m c t.val t.isLt).2 j
      = (outsAt0 m c (t.val - 1) (Nat.lt_of_le_of_lt (Nat.sub_le _ _) t.isLt)).2 j + part m c t (j 0) (j 1) := by
  idx_vars j
  by_cases h1 : t.val % 4 = 3
  · rw [outsAt0_C m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1
  · rw [outsAt0_B m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1

/-- At the last point of a tile the result's block holds the running sum. -/
theorem out_last (h1 : t.val % 4 = 3) (j : S1024x1024.Idx) :
    (outsAt0 m c t.val t.isLt).1 j = (outsAt0 m c t.val t.isLt).2 j := by
  rw [outsAt0_C m c t (by omega) h1]
  frame_open
  simp (disch := decide) only [↓ View.readCov_skip, ↓ View.readCov_cons_toLoadRect, ↓ View.readCov_fill]
  frame_out
  rfl

/-- The reference's gradient, entry by entry. -/
theorem ref_val (x : Fin 1024) (y : Fin 4096) :
    Cert.GwInReferenceIdeal.Read.val_main_v6 (F := Ideal) (A0 m c) (A1 m c) (ix2 x y) = ∑ r : Fin 8192, term m c r x y := by
  rw [Cert.GwInReferenceIdeal.Read.val_main_v6_apply, Cert.GwInReferenceIdeal.Read.val_main_v5_apply,
    Cert.GwInReferenceIdeal.Read.val_main_v4_apply]
  refine Finset.sum_congr rfl fun r _ => ?_
  unfold term
  refine (mul_comm _ _).trans ?_
  have er : Cert.GwInReferenceIdeal.Read.ridx_main_v4 (Cert.GwInReferenceIdeal.Read.idx_main_v5 (ix2 x y)) r = ix2 r x := by
    funext a
    match a with
    | ⟨0, _⟩ => rfl
    | ⟨1, _⟩ => rfl
  have el : Cert.GwInReferenceIdeal.Read.lidx_main_v4 (Cert.GwInReferenceIdeal.Read.idx_main_v5 (ix2 x y)) r = ix2 r y := by
    funext a
    match a with
    | ⟨0, _⟩ => rfl
    | ⟨1, _⟩ => rfl
  rw [er, el]
  pointwise [Cert.GwInReferenceIdeal.Read.val_main_v1, Cert.GwInReferenceIdeal.Read.val_main_v3]

/-- The result's index that block index `(x, y)` of point `t` lands at. -/
theorem emb2 (x y : Fin 1024) : ((cfg0.win 2).blk t).view.emb (ix2 x y)
    = (ix2 (have ht := lt16 t; ⟨x.val, by omega⟩) (have ht := lt16 t; ⟨1024 * (t.val / 4) + y.val, by omega⟩) : S1024x4096.Idx) := by
  have ht := lt16 t
  blk_ext [idx t]

/-- The result array is the reference's. -/
theorem final : (dats m 0 c).arrAt 2 (cfgs 0).N = Cert.GwInReferenceIdeal.Read.val_main_v6 (F := Ideal) (A0 m c) (A1 m c) := by
  refine (dats m 0 c).arrAt_eq_of_covers 2 _ (by decide +kernel) fun t hf y => ?_
  have ht := lt16 t
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p j => part m c p (j 0) (j 1)) (fun t h j => acc_first m c t h j) (fun t h j => acc_next m c t h j) t h3 y, zero_add]
  idx_vars y
  refine Eq.trans ?_ (congrArg (Cert.GwInReferenceIdeal.Read.val_main_v6 (F := Ideal) (A0 m c) (A1 m c)) (emb2 t y0 y1)).symm
  rw [ref_val]
  unfold part
  refine Fin.sum_mul_add_congr fun p r hl => ?_
  have e0 : (4 * (t.val / 4) + p.val) % 4 = p.val := by omega
  have e1 : (4 * (t.val / 4) + p.val) / 4 = t.val / 4 := by omega
  have e : 2048 * p.val + r.val = p.val * 2048 + r.val := by omega
  simp only [e0, e1, e]

end Cert.GwInValue
-- ==== Proof.GwOutArray.lean ====
module

public import proofs.«01_k».proof.Proof.Gen.GwOutIdeal.Value
public import proofs.«01_k».proof.Proof.Gen.GwOutReferenceIdeal.Read
public import Idealize.ShloMosaic.Lib.Pointwise
public import Idealize.ShloMosaic.Lib.Pipeline.ValueKit
public import Idealize.ShloMosaic.Lib.Pipeline.ReadBack

/-! What the weight-gradient kernel `gw_mlp_out` leaves in its result: entry `(x, y)` is the sum over the 8192 positions of
the product of the first operand's column `x`, squared above zero and the second operand's column `y`. The kernel walks the positions in
four runs of 2048 for each tile of the result, and keeps the running sum of the tile in a scratch buffer. -/

@[expose] public section
set_option maxRecDepth 16384
noncomputable section

namespace Cert.GwOutValue
open Cert.GwOutIdeal Cert.GwOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first operand the kernel is launched with: the pre-activations. -/
abbrev A0 : FVec Ideal S8192x4096 .bf16 := m ((c : Thread nD τ).loc main_arg0)
/-- The second operand the kernel is launched with: the cotangent. -/
abbrev A1 : FVec Ideal S8192x1024 .bf16 := m ((c : Thread nD τ).loc main_arg1)

/-- The product that position `r` adds to entry `(x, y)` of the gradient. -/
def term (r : Fin 8192) (x : Fin 4096) (y : Fin 1024) : EReal :=
  (max (A0 m c (ix2 r x)) 0 * max (A0 m c (ix2 r x)) 0 : EReal) * A1 m c (ix2 r y)

/-- Which block each window stages at grid point `t`. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- There are sixteen grid points. -/
theorem lt16 (t : Fin cfg0.N) : t.val < 16 := lt_of_lt_of_eq t.isLt N_0

variable (t : Fin cfg0.N)

/-- The staged block of the first operand. -/
abbrev B0 : Vec Ideal S2048x1024 .bf16 := iblk m c 0 t
/-- The staged block of the second operand. -/
abbrev B1 : Vec Ideal S2048x1024 .bf16 := iblk m c 1 t

/-- An entry of the staged block of the first operand. -/
theorem blk0 (r : Fin 2048) (x : Fin 1024) : B0 m c t (ix2 r x)
    = A0 m c (ix2 ⟨2048 * (t.val % 4) + r.val, by omega⟩ (have ht := lt16 t; ⟨1024 * (t.val / 4) + x.val, by omega⟩)) := by
  have ht := lt16 t
  blk_point [iblk, V, idx t]

/-- An entry of the staged block of the second operand. -/
theorem blk1 (r : Fin 2048) (y : Fin 1024) : B1 m c t (ix2 r y)
    = A1 m c (ix2 ⟨2048 * (t.val % 4) + r.val, by omega⟩ (have ht := lt16 t; ⟨y.val, by omega⟩)) := by
  have ht := lt16 t
  blk_point [iblk, V, idx t]

/-- The part grid point `t` adds to entry `(x, y)` of its tile. -/
def part (x y : Fin 1024) : EReal :=
  ∑ r : Fin 2048, term m c ⟨2048 * (t.val % 4) + r.val, by omega⟩ (have ht := lt16 t; ⟨1024 * (t.val / 4) + x.val, by omega⟩) (have ht := lt16 t; ⟨y.val, by omega⟩)

/-- The tile after the point's product: what was there, plus the point's part. -/
theorem step (q : Vec Ideal S1024x1024 .f32) (x y : Fin 1024) :
    k0_pay2 (F := Ideal) (B0 m c t) q (B1 m c t) (ix2 x y) = q (ix2 x y) + part m c t x y := by
  pointwise [k0_pay2]
  unfold part term
  simp only [blk0, blk1]

/-- The first point of a tile starts from zero. -/
theorem acc_first (h : t.val % 4 = 0) (j : S1024x1024.Idx) :
    (outsAt0 m c t.val t.isLt).2 j = 0 + part m c t (j 0) (j 1) := by
  rw [outsAt0_A m c t h (by omega)]
  frame_open
  simp (disch := decide) only [↓ View.readCov_skip, ↓ View.readCov_cons_toLoadRect, ↓ View.readCov_fill]
  frame_out
  idx_vars j
  have hz : ∀ i : S1024x1024.Idx, k0_pay1 (F := Ideal) i = 0 := fun i => by pointwise [k0_pay1]
  refine (step m c t _ j0 j1).trans ?_
  rw [hz]

/-- Every later point of a tile adds its part to what the point before left. -/
theorem acc_next (h : ¬ t.val % 4 = 0) (j : S1024x1024.Idx) :
    (outsAt0 m c t.val t.isLt).2 j
      = (outsAt0 m c (t.val - 1) (Nat.lt_of_le_of_lt (Nat.sub_le _ _) t.isLt)).2 j + part m c t (j 0) (j 1) := by
  idx_vars j
  by_cases h1 : t.val % 4 = 3
  · rw [outsAt0_C m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1
  · rw [outsAt0_B m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1

/-- At the last point of a tile the result's block holds the running sum. -/
theorem out_last (h1 : t.val % 4 = 3) (j : S1024x1024.Idx) :
    (outsAt0 m c t.val t.isLt).1 j = (outsAt0 m c t.val t.isLt).2 j := by
  rw [outsAt0_C m c t (by omega) h1]
  frame_open
  simp (disch := decide) only [↓ View.readCov_skip, ↓ View.readCov_cons_toLoadRect, ↓ View.readCov_fill]
  frame_out
  rfl

/-- The reference's gradient, entry by entry. -/
theorem ref_val (x : Fin 4096) (y : Fin 1024) :
    Cert.GwOutReferenceIdeal.Read.val_main_v8 (F := Ideal) (A0 m c) (A1 m c) (ix2 x y) = ∑ r : Fin 8192, term m c r x y := by
  rw [Cert.GwOutReferenceIdeal.Read.val_main_v8_apply, Cert.GwOutReferenceIdeal.Read.val_main_v7_apply,
    Cert.GwOutReferenceIdeal.Read.val_main_v6_apply]
  refine Finset.sum_congr rfl fun r _ => ?_
  unfold term
  refine (mul_comm _ _).trans ?_
  have er : Cert.GwOutReferenceIdeal.Read.ridx_main_v6 (Cert.GwOutReferenceIdeal.Read.idx_main_v7 (ix2 x y)) r = ix2 r x := by
    funext a
    match a with
    | ⟨0, _⟩ => rfl
    | ⟨1, _⟩ => rfl
  have el : Cert.GwOutReferenceIdeal.Read.lidx_main_v6 (Cert.GwOutReferenceIdeal.Read.idx_main_v7 (ix2 x y)) r = ix2 r y := by
    funext a
    match a with
    | ⟨0, _⟩ => rfl
    | ⟨1, _⟩ => rfl
  rw [er, el]
  pointwise [Cert.GwOutReferenceIdeal.Read.val_main_v5, Cert.GwOutReferenceIdeal.Read.val_main_v3,
    Cert.GwOutReferenceIdeal.Read.val_main_v2, Cert.GwOutReferenceIdeal.Read.val_main_v1,
    Cert.GwOutReferenceIdeal.Read.val_main_call0_v0, Cert.GwOutReferenceIdeal.Read.val_main_call0_cst]

/-- The result's index that block index `(x, y)` of point `t` lands at. -/
theorem emb2 (x y : Fin 1024) : ((cfg0.win 2).blk t).view.emb (ix2 x y)
    = (ix2 (have ht := lt16 t; ⟨1024 * (t.val / 4) + x.val, by omega⟩) (have ht := lt16 t; ⟨y.val, by omega⟩) : S4096x1024.Idx) := by
  have ht := lt16 t
  blk_ext [idx t]

/-- The result array is the reference's. -/
theorem final : (dats m 0 c).arrAt 2 (cfgs 0).N = Cert.GwOutReferenceIdeal.Read.val_main_v8 (F := Ideal) (A0 m c) (A1 m c) := by
  refine (dats m 0 c).arrAt_eq_of_covers 2 _ (by decide +kernel) fun t hf y => ?_
  have ht := lt16 t
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p j => part m c p (j 0) (j 1)) (fun t h j => acc_first m c t h j) (fun t h j => acc_next m c t h j) t h3 y, zero_add]
  idx_vars y
  refine Eq.trans ?_ (congrArg (Cert.GwOutReferenceIdeal.Read.val_main_v8 (F := Ideal) (A0 m c) (A1 m c)) (emb2 t y0 y1)).symm
  rw [ref_val]
  unfold part
  refine Fin.sum_mul_add_congr fun p r hl => ?_
  have e0 : (4 * (t.val / 4) + p.val) % 4 = p.val := by omega
  have e1 : (4 * (t.val / 4) + p.val) / 4 = t.val / 4 := by omega
  have e : 2048 * p.val + r.val = p.val * 2048 + r.val := by omega
  simp only [e0, e1, e]

end Cert.GwOutValue
-- ==== Proof.Norm.lean ====
module

public import Idealize.ShloMosaic.PureOps.Ideal.Laws
public import Idealize.ShloMosaic.Lib.Pointwise

/-! The derivative of the root-mean-square norm of a row of 1024 numbers, as the kernels write it and as the chain rule writes it.
The two agree for every row and every cotangent, the infinite ones included: a row with an infinite entry has an infinite mean
square, so both sides are zero, and for a row of numbers both sides are the cotangent times numbers. -/

@[expose] public section
noncomputable section

namespace Cert.Norm
open Idealize.ShloMosaic

/-- The mean square of a row, plus the small constant the norm adds. -/
def ms (x : Fin 1024 → EReal) : EReal :=
  Ideal.div (∑ i, x i * x i) (Ideal.ofBits FTy.f32 1149239296#32) + Ideal.ofBits FTy.f32 897988541#32

/-- What the norm divides a row by, inverted. -/
def rs (x : Fin 1024 → EReal) : EReal := Ideal.rsqrt (ms x)

/-- The gradient of a row under the cotangent `d`, as the kernels compute it. -/
def bwd (x d : Fin 1024 → EReal) (i : Fin 1024) : EReal :=
  rs x * (d i - x i * rs x * Ideal.div (∑ j, d j * (x j * rs x)) (Ideal.ofBits FTy.f32 1149239296#32))

/-- The part of the gradient that comes through the mean square, by the chain rule. -/
def through (x d : Fin 1024 → EReal) : EReal :=
  Ideal.div ((∑ j, x j * d j) * (Ideal.ofBits FTy.f32 3204448256#32 * Ideal.div (rs x) (ms x))) (Ideal.ofBits FTy.f32 1149239296#32)

theorem n_f32 : (Ideal.ofBits FTy.f32 1149239296#32 : EReal) = ((1024 : ℝ) : EReal) := by
  simp [Ideal.ofBits, Ideal.ieee, -EReal.coe_mul]; norm_num

theorem half_f32 : (Ideal.ofBits FTy.f32 3204448256#32 : EReal) = ((-1 / 2 : ℝ) : EReal) := by
  simp [Ideal.ofBits, Ideal.ieee, -EReal.coe_mul]; norm_num

theorem two_f32 : (Ideal.ofBits FTy.f32 1073741824#32 : EReal) = ((2 : ℝ) : EReal) := by
  simp [Ideal.ofBits, Ideal.ieee, -EReal.coe_mul]; norm_num

/-- The small constant is a positive number. -/
theorem eps_f32 : ∃ e : ℝ, 0 < e ∧ (Ideal.ofBits FTy.f32 897988541#32 : EReal) = (e : EReal) := by
  refine ⟨8796093 * (2 ^ 43)⁻¹, by positivity, ?_⟩
  simp [Ideal.ofBits, Ideal.ieee, -EReal.coe_mul]

/-- A sum of products with one number is the sum, times the number. -/
theorem sum_mul_num {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, mul_comm _ (c : EReal), mul_comm _ (c : EReal), mul_comm _ (c : EReal),
      EReal.left_distrib_of_nonneg_of_ne_top (EReal.coe_nonneg.mpr hc) (EReal.coe_ne_top c)]

/-- A sum of numbers is a number. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number doubled. -/
theorem twice (z : EReal) : z + z = z * ((2 : ℝ) : EReal) := by
  induction z with
  | bot => rw [EReal.bot_mul_coe_of_pos (by norm_num)]; rfl
  | top => rw [EReal.top_mul_coe_of_pos (by norm_num)]; rfl
  | coe a => rw [← EReal.coe_add, ← EReal.coe_mul, mul_two]

/-- A row either holds numbers only, or the sum of its squares is infinite. -/
theorem real_or_top (x : Fin 1024 → EReal) : (∃ f : Fin 1024 → ℝ, x = fun i => (f i : EReal)) ∨ (∑ i, x i * x i) = ⊤ := by
  by_cases h : ∀ i, x i ≠ ⊤ ∧ x i ≠ ⊥
  · exact Or.inl ⟨fun i => (x i).toReal, funext fun i => (EReal.coe_toReal (h i).1 (h i).2).symm⟩
  · right
    obtain ⟨i, hi⟩ := not_forall.mp h
    have hsq : ∀ z : EReal, 0 ≤ z * z := fun z => by
      induction z with
      | bot => rw [EReal.bot_mul_bot]; exact le_top
      | top => rw [EReal.top_mul_top]; exact le_top
      | coe a => rw [← EReal.coe_mul]; exact EReal.coe_nonneg.mpr (mul_self_nonneg a)
    have ht : x i * x i = ⊤ := by
      by_cases h1 : x i = ⊤
      · rw [h1, EReal.top_mul_top]
      · by_cases h2 : x i = ⊥
        · rw [h2, EReal.bot_mul_bot]
        · exact absurd ⟨h1, h2⟩ hi
    exact top_le_iff.mp (ht ▸ Finset.single_le_sum (f := fun i => x i * x i) (fun j _ => hsq (x j)) (Finset.mem_univ i))

/-- The gradient of a row as the kernels compute it is the chain rule's. -/
theorem bwd_eq (x d : Fin 1024 → EReal) (i : Fin 1024) :
    bwd x d i = d i * rs x + x i * through x d + through x d * x i := by
  obtain ⟨e, he, hE⟩ := eps_f32
  rcases real_or_top x with ⟨f, rfl⟩ | h
  · have hA : (∑ i, ((f i : ℝ) : EReal) * (f i : EReal)) = ((∑ i, f i * f i : ℝ) : EReal) := by
      rw [coe_sum]
      exact Finset.sum_congr rfl fun i _ => (EReal.coe_mul _ _).symm
    have hm : ms (fun i => (f i : EReal)) = (((∑ i, f i * f i) * (1 / 1024) + e : ℝ) : EReal) := by
      unfold ms
      rw [hA, n_f32, Ideal.div_coe (by norm_num), hE, ← EReal.coe_mul, ← EReal.coe_add]
    have hu : 0 < (∑ i, f i * f i) * (1 / 1024) + e :=
      add_pos_of_nonneg_of_pos (mul_nonneg (Finset.sum_nonneg fun i _ => mul_self_nonneg _) (by norm_num)) he
    generalize (∑ i, f i * f i) * (1 / 1024) + e = u at hm hu
    have hr : rs (fun i => (f i : EReal)) = (((Real.sqrt u)⁻¹ : ℝ) : EReal) := by
      unfold rs
      rw [hm, Ideal.rsqrt_coe, if_neg (not_lt.mpr hu.le), if_neg hu.ne']
    have hρ : 0 ≤ (Real.sqrt u)⁻¹ := inv_nonneg.mpr (Real.sqrt_nonneg u)
    have hρ2 : (Real.sqrt u)⁻¹ * (Real.sqrt u)⁻¹ = 1 / u := by
      rw [← mul_inv, Real.mul_self_sqrt hu.le, one_div]
    unfold bwd through
    rw [hm, hr, n_f32, half_f32, Ideal.div_coe (by norm_num), Ideal.div_coe (by norm_num), Ideal.div_coe hu.ne']
    generalize (Real.sqrt u)⁻¹ = ρ at hρ hρ2
    have hS : (∑ j, d j * ((f j : EReal) * (ρ : EReal))) = (∑ j, (f j : EReal) * d j) * (ρ : EReal) := by
      rw [← sum_mul_num _ _ hρ]
      exact Finset.sum_congr rfl fun j _ => by rw [← mul_assoc, mul_comm (d j)]
    rw [hS]
    generalize (∑ j, (f j : EReal) * d j) = S
    have hw : (f i : EReal) * (S * (((-1 / 2 : ℝ) : EReal) * ((ρ : EReal) * ((1 / u : ℝ) : EReal))) * ((1 / 1024 : ℝ) : EReal))
        = S * ((f i * (-1 / 2) * ρ * (1 / u) * (1 / 1024) : ℝ) : EReal) := by
      simp only [EReal.coe_mul]
      ac_rfl
    rw [add_assoc, mul_comm _ (f i : EReal), hw, twice, sub_eq_add_neg,
      EReal.left_distrib_of_nonneg_of_ne_top (EReal.coe_nonneg.mpr hρ) (EReal.coe_ne_top ρ), mul_comm (ρ : EReal) (d i)]
    refine congrArg (fun z : EReal => d i * (ρ : EReal) + z) ?_
    rw [mul_neg]
    have hk : (ρ : EReal) * ((f i : EReal) * (ρ : EReal) * (S * (ρ : EReal) * ((1 / 1024 : ℝ) : EReal)))
        = S * ((ρ * f i * (ρ * ρ) * (1 / 1024) : ℝ) : EReal) := by
      simp only [EReal.coe_mul]
      ac_rfl
    rw [hk, ← mul_neg, ← EReal.coe_neg, mul_assoc S, ← EReal.coe_mul, hρ2]
    refine congrArg (fun z : ℝ => S * (z : EReal)) ?_
    ring
  · have hm : ms x = ⊤ := by
      unfold ms
      rw [h, n_f32, Ideal.div_coe (by norm_num), hE, EReal.top_mul_coe_of_pos (by norm_num), EReal.top_add_coe]
    have hr : rs x = 0 := by
      unfold rs
      rw [hm, Ideal.rsqrt_top]
    have hw : through x d = 0 := by
      unfold through
      rw [hr, n_f32, Ideal.div_coe (by norm_num)]
      unfold Ideal.div
      rw [hm, if_neg (by decide), zero_mul, mul_zero, mul_zero, zero_mul]
    unfold bwd
    rw [hw, hr, zero_mul, mul_zero, mul_zero, zero_mul, zero_add, zero_add]

end Cert.Norm
-- ==== Proof.MlpOutBlock.lean ====
module

public import proofs.«01_k».proof.Proof.Gen.MlpOutIdeal.Value
public import proofs.«01_k».proof.Proof.Gen.MlpOutReferenceIdeal.Read
public import proofs.«01_k».proof.Proof.Norm
public import Idealize.ShloMosaic.Lib.Pointwise
public import Idealize.ShloMosaic.Lib.Pipeline.ValueKit
public import Idealize.ShloMosaic.Lib.Pipeline.ReadBack

/-! The gradients of the MLP's second product and of the norm after it, entry by entry: what the kernel's blocks hold and what
the derivative of the reference holds. -/

@[expose] public section
set_option maxRecDepth 16384
noncomputable section

namespace Cert.MlpOutValue
open Cert.MlpOutIdeal Cert.MlpOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cotangent of the residual stream. -/
abbrev A0 : FVec Ideal S8192x1024 .f32 := m ((c : Thread nD τ).loc main_arg0)
/-- The product's result, which the norm was applied to. -/
abbrev A1 : FVec Ideal S8192x1024 .f32 := m ((c : Thread nD τ).loc main_arg1)
/-- The pre-activations. -/
abbrev A2 : FVec Ideal S8192x4096 .bf16 := m ((c : Thread nD τ).loc main_arg2)
/-- The product's weights. -/
abbrev A3 : FVec Ideal S4096x1024 .bf16 := m ((c : Thread nD τ).loc main_arg3)
/-- The norm's gains. -/
abbrev A4 : FVec Ideal S1x1024 .f32 := m ((c : Thread nD τ).loc main_arg4)
/-- The gate of the branch. -/
abbrev A5 : FVec Ideal S1x1024 .f32 := m ((c : Thread nD τ).loc main_arg5)

/-- Row `r` of what the norm was applied to. -/
def row (r : Fin 8192) (x : Fin 1024) : EReal := A1 m c (ix2 r x)
/-- Row `r` of the cotangent that reaches the normed row. -/
def cot (r : Fin 8192) (x : Fin 1024) : EReal := A0 m c (ix2 r x) * A5 m c (ix2 0 x) * A4 m c (ix2 0 x)
/-- The gradient of the product's result. -/
def dff (r : Fin 8192) (x : Fin 1024) : EReal := Norm.bwd (row m c r) (cot m c r) x
/-- The gradient of the pre-activations. -/
def da (r : Fin 8192) (y : Fin 4096) : EReal :=
  (∑ x : Fin 1024, dff m c r x * A3 m c (ix2 y x)) * (Ideal.ofBits FTy.f32 1073741824#32 * max (A2 m c (ix2 r y)) 0)
/-- What position `r` adds to the gradient of the gate. -/
def tgt (r : Fin 8192) (x : Fin 1024) : EReal := A0 m c (ix2 r x) * (row m c r x * Norm.rs (row m c r) * A4 m c (ix2 0 x))
/-- What position `r` adds to the gradient of the gains. -/
def tg (r : Fin 8192) (x : Fin 1024) : EReal := A0 m c (ix2 r x) * A5 m c (ix2 0 x) * (row m c r x * Norm.rs (row m c r))

/-- Which block each window stages at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-- There are sixteen grid points. -/
theorem lt16 (t : Fin cfg0.N) : t.val < 16 := lt_of_lt_of_eq t.isLt N_0

variable (t : Fin cfg0.N)

/-- The staged blocks of the six operands. -/
abbrev B0 : Vec Ideal S512x1024 .f32 := iblk m c 0 t
@[inherit_doc B0] abbrev B1 : Vec Ideal S512x1024 .f32 := iblk m c 1 t
@[inherit_doc B0] abbrev B2 : Vec Ideal S512x4096 .bf16 := iblk m c 2 t
@[inherit_doc B0] abbrev B3 : Vec Ideal S4096x1024 .bf16 := iblk m c 3 t
@[inherit_doc B0] abbrev B4 : Vec Ideal S1x1024 .f32 := iblk m c 4 t
@[inherit_doc B0] abbrev B5 : Vec Ideal S1x1024 .f32 := iblk m c 5 t

/-- The position that row `r` of point `t`'s blocks holds. -/
abbrev pos (r : Fin 512) : Fin 8192 := have ht := lt16 t; ⟨512 * t.val + r.val, by omega⟩

/-- The entries of the staged blocks. -/
theorem blk0 (r : Fin 512) (x : Fin 1024) : B0 m c t (ix2 r x) = A0 m c (ix2 (pos t r) x) := by
  have ht := lt16 t
  blk_point [iblk, V, idx t]
@[inherit_doc blk0] theorem blk1 (r : Fin 512) (x : Fin 1024) : B1 m c t (ix2 r x) = row m c (pos t r) x := by
  have ht := lt16 t
  unfold row
  blk_point [iblk, V, idx t]
@[inherit_doc blk0] theorem blk2 (r : Fin 512) (x : Fin 4096) : B2 m c t (ix2 r x) = A2 m c (ix2 (pos t r) x) := by
  have ht := lt16 t
  blk_point [iblk, V, idx t]
@[inherit_doc blk0] theorem blk3 (r : Fin 4096) (x : Fin 1024) : B3 m c t (ix2 r x) = A3 m c (ix2 r x) := by
  blk_point [iblk, V, idx t]
@[inherit_doc blk0] theorem blk4 (x : Fin 1024) : B4 m c t (ix2 0 x) = A4 m c (ix2 0 x) := by
  blk_point [iblk, V, idx t]
@[inherit_doc blk0] theorem blk5 (x : Fin 1024) : B5 m c t (ix2 0 x) = A5 m c (ix2 0 x) := by
  blk_point [iblk, V, idx t]

/-- What the block's inverted norm is. -/
theorem rs_blk (r : Fin 512) : k0_pay8 (F := Ideal) (B1 m c t) (ix2 r 0) = Norm.rs (row m c (pos t r)) := by
  pointwise [k0_pay8]
  simp only [blk1]
  rfl

/-- The block's normed rows. -/
theorem xh_blk (r : Fin 512) (x : Fin 1024) : k0_pay9 (F := Ideal) (B1 m c t) (ix2 r x) = row m c (pos t r) x * Norm.rs (row m c (pos t r)) := by
  pointwise [k0_pay9]
  rw [rs_blk, blk1]

/-- The block of the gradient of the product's result. -/
theorem dff_blk (r : Fin 512) (x : Fin 1024) :
    k0_pay10 (F := Ideal) (B0 m c t) (B5 m c t) (B1 m c t) (B4 m c t) (ix2 r x) = dff m c (pos t r) x := by
  pointwise [k0_pay10, k0_pay7]
  simp only [rs_blk, xh_blk, blk0, blk4, blk5]
  rfl

/-- The block of the gradient of the pre-activations. -/
theorem da_blk (r : Fin 512) (y : Fin 4096) :
    k0_pay4 (F := Ideal) (k0_pay10 (F := Ideal) (B0 m c t) (B5 m c t) (B1 m c t) (B4 m c t)) (B3 m c t) (B2 m c t) (ix2 r y) = da m c (pos t r) y := by
  pointwise [k0_pay4, k0_pay3]
  simp only [dff_blk, blk2, blk3]
  rfl

/-- What point `t` adds to the gradient of the gate. -/
def pgt (x : Fin 1024) : EReal := ∑ r : Fin 512, tgt m c (pos t r) x
/-- What point `t` adds to the gradient of the gains. -/
def pg (x : Fin 1024) : EReal := ∑ r : Fin 512, tg m c (pos t r) x

/-- The gate's gradient after the point: what was there, plus the point's part. -/
theorem step8 (q : Vec Ideal S1x1024 .f32) (x : Fin 1024) :
    k0_pay1 (F := Ideal) (k0_pay11 (F := Ideal) q) (k0_pay12 (F := Ideal) (B0 m c t) (B1 m c t) (B4 m c t)) (ix2 0 x) = q (ix2 0 x) + pgt m c t x := by
  pointwise [k0_pay1, k0_pay11, k0_pay12]
  simp only [xh_blk, blk0, blk4]
  rfl

/-- The gains' gradient after the point: what was there, plus the point's part. -/
theorem step9 (q : Vec Ideal S1x1024 .f32) (x : Fin 1024) :
    k0_pay2 (F := Ideal) (k0_pay7 (F := Ideal) (B0 m c t) (B5 m c t)) (k0_pay9 (F := Ideal) (B1 m c t)) q (ix2 0 x) = q (ix2 0 x) + pg m c t x := by
  pointwise [k0_pay2, k0_pay7]
  simp only [xh_blk, blk0, blk5]
  rfl

/-- The first block of each accumulator is zero. -/
theorem zero8 (i : S1x1024.Idx) : k0_pay5 (F := Ideal) i = 0 := by pointwise [k0_pay5]
@[inherit_doc zero8] theorem zero9 (i : S1x1024.Idx) : k0_pay6 (F := Ideal) i = 0 := by pointwise [k0_pay6]

section ref
open Cert.MlpOutReferenceIdeal.Read

/-- The reference's mean square of a row. -/
theorem ref_ms (r : Fin 8192) : val_main_v6 (F := Ideal) (A1 m c) (ix2 r 0) = Norm.ms (row m c r) := by
  pointwise [val_main_v6, val_main_v5, val_main_v4, val_main_v3, val_main_v2, val_main_v1, val_main_v0, val_main_cst, val_main_cst_0, val_main_cst_1]
  rfl

/-- The reference's inverted norm. -/
theorem ref_rs (r : Fin 8192) : val_main_v7 (F := Ideal) (A1 m c) (ix2 r 0) = Norm.rs (row m c r) := by
  pointwise [val_main_v7]
  rw [ref_ms]
  rfl

/-- The reference's cotangent of the normed row. -/
theorem ref_cot (r : Fin 8192) (x : Fin 1024) : val_main_v26 (F := Ideal) (A0 m c) (A4 m c) (A5 m c) (ix2 r x) = cot m c r x := by
  pointwise [val_main_v26, val_main_v25, val_main_v18, val_main_v17]
  unfold cot
  rw [mul_comm (A0 m c (ix2 r x))]

/-- The reference's part of the gradient through the mean square. -/
theorem ref_through (r : Fin 8192) : val_main_v34 (F := Ideal) (A0 m c) (A1 m c) (A4 m c) (A5 m c) (ix2 r 0) = Norm.through (row m c r) (cot m c r) := by
  pointwise [val_main_v34, val_main_v33, val_main_v32, val_main_v29, val_main_v28, val_main_v27, val_main_v10, val_main_v9, val_main_v8, val_main_cst_2, val_main_cst_5, val_main_cst_6]
  simp only [ref_ms, ref_rs, ref_cot]
  rfl

/-- The reference's gradient of the product's result. -/
theorem ref_dff0 (r : Fin 8192) (x : Fin 1024) : val_main_v40 (F := Ideal) (A0 m c) (A1 m c) (A4 m c) (A5 m c) (ix2 r x) = dff m c r x := by
  pointwise [val_main_v40, val_main_v39, val_main_v38, val_main_v37, val_main_v36, val_main_v35, val_main_v31, val_main_v30, val_main_cst_7]
  simp only [Fin.sum_univ_one, Fin.isValue, ref_through, ref_rs, ref_cot]
  unfold dff
  rw [Norm.bwd_eq]
  rfl

/-- The reference's first result. -/
theorem ref_dff (r : Fin 8192) (x : Fin 1024) : val_main_v55 (F := Ideal) (A0 m c) (A1 m c) (A4 m c) (A5 m c) (ix2 r x) = dff m c r x := by
  pointwise [val_main_v55]
  exact ref_dff0 m c r x

/-- The reference's second result. -/
theorem ref_da (r : Fin 8192) (y : Fin 4096) :
    val_main_v56 (F := Ideal) (A0 m c) (A1 m c) (A2 m c) (A3 m c) (A4 m c) (A5 m c) (ix2 r y) = da m c r y := by
  pointwise [val_main_v56, val_main_v54, val_main_v53, val_main_v52, val_main_v51, val_main_v49, val_main_v48, val_main_v47, val_main_v44, val_main_v43, val_main_v42, val_main_v41, val_main_cst_8, val_main_cst_10, val_main_cst_11, val_main_call0_v0, val_main_call0_cst]
  simp only [ref_dff0]
  split_ifs with h
  · rfl
  · unfold da
    rw [max_eq_right (not_lt.mp h), mul_zero, mul_zero]

/-- The reference's third result. -/
theorem ref_dgt (x : Fin 1024) : val_main_v21 (F := Ideal) (A0 m c) (A1 m c) (A4 m c) (ix2 0 x) = ∑ r : Fin 8192, tgt m c r x := by
  pointwise [val_main_v21, val_main_v20, val_main_v19, val_main_v14, val_main_v13, val_main_v12, val_main_v11, val_main_cst_3]
  simp only [ref_rs]
  rfl

/-- The reference's fourth result. -/
theorem ref_dg (x : Fin 1024) : val_main_v24 (F := Ideal) (A0 m c) (A1 m c) (A5 m c) (ix2 0 x) = ∑ r : Fin 8192, tg m c r x := by
  pointwise [val_main_v24, val_main_v23, val_main_v22, val_main_v18, val_main_v17, val_main_v12, val_main_v11, val_main_cst_4]
  simp only [ref_rs]
  refine Finset.sum_congr rfl fun r _ => ?_
  unfold tg row
  rw [mul_comm (A0 m c (ix2 r x)), mul_comm (A1 m c (ix2 r x) * _)]

end ref

end Cert.MlpOutValue
-- ==== Proof.MlpOutArray.lean ====
module

public import proofs.«01_k».proof.Proof.MlpOutBlock

/-! The four arrays the kernel of the MLP's second product leaves, and their equality with the reference's results. -/

@[expose] public section
set_option maxRecDepth 16384
noncomputable section

namespace Cert.MlpOutValue
open Cert.MlpOutIdeal Cert.MlpOutIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The first result's block. -/
theorem out6 (r : Fin 512) (x : Fin 1024) : (outsAt0 m c t.val t.isLt).1 (ix2 r x) = dff m c (pos t r) x := by
  by_cases h : t.val % 16 = 0
  · rw [outsAt0_A m c t h]
    frame_open
    simp (disch := decide) only [↓ View.readCov_skip, ↓ View.readCov_cons_toLoadRect, ↓ View.readCov_fill]
    frame_out
    exact dff_blk m c t r x
  · rw [outsAt0_B m c t h]
    frame_open
    simp (disch := decide) only [↓ View.readCov_skip, ↓ View.readCov_cons_toLoadRect, ↓ View.readCov_fill]
    frame_out
    exact dff_blk m c t r x

/-- The second result's block. -/
theorem out7 (r : Fin 512) (y : Fin 4096) : (outsAt0 m c t.val t.isLt).2.1 (ix2 r y) = da m c (pos t r) y := by
  by_cases h : t.val % 16 = 0
  · rw [outsAt0_A m c t h]
    frame_open
    simp (disch := decide) only [↓ View.readCov_skip, ↓ View.readCov_cons_toLoadRect, ↓ View.readCov_fill]
    frame_out
    exact da_blk m c t r y
  · rw [outsAt0_B m c t h]
    frame_open
    simp (disch := decide) only [↓ View.readCov_skip, ↓ View.readCov_cons_toLoadRect, ↓ View.readCov_fill]
    frame_out
    exact da_blk m c t r y

/-- The gate's gradient starts from zero at the first point. -/
theorem first8 (h : t.val % 16 = 0) (j : S1x1024.Idx) : (outsAt0 m c t.val t.isLt).2.2.1 j = 0 + pgt m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step8 m c t _ j1).trans (congrArg (fun z : EReal => z + _) (zero8 _))

/-- Every later point adds its part. -/
theorem next8 (h : ¬ t.val % 16 = 0) (j : S1x1024.Idx) : (outsAt0 m c t.val t.isLt).2.2.1 j
    = (outsAt0 m c (t.val - 1) (Nat.lt_of_le_of_lt (Nat.sub_le _ _) t.isLt)).2.2.1 j + pgt m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.1 = q
  idx_vars j
  obtain rfl : j0 = 0 := Subsingleton.elim _ _
  exact step8 m c t q j1

/-- The gains' gradient starts from zero at the first point. -/
theorem first9 (h : t.val % 16 = 0) (j : S1x1024.Idx) : (outsAt0 m c t.val t.isLt).2.2.2 j = 0 + pg m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step9 m c t _ j1).trans (congrArg (fun z : EReal => z + _) (zero9 _))

/-- Every later point adds its part. -/
theorem next9 (h : ¬ t.val % 16 = 0) (j : S1x1024.Idx) : (outsAt0 m c t.val t.isLt).2.2.2 j
    = (outsAt0 m c (t.val - 1) (Nat.lt_of_le_of_lt (Nat.sub_le _ _) t.isLt)).2.2.2 j + pg m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2 = q
  idx_vars j
  obtain rfl : j0 = 0 := Subsingleton.elim _ _
  exact step9 m c t q j1

/-- Where a block index of the first two results lands. -/
theorem emb6 (r : Fin 512) (x : Fin 1024) : ((cfg0.win 6).blk t).view.emb (ix2 r x) = (ix2 (pos t r) x : S8192x1024.Idx) := by
  have ht := lt16 t
  blk_ext [idx t]
@[inherit_doc emb6] theorem emb7 (r : Fin 512) (x : Fin 4096) : ((cfg0.win 7).blk t).view.emb (ix2 r x) = (ix2 (pos t r) x : S8192x4096.Idx) := by
  have ht := lt16 t
  blk_ext [idx t]

/-- The gradient of the product's result is the reference's. -/
theorem final6 : (dats m 0 c).arrAt 6 (cfgs 0).N
    = Cert.MlpOutReferenceIdeal.Read.val_main_v55 (F := Ideal) (A0 m c) (A1 m c) (A4 m c) (A5 m c) := by
  refine (dats m 0 c).arrAt_eq_of_covers 6 _ (by decide +kernel) fun t hf y => ?_
  blk_simp
  rw [after0_6]
  idx_vars y
  refine (out6 m c t y0 y1).trans ((ref_dff m c (pos t y0) y1).symm.trans (congrArg _ (emb6 t y0 y1)).symm)

/-- The gradient of the pre-activations is the reference's. -/
theorem final7 : (dats m 0 c).arrAt 7 (cfgs 0).N
    = Cert.MlpOutReferenceIdeal.Read.val_main_v56 (F := Ideal) (A0 m c) (A1 m c) (A2 m c) (A3 m c) (A4 m c) (A5 m c) := by
  refine (dats m 0 c).arrAt_eq_of_covers 7 _ (by decide +kernel) fun t hf y => ?_
  blk_simp
  rw [after0_7]
  idx_vars y
  refine (out7 m c t y0 y1).trans ((ref_da m c (pos t y0) y1).symm.trans (congrArg _ (emb7 t y0 y1)).symm)

/-- The gradient of the gate is the reference's. -/
theorem final8 : (dats m 0 c).arrAt 8 (cfgs 0).N = Cert.MlpOutReferenceIdeal.Read.val_main_v21 (F := Ideal) (A0 m c) (A1 m c) (A4 m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun p j => pgt m c p (j 1)) (fun t h j => first8 m c t h j) (fun t h j => next8 m c t h j)
    (le_of_eq N_0) t0_15 rfl j, zero_add]
  idx_vars j
  rw [show j0 = 0 from Subsingleton.elim _ _, ref_dgt]
  unfold pgt
  refine Fin.sum_mul_add_congr fun p r hl => ?_
  have e : 512 * p.val + r.val = p.val * 512 + r.val := by omega
  simp only [pos, e]

/-- The gradient of the gains is the reference's. -/
theorem final9 : (dats m 0 c).arrAt 9 (cfgs 0).N = Cert.MlpOutReferenceIdeal.Read.val_main_v24 (F := Ideal) (A0 m c) (A1 m c) (A5 m c) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun p j => pg m c p (j 1)) (fun t h j => first9 m c t h j) (fun t h j => next9 m c t h j)
    (le_of_eq N_0) t0_15 rfl j, zero_add]
  idx_vars j
  rw [show j0 = 0 from Subsingleton.elim _ _, ref_dg]
  unfold pg
  refine Fin.sum_mul_add_congr fun p r hl => ?_
  have e : 512 * p.val + r.val = p.val * 512 + r.val := by omega
  simp only [pos, e]

end Cert.MlpOutValue
-- ==== Proof.MlpInBlock.lean ====
module

public import proofs.«01_k».proof.Proof.Gen.MlpInIdeal.Value
public import proofs.«01_k».proof.Proof.Gen.MlpInReferenceIdeal.Read
public import proofs.«01_k».proof.Proof.Norm
public import Idealize.ShloMosaic.Lib.Pointwise
public import Idealize.ShloMosaic.Lib.Pipeline.ValueKit
public import Idealize.ShloMosaic.Lib.Pipeline.ReadBack

/-! The gradients of the MLP's first product and of the modulated norm before it, entry by entry: what the kernel's blocks hold and what
the derivative of the reference holds. -/

@[expose] public section
set_option maxRecDepth 16384
noncomputable section

namespace Cert.MlpInValue
open Cert.MlpInIdeal Cert.MlpInIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cotangent of the product's result. -/
abbrev A0 : FVec Ideal S8192x4096 .bf16 := m ((c : Thread nD τ).loc main_arg0)
/-- The product's weights. -/
abbrev A1 : FVec Ideal S1024x4096 .bf16 := m ((c : Thread nD τ).loc main_arg1)
/-- The residual stream, which the norm is applied to. -/
abbrev A2 : FVec Ideal S8192x1024 .f32 := m ((c : Thread nD τ).loc main_arg2)
/-- The cotangent of the residual stream after the branch. -/
abbrev A3 : FVec Ideal S8192x1024 .f32 := m ((c : Thread nD τ).loc main_arg3)
/-- The norm's gains. -/
abbrev A4 : FVec Ideal S1x1024 .f32 := m ((c : Thread nD τ).loc main_arg4)
/-- The modulation's scale. -/
abbrev A5 : FVec Ideal S1x1024 .f32 := m ((c : Thread nD τ).loc main_arg5)

/-- The cotangent of the product's left operand: what position `r` adds to the gradient of the shift. -/
def dh (r : Fin 8192) (x : Fin 1024) : EReal := ∑ k : Fin 4096, A0 m c (ix2 r k) * A1 m c (ix2 x k)
/-- The cotangent of the norm's result. -/
def dn (r : Fin 8192) (x : Fin 1024) : EReal := dh m c r x * (1 + A5 m c (ix2 0 x))
/-- Row `r` of the residual stream. -/
def row (r : Fin 8192) (x : Fin 1024) : EReal := A2 m c (ix2 r x)
/-- Row `r` of the cotangent that reaches the normed row. -/
def cot (r : Fin 8192) (x : Fin 1024) : EReal := dn m c r x * A4 m c (ix2 0 x)
/-- The gradient of the residual stream. -/
def dx (r : Fin 8192) (x : Fin 1024) : EReal := A3 m c (ix2 r x) + Norm.bwd (row m c r) (cot m c r) x
/-- What position `r` adds to the gradient of the scale. -/
def tsc (r : Fin 8192) (x : Fin 1024) : EReal := dh m c r x * (row m c r x * Norm.rs (row m c r) * A4 m c (ix2 0 x))
/-- What position `r` adds to the gradient of the gains. -/
def tg (r : Fin 8192) (x : Fin 1024) : EReal := dn m c r x * (row m c r x * Norm.rs (row m c r))

/-- Which block each window stages at grid point `t`. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- There are sixteen grid points. -/
theorem lt16 (t : Fin cfg0.N) : t.val < 16 := lt_of_lt_of_eq t.isLt N_0

variable (t : Fin cfg0.N)

/-- The staged blocks of the six operands. -/
abbrev B0 : Vec Ideal S512x4096 .bf16 := iblk m c 0 t
@[inherit_doc B0] abbrev B1 : Vec Ideal S1024x4096 .bf16 := iblk m c 1 t
@[inherit_doc B0] abbrev B2 : Vec Ideal S512x1024 .f32 := iblk m c 2 t
@[inherit_doc B0] abbrev B3 : Vec Ideal S512x1024 .f32 := iblk m c 3 t
@[inherit_doc B0] abbrev B4 : Vec Ideal S1x1024 .f32 := iblk m c 4 t
@[inherit_doc B0] abbrev B5 : Vec Ideal S1x1024 .f32 := iblk m c 5 t

/-- The position that row `r` of point `t`'s blocks holds. -/
abbrev pos (r : Fin 512) : Fin 8192 := have ht := lt16 t; ⟨512 * t.val + r.val, by omega⟩

/-- The entries of the staged blocks. -/
theorem blk0 (r : Fin 512) (x : Fin 4096) : B0 m c t (ix2 r x) = A0 m c (ix2 (pos t r) x) := by
  have ht := lt16 t
  blk_point [iblk, V, idx t]
@[inherit_doc blk0] theorem blk1 (r : Fin 1024) (x : Fin 4096) : B1 m c t (ix2 r x) = A1 m c (ix2 r x) := by
  blk_point [iblk, V, idx t]
@[inherit_doc blk0] theorem blk2 (r : Fin 512) (x : Fin 1024) : B2 m c t (ix2 r x) = row m c (pos t r) x := by
  have ht := lt16 t
  unfold row
  blk_point [iblk, V, idx t]
@[inherit_doc blk0] theorem blk3 (r : Fin 512) (x : Fin 1024) : B3 m c t (ix2 r x) = A3 m c (ix2 (pos t r) x) := by
  have ht := lt16 t
  blk_point [iblk, V, idx t]
@[inherit_doc blk0] theorem blk4 (x : Fin 1024) : B4 m c t (ix2 0 x) = A4 m c (ix2 0 x) := by
  blk_point [iblk, V, idx t]
@[inherit_doc blk0] theorem blk5 (x : Fin 1024) : B5 m c t (ix2 0 x) = A5 m c (ix2 0 x) := by
  blk_point [iblk, V, idx t]

/-- The block of the product's cotangent. -/
theorem dh_blk (r : Fin 512) (x : Fin 1024) : k0_pay8 (F := Ideal) (B0 m c t) (B1 m c t) (ix2 r x) = dh m c (pos t r) x := by
  pointwise [k0_pay8]
  simp only [blk0, blk1]
  rfl

/-- The block of the norm's cotangent. -/
theorem dn_blk (r : Fin 512) (x : Fin 1024) : k0_pay9 (F := Ideal) (B0 m c t) (B1 m c t) (B5 m c t) (ix2 r x) = dn m c (pos t r) x := by
  pointwise [k0_pay9]
  simp only [dh_blk, blk5]
  rfl

/-- What the block's inverted norm is. -/
theorem rs_blk (r : Fin 512) : k0_pay10 (F := Ideal) (B2 m c t) (ix2 r 0) = Norm.rs (row m c (pos t r)) := by
  pointwise [k0_pay10]
  simp only [blk2]
  rfl

/-- The block's normed rows. -/
theorem xh_blk (r : Fin 512) (x : Fin 1024) : k0_pay11 (F := Ideal) (B2 m c t) (ix2 r x) = row m c (pos t r) x * Norm.rs (row m c (pos t r)) := by
  pointwise [k0_pay11]
  rw [rs_blk, blk2]

/-- The block of the gradient of the residual stream. -/
theorem dx_blk (r : Fin 512) (x : Fin 1024) :
    k0_pay4 (F := Ideal) (k0_pay12 (F := Ideal) (B0 m c t) (B1 m c t) (B5 m c t) (B2 m c t) (B4 m c t)) (B3 m c t) (ix2 r x) = dx m c (pos t r) x := by
  pointwise [k0_pay4, k0_pay12]
  simp only [rs_blk, xh_blk, dn_blk, blk3, blk4]
  rfl

/-- What point `t` adds to the gradient of the shift. -/
def psh (x : Fin 1024) : EReal := ∑ r : Fin 512, dh m c (pos t r) x
/-- What point `t` adds to the gradient of the scale. -/
def psc (x : Fin 1024) : EReal := ∑ r : Fin 512, tsc m c (pos t r) x
/-- What point `t` adds to the gradient of the gains. -/
def pg (x : Fin 1024) : EReal := ∑ r : Fin 512, tg m c (pos t r) x

/-- The shift's gradient after the point: what was there, plus the point's part. -/
theorem step7 (q : Vec Ideal S1x1024 .f32) (x : Fin 1024) :
    k0_pay1 (F := Ideal) (k0_pay8 (F := Ideal) (B0 m c t) (B1 m c t)) (k0_pay13 (F := Ideal) q) (ix2 0 x) = q (ix2 0 x) + psh m c t x := by
  pointwise [k0_pay1, k0_pay13]
  simp only [dh_blk]
  rfl

/-- The scale's gradient after the point: what was there, plus the point's part. -/
theorem step8 (q : Vec Ideal S1x1024 .f32) (x : Fin 1024) :
    k0_pay2 (F := Ideal) (k0_pay8 (F := Ideal) (B0 m c t) (B1 m c t)) (k0_pay11 (F := Ideal) (B2 m c t)) q (B4 m c t) (ix2 0 x) = q (ix2 0 x) + psc m c t x := by
  pointwise [k0_pay2]
  simp only [dh_blk, xh_blk, blk4]
  rfl

/-- The gains' gradient after the point: what was there, plus the point's part. -/
theorem step9 (q : Vec Ideal S1x1024 .f32) (x : Fin 1024) :
    k0_pay3 (F := Ideal) (k0_pay9 (F := Ideal) (B0 m c t) (B1 m c t) (B5 m c t)) (k0_pay11 (F := Ideal) (B2 m c t)) q (ix2 0 x) = q (ix2 0 x) + pg m c t x := by
  pointwise [k0_pay3]
  simp only [dn_blk, xh_blk]
  rfl

/-- The first block of each accumulator is zero. -/
theorem zero7 (i : S1x1024.Idx) : k0_pay5 (F := Ideal) i = 0 := by pointwise [k0_pay5]
@[inherit_doc zero7] theorem zero8 (i : S1x1024.Idx) : k0_pay6 (F := Ideal) i = 0 := by pointwise [k0_pay6]
@[inherit_doc zero7] theorem zero9 (i : S1x1024.Idx) : k0_pay7 (F := Ideal) i = 0 := by pointwise [k0_pay7]

section ref
open Cert.MlpInReferenceIdeal.Read

/-- The reference's mean square of a row. -/
theorem ref_ms (r : Fin 8192) : val_main_v7 (F := Ideal) (A2 m c) (ix2 r 0) = Norm.ms (row m c r) := by
  pointwise [val_main_v7, val_main_v6, val_main_v5, val_main_v4, val_main_v3, val_main_v2, val_main_v1, val_main_cst_0, val_main_cst_1, val_main_cst_2]
  rfl

/-- The reference's inverted norm. -/
theorem ref_rs (r : Fin 8192) : val_main_v8 (F := Ideal) (A2 m c) (ix2 r 0) = Norm.rs (row m c r) := by
  pointwise [val_main_v8]
  rw [ref_ms]
  rfl

/-- The reference's cotangent of the product's left operand. -/
theorem ref_dh (r : Fin 8192) (x : Fin 1024) : val_main_v25 (F := Ideal) (A0 m c) (A1 m c) (ix2 r x) = dh m c r x := by
  pointwise [val_main_v25, val_main_v24, val_main_v22]
  rfl

/-- The reference's cotangent of the norm's result. -/
theorem ref_dn (r : Fin 8192) (x : Fin 1024) : val_main_v32 (F := Ideal) (A0 m c) (A1 m c) (A5 m c) (ix2 r x) = dn m c r x := by
  pointwise [val_main_v32, val_main_v31, val_main_v17, val_main_v16, val_main_cst_4]
  rw [ref_dh]
  rfl

/-- The reference's cotangent of the normed row. -/
theorem ref_cot (r : Fin 8192) (x : Fin 1024) : val_main_v37 (F := Ideal) (A0 m c) (A1 m c) (A4 m c) (A5 m c) (ix2 r x) = cot m c r x := by
  pointwise [val_main_v37, val_main_v36]
  rw [ref_dn]
  rfl

/-- The reference's part of the gradient through the mean square. -/
theorem ref_through (r : Fin 8192) : val_main_v46 (F := Ideal) (A0 m c) (A1 m c) (A2 m c) (A4 m c) (A5 m c) (ix2 r 0) = Norm.through (row m c r) (cot m c r) := by
  pointwise [val_main_v46, val_main_v45, val_main_v44, val_main_v40, val_main_v39, val_main_v38, val_main_v11, val_main_v10, val_main_v9, val_main_cst_3, val_main_cst_8, val_main_cst_9]
  simp only [ref_ms, ref_rs, ref_cot]
  rfl

/-- The reference's first result. -/
theorem ref_dx (r : Fin 8192) (x : Fin 1024) :
    val_main_v52 (F := Ideal) (A0 m c) (A1 m c) (A2 m c) (A3 m c) (A4 m c) (A5 m c) (ix2 r x) = dx m c r x := by
  pointwise [val_main_v52, val_main_v51, val_main_v50, val_main_v49, val_main_v48, val_main_v47, val_main_v43, val_main_v42, val_main_v41, val_main_cst_10]
  simp only [Fin.sum_univ_one, Fin.isValue, ref_through, ref_rs, ref_cot]
  unfold dx
  rw [Norm.bwd_eq, add_assoc, add_assoc, add_assoc]
  rfl

/-- The reference's second result. -/
theorem ref_dsh (x : Fin 1024) : val_main_v27 (F := Ideal) (A0 m c) (A1 m c) (ix2 0 x) = ∑ r : Fin 8192, dh m c r x := by
  pointwise [val_main_v27, val_main_v26, val_main_cst_5]
  simp only [ref_dh]

/-- The reference's third result. -/
theorem ref_dsc (x : Fin 1024) : val_main_v30 (F := Ideal) (A0 m c) (A1 m c) (A2 m c) (A4 m c) (ix2 0 x) = ∑ r : Fin 8192, tsc m c r x := by
  pointwise [val_main_v30, val_main_v29, val_main_v28, val_main_v15, val_main_v14, val_main_v13, val_main_v12, val_main_cst_6]
  simp only [ref_rs, ref_dh]
  refine Finset.sum_congr rfl fun r _ => ?_
  unfold tsc row
  rw [mul_comm (dh m c r x)]

/-- The reference's fourth result. -/
theorem ref_dg (x : Fin 1024) : val_main_v35 (F := Ideal) (A0 m c) (A1 m c) (A2 m c) (A5 m c) (ix2 0 x) = ∑ r : Fin 8192, tg m c r x := by
  pointwise [val_main_v35, val_main_v34, val_main_v33, val_main_v13, val_main_v12, val_main_cst_7]
  simp only [ref_rs, ref_dn]
  refine Finset.sum_congr rfl fun r _ => ?_
  unfold tg row
  rw [mul_comm (dn m c r x)]

end ref

end Cert.MlpInValue
-- ==== Proof.MlpInArray.lean ====
module

public import proofs.«01_k».proof.Proof.MlpInBlock

/-! The four arrays the kernel of the MLP's first product leaves, and their equality with the reference's results. -/

@[expose] public section
set_option maxRecDepth 16384
noncomputable section

namespace Cert.MlpInValue
open Cert.MlpInIdeal Cert.MlpInIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The block of the residual stream's gradient. -/
theorem out6 (r : Fin 512) (x : Fin 1024) : (outsAt0 m c t.val t.isLt).1 (ix2 r x) = dx m c (pos t r) x := by
  by_cases h : t.val % 16 = 0
  · rw [outsAt0_A m c t h]
    frame_open
    simp (disch := decide) only [↓ View.readCov_skip, ↓ View.readCov_cons_toLoadRect, ↓ View.readCov_fill]
    frame_out
    exact dx_blk m c t r x
  · rw [outsAt0_B m c t h]
    frame_open
    simp (disch := decide) only [↓ View.readCov_skip, ↓ View.readCov_cons_toLoadRect, ↓ View.readCov_fill]
    frame_out
    exact dx_blk m c t r x

/-- The gradient of the shift starts from zero at the first point. -/
theorem first7 (h : t.val % 16 = 0) (j : S1x1024.Idx) : (outsAt0 m c t.val t.isLt).2.1 j = 0 + psh m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step7 m c t _ j1).trans (congrArg (fun z : EReal => z + _) (zero7 _))

/-- Every later point adds its part. -/
theorem next7 (h : ¬ t.val % 16 = 0) (j : S1x1024.Idx) : (outsAt0 m c t.val t.isLt).2.1 j
    = (outsAt0 m c (t.val - 1) (Nat.lt_of_le_of_lt (Nat.sub_le _ _) t.isLt)).2.1 j + psh m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.1 = q
  idx_vars j
  obtain rfl : j0 = 0 := Subsingleton.elim _ _
  exact step7 m c t q j1

/-- The gradient of the scale starts from zero at the first point. -/
theorem first8 (h : t.val % 16 = 0) (j : S1x1024.Idx) : (outsAt0 m c t.val t.isLt).2.2.1 j = 0 + psc m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step8 m c t _ j1).trans (congrArg (fun z : EReal => z + _) (zero8 _))

/-- Every later point adds its part. -/
theorem next8 (h : ¬ t.val % 16 = 0) (j : S1x1024.Idx) : (outsAt0 m c t.val t.isLt).2.2.1 j
    = (outsAt0 m c (t.val - 1) (Nat.lt_of_le_of_lt (Nat.sub_le _ _) t.isLt)).2.2.1 j + psc m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.1 = q
  idx_vars j
  obtain rfl : j0 = 0 := Subsingleton.elim _ _
  exact step8 m c t q j1

/-- The gradient of the gains starts from zero at the first point. -/
theorem first9 (h : t.val % 16 = 0) (j : S1x1024.Idx) : (outsAt0 m c t.val t.isLt).2.2.2 j = 0 + pg m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step9 m c t _ j1).trans (congrArg (fun z : EReal => z + _) (zero9 _))

/-- Every later point adds its part. -/
theorem next9 (h : ¬ t.val % 16 = 0) (j : S1x1024.Idx) : (outsAt0 m c t.val t.isLt).2.2.2 j
    = (outsAt0 m c (t.val - 1) (Nat.lt_of_le_of_lt (Nat.sub_le _ _) t.isLt)).2.2.2 j + pg m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2 = q
  idx_vars j
  obtain rfl : j0 = 0 := Subsingleton.elim _ _
  exact step9 m c t q j1

/-- Where a block index of the first result lands. -/
theorem emb6 (r : Fin 512) (x : Fin 1024) : ((cfg0.win 6).blk t).view.emb (ix2 r x) = (ix2 (pos t r) x : S8192x1024.Idx) := by
  have ht := lt16 t
  blk_ext [idx t]

/-- The gradient of the residual stream is the reference's. -/
theorem final6 : (dats m 0 c).arrAt 6 (cfgs 0).N
    = Cert.MlpInReferenceIdeal.Read.val_main_v52 (F := Ideal) (A0 m c) (A1 m c) (A2 m c) (A3 m c) (A4 m c) (A5 m c) := by
  refine (dats m 0 c).arrAt_eq_of_covers 6 _ (by decide +kernel) fun t hf y => ?_
  blk_simp
  rw [after0_6]
  idx_vars y
  refine (out6 m c t y0 y1).trans ((ref_dx m c (pos t y0) y1).symm.trans (congrArg _ (emb6 t y0 y1)).symm)

/-- The gradient of the shift is the reference's. -/
theorem final7 : (dats m 0 c).arrAt 7 (cfgs 0).N
    = Cert.MlpInReferenceIdeal.Read.val_main_v27 (F := Ideal) (A0 m c) (A1 m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun p j => psh m c p (j 1)) (fun t h j => first7 m c t h j) (fun t h j => next7 m c t h j)
    (le_of_eq N_0) t0_15 rfl j, zero_add]
  idx_vars j
  rw [show j0 = 0 from Subsingleton.elim _ _, ref_dsh]
  unfold psh
  refine Fin.sum_mul_add_congr fun p r hl => ?_
  have e : 512 * p.val + r.val = p.val * 512 + r.val := by omega
  simp only [pos, e]

/-- The gradient of the scale is the reference's. -/
theorem final8 : (dats m 0 c).arrAt 8 (cfgs 0).N
    = Cert.MlpInReferenceIdeal.Read.val_main_v30 (F := Ideal) (A0 m c) (A1 m c) (A2 m c) (A4 m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun p j => psc m c p (j 1)) (fun t h j => first8 m c t h j) (fun t h j => next8 m c t h j)
    (le_of_eq N_0) t0_15 rfl j, zero_add]
  idx_vars j
  rw [show j0 = 0 from Subsingleton.elim _ _, ref_dsc]
  unfold psc
  refine Fin.sum_mul_add_congr fun p r hl => ?_
  have e : 512 * p.val + r.val = p.val * 512 + r.val := by omega
  simp only [pos, e]

/-- The gradient of the gains is the reference's. -/
theorem final9 : (dats m 0 c).arrAt 9 (cfgs 0).N
    = Cert.MlpInReferenceIdeal.Read.val_main_v35 (F := Ideal) (A0 m c) (A1 m c) (A2 m c) (A5 m c) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun p j => pg m c p (j 1)) (fun t h j => first9 m c t h j) (fun t h j => next9 m c t h j)
    (le_of_eq N_0) t0_15 rfl j, zero_add]
  idx_vars j
  rw [show j0 = 0 from Subsingleton.elim _ _, ref_dg]
  unfold pg
  refine Fin.sum_mul_add_congr fun p r hl => ?_
  have e : 512 * p.val + r.val = p.val * 512 + r.val := by omega
  simp only [pos, e]

end Cert.MlpInValue
-- ==== Proof.InProjBlock.lean ====
module

public import proofs.«01_k».proof.Proof.Gen.InProjIdeal.Value
public import proofs.«01_k».proof.Proof.Gen.InProjReferenceIdeal.Read
public import proofs.«01_k».proof.Proof.Norm
public import Idealize.ShloMosaic.Lib.Pointwise
public import Idealize.ShloMosaic.Lib.Pipeline.ValueKit
public import Idealize.ShloMosaic.Lib.Pipeline.ReadBack

/-! The gradients of the block's first product and of the modulated norm before it, entry by entry: what the kernel's blocks hold and what
the derivative of the reference holds. -/

@[expose] public section
set_option maxRecDepth 16384
noncomputable section

namespace Cert.InProjValue
open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cotangent of the convolution's columns. -/
abbrev A0 : FVec Ideal S8192x1536 .bf16 := m ((c : Thread nD τ).loc main_arg0)
/-- The cotangent of the queries. -/
abbrev A1 : FVec Ideal S8192x512 .bf16 := m ((c : Thread nD τ).loc main_arg1)
/-- The cotangent of the keys. -/
abbrev A2 : FVec Ideal S8192x512 .bf16 := m ((c : Thread nD τ).loc main_arg2)
/-- The cotangent of the values. -/
abbrev A3 : FVec Ideal S8192x512 .bf16 := m ((c : Thread nD τ).loc main_arg3)
/-- The cotangent of the gate's columns. -/
abbrev A4 : FVec Ideal S8192x2048 .bf16 := m ((c : Thread nD τ).loc main_arg4)
/-- The product's weights. -/
abbrev A5 : FVec Ideal S1024x5120 .bf16 := m ((c : Thread nD τ).loc main_arg5)
/-- The residual stream, which the norm is applied to. -/
abbrev A6 : FVec Ideal S8192x1024 .f32 := m ((c : Thread nD τ).loc main_arg6)
/-- The cotangent of the residual stream after the block. -/
abbrev A7 : FVec Ideal S8192x1024 .f32 := m ((c : Thread nD τ).loc main_arg7)
/-- The norm's gains. -/
abbrev A8 : FVec Ideal S1x1024 .f32 := m ((c : Thread nD τ).loc main_arg8)
/-- The modulation's scale. -/
abbrev A9 : FVec Ideal S1x1024 .f32 := m ((c : Thread nD τ).loc main_arg9)

/-- The cotangent of the product's left operand, which is what position `r` adds to the gradient of the shift: the five cotangents
meet their columns of the weights. -/
def dh (r : Fin 8192) (x : Fin 1024) : EReal :=
  (∑ k : Fin 1536, A0 m c (ix2 r k) * A5 m c (ix2 x ⟨0 + k.val, by omega⟩))
    + (∑ k : Fin 512, A1 m c (ix2 r k) * A5 m c (ix2 x ⟨1536 + k.val, by omega⟩))
    + (∑ k : Fin 512, A2 m c (ix2 r k) * A5 m c (ix2 x ⟨2048 + k.val, by omega⟩))
    + (∑ k : Fin 512, A3 m c (ix2 r k) * A5 m c (ix2 x ⟨2560 + k.val, by omega⟩))
    + (∑ k : Fin 2048, A4 m c (ix2 r k) * A5 m c (ix2 x ⟨3072 + k.val, by omega⟩))
/-- The cotangent of the norm's result. -/
def dn (r : Fin 8192) (x : Fin 1024) : EReal := dh m c r x * (1 + A9 m c (ix2 0 x))
/-- Row `r` of the residual stream. -/
def row (r : Fin 8192) (x : Fin 1024) : EReal := A6 m c (ix2 r x)
/-- Row `r` of the cotangent that reaches the normed row. -/
def cot (r : Fin 8192) (x : Fin 1024) : EReal := dn m c r x * A8 m c (ix2 0 x)
/-- The gradient of the residual stream. -/
def dx (r : Fin 8192) (x : Fin 1024) : EReal := A7 m c (ix2 r x) + Norm.bwd (row m c r) (cot m c r) x
/-- What position `r` adds to the gradient of the scale. -/
def tsc (r : Fin 8192) (x : Fin 1024) : EReal := dh m c r x * (row m c r x * Norm.rs (row m c r) * A8 m c (ix2 0 x))
/-- What position `r` adds to the gradient of the gains. -/
def tg (r : Fin 8192) (x : Fin 1024) : EReal := dn m c r x * (row m c r x * Norm.rs (row m c r))

/-- Which block each window stages at grid point `t`. -/
theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![0, 0] ∧ win0_6.index t = ![t.val, 0] ∧ win0_7.index t = ![t.val, 0] ∧
    win0_8.index t = ![0, 0] ∧ win0_9.index t = ![0, 0] ∧ win0_10.index t = ![t.val, 0] :=
  (by decide +kernel : ∀ t : Fin grid0.N, _)

/-- There are sixteen grid points. -/
theorem lt16 (t : Fin cfg0.N) : t.val < 16 := lt_of_lt_of_eq t.isLt N_0

variable (t : Fin cfg0.N)

/-- The staged blocks of the ten operands. -/
abbrev B0 : Vec Ideal S512x1536 .bf16 := iblk m c 0 t
@[inherit_doc B0] abbrev B1 : Vec Ideal S512x512 .bf16 := iblk m c 1 t
@[inherit_doc B0] abbrev B2 : Vec Ideal S512x512 .bf16 := iblk m c 2 t
@[inherit_doc B0] abbrev B3 : Vec Ideal S512x512 .bf16 := iblk m c 3 t
@[inherit_doc B0] abbrev B4 : Vec Ideal S512x2048 .bf16 := iblk m c 4 t
@[inherit_doc B0] abbrev B5 : Vec Ideal S1024x5120 .bf16 := iblk m c 5 t
@[inherit_doc B0] abbrev B6 : Vec Ideal S512x1024 .f32 := iblk m c 6 t
@[inherit_doc B0] abbrev B7 : Vec Ideal S512x1024 .f32 := iblk m c 7 t
@[inherit_doc B0] abbrev B8 : Vec Ideal S1x1024 .f32 := iblk m c 8 t
@[inherit_doc B0] abbrev B9 : Vec Ideal S1x1024 .f32 := iblk m c 9 t

/-- The columns of the weights that meet each cotangent. -/
abbrev W0 : Vec Ideal S1024x1536 .bf16 :=
  View.ld (iblk m c 5 t) (Rect.unit ![0, 0] ![1024, 1536] inb_S1024x5120_S1024x1536_0_0)
@[inherit_doc W0] abbrev W1 : Vec Ideal S1024x512 .bf16 :=
  View.ld (iblk m c 5 t) (Rect.unit ![0, 1536] ![1024, 512] inb_S1024x5120_S1024x512_0_1536)
@[inherit_doc W0] abbrev W2 : Vec Ideal S1024x512 .bf16 :=
  View.ld (iblk m c 5 t) (Rect.unit ![0, 2048] ![1024, 512] inb_S1024x5120_S1024x512_0_2048)
@[inherit_doc W0] abbrev W3 : Vec Ideal S1024x512 .bf16 :=
  View.ld (iblk m c 5 t) (Rect.unit ![0, 2560] ![1024, 512] inb_S1024x5120_S1024x512_0_2560)
@[inherit_doc W0] abbrev W4 : Vec Ideal S1024x2048 .bf16 :=
  View.ld (iblk m c 5 t) (Rect.unit ![0, 3072] ![1024, 2048] inb_S1024x5120_S1024x2048_0_3072)

/-- The position that row `r` of point `t`'s blocks holds. -/
abbrev pos (r : Fin 512) : Fin 8192 := have ht := lt16 t; ⟨512 * t.val + r.val, by omega⟩

/-- The entries of the staged blocks. -/
theorem blk0 (r : Fin 512) (x : Fin 1536) : B0 m c t (ix2 r x) = A0 m c (ix2 (pos t r) x) := by
  have ht := lt16 t
  blk_point [iblk, V, idx t]
@[inherit_doc blk0] theorem blk1 (r : Fin 512) (x : Fin 512) : B1 m c t (ix2 r x) = A1 m c (ix2 (pos t r) x) := by
  have ht := lt16 t
  blk_point [iblk, V, idx t]
@[inherit_doc blk0] theorem blk2 (r : Fin 512) (x : Fin 512) : B2 m c t (ix2 r x) = A2 m c (ix2 (pos t r) x) := by
  have ht := lt16 t
  blk_point [iblk, V, idx t]
@[inherit_doc blk0] theorem blk3 (r : Fin 512) (x : Fin 512) : B3 m c t (ix2 r x) = A3 m c (ix2 (pos t r) x) := by
  have ht := lt16 t
  blk_point [iblk, V, idx t]
@[inherit_doc blk0] theorem blk4 (r : Fin 512) (x : Fin 2048) : B4 m c t (ix2 r x) = A4 m c (ix2 (pos t r) x) := by
  have ht := lt16 t
  blk_point [iblk, V, idx t]
@[inherit_doc blk0] theorem blk5 (r : Fin 1024) (x : Fin 5120) : B5 m c t (ix2 r x) = A5 m c (ix2 r x) := by
  blk_point [iblk, V, idx t]
@[inherit_doc blk0] theorem blk6 (r : Fin 512) (x : Fin 1024) : B6 m c t (ix2 r x) = row m c (pos t r) x := by
  have ht := lt16 t
  unfold row
  blk_point [iblk, V, idx t]
@[inherit_doc blk0] theorem blk7 (r : Fin 512) (x : Fin 1024) : B7 m c t (ix2 r x) = A7 m c (ix2 (pos t r) x) := by
  have ht := lt16 t
  blk_point [iblk, V, idx t]
@[inherit_doc blk0] theorem blk8 (x : Fin 1024) : B8 m c t (ix2 0 x) = A8 m c (ix2 0 x) := by
  blk_point [iblk, V, idx t]
@[inherit_doc blk0] theorem blk9 (x : Fin 1024) : B9 m c t (ix2 0 x) = A9 m c (ix2 0 x) := by
  blk_point [iblk, V, idx t]

/-- The entries of the columns. -/
theorem wblk0 (x : Fin 1024) (k : Fin 1536) : W0 m c t (ix2 x k) = A5 m c (ix2 x ⟨0 + k.val, by omega⟩) := by
  unfold W0
  rw [View.ld_apply]
  refine (congrArg (B5 m c t) ?_).trans (blk5 m c t x ⟨0 + k.val, by omega⟩)
  funext b
  match b with
  | ⟨0, _⟩ => exact Fin.ext ((Rect.idx_unit_val _ _ _ _ _).trans (Nat.zero_add _))
  | ⟨1, _⟩ => exact Fin.ext (Rect.idx_unit_val _ _ _ _ _)
@[inherit_doc wblk0] theorem wblk1 (x : Fin 1024) (k : Fin 512) : W1 m c t (ix2 x k) = A5 m c (ix2 x ⟨1536 + k.val, by omega⟩) := by
  unfold W1
  rw [View.ld_apply]
  refine (congrArg (B5 m c t) ?_).trans (blk5 m c t x ⟨1536 + k.val, by omega⟩)
  funext b
  match b with
  | ⟨0, _⟩ => exact Fin.ext ((Rect.idx_unit_val _ _ _ _ _).trans (Nat.zero_add _))
  | ⟨1, _⟩ => exact Fin.ext (Rect.idx_unit_val _ _ _ _ _)
@[inherit_doc wblk0] theorem wblk2 (x : Fin 1024) (k : Fin 512) : W2 m c t (ix2 x k) = A5 m c (ix2 x ⟨2048 + k.val, by omega⟩) := by
  unfold W2
  rw [View.ld_apply]
  refine (congrArg (B5 m c t) ?_).trans (blk5 m c t x ⟨2048 + k.val, by omega⟩)
  funext b
  match b with
  | ⟨0, _⟩ => exact Fin.ext ((Rect.idx_unit_val _ _ _ _ _).trans (Nat.zero_add _))
  | ⟨1, _⟩ => exact Fin.ext (Rect.idx_unit_val _ _ _ _ _)
@[inherit_doc wblk0] theorem wblk3 (x : Fin 1024) (k : Fin 512) : W3 m c t (ix2 x k) = A5 m c (ix2 x ⟨2560 + k.val, by omega⟩) := by
  unfold W3
  rw [View.ld_apply]
  refine (congrArg (B5 m c t) ?_).trans (blk5 m c t x ⟨2560 + k.val, by omega⟩)
  funext b
  match b with
  | ⟨0, _⟩ => exact Fin.ext ((Rect.idx_unit_val _ _ _ _ _).trans (Nat.zero_add _))
  | ⟨1, _⟩ => exact Fin.ext (Rect.idx_unit_val _ _ _ _ _)
@[inherit_doc wblk0] theorem wblk4 (x : Fin 1024) (k : Fin 2048) : W4 m c t (ix2 x k) = A5 m c (ix2 x ⟨3072 + k.val, by omega⟩) := by
  unfold W4
  rw [View.ld_apply]
  refine (congrArg (B5 m c t) ?_).trans (blk5 m c t x ⟨3072 + k.val, by omega⟩)
  funext b
  match b with
  | ⟨0, _⟩ => exact Fin.ext ((Rect.idx_unit_val _ _ _ _ _).trans (Nat.zero_add _))
  | ⟨1, _⟩ => exact Fin.ext (Rect.idx_unit_val _ _ _ _ _)

/-- The block of the product's cotangent. -/
theorem dh_blk (r : Fin 512) (x : Fin 1024) : k0_pay6 (F := Ideal) (B0 m c t) (W0 m c t) (B1 m c t) (W1 m c t) (B2 m c t) (W2 m c t) (B3 m c t) (W3 m c t) (B4 m c t) (W4 m c t) (ix2 r x) = dh m c (pos t r) x := by
  pointwise [k0_pay6]
  simp only [blk0, blk1, blk2, blk3, blk4, wblk0, wblk1, wblk2, wblk3, wblk4]
  rfl

/-- The block of the norm's cotangent. -/
theorem dn_blk (r : Fin 512) (x : Fin 1024) : k0_pay7 (F := Ideal) (B0 m c t) (W0 m c t) (B1 m c t) (W1 m c t) (B2 m c t) (W2 m c t) (B3 m c t) (W3 m c t) (B4 m c t) (W4 m c t) (B9 m c t) (ix2 r x) = dn m c (pos t r) x := by
  pointwise [k0_pay7]
  simp only [dh_blk, blk9]
  rfl

/-- What the block's inverted norm is. -/
theorem rs_blk (r : Fin 512) : k0_pay8 (F := Ideal) (B6 m c t) (ix2 r 0) = Norm.rs (row m c (pos t r)) := by
  pointwise [k0_pay8]
  simp only [blk6]
  rfl

/-- The block's normed rows. -/
theorem xh_blk (r : Fin 512) (x : Fin 1024) : k0_pay9 (F := Ideal) (B6 m c t) (ix2 r x) = row m c (pos t r) x * Norm.rs (row m c (pos t r)) := by
  pointwise [k0_pay9]
  rw [rs_blk, blk6]

/-- The block of the gradient of the residual stream. -/
theorem dx_blk (r : Fin 512) (x : Fin 1024) :
    k0_pay2 (F := Ideal) (k0_pay10 (F := Ideal) (k0_pay7 (F := Ideal) (B0 m c t) (W0 m c t) (B1 m c t) (W1 m c t) (B2 m c t) (W2 m c t) (B3 m c t) (W3 m c t) (B4 m c t) (W4 m c t) (B9 m c t)) (B6 m c t) (B8 m c t)) (B7 m c t) (ix2 r x) = dx m c (pos t r) x := by
  pointwise [k0_pay2, k0_pay10]
  simp only [rs_blk, xh_blk, dn_blk, blk7, blk8]
  rfl

/-- What point `t` adds to the gradient of the shift. -/
def psh (x : Fin 1024) : EReal := ∑ r : Fin 512, dh m c (pos t r) x
/-- What point `t` adds to the gradient of the scale. -/
def psc (x : Fin 1024) : EReal := ∑ r : Fin 512, tsc m c (pos t r) x
/-- What point `t` adds to the gradient of the gains. -/
def pg (x : Fin 1024) : EReal := ∑ r : Fin 512, tg m c (pos t r) x

/-- The shift's gradient after the point: what was there, plus the point's part. -/
theorem step11 (q : Vec Ideal S1x1024 .f32) (x : Fin 1024) :
    k0_pay11 (F := Ideal) (k0_pay6 (F := Ideal) (B0 m c t) (W0 m c t) (B1 m c t) (W1 m c t) (B2 m c t) (W2 m c t) (B3 m c t) (W3 m c t) (B4 m c t) (W4 m c t)) q (ix2 0 x) = q (ix2 0 x) + psh m c t x := by
  pointwise [k0_pay11]
  simp only [dh_blk]
  rfl

/-- The scale's gradient after the point: what was there, plus the point's part. -/
theorem step12 (q : Vec Ideal S1x1024 .f32) (x : Fin 1024) :
    k0_pay12 (F := Ideal) (k0_pay6 (F := Ideal) (B0 m c t) (W0 m c t) (B1 m c t) (W1 m c t) (B2 m c t) (W2 m c t) (B3 m c t) (W3 m c t) (B4 m c t) (W4 m c t)) (B6 m c t) q (B8 m c t) (ix2 0 x) = q (ix2 0 x) + psc m c t x := by
  pointwise [k0_pay12]
  simp only [dh_blk, xh_blk, blk8]
  rfl

/-- The gains' gradient after the point: what was there, plus the point's part. -/
theorem step13 (q : Vec Ideal S1x1024 .f32) (x : Fin 1024) :
    k0_pay1 (F := Ideal) (k0_pay7 (F := Ideal) (B0 m c t) (W0 m c t) (B1 m c t) (W1 m c t) (B2 m c t) (W2 m c t) (B3 m c t) (W3 m c t) (B4 m c t) (W4 m c t) (B9 m c t)) (k0_pay9 (F := Ideal) (B6 m c t)) q (ix2 0 x) = q (ix2 0 x) + pg m c t x := by
  pointwise [k0_pay1]
  simp only [dn_blk, xh_blk]
  rfl

/-- The first block of each accumulator is zero. -/
theorem zero11 (i : S1x1024.Idx) : k0_pay3 (F := Ideal) i = 0 := by pointwise [k0_pay3]
@[inherit_doc zero11] theorem zero12 (i : S1x1024.Idx) : k0_pay4 (F := Ideal) i = 0 := by pointwise [k0_pay4]
@[inherit_doc zero11] theorem zero13 (i : S1x1024.Idx) : k0_pay5 (F := Ideal) i = 0 := by pointwise [k0_pay5]

section ref
open Cert.InProjReferenceIdeal.Read

/-- The joined cotangents, piece by piece. -/
theorem join0 (r : Fin 8192) (k : Fin 1536) : val_main_v1 (F := Ideal) (A0 m c) (A1 m c) (A2 m c) (A3 m c) (A4 m c) (ix2 r ⟨0 + k.val, by omega⟩) = A0 m c (ix2 r k) := by
  unfold val_main_v1
  exact concatenate_apply_piece (t := Cert.InProjReferenceIdeal.S8192x5120) 1 _ _ _ 0 (by simp) Cert.InProjReferenceIdeal.S8192x1536 (A0 m c) rfl rfl 0 rfl (ix2 r k)
    (fun b hb => by
      match b with
      | ⟨0, _⟩ => rfl
      | ⟨1, _⟩ => exact absurd rfl hb) rfl
@[inherit_doc join0] theorem join1 (r : Fin 8192) (k : Fin 512) : val_main_v1 (F := Ideal) (A0 m c) (A1 m c) (A2 m c) (A3 m c) (A4 m c) (ix2 r ⟨1536 + k.val, by omega⟩) = A1 m c (ix2 r k) := by
  unfold val_main_v1
  exact concatenate_apply_piece (t := Cert.InProjReferenceIdeal.S8192x5120) 1 _ _ _ 1 (by simp) Cert.InProjReferenceIdeal.S8192x512 (A1 m c) rfl rfl 1536 rfl (ix2 r k)
    (fun b hb => by
      match b with
      | ⟨0, _⟩ => rfl
      | ⟨1, _⟩ => exact absurd rfl hb) rfl
@[inherit_doc join0] theorem join2 (r : Fin 8192) (k : Fin 512) : val_main_v1 (F := Ideal) (A0 m c) (A1 m c) (A2 m c) (A3 m c) (A4 m c) (ix2 r ⟨2048 + k.val, by omega⟩) = A2 m c (ix2 r k) := by
  unfold val_main_v1
  exact concatenate_apply_piece (t := Cert.InProjReferenceIdeal.S8192x5120) 1 _ _ _ 2 (by simp) Cert.InProjReferenceIdeal.S8192x512 (A2 m c) rfl rfl 2048 rfl (ix2 r k)
    (fun b hb => by
      match b with
      | ⟨0, _⟩ => rfl
      | ⟨1, _⟩ => exact absurd rfl hb) rfl
@[inherit_doc join0] theorem join3 (r : Fin 8192) (k : Fin 512) : val_main_v1 (F := Ideal) (A0 m c) (A1 m c) (A2 m c) (A3 m c) (A4 m c) (ix2 r ⟨2560 + k.val, by omega⟩) = A3 m c (ix2 r k) := by
  unfold val_main_v1
  exact concatenate_apply_piece (t := Cert.InProjReferenceIdeal.S8192x5120) 1 _ _ _ 3 (by simp) Cert.InProjReferenceIdeal.S8192x512 (A3 m c) rfl rfl 2560 rfl (ix2 r k)
    (fun b hb => by
      match b with
      | ⟨0, _⟩ => rfl
      | ⟨1, _⟩ => exact absurd rfl hb) rfl
@[inherit_doc join0] theorem join4 (r : Fin 8192) (k : Fin 2048) : val_main_v1 (F := Ideal) (A0 m c) (A1 m c) (A2 m c) (A3 m c) (A4 m c) (ix2 r ⟨3072 + k.val, by omega⟩) = A4 m c (ix2 r k) := by
  unfold val_main_v1
  exact concatenate_apply_piece (t := Cert.InProjReferenceIdeal.S8192x5120) 1 _ _ _ 4 (by simp) Cert.InProjReferenceIdeal.S8192x2048 (A4 m c) rfl rfl 3072 rfl (ix2 r k)
    (fun b hb => by
      match b with
      | ⟨0, _⟩ => rfl
      | ⟨1, _⟩ => exact absurd rfl hb) rfl

/-- A sum over the 5120 joined columns is the sum of the five pieces' sums. -/
theorem sum_join (f : Fin 5120 → EReal) : (∑ k, f k) = (∑ k : Fin 1536, f ⟨0 + k.val, by omega⟩) + (∑ k : Fin 512, f ⟨1536 + k.val, by omega⟩)
    + (∑ k : Fin 512, f ⟨2048 + k.val, by omega⟩) + (∑ k : Fin 512, f ⟨2560 + k.val, by omega⟩) + (∑ k : Fin 2048, f ⟨3072 + k.val, by omega⟩) := by
  show (∑ k : Fin (1536 + 512 + 512 + 512 + 2048), f k) = _
  rw [Fin.sum_univ_add, Fin.sum_univ_add, Fin.sum_univ_add, Fin.sum_univ_add]
  refine congrArg₂ (· + ·) (congrArg₂ (· + ·) (congrArg₂ (· + ·) (congrArg₂ (· + ·) ?_ ?_) ?_) ?_) ?_
  · exact Finset.sum_congr rfl fun k _ => congrArg f (Fin.ext (Nat.zero_add _).symm)
  all_goals exact Finset.sum_congr rfl fun k _ => congrArg f (Fin.ext rfl)

/-- The reference's mean square of a row. -/
theorem ref_ms (r : Fin 8192) : val_main_v8 (F := Ideal) (A6 m c) (ix2 r 0) = Norm.ms (row m c r) := by
  pointwise [val_main_v8, val_main_v7, val_main_v6, val_main_v5, val_main_v4, val_main_v3, val_main_v2, val_main_cst_0, val_main_cst_1, val_main_cst_2]
  rfl

/-- The reference's inverted norm. -/
theorem ref_rs (r : Fin 8192) : val_main_v9 (F := Ideal) (A6 m c) (ix2 r 0) = Norm.rs (row m c r) := by
  pointwise [val_main_v9]
  rw [ref_ms]
  rfl

/-- The reference's cotangent of the product's left operand. -/
theorem ref_dh (r : Fin 8192) (x : Fin 1024) : val_main_v26 (F := Ideal) (A0 m c) (A1 m c) (A2 m c) (A3 m c) (A4 m c) (A5 m c) (ix2 r x) = dh m c r x := by
  pointwise [val_main_v26, val_main_v25, val_main_v23]
  rw [sum_join]
  simp only [join0, join1, join2, join3, join4]
  rfl

/-- The reference's cotangent of the norm's result. -/
theorem ref_dn (r : Fin 8192) (x : Fin 1024) : val_main_v33 (F := Ideal) (A0 m c) (A1 m c) (A2 m c) (A3 m c) (A4 m c) (A5 m c) (A9 m c) (ix2 r x) = dn m c r x := by
  pointwise [val_main_v33, val_main_v32, val_main_v18, val_main_v17, val_main_cst_4]
  rw [ref_dh]
  rfl

/-- The reference's cotangent of the normed row. -/
theorem ref_cot (r : Fin 8192) (x : Fin 1024) : val_main_v38 (F := Ideal) (A0 m c) (A1 m c) (A2 m c) (A3 m c) (A4 m c) (A5 m c) (A8 m c) (A9 m c) (ix2 r x) = cot m c r x := by
  pointwise [val_main_v38, val_main_v37]
  rw [ref_dn]
  rfl

/-- The reference's part of the gradient through the mean square. -/
theorem ref_through (r : Fin 8192) : val_main_v47 (F := Ideal) (A0 m c) (A1 m c) (A2 m c) (A3 m c) (A4 m c) (A5 m c) (A6 m c) (A8 m c) (A9 m c) (ix2 r 0)
    = Norm.through (row m c r) (cot m c r) := by
  pointwise [val_main_v47, val_main_v46, val_main_v45, val_main_v41, val_main_v40, val_main_v39, val_main_v12, val_main_v11, val_main_v10, val_main_cst_3, val_main_cst_8, val_main_cst_9]
  simp only [ref_ms, ref_rs, ref_cot]
  rfl

/-- The reference's first result. -/
theorem ref_dx (r : Fin 8192) (x : Fin 1024) :
    val_main_v53 (F := Ideal) (A0 m c) (A1 m c) (A2 m c) (A3 m c) (A4 m c) (A5 m c) (A6 m c) (A7 m c) (A8 m c) (A9 m c) (ix2 r x) = dx m c r x := by
  pointwise [val_main_v53, val_main_v52, val_main_v51, val_main_v50, val_main_v49, val_main_v48, val_main_v44, val_main_v43, val_main_v42, val_main_cst_10]
  simp only [Fin.sum_univ_one, Fin.isValue, ref_through, ref_rs, ref_cot]
  unfold dx
  rw [Norm.bwd_eq, add_assoc, add_assoc, add_assoc]
  rfl

/-- The reference's second result. -/
theorem ref_dsh (x : Fin 1024) : val_main_v28 (F := Ideal) (A0 m c) (A1 m c) (A2 m c) (A3 m c) (A4 m c) (A5 m c) (ix2 0 x) = ∑ r : Fin 8192, dh m c r x := by
  pointwise [val_main_v28, val_main_v27, val_main_cst_5]
  simp only [ref_dh]

/-- The reference's third result. -/
theorem ref_dsc (x : Fin 1024) : val_main_v31 (F := Ideal) (A0 m c) (A1 m c) (A2 m c) (A3 m c) (A4 m c) (A5 m c) (A6 m c) (A8 m c) (ix2 0 x) = ∑ r : Fin 8192, tsc m c r x := by
  pointwise [val_main_v31, val_main_v30, val_main_v29, val_main_v16, val_main_v15, val_main_v14, val_main_v13, val_main_cst_6]
  simp only [ref_rs, ref_dh]
  refine Finset.sum_congr rfl fun r _ => ?_
  unfold tsc row
  rw [mul_comm (dh m c r x)]

/-- The reference's fourth result. -/
theorem ref_dg (x : Fin 1024) : val_main_v36 (F := Ideal) (A0 m c) (A1 m c) (A2 m c) (A3 m c) (A4 m c) (A5 m c) (A6 m c) (A9 m c) (ix2 0 x) = ∑ r : Fin 8192, tg m c r x := by
  pointwise [val_main_v36, val_main_v35, val_main_v34, val_main_v14, val_main_v13, val_main_cst_7]
  simp only [ref_rs, ref_dn]
  refine Finset.sum_congr rfl fun r _ => ?_
  unfold tg row
  rw [mul_comm (dn m c r x)]

end ref

end Cert.InProjValue
-- ==== Proof.InProjArray.lean ====
module

public import proofs.«01_k».proof.Proof.InProjBlock

/-! The four arrays the kernel of the block's first product leaves, and their equality with the reference's results. -/

@[expose] public section
set_option maxRecDepth 16384
noncomputable section

namespace Cert.InProjValue
open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The block of the residual stream's gradient. -/
theorem out10 (r : Fin 512) (x : Fin 1024) : (outsAt0 m c t.val t.isLt).1 (ix2 r x) = dx m c (pos t r) x := by
  by_cases h : t.val % 16 = 0
  · rw [outsAt0_A m c t h]
    frame_open
    simp (disch := decide) only [↓ View.readCov_skip, ↓ View.readCov_cons_toLoadRect, ↓ View.readCov_fill]
    frame_out
    exact dx_blk m c t r x
  · rw [outsAt0_B m c t h]
    frame_open
    simp (disch := decide) only [↓ View.readCov_skip, ↓ View.readCov_cons_toLoadRect, ↓ View.readCov_fill]
    frame_out
    exact dx_blk m c t r x

/-- The gradient of the shift starts from zero at the first point. -/
theorem first11 (h : t.val % 16 = 0) (j : S1x1024.Idx) : (outsAt0 m c t.val t.isLt).2.1 j = 0 + psh m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step11 m c t _ j1).trans (congrArg (fun z : EReal => z + _) (zero11 _))

/-- Every later point adds its part. -/
theorem next11 (h : ¬ t.val % 16 = 0) (j : S1x1024.Idx) : (outsAt0 m c t.val t.isLt).2.1 j
    = (outsAt0 m c (t.val - 1) (Nat.lt_of_le_of_lt (Nat.sub_le _ _) t.isLt)).2.1 j + psh m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.1 = q
  idx_vars j
  obtain rfl : j0 = 0 := Subsingleton.elim _ _
  exact step11 m c t q j1

/-- The gradient of the scale starts from zero at the first point. -/
theorem first12 (h : t.val % 16 = 0) (j : S1x1024.Idx) : (outsAt0 m c t.val t.isLt).2.2.1 j = 0 + psc m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step12 m c t _ j1).trans (congrArg (fun z : EReal => z + _) (zero12 _))

/-- Every later point adds its part. -/
theorem next12 (h : ¬ t.val % 16 = 0) (j : S1x1024.Idx) : (outsAt0 m c t.val t.isLt).2.2.1 j
    = (outsAt0 m c (t.val - 1) (Nat.lt_of_le_of_lt (Nat.sub_le _ _) t.isLt)).2.2.1 j + psc m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.1 = q
  idx_vars j
  obtain rfl : j0 = 0 := Subsingleton.elim _ _
  exact step12 m c t q j1

/-- The gradient of the gains starts from zero at the first point. -/
theorem first13 (h : t.val % 16 = 0) (j : S1x1024.Idx) : (outsAt0 m c t.val t.isLt).2.2.2 j = 0 + pg m c t (j 1) := by
  rw [outsAt0_A m c t h]
  frame_open
  simp (disch := decide) only [↓ View.readCov_skip, ↓ View.readCov_cons_toLoadRect, ↓ View.readCov_fill]
  frame_out
  idx_vars j
  obtain rfl : j0 = 0 := Subsingleton.elim _ _
  exact (step13 m c t _ j1).trans (congrArg (fun z : EReal => z + _) (zero13 _))

/-- Every later point adds its part. -/
theorem next13 (h : ¬ t.val % 16 = 0) (j : S1x1024.Idx) : (outsAt0 m c t.val t.isLt).2.2.2 j
    = (outsAt0 m c (t.val - 1) (Nat.lt_of_le_of_lt (Nat.sub_le _ _) t.isLt)).2.2.2 j + pg m c t (j 1) := by
  rw [outsAt0_B m c t h]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2.2.2 = q
  idx_vars j
  obtain rfl : j0 = 0 := Subsingleton.elim _ _
  exact step13 m c t q j1

/-- Where a block index of the first result lands. -/
theorem emb10 (r : Fin 512) (x : Fin 1024) : ((cfg0.win 10).blk t).view.emb (ix2 r x) = (ix2 (pos t r) x : S8192x1024.Idx) := by
  have ht := lt16 t
  blk_ext [idx t]

/-- The gradient of the residual stream is the reference's. -/
theorem final10 : (dats m 0 c).arrAt 10 (cfgs 0).N
    = Cert.InProjReferenceIdeal.Read.val_main_v53 (F := Ideal) (A0 m c) (A1 m c) (A2 m c) (A3 m c) (A4 m c) (A5 m c) (A6 m c) (A7 m c) (A8 m c) (A9 m c) := by
  refine (dats m 0 c).arrAt_eq_of_covers 10 _ (by decide +kernel) fun t hf y => ?_
  blk_simp
  rw [after0_10]
  idx_vars y
  refine (out10 m c t y0 y1).trans ((ref_dx m c (pos t y0) y1).symm.trans (congrArg _ (emb10 t y0 y1)).symm)

/-- The gradient of the shift is the reference's. -/
theorem final11 : (dats m 0 c).arrAt 11 (cfgs 0).N
    = Cert.InProjReferenceIdeal.Read.val_main_v28 (F := Ideal) (A0 m c) (A1 m c) (A2 m c) (A3 m c) (A4 m c) (A5 m c) := by
  refine (dats m 0 c).arrAt_eq_of_after_last 11 t0_15 (by decide +kernel) _ fun j => ?_
  blk_simp
  rw [after0_11, Pipeline.eq_sum_fin_of_reset_step_apply_last (fun n h => (outsAt0 m c n h).2.1) 16 (fun _ => 0)
    (fun p j => psh m c p (j 1)) (fun t h j => first11 m c t h j) (fun t h j => next11 m c t h j)
    (le_of_eq N_0) t0_15 rfl j, zero_add]
  idx_vars j
  rw [show j0 = 0 from Subsingleton.elim _ _, ref_dsh]
  unfold psh
  refine Fin.sum_mul_add_congr fun p r hl => ?_
  have e : 512 * p.val + r.val = p.val * 512 + r.val := by omega
  simp only [pos, e]

/-- The gradient of the scale is the reference's. -/
theorem final12 : (dats m 0 c).arrAt 12 (cfgs 0).N
    = Cert.InProjReferenceIdeal.Read.val_main_v31 (F := Ideal) (A0 m c) (A1 m c) (A2 m c) (A3 m c) (A4 m c) (A5 m c) (A6 m c) (A8 m c) := by
  refine (dats m 0 c).arrAt_eq_of_after_last 12 t0_15 (by decide +kernel) _ fun j => ?_
  blk_simp
  rw [after0_12, Pipeline.eq_sum_fin_of_reset_step_apply_last (fun n h => (outsAt0 m c n h).2.2.1) 16 (fun _ => 0)
    (fun p j => psc m c p (j 1)) (fun t h j => first12 m c t h j) (fun t h j => next12 m c t h j)
    (le_of_eq N_0) t0_15 rfl j, zero_add]
  idx_vars j
  rw [show j0 = 0 from Subsingleton.elim _ _, ref_dsc]
  unfold psc
  refine Fin.sum_mul_add_congr fun p r hl => ?_
  have e : 512 * p.val + r.val = p.val * 512 + r.val := by omega
  simp only [pos, e]

/-- The gradient of the gains is the reference's. -/
theorem final13 : (dats m 0 c).arrAt 13 (cfgs 0).N
    = Cert.InProjReferenceIdeal.Read.val_main_v36 (F := Ideal) (A0 m c) (A1 m c) (A2 m c) (A3 m c) (A4 m c) (A5 m c) (A6 m c) (A9 m c) := by
  refine (dats m 0 c).arrAt_eq_of_after_last 13 t0_15 (by decide +kernel) _ fun j => ?_
  blk_simp
  rw [after0_13, Pipeline.eq_sum_fin_of_reset_step_apply_last (fun n h => (outsAt0 m c n h).2.2.2) 16 (fun _ => 0)
    (fun p j => pg m c p (j 1)) (fun t h j => first13 m c t h j) (fun t h j => next13 m c t h j)
    (le_of_eq N_0) t0_15 rfl j, zero_add]
  idx_vars j
  rw [show j0 = 0 from Subsingleton.elim _ _, ref_dg]
  unfold pg
  refine Fin.sum_mul_add_congr fun p r hl => ?_
  have e : 512 * p.val + r.val = p.val * 512 + r.val := by omega
  simp only [pos, e]

end Cert.InProjValue
-- ==== Proof.GwGateArray.lean ====
module

public import proofs.«01_k».proof.Proof.Gen.GwGateIdeal.Value
public import proofs.«01_k».proof.Proof.Gen.GwGateReferenceIdeal.Read
public import Idealize.ShloMosaic.Lib.Pointwise
public import Idealize.ShloMosaic.Lib.Pipeline.ValueKit
public import Idealize.ShloMosaic.Lib.Pipeline.ReadBack

/-! What the weight-gradient kernel `gw_in_gate` leaves in its result: entry `(x, y)` is the sum over the 8192 positions of
the product of the first operand's column `x` and the second operand's column `y`. The kernel walks the positions in
four runs of 2048 for each tile of the result, and keeps the running sum of the tile in a scratch buffer. -/

@[expose] public section
set_option maxRecDepth 16384
noncomputable section

namespace Cert.GwGateValue
open Cert.GwGateIdeal Cert.GwGateIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first operand the kernel is launched with: the activations that enter the product. -/
abbrev A0 : FVec Ideal S8192x1024 .bf16 := m ((c : Thread nD τ).loc main_arg0)
/-- The second operand the kernel is launched with: the cotangent. -/
abbrev A1 : FVec Ideal S8192x2048 .bf16 := m ((c : Thread nD τ).loc main_arg1)

/-- The product that position `r` adds to entry `(x, y)` of the gradient. -/
def term (r : Fin 8192) (x : Fin 1024) (y : Fin 2048) : EReal :=
  (A0 m c (ix2 r x) : EReal) * A1 m c (ix2 r y)

/-- Which block each window stages at grid point `t`. -/
theorem idx : ∀ t : Fin cfg0.N, win0_0.index t = ![t.val % 4, 0] ∧ win0_1.index t = ![t.val % 4, t.val / 4] ∧ win0_2.index t = ![0, 3 + t.val / 4] :=
  (by decide +kernel : ∀ t : Fin grid0.N, _)

/-- There are eight grid points. -/
theorem lt8 (t : Fin cfg0.N) : t.val < 8 := lt_of_lt_of_eq t.isLt N_0

variable (t : Fin cfg0.N)

/-- The staged block of the first operand. -/
abbrev B0 : Vec Ideal S2048x1024 .bf16 := iblk m c 0 t
/-- The staged block of the second operand. -/
abbrev B1 : Vec Ideal S2048x1024 .bf16 := iblk m c 1 t

/-- An entry of the staged block of the first operand. -/
theorem blk0 (r : Fin 2048) (x : Fin 1024) : B0 m c t (ix2 r x)
    = A0 m c (ix2 ⟨2048 * (t.val % 4) + r.val, by omega⟩ (have ht := lt8 t; ⟨x.val, by omega⟩)) := by
  have ht := lt8 t
  blk_point [iblk, V, idx t]

/-- An entry of the staged block of the second operand. -/
theorem blk1 (r : Fin 2048) (y : Fin 1024) : B1 m c t (ix2 r y)
    = A1 m c (ix2 ⟨2048 * (t.val % 4) + r.val, by omega⟩ (have ht := lt8 t; ⟨1024 * (t.val / 4) + y.val, by omega⟩)) := by
  have ht := lt8 t
  blk_point [iblk, V, idx t]

/-- The part grid point `t` adds to entry `(x, y)` of its tile. -/
def part (x y : Fin 1024) : EReal :=
  ∑ r : Fin 2048, term m c ⟨2048 * (t.val % 4) + r.val, by omega⟩ (have ht := lt8 t; ⟨x.val, by omega⟩) (have ht := lt8 t; ⟨1024 * (t.val / 4) + y.val, by omega⟩)

/-- The tile after the point's product: what was there, plus the point's part. -/
theorem step (q : Vec Ideal S1024x1024 .f32) (x y : Fin 1024) :
    k0_pay2 (F := Ideal) (B0 m c t) q (B1 m c t) (ix2 x y) = q (ix2 x y) + part m c t x y := by
  pointwise [k0_pay2]
  unfold part term
  simp only [blk0, blk1]

/-- The first point of a tile starts from zero. -/
theorem acc_first (h : t.val % 4 = 0) (j : S1024x1024.Idx) :
    (outsAt0 m c t.val t.isLt).2 j = 0 + part m c t (j 0) (j 1) := by
  rw [outsAt0_A m c t h (by omega)]
  frame_open
  simp (disch := decide) only [↓ View.readCov_skip, ↓ View.readCov_cons_toLoadRect, ↓ View.readCov_fill]
  frame_out
  idx_vars j
  have hz : ∀ i : S1024x1024.Idx, k0_pay1 (F := Ideal) i = 0 := fun i => by pointwise [k0_pay1]
  refine (step m c t _ j0 j1).trans ?_
  rw [hz]

/-- Every later point of a tile adds its part to what the point before left. -/
theorem acc_next (h : ¬ t.val % 4 = 0) (j : S1024x1024.Idx) :
    (outsAt0 m c t.val t.isLt).2 j
      = (outsAt0 m c (t.val - 1) (Nat.lt_of_le_of_lt (Nat.sub_le _ _) t.isLt)).2 j + part m c t (j 0) (j 1) := by
  idx_vars j
  by_cases h1 : t.val % 4 = 3
  · rw [outsAt0_C m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1
  · rw [outsAt0_B m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1

/-- At the last point of a tile the result's block holds the running sum. -/
theorem out_last (h1 : t.val % 4 = 3) (j : S1024x1024.Idx) :
    (outsAt0 m c t.val t.isLt).1 j = (outsAt0 m c t.val t.isLt).2 j := by
  rw [outsAt0_C m c t (by omega) h1]
  frame_open
  simp (disch := decide) only [↓ View.readCov_skip, ↓ View.readCov_cons_toLoadRect, ↓ View.readCov_fill]
  frame_out
  rfl

/-- The third operand: the array whose later columns the kernel fills. -/
abbrev A2 : FVec Ideal S1024x5120 .bf16 := m ((c : Thread nD τ).loc main_arg2)

/-- The reference's gradient, entry by entry. -/
theorem ref_val (x : Fin 1024) (y : Fin 2048) :
    Cert.GwGateReferenceIdeal.Read.val_main_v6 (F := Ideal) (A0 m c) (A1 m c) (ix2 x y) = ∑ r : Fin 8192, term m c r x y := by
  rw [Cert.GwGateReferenceIdeal.Read.val_main_v6_apply, Cert.GwGateReferenceIdeal.Read.val_main_v5_apply,
    Cert.GwGateReferenceIdeal.Read.val_main_v4_apply]
  refine Finset.sum_congr rfl fun r _ => ?_
  unfold term
  refine (mul_comm _ _).trans ?_
  have er : Cert.GwGateReferenceIdeal.Read.ridx_main_v4 (Cert.GwGateReferenceIdeal.Read.idx_main_v5 (ix2 x y)) r = ix2 r x := by
    funext a
    match a with
    | ⟨0, _⟩ => rfl
    | ⟨1, _⟩ => rfl
  have el : Cert.GwGateReferenceIdeal.Read.lidx_main_v4 (Cert.GwGateReferenceIdeal.Read.idx_main_v5 (ix2 x y)) r = ix2 r y := by
    funext a
    match a with
    | ⟨0, _⟩ => rfl
    | ⟨1, _⟩ => rfl
  rw [er, el]
  pointwise [Cert.GwGateReferenceIdeal.Read.val_main_v1, Cert.GwGateReferenceIdeal.Read.val_main_v3]

/-- The reference's result: the gradient in the columns from 3072 on, the third operand before them. -/
theorem ref_cols (x : Fin 1024) (z : Fin 5120) :
    Cert.GwGateReferenceIdeal.Read.val_main_v8 (F := Ideal) (A0 m c) (A1 m c) (A2 m c) (ix2 x z)
      = if h : 3072 ≤ z.val then ∑ r : Fin 8192, term m c r x ⟨z.val - 3072, by omega⟩ else A2 m c (ix2 x z) := by
  by_cases h : 3072 ≤ z.val
  · rw [dif_pos h, ← ref_val]
    exact concatenate_pair_apply_right (s₁ := Cert.GwGateReferenceIdeal.S1024x3072) (s₂ := Cert.GwGateReferenceIdeal.S1024x2048) (t := Cert.GwGateReferenceIdeal.S1024x5120) 1
      (Cert.GwGateReferenceIdeal.Read.val_main_v7 (F := Ideal) (A2 m c)) (Cert.GwGateReferenceIdeal.Read.val_main_v6 (F := Ideal) (A0 m c) (A1 m c))
      Cert.GwGateReferenceIdeal.Facts₀.concatenates_S1024x3072_S1024x2048_S1024x5120_d1 (ix2 x z) rfl rfl (ix2 x ⟨z.val - 3072, by omega⟩)
      (fun b hb => by
        match b with
        | ⟨0, _⟩ => rfl
        | ⟨1, _⟩ => exact absurd rfl hb) (by show z.val - 3072 + 3072 = z.val; omega)
  · rw [dif_neg h]
    unfold Cert.GwGateReferenceIdeal.Read.val_main_v8
    refine (concatenate_pair_apply_left (s₁ := Cert.GwGateReferenceIdeal.S1024x3072) (s₂ := Cert.GwGateReferenceIdeal.S1024x2048) (t := Cert.GwGateReferenceIdeal.S1024x5120) 1
      (Cert.GwGateReferenceIdeal.Read.val_main_v7 (F := Ideal) (A2 m c)) (Cert.GwGateReferenceIdeal.Read.val_main_v6 (F := Ideal) (A0 m c) (A1 m c))
      Cert.GwGateReferenceIdeal.Facts₀.concatenates_S1024x3072_S1024x2048_S1024x5120_d1 (ix2 x z) rfl (ix2 x ⟨z.val, by omega⟩) (fun b => ?_)).trans ?_
    · match b with
      | ⟨0, _⟩ => rfl
      | ⟨1, _⟩ => rfl
    · rw [Cert.GwGateReferenceIdeal.Read.val_main_v7_apply]
      refine congrArg (A2 m c) ?_
      funext a
      match a with
      | ⟨0, _⟩ => rfl
      | ⟨1, _⟩ => rfl

/-- The result's index that block index `(x, y)` of point `t` lands at. -/
theorem emb2 (x y : Fin 1024) : ((cfg0.win 2).blk t).view.emb (ix2 x y)
    = (ix2 (⟨x.val, by omega⟩ : Fin 1024) (have ht := lt8 t; ⟨1024 * (3 + t.val / 4) + y.val, by omega⟩ : Fin 5120) : S1024x5120.Idx) := by
  have ht := lt8 t
  blk_ext [idx t]

/-- The result array is the reference's. -/
theorem final : (dats m 0 c).arrAt 2 (cfgs 0).N = Cert.GwGateReferenceIdeal.Read.val_main_v8 (F := Ideal) (A0 m c) (A1 m c) (A2 m c) := by
  refine (dats m 0 c).arrAt_eq_of_coversWhere_of_agree 2 _ (fun β => 3 ≤ β (1 : Fin _)) (by decide +kernel) (fun t hf y => ?_) (fun j hj => ?_)
  · have ht := lt8 t
    have h3 : t.val % 4 = 3 := (flush0_2 t).mp hf
    blk_simp
    rw [after0_2, out_last m c t h3, Pipeline.eq_sum_fin_of_reset_step_apply_of_flush (fun n h => (outsAt0 m c n h).2) 4 (fun _ => 0)
      (fun p j => part m c p (j 0) (j 1)) (fun t h j => acc_first m c t h j) (fun t h j => acc_next m c t h j) t h3 y, zero_add]
    idx_vars y
    refine Eq.trans ?_ (congrArg (Cert.GwGateReferenceIdeal.Read.val_main_v8 (F := Ideal) (A0 m c) (A1 m c) (A2 m c)) (emb2 t y0 y1)).symm
    rw [ref_cols, dif_pos (by show 3072 ≤ 1024 * (3 + t.val / 4) + y1.val; omega)]
    unfold part
    refine Fin.sum_mul_add_congr fun p r hl => ?_
    have e0 : (4 * (t.val / 4) + p.val) % 4 = p.val := by omega
    have e1 : (4 * (t.val / 4) + p.val) / 4 = t.val / 4 := by omega
    have e : 2048 * p.val + r.val = p.val * 2048 + r.val := by omega
    have e2 : 1024 * (3 + t.val / 4) + y1.val - 3072 = 1024 * (t.val / 4) + y1.val := by omega
    simp only [e0, e1, e, e2]
  · blk_simp [Pipeline.Window.cell_apply] at hj
    idx_vars j
    refine Eq.trans ?_ ((ref_cols m c j0 j1).trans (dif_neg (by omega))).symm
    rfl

end Cert.GwGateValue
-- ==== Proof.GwMixArray.lean ====
module

public import proofs.«01_k».proof.Proof.Gen.GwMixIdeal.Value
public import proofs.«01_k».proof.Proof.Gen.GwMixReferenceIdeal.Read
public import Idealize.ShloMosaic.Lib.Pointwise
public import Idealize.ShloMosaic.Lib.Pipeline.ValueKit
public import Idealize.ShloMosaic.Lib.Pipeline.ReadBack

/-! What the weight-gradient kernel `gw_out_mix` leaves in its result: entry `(x, y)` is the sum over the 8192 positions of
the product of the first operand's column `x` and the second operand's column `y`. The kernel walks the positions in
four runs of 2048 and keeps the running sum in a scratch buffer. -/

@[expose] public section
set_option maxRecDepth 16384
noncomputable section

namespace Cert.GwMixValue
open Cert.GwMixIdeal Cert.GwMixIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first operand the kernel is launched with: the merged heads. -/
abbrev A0 : FVec Ideal S8192x1024 .bf16 := m ((c : Thread nD τ).loc main_arg0)
/-- The second operand the kernel is launched with: the cotangent. -/
abbrev A1 : FVec Ideal S8192x1024 .bf16 := m ((c : Thread nD τ).loc main_arg1)

/-- The product that position `r` adds to entry `(x, y)` of the gradient. -/
def term (r : Fin 8192) (x : Fin 1024) (y : Fin 1024) : EReal :=
  (A0 m c (ix2 r x) : EReal) * A1 m c (ix2 r y)

/-- Which block each window stages at grid point `t`. -/
theorem idx : ∀ t : Fin cfg0.N, win0_0.index t = ![t.val % 4, 0] ∧ win0_1.index t = ![t.val % 4, 0] ∧ win0_2.index t = ![0, 0] :=
  (by decide +kernel : ∀ t : Fin grid0.N, _)

/-- There are four grid points. -/
theorem lt4 (t : Fin cfg0.N) : t.val < 4 := lt_of_lt_of_eq t.isLt N_0

variable (t : Fin cfg0.N)

/-- The staged block of the first operand. -/
abbrev B0 : Vec Ideal S2048x1024 .bf16 := iblk m c 0 t
/-- The staged block of the second operand. -/
abbrev B1 : Vec Ideal S2048x1024 .bf16 := iblk m c 1 t

/-- An entry of the staged block of the first operand. -/
theorem blk0 (r : Fin 2048) (x : Fin 1024) : B0 m c t (ix2 r x)
    = A0 m c (ix2 ⟨2048 * (t.val % 4) + r.val, by omega⟩ (have ht := lt4 t; ⟨x.val, by omega⟩)) := by
  have ht := lt4 t
  blk_point [iblk, V, idx t]

/-- An entry of the staged block of the second operand. -/
theorem blk1 (r : Fin 2048) (y : Fin 1024) : B1 m c t (ix2 r y)
    = A1 m c (ix2 ⟨2048 * (t.val % 4) + r.val, by omega⟩ (have ht := lt4 t; ⟨y.val, by omega⟩)) := by
  have ht := lt4 t
  blk_point [iblk, V, idx t]

/-- The part grid point `t` adds to entry `(x, y)` of the gradient. -/
def part (x y : Fin 1024) : EReal :=
  ∑ r : Fin 2048, term m c ⟨2048 * (t.val % 4) + r.val, by omega⟩ (have ht := lt4 t; ⟨x.val, by omega⟩) (have ht := lt4 t; ⟨y.val, by omega⟩)

/-- The running sum after the point's product: what was there, plus the point's part. -/
theorem step (q : Vec Ideal S1024x1024 .f32) (x y : Fin 1024) :
    k0_pay2 (F := Ideal) (B0 m c t) q (B1 m c t) (ix2 x y) = q (ix2 x y) + part m c t x y := by
  pointwise [k0_pay2]
  unfold part term
  simp only [blk0, blk1]

/-- The first point starts from zero. -/
theorem acc_first (h : t.val % 4 = 0) (j : S1024x1024.Idx) :
    (outsAt0 m c t.val t.isLt).2 j = 0 + part m c t (j 0) (j 1) := by
  rw [outsAt0_A m c t h (by omega)]
  frame_open
  simp (disch := decide) only [↓ View.readCov_skip, ↓ View.readCov_cons_toLoadRect, ↓ View.readCov_fill]
  frame_out
  idx_vars j
  have hz : ∀ i : S1024x1024.Idx, k0_pay1 (F := Ideal) i = 0 := fun i => by pointwise [k0_pay1]
  refine (step m c t _ j0 j1).trans ?_
  rw [hz]

/-- Every later point adds its part to what the point before left. -/
theorem acc_next (h : ¬ t.val % 4 = 0) (j : S1024x1024.Idx) :
    (outsAt0 m c t.val t.isLt).2 j
      = (outsAt0 m c (t.val - 1) (Nat.lt_of_le_of_lt (Nat.sub_le _ _) t.isLt)).2 j + part m c t (j 0) (j 1) := by
  idx_vars j
  by_cases h1 : t.val % 4 = 3
  · rw [outsAt0_C m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1
  · rw [outsAt0_B m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1

/-- At the last point the result's block holds the running sum. -/
theorem out_last (h1 : t.val % 4 = 3) (j : S1024x1024.Idx) :
    (outsAt0 m c t.val t.isLt).1 j = (outsAt0 m c t.val t.isLt).2 j := by
  rw [outsAt0_C m c t (by omega) h1]
  frame_open
  simp (disch := decide) only [↓ View.readCov_skip, ↓ View.readCov_cons_toLoadRect, ↓ View.readCov_fill]
  frame_out
  rfl

/-- The reference's gradient, entry by entry. -/
theorem ref_val (x : Fin 1024) (y : Fin 1024) :
    Cert.GwMixReferenceIdeal.Read.val_main_v6 (F := Ideal) (A0 m c) (A1 m c) (ix2 x y) = ∑ r : Fin 8192, term m c r x y := by
  rw [Cert.GwMixReferenceIdeal.Read.val_main_v6_apply, Cert.GwMixReferenceIdeal.Read.val_main_v5_apply,
    Cert.GwMixReferenceIdeal.Read.val_main_v4_apply]
  refine Finset.sum_congr rfl fun r _ => ?_
  unfold term
  refine (mul_comm _ _).trans ?_
  have er : Cert.GwMixReferenceIdeal.Read.ridx_main_v4 (Cert.GwMixReferenceIdeal.Read.idx_main_v5 (ix2 x y)) r = ix2 r x := by
    funext a
    match a with
    | ⟨0, _⟩ => rfl
    | ⟨1, _⟩ => rfl
  have el : Cert.GwMixReferenceIdeal.Read.lidx_main_v4 (Cert.GwMixReferenceIdeal.Read.idx_main_v5 (ix2 x y)) r = ix2 r y := by
    funext a
    match a with
    | ⟨0, _⟩ => rfl
    | ⟨1, _⟩ => rfl
  rw [er, el]
  pointwise [Cert.GwMixReferenceIdeal.Read.val_main_v1, Cert.GwMixReferenceIdeal.Read.val_main_v3]

/-- The result's index that block index `(x, y)` of point `t` lands at. -/
theorem emb2 (x y : Fin 1024) : ((cfg0.win 2).blk t).view.emb (ix2 x y)
    = (ix2 (have ht := lt4 t; ⟨x.val, by omega⟩) (have ht := lt4 t; ⟨y.val, by omega⟩) : S1024x1024.Idx) := by
  have ht := lt4 t
  blk_ext [idx t]

/-- The result array is the reference's. -/
theorem final : (dats m 0 c).arrAt 2 (cfgs 0).N = Cert.GwMixReferenceIdeal.Read.val_main_v6 (F := Ideal) (A0 m c) (A1 m c) := by
  refine (dats m 0 c).arrAt_eq_of_covers 2 _ (by decide +kernel) fun t hf y => ?_
  have ht := lt4 t
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p j => part m c p (j 0) (j 1)) (fun t h j => acc_first m c t h j) (fun t h j => acc_next m c t h j) t h3 y, zero_add]
  idx_vars y
  refine Eq.trans ?_ (congrArg (Cert.GwMixReferenceIdeal.Read.val_main_v6 (F := Ideal) (A0 m c) (A1 m c)) (emb2 t y0 y1)).symm
  rw [ref_val]
  unfold part
  refine Fin.sum_mul_add_congr fun p r hl => ?_
  have e0 : (4 * (t.val / 4) + p.val) % 4 = p.val := by omega
  have e1 : (4 * (t.val / 4) + p.val) / 4 = t.val / 4 := by omega
  have e : 2048 * p.val + r.val = p.val * 2048 + r.val := by omega
  simp only [e0, e1, e]

end Cert.GwMixValue
-- ==== Proof.GwConvArray.lean ====
module

public import proofs.«01_k».proof.Proof.Gen.GwConvIdeal.Value
public import proofs.«01_k».proof.Proof.Gen.GwConvReferenceIdeal.Read
public import Idealize.ShloMosaic.Lib.Pointwise
public import Idealize.ShloMosaic.Lib.Pipeline.ValueKit
public import Idealize.ShloMosaic.Lib.Pipeline.ReadBack

/-! What the weight-gradient kernel `gw_proj_conv` leaves in its result: entry `(x, y)` is the sum over the 8192 positions of
the product of the first operand's column `x` and the second operand's column `y`. The kernel walks the positions in
four runs of 2048 and keeps the running sum in a scratch buffer. -/

@[expose] public section
set_option maxRecDepth 16384
noncomputable section

namespace Cert.GwConvValue
open Cert.GwConvIdeal Cert.GwConvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first operand the kernel is launched with: the convolution's output. -/
abbrev A0 : FVec Ideal S8192x512 .bf16 := m ((c : Thread nD τ).loc main_arg0)
/-- The second operand the kernel is launched with: the cotangent. -/
abbrev A1 : FVec Ideal S8192x1024 .bf16 := m ((c : Thread nD τ).loc main_arg1)

/-- The product that position `r` adds to entry `(x, y)` of the gradient. -/
def term (r : Fin 8192) (x : Fin 512) (y : Fin 1024) : EReal :=
  (A0 m c (ix2 r x) : EReal) * A1 m c (ix2 r y)

/-- Which block each window stages at grid point `t`. -/
theorem idx : ∀ t : Fin cfg0.N, win0_0.index t = ![t.val % 4, 0] ∧ win0_1.index t = ![t.val % 4, 0] ∧ win0_2.index t = ![0, 0] :=
  (by decide +kernel : ∀ t : Fin grid0.N, _)

/-- There are four grid points. -/
theorem lt4 (t : Fin cfg0.N) : t.val < 4 := lt_of_lt_of_eq t.isLt N_0

variable (t : Fin cfg0.N)

/-- The staged block of the first operand. -/
abbrev B0 : Vec Ideal S2048x512 .bf16 := iblk m c 0 t
/-- The staged block of the second operand. -/
abbrev B1 : Vec Ideal S2048x1024 .bf16 := iblk m c 1 t

/-- An entry of the staged block of the first operand. -/
theorem blk0 (r : Fin 2048) (x : Fin 512) : B0 m c t (ix2 r x)
    = A0 m c (ix2 ⟨2048 * (t.val % 4) + r.val, by omega⟩ (have ht := lt4 t; ⟨x.val, by omega⟩)) := by
  have ht := lt4 t
  blk_point [iblk, V, idx t]

/-- An entry of the staged block of the second operand. -/
theorem blk1 (r : Fin 2048) (y : Fin 1024) : B1 m c t (ix2 r y)
    = A1 m c (ix2 ⟨2048 * (t.val % 4) + r.val, by omega⟩ (have ht := lt4 t; ⟨y.val, by omega⟩)) := by
  have ht := lt4 t
  blk_point [iblk, V, idx t]

/-- The part grid point `t` adds to entry `(x, y)` of the gradient. -/
def part (x : Fin 512) (y : Fin 1024) : EReal :=
  ∑ r : Fin 2048, term m c ⟨2048 * (t.val % 4) + r.val, by omega⟩ (have ht := lt4 t; ⟨x.val, by omega⟩) (have ht := lt4 t; ⟨y.val, by omega⟩)

/-- The running sum after the point's product: what was there, plus the point's part. -/
theorem step (q : Vec Ideal S512x1024 .f32) (x : Fin 512) (y : Fin 1024) :
    k0_pay2 (F := Ideal) (B0 m c t) q (B1 m c t) (ix2 x y) = q (ix2 x y) + part m c t x y := by
  pointwise [k0_pay2]
  unfold part term
  simp only [blk0, blk1]

/-- The first point starts from zero. -/
theorem acc_first (h : t.val % 4 = 0) (j : S512x1024.Idx) :
    (outsAt0 m c t.val t.isLt).2 j = 0 + part m c t (j 0) (j 1) := by
  rw [outsAt0_A m c t h (by omega)]
  frame_open
  simp (disch := decide) only [↓ View.readCov_skip, ↓ View.readCov_cons_toLoadRect, ↓ View.readCov_fill]
  frame_out
  idx_vars j
  have hz : ∀ i : S512x1024.Idx, k0_pay1 (F := Ideal) i = 0 := fun i => by pointwise [k0_pay1]
  refine (step m c t _ j0 j1).trans ?_
  rw [hz]

/-- Every later point adds its part to what the point before left. -/
theorem acc_next (h : ¬ t.val % 4 = 0) (j : S512x1024.Idx) :
    (outsAt0 m c t.val t.isLt).2 j
      = (outsAt0 m c (t.val - 1) (Nat.lt_of_le_of_lt (Nat.sub_le _ _) t.isLt)).2 j + part m c t (j 0) (j 1) := by
  idx_vars j
  by_cases h1 : t.val % 4 = 3
  · rw [outsAt0_C m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1
  · rw [outsAt0_B m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1

/-- At the last point the result's block holds the running sum. -/
theorem out_last (h1 : t.val % 4 = 3) (j : S512x1024.Idx) :
    (outsAt0 m c t.val t.isLt).1 j = (outsAt0 m c t.val t.isLt).2 j := by
  rw [outsAt0_C m c t (by omega) h1]
  frame_open
  simp (disch := decide) only [↓ View.readCov_skip, ↓ View.readCov_cons_toLoadRect, ↓ View.readCov_fill]
  frame_out
  rfl

/-- The reference's gradient, entry by entry. -/
theorem ref_val (x : Fin 512) (y : Fin 1024) :
    Cert.GwConvReferenceIdeal.Read.val_main_v6 (F := Ideal) (A0 m c) (A1 m c) (ix2 x y) = ∑ r : Fin 8192, term m c r x y := by
  rw [Cert.GwConvReferenceIdeal.Read.val_main_v6_apply, Cert.GwConvReferenceIdeal.Read.val_main_v5_apply,
    Cert.GwConvReferenceIdeal.Read.val_main_v4_apply]
  refine Finset.sum_congr rfl fun r _ => ?_
  unfold term
  refine (mul_comm _ _).trans ?_
  have er : Cert.GwConvReferenceIdeal.Read.ridx_main_v4 (Cert.GwConvReferenceIdeal.Read.idx_main_v5 (ix2 x y)) r = ix2 r x := by
    funext a
    match a with
    | ⟨0, _⟩ => rfl
    | ⟨1, _⟩ => rfl
  have el : Cert.GwConvReferenceIdeal.Read.lidx_main_v4 (Cert.GwConvReferenceIdeal.Read.idx_main_v5 (ix2 x y)) r = ix2 r y := by
    funext a
    match a with
    | ⟨0, _⟩ => rfl
    | ⟨1, _⟩ => rfl
  rw [er, el]
  pointwise [Cert.GwConvReferenceIdeal.Read.val_main_v1, Cert.GwConvReferenceIdeal.Read.val_main_v3]

/-- The result's index that block index `(x, y)` of point `t` lands at. -/
theorem emb2 (x : Fin 512) (y : Fin 1024) : ((cfg0.win 2).blk t).view.emb (ix2 x y)
    = (ix2 (have ht := lt4 t; ⟨x.val, by omega⟩) (have ht := lt4 t; ⟨y.val, by omega⟩) : S512x1024.Idx) := by
  have ht := lt4 t
  blk_ext [idx t]

/-- The result array is the reference's. -/
theorem final : (dats m 0 c).arrAt 2 (cfgs 0).N = Cert.GwConvReferenceIdeal.Read.val_main_v6 (F := Ideal) (A0 m c) (A1 m c) := by
  refine (dats m 0 c).arrAt_eq_of_covers 2 _ (by decide +kernel) fun t hf y => ?_
  have ht := lt4 t
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p j => part m c p (j 0) (j 1)) (fun t h j => acc_first m c t h j) (fun t h j => acc_next m c t h j) t h3 y, zero_add]
  idx_vars y
  refine Eq.trans ?_ (congrArg (Cert.GwConvReferenceIdeal.Read.val_main_v6 (F := Ideal) (A0 m c) (A1 m c)) (emb2 t y0 y1)).symm
  rw [ref_val]
  unfold part
  refine Fin.sum_mul_add_congr fun p r hl => ?_
  have e0 : (4 * (t.val / 4) + p.val) % 4 = p.val := by omega
  have e1 : (4 * (t.val / 4) + p.val) / 4 = t.val / 4 := by omega
  have e : 2048 * p.val + r.val = p.val * 2048 + r.val := by omega
  simp only [e0, e1, e]

end Cert.GwConvValue
-- ==== Proof.GwAttnArray.lean ====
module

public import proofs.«01_k».proof.Proof.Gen.GwAttnIdeal.Value
public import proofs.«01_k».proof.Proof.Gen.GwAttnReferenceIdeal.Read
public import Idealize.ShloMosaic.Lib.Pointwise
public import Idealize.ShloMosaic.Lib.Pipeline.ValueKit
public import Idealize.ShloMosaic.Lib.Pipeline.ReadBack

/-! What the weight-gradient kernel `gw_proj_attn` leaves in its result: entry `(x, y)` is the sum over the 8192 positions of
the product of the first operand's column `x` and the second operand's column `y`. The kernel walks the positions in
four runs of 2048 and keeps the running sum in a scratch buffer. -/

@[expose] public section
set_option maxRecDepth 16384
noncomputable section

namespace Cert.GwAttnValue
open Cert.GwAttnIdeal Cert.GwAttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first operand the kernel is launched with: the attention's output. -/
abbrev A0 : FVec Ideal S8192x512 .bf16 := m ((c : Thread nD τ).loc main_arg0)
/-- The second operand the kernel is launched with: the cotangent. -/
abbrev A1 : FVec Ideal S8192x1024 .bf16 := m ((c : Thread nD τ).loc main_arg1)

/-- The product that position `r` adds to entry `(x, y)` of the gradient. -/
def term (r : Fin 8192) (x : Fin 512) (y : Fin 1024) : EReal :=
  (A0 m c (ix2 r x) : EReal) * A1 m c (ix2 r y)

/-- Which block each window stages at grid point `t`. -/
theorem idx : ∀ t : Fin cfg0.N, win0_0.index t = ![t.val % 4, 0] ∧ win0_1.index t = ![t.val % 4, 0] ∧ win0_2.index t = ![0, 0] :=
  (by decide +kernel : ∀ t : Fin grid0.N, _)

/-- There are four grid points. -/
theorem lt4 (t : Fin cfg0.N) : t.val < 4 := lt_of_lt_of_eq t.isLt N_0

variable (t : Fin cfg0.N)

/-- The staged block of the first operand. -/
abbrev B0 : Vec Ideal S2048x512 .bf16 := iblk m c 0 t
/-- The staged block of the second operand. -/
abbrev B1 : Vec Ideal S2048x1024 .bf16 := iblk m c 1 t

/-- An entry of the staged block of the first operand. -/
theorem blk0 (r : Fin 2048) (x : Fin 512) : B0 m c t (ix2 r x)
    = A0 m c (ix2 ⟨2048 * (t.val % 4) + r.val, by omega⟩ (have ht := lt4 t; ⟨x.val, by omega⟩)) := by
  have ht := lt4 t
  blk_point [iblk, V, idx t]

/-- An entry of the staged block of the second operand. -/
theorem blk1 (r : Fin 2048) (y : Fin 1024) : B1 m c t (ix2 r y)
    = A1 m c (ix2 ⟨2048 * (t.val % 4) + r.val, by omega⟩ (have ht := lt4 t; ⟨y.val, by omega⟩)) := by
  have ht := lt4 t
  blk_point [iblk, V, idx t]

/-- The part grid point `t` adds to entry `(x, y)` of the gradient. -/
def part (x : Fin 512) (y : Fin 1024) : EReal :=
  ∑ r : Fin 2048, term m c ⟨2048 * (t.val % 4) + r.val, by omega⟩ (have ht := lt4 t; ⟨x.val, by omega⟩) (have ht := lt4 t; ⟨y.val, by omega⟩)

/-- The running sum after the point's product: what was there, plus the point's part. -/
theorem step (q : Vec Ideal S512x1024 .f32) (x : Fin 512) (y : Fin 1024) :
    k0_pay2 (F := Ideal) (B0 m c t) q (B1 m c t) (ix2 x y) = q (ix2 x y) + part m c t x y := by
  pointwise [k0_pay2]
  unfold part term
  simp only [blk0, blk1]

/-- The first point starts from zero. -/
theorem acc_first (h : t.val % 4 = 0) (j : S512x1024.Idx) :
    (outsAt0 m c t.val t.isLt).2 j = 0 + part m c t (j 0) (j 1) := by
  rw [outsAt0_A m c t h (by omega)]
  frame_open
  simp (disch := decide) only [↓ View.readCov_skip, ↓ View.readCov_cons_toLoadRect, ↓ View.readCov_fill]
  frame_out
  idx_vars j
  have hz : ∀ i : S512x1024.Idx, k0_pay1 (F := Ideal) i = 0 := fun i => by pointwise [k0_pay1]
  refine (step m c t _ j0 j1).trans ?_
  rw [hz]

/-- Every later point adds its part to what the point before left. -/
theorem acc_next (h : ¬ t.val % 4 = 0) (j : S512x1024.Idx) :
    (outsAt0 m c t.val t.isLt).2 j
      = (outsAt0 m c (t.val - 1) (Nat.lt_of_le_of_lt (Nat.sub_le _ _) t.isLt)).2 j + part m c t (j 0) (j 1) := by
  idx_vars j
  by_cases h1 : t.val % 4 = 3
  · rw [outsAt0_C m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1
  · rw [outsAt0_B m c t h h1]
    frame_open
    simp (disch := decide) only [↓ View.readCov_skip, ↓ View.readCov_cons_toLoadRect, ↓ View.readCov_fill]
    frame_out
    rw [read_unread_whole]
    generalize (outsAt0 m c (t.val - 1) (Nat.lt_of_le_of_lt (Nat.sub_le _ _) t.isLt)).2 = q
    exact step m c t q j0 j1

/-- At the last point the result's block holds the running sum. -/
theorem out_last (h1 : t.val % 4 = 3) (j : S512x1024.Idx) :
    (outsAt0 m c t.val t.isLt).1 j = (outsAt0 m c t.val t.isLt).2 j := by
  rw [outsAt0_C m c t (by omega) h1]
  frame_open
  simp (disch := decide) only [↓ View.readCov_skip, ↓ View.readCov_cons_toLoadRect, ↓ View.readCov_fill]
  frame_out
  rfl

/-- The reference's gradient, entry by entry. -/
theorem ref_val (x : Fin 512) (y : Fin 1024) :
    Cert.GwAttnReferenceIdeal.Read.val_main_v6 (F := Ideal) (A0 m c) (A1 m c) (ix2 x y) = ∑ r : Fin 8192, term m c r x y := by
  rw [Cert.GwAttnReferenceIdeal.Read.val_main_v6_apply, Cert.GwAttnReferenceIdeal.Read.val_main_v5_apply,
    Cert.GwAttnReferenceIdeal.Read.val_main_v4_apply]
  refine Finset.sum_congr rfl fun r _ => ?_
  unfold term
  refine (mul_comm _ _).trans ?_
  have er : Cert.GwAttnReferenceIdeal.Read.ridx_main_v4 (Cert.GwAttnReferenceIdeal.Read.idx_main_v5 (ix2 x y)) r = ix2 r x := by
    funext a
    match a with
    | ⟨0, _⟩ => rfl
    | ⟨1, _⟩ => rfl
  have el : Cert.GwAttnReferenceIdeal.Read.lidx_main_v4 (Cert.GwAttnReferenceIdeal.Read.idx_main_v5 (ix2 x y)) r = ix2 r y := by
    funext a
    match a with
    | ⟨0, _⟩ => rfl
    | ⟨1, _⟩ => rfl
  rw [er, el]
  pointwise [Cert.GwAttnReferenceIdeal.Read.val_main_v1, Cert.GwAttnReferenceIdeal.Read.val_main_v3]

/-- The result's index that block index `(x, y)` of point `t` lands at. -/
theorem emb2 (x : Fin 512) (y : Fin 1024) : ((cfg0.win 2).blk t).view.emb (ix2 x y)
    = (ix2 (have ht := lt4 t; ⟨x.val, by omega⟩) (have ht := lt4 t; ⟨y.val, by omega⟩) : S512x1024.Idx) := by
  have ht := lt4 t
  blk_ext [idx t]

/-- The result array is the reference's. -/
theorem final : (dats m 0 c).arrAt 2 (cfgs 0).N = Cert.GwAttnReferenceIdeal.Read.val_main_v6 (F := Ideal) (A0 m c) (A1 m c) := by
  refine (dats m 0 c).arrAt_eq_of_covers 2 _ (by decide +kernel) fun t hf y => ?_
  have ht := lt4 t
  have h3 : t.val % 4 = 3 := (flush0_2 t).mp hf
  blk_simp
  rw [after0_2, out_last m c t h3, Pipeline.eq_sum_fin_of_reset_step_apply_of_flush (fun n h => (outsAt0 m c n h).2) 4 (fun _ => 0)
    (fun p j => part m c p (j 0) (j 1)) (fun t h j => acc_first m c t h j) (fun t h j => acc_next m c t h j) t h3 y, zero_add]
  idx_vars y
  refine Eq.trans ?_ (congrArg (Cert.GwAttnReferenceIdeal.Read.val_main_v6 (F := Ideal) (A0 m c) (A1 m c)) (emb2 t y0 y1)).symm
  rw [ref_val]
  unfold part
  refine Fin.sum_mul_add_congr fun p r hl => ?_
  have e0 : (4 * (t.val / 4) + p.val) % 4 = p.val := by omega
  have e1 : (4 * (t.val / 4) + p.val) / 4 = t.val / 4 := by omega
  have e : 2048 * p.val + r.val = p.val * 2048 + r.val := by omega
  simp only [e0, e1, e]

end Cert.GwAttnValue
-- ==== Proof.InProjFwdArray.lean ====
module

public import proofs.«01_k».proof.Proof.Gen.InProjFwdIdeal.Value
public import proofs.«01_k».proof.Proof.Gen.InProjFwdReferenceIdeal.Read
public import proofs.«01_k».proof.Proof.Norm
public import Idealize.ShloMosaic.Lib.Pointwise
public import Idealize.ShloMosaic.Lib.Pipeline.ValueKit
public import Idealize.ShloMosaic.Lib.Pipeline.ReadBack

/-! The modulated norm and the mixer's input projection, entry by entry: what the kernel's blocks hold, what the reference holds,
and the equality of the two arrays the kernel leaves with the reference's results. -/

@[expose] public section
set_option maxRecDepth 16384
noncomputable section

namespace Cert.InProjFwdValue
open Cert.InProjFwdIdeal Cert.InProjFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The residual stream, which the norm is applied to. -/
abbrev A0 : FVec Ideal S8192x1024 .f32 := m ((c : Thread nD τ).loc main_arg0)
/-- The norm's gains. -/
abbrev A1 : FVec Ideal S1x1024 .f32 := m ((c : Thread nD τ).loc main_arg1)
/-- The modulation's scale. -/
abbrev A2 : FVec Ideal S1x1024 .f32 := m ((c : Thread nD τ).loc main_arg2)
/-- The modulation's shift. -/
abbrev A3 : FVec Ideal S1x1024 .f32 := m ((c : Thread nD τ).loc main_arg3)
/-- The product's weights. -/
abbrev A4 : FVec Ideal S1024x5120 .bf16 := m ((c : Thread nD τ).loc main_arg4)

/-- Row `r` of the residual stream. -/
def row (r : Fin 8192) (x : Fin 1024) : EReal := A0 m c (ix2 r x)
/-- The modulated norm of the residual stream. -/
def h (r : Fin 8192) (x : Fin 1024) : EReal :=
  row m c r x * Norm.rs (row m c r) * A1 m c (ix2 0 x) * (1 + A2 m c (ix2 0 x)) + A3 m c (ix2 0 x)
/-- The product of the modulated norm with the weights. -/
def prod (r : Fin 8192) (y : Fin 5120) : EReal := ∑ x : Fin 1024, h m c r x * A4 m c (ix2 x y)

/-- Which block each window stages at grid point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- There are sixteen grid points. -/
theorem lt16 (t : Fin cfg0.N) : t.val < 16 := lt_of_lt_of_eq t.isLt N_0

/-- Every store and load of the body starts at the block's first entry. -/
theorem hz : (![0, 0] : Fin 2 → Nat) = fun _ => 0 := funext fun a => by fin_cases a <;> rfl

variable (t : Fin cfg0.N)

/-- The staged blocks of the five operands. -/
abbrev B0 : Vec Ideal S512x1024 .f32 := iblk m c 0 t
@[inherit_doc B0] abbrev B1 : Vec Ideal S1x1024 .f32 := iblk m c 1 t
@[inherit_doc B0] abbrev B2 : Vec Ideal S1x1024 .f32 := iblk m c 2 t
@[inherit_doc B0] abbrev B3 : Vec Ideal S1x1024 .f32 := iblk m c 3 t
@[inherit_doc B0] abbrev B4 : Vec Ideal S1024x5120 .bf16 := iblk m c 4 t

/-- The position that row `r` of point `t`'s blocks holds. -/
abbrev pos (r : Fin 512) : Fin 8192 := have ht := lt16 t; ⟨512 * t.val + r.val, by omega⟩

/-- The entries of the staged blocks. -/
theorem blk0 (r : Fin 512) (x : Fin 1024) : B0 m c t (ix2 r x) = row m c (pos t r) x := by
  have ht := lt16 t
  unfold row
  blk_point [iblk, V, idx t]
@[inherit_doc blk0] theorem blk1 (x : Fin 1024) : B1 m c t (ix2 0 x) = A1 m c (ix2 0 x) := by
  blk_point [iblk, V, idx t]
@[inherit_doc blk0] theorem blk2 (x : Fin 1024) : B2 m c t (ix2 0 x) = A2 m c (ix2 0 x) := by
  blk_point [iblk, V, idx t]
@[inherit_doc blk0] theorem blk3 (x : Fin 1024) : B3 m c t (ix2 0 x) = A3 m c (ix2 0 x) := by
  blk_point [iblk, V, idx t]
@[inherit_doc blk0] theorem blk4 (x : Fin 1024) (y : Fin 5120) : B4 m c t (ix2 x y) = A4 m c (ix2 x y) := by
  blk_point [iblk, V, idx t]

/-- The block of the modulated norm. -/
theorem h_blk (r : Fin 512) (x : Fin 1024) :
    k0_pay1 (F := Ideal) (B0 m c t) (B1 m c t) (B2 m c t) (B3 m c t) (ix2 r x) = h m c (pos t r) x := by
  pointwise [k0_pay1]
  simp only [blk0, blk1, blk2, blk3]
  rfl

/-- The block of the product. -/
theorem prod_blk (r : Fin 512) (y : Fin 5120) :
    k0_pay2 (F := Ideal) (B0 m c t) (B1 m c t) (B2 m c t) (B3 m c t) (B4 m c t) (ix2 r y) = prod m c (pos t r) y := by
  pointwise [k0_pay2]
  simp only [h_blk, blk4]
  rfl

/-- What the body stores is these blocks. -/
theorem out5 (r : Fin 512) (x : Fin 1024) : out0_5 (F := Ideal) (B0 m c t) (B1 m c t) (B2 m c t) (B3 m c t) (B4 m c t) (ix2 r x) = h m c (pos t r) x := by
  unfold out0_5
  rw [View.canon_unit_zero hz]
  repeat rw [View.ld_unit_zero hz]
  exact h_blk m c t r x
@[inherit_doc out5] theorem out6 (r : Fin 512) (y : Fin 5120) : out0_6 (F := Ideal) (B0 m c t) (B1 m c t) (B2 m c t) (B3 m c t) (B4 m c t) (ix2 r y) = prod m c (pos t r) y := by
  unfold out0_6
  rw [View.canon_unit_zero hz]
  repeat rw [View.ld_unit_zero hz]
  exact prod_blk m c t r y

section ref
open Cert.InProjFwdReferenceIdeal.Read

/-- The reference's modulated norm. -/
theorem ref_h (r : Fin 8192) (x : Fin 1024) : val_main_v18 (F := Ideal) (A0 m c) (A1 m c) (A2 m c) (A3 m c) (ix2 r x) = h m c r x := by
  pointwise [val_main_v18, val_main_v17, val_main_v16, val_main_v15, val_main_v14, val_main_v13, val_main_v12, val_main_cst_2, val_main_v11, val_main_v10, val_main_v9, val_main_v8, val_main_v7, val_main_v6, val_main_v5, val_main_cst_1, val_main_v4, val_main_v3, val_main_cst_0, val_main_v2, val_main_v1, val_main_cst, val_main_v0]
  rfl

/-- The reference's product. -/
theorem ref_prod (r : Fin 8192) (y : Fin 5120) :
    val_main_v21 (F := Ideal) (A0 m c) (A1 m c) (A2 m c) (A3 m c) (A4 m c) (ix2 r y) = prod m c r y := by
  pointwise [val_main_v21, val_main_v20, val_main_v19]
  have e : ∀ x, val_main_v17 (F := Ideal) (A0 m c) (A1 m c) (A2 m c) (A3 m c) (ix2 r x) = h m c r x := ref_h m c r
  simp only [e]
  rfl

end ref

/-- Where the entries of point `t`'s blocks lie in the arrays. -/
theorem emb5 (r : Fin 512) (x : Fin 1024) : ((cfg0.win 5).blk t).view.emb (ix2 r x) = (ix2 (pos t r) x : S8192x1024.Idx) := by
  have ht := lt16 t
  blk_ext [idx t]
@[inherit_doc emb5] theorem emb6 (r : Fin 512) (y : Fin 5120) : ((cfg0.win 6).blk t).view.emb (ix2 r y) = (ix2 (pos t r) y : S8192x5120.Idx) := by
  have ht := lt16 t
  blk_ext [idx t]

/-- The modulated norm is the reference's. -/
theorem final5 : (dats m 0 c).arrAt 5 (cfgs 0).N
    = Cert.InProjFwdReferenceIdeal.Read.val_main_v18 (F := Ideal) (A0 m c) (A1 m c) (A2 m c) (A3 m c) := by
  refine (dats m 0 c).arrAt_eq_of_covers 5 _ (by decide +kernel) fun t hf y => ?_
  blk_simp
  rw [after0_5]
  idx_vars y
  refine (out5 m c t y0 y1).trans ((ref_h m c (pos t y0) y1).symm.trans (congrArg _ (emb5 t y0 y1)).symm)

/-- The product is the reference's. -/
theorem final6 : (dats m 0 c).arrAt 6 (cfgs 0).N
    = Cert.InProjFwdReferenceIdeal.Read.val_main_v21 (F := Ideal) (A0 m c) (A1 m c) (A2 m c) (A3 m c) (A4 m c) := by
  refine (dats m 0 c).arrAt_eq_of_covers 6 _ (by decide +kernel) fun t hf y => ?_
  blk_simp
  rw [after0_6]
  idx_vars y
  refine (out6 m c t y0 y1).trans ((ref_prod m c (pos t y0) y1).symm.trans (congrArg _ (emb6 t y0 y1)).symm)

end Cert.InProjFwdValue
-- ==== Proof.MlpInFwdArray.lean ====
module

public import proofs.«01_k».proof.Proof.Gen.MlpInFwdIdeal.Value
public import proofs.«01_k».proof.Proof.Gen.MlpInFwdReferenceIdeal.Read
public import proofs.«01_k».proof.Proof.Norm
public import Idealize.ShloMosaic.Lib.Pointwise
public import Idealize.ShloMosaic.Lib.Pipeline.ValueKit
public import Idealize.ShloMosaic.Lib.Pipeline.ReadBack

/-! The modulated norm and the MLP's first product, entry by entry: what the kernel's blocks hold, what the reference holds,
and the equality of the two arrays the kernel leaves with the reference's results. -/

@[expose] public section
set_option maxRecDepth 16384
noncomputable section

namespace Cert.MlpInFwdValue
open Cert.MlpInFwdIdeal Cert.MlpInFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The residual stream, which the norm is applied to. -/
abbrev A0 : FVec Ideal S8192x1024 .f32 := m ((c : Thread nD τ).loc main_arg0)
/-- The norm's gains. -/
abbrev A1 : FVec Ideal S1x1024 .f32 := m ((c : Thread nD τ).loc main_arg1)
/-- The modulation's scale. -/
abbrev A2 : FVec Ideal S1x1024 .f32 := m ((c : Thread nD τ).loc main_arg2)
/-- The modulation's shift. -/
abbrev A3 : FVec Ideal S1x1024 .f32 := m ((c : Thread nD τ).loc main_arg3)
/-- The product's weights. -/
abbrev A4 : FVec Ideal S1024x4096 .bf16 := m ((c : Thread nD τ).loc main_arg4)

/-- Row `r` of the residual stream. -/
def row (r : Fin 8192) (x : Fin 1024) : EReal := A0 m c (ix2 r x)
/-- The modulated norm of the residual stream. -/
def h (r : Fin 8192) (x : Fin 1024) : EReal :=
  row m c r x * Norm.rs (row m c r) * A1 m c (ix2 0 x) * (1 + A2 m c (ix2 0 x)) + A3 m c (ix2 0 x)
/-- The product of the modulated norm with the weights. -/
def prod (r : Fin 8192) (y : Fin 4096) : EReal := ∑ x : Fin 1024, h m c r x * A4 m c (ix2 x y)

/-- Which block each window stages at grid point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- There are sixteen grid points. -/
theorem lt16 (t : Fin cfg0.N) : t.val < 16 := lt_of_lt_of_eq t.isLt N_0

/-- Every store and load of the body starts at the block's first entry. -/
theorem hz : (![0, 0] : Fin 2 → Nat) = fun _ => 0 := funext fun a => by fin_cases a <;> rfl

variable (t : Fin cfg0.N)

/-- The staged blocks of the five operands. -/
abbrev B0 : Vec Ideal S512x1024 .f32 := iblk m c 0 t
@[inherit_doc B0] abbrev B1 : Vec Ideal S1x1024 .f32 := iblk m c 1 t
@[inherit_doc B0] abbrev B2 : Vec Ideal S1x1024 .f32 := iblk m c 2 t
@[inherit_doc B0] abbrev B3 : Vec Ideal S1x1024 .f32 := iblk m c 3 t
@[inherit_doc B0] abbrev B4 : Vec Ideal S1024x4096 .bf16 := iblk m c 4 t

/-- The position that row `r` of point `t`'s blocks holds. -/
abbrev pos (r : Fin 512) : Fin 8192 := have ht := lt16 t; ⟨512 * t.val + r.val, by omega⟩

/-- The entries of the staged blocks. -/
theorem blk0 (r : Fin 512) (x : Fin 1024) : B0 m c t (ix2 r x) = row m c (pos t r) x := by
  have ht := lt16 t
  unfold row
  blk_point [iblk, V, idx t]
@[inherit_doc blk0] theorem blk1 (x : Fin 1024) : B1 m c t (ix2 0 x) = A1 m c (ix2 0 x) := by
  blk_point [iblk, V, idx t]
@[inherit_doc blk0] theorem blk2 (x : Fin 1024) : B2 m c t (ix2 0 x) = A2 m c (ix2 0 x) := by
  blk_point [iblk, V, idx t]
@[inherit_doc blk0] theorem blk3 (x : Fin 1024) : B3 m c t (ix2 0 x) = A3 m c (ix2 0 x) := by
  blk_point [iblk, V, idx t]
@[inherit_doc blk0] theorem blk4 (x : Fin 1024) (y : Fin 4096) : B4 m c t (ix2 x y) = A4 m c (ix2 x y) := by
  blk_point [iblk, V, idx t]

/-- The block of the modulated norm. -/
theorem h_blk (r : Fin 512) (x : Fin 1024) :
    k0_pay1 (F := Ideal) (B0 m c t) (B1 m c t) (B2 m c t) (B3 m c t) (ix2 r x) = h m c (pos t r) x := by
  pointwise [k0_pay1]
  simp only [blk0, blk1, blk2, blk3]
  rfl

/-- The block of the product. -/
theorem prod_blk (r : Fin 512) (y : Fin 4096) :
    k0_pay2 (F := Ideal) (B0 m c t) (B1 m c t) (B2 m c t) (B3 m c t) (B4 m c t) (ix2 r y) = prod m c (pos t r) y := by
  pointwise [k0_pay2]
  simp only [h_blk, blk4]
  rfl

/-- What the body stores is these blocks. -/
theorem out5 (r : Fin 512) (x : Fin 1024) : out0_5 (F := Ideal) (B0 m c t) (B1 m c t) (B2 m c t) (B3 m c t) (B4 m c t) (ix2 r x) = h m c (pos t r) x := by
  unfold out0_5
  rw [View.canon_unit_zero hz]
  repeat rw [View.ld_unit_zero hz]
  exact h_blk m c t r x
@[inherit_doc out5] theorem out6 (r : Fin 512) (y : Fin 4096) : out0_6 (F := Ideal) (B0 m c t) (B1 m c t) (B2 m c t) (B3 m c t) (B4 m c t) (ix2 r y) = prod m c (pos t r) y := by
  unfold out0_6
  rw [View.canon_unit_zero hz]
  repeat rw [View.ld_unit_zero hz]
  exact prod_blk m c t r y

section ref
open Cert.MlpInFwdReferenceIdeal.Read

/-- The reference's modulated norm. -/
theorem ref_h (r : Fin 8192) (x : Fin 1024) : val_main_v18 (F := Ideal) (A0 m c) (A1 m c) (A2 m c) (A3 m c) (ix2 r x) = h m c r x := by
  pointwise [val_main_v18, val_main_v17, val_main_v16, val_main_v15, val_main_v14, val_main_v13, val_main_v12, val_main_cst_2, val_main_v11, val_main_v10, val_main_v9, val_main_v8, val_main_v7, val_main_v6, val_main_v5, val_main_cst_1, val_main_v4, val_main_v3, val_main_cst_0, val_main_v2, val_main_v1, val_main_cst, val_main_v0]
  rfl

/-- The reference's product. -/
theorem ref_prod (r : Fin 8192) (y : Fin 4096) :
    val_main_v21 (F := Ideal) (A0 m c) (A1 m c) (A2 m c) (A3 m c) (A4 m c) (ix2 r y) = prod m c r y := by
  pointwise [val_main_v21, val_main_v20, val_main_v19]
  have e : ∀ x, val_main_v17 (F := Ideal) (A0 m c) (A1 m c) (A2 m c) (A3 m c) (ix2 r x) = h m c r x := ref_h m c r
  simp only [e]
  rfl

end ref

/-- Where the entries of point `t`'s blocks lie in the arrays. -/
theorem emb5 (r : Fin 512) (x : Fin 1024) : ((cfg0.win 5).blk t).view.emb (ix2 r x) = (ix2 (pos t r) x : S8192x1024.Idx) := by
  have ht := lt16 t
  blk_ext [idx t]
@[inherit_doc emb5] theorem emb6 (r : Fin 512) (y : Fin 4096) : ((cfg0.win 6).blk t).view.emb (ix2 r y) = (ix2 (pos t r) y : S8192x4096.Idx) := by
  have ht := lt16 t
  blk_ext [idx t]

/-- The modulated norm is the reference's. -/
theorem final5 : (dats m 0 c).arrAt 5 (cfgs 0).N
    = Cert.MlpInFwdReferenceIdeal.Read.val_main_v18 (F := Ideal) (A0 m c) (A1 m c) (A2 m c) (A3 m c) := by
  refine (dats m 0 c).arrAt_eq_of_covers 5 _ (by decide +kernel) fun t hf y => ?_
  blk_simp
  rw [after0_5]
  idx_vars y
  refine (out5 m c t y0 y1).trans ((ref_h m c (pos t y0) y1).symm.trans (congrArg _ (emb5 t y0 y1)).symm)

/-- The product is the reference's. -/
theorem final6 : (dats m 0 c).arrAt 6 (cfgs 0).N
    = Cert.MlpInFwdReferenceIdeal.Read.val_main_v21 (F := Ideal) (A0 m c) (A1 m c) (A2 m c) (A3 m c) (A4 m c) := by
  refine (dats m 0 c).arrAt_eq_of_covers 6 _ (by decide +kernel) fun t hf y => ?_
  blk_simp
  rw [after0_6]
  idx_vars y
  refine (out6 m c t y0 y1).trans ((ref_prod m c (pos t y0) y1).symm.trans (congrArg _ (emb6 t y0 y1)).symm)

end Cert.MlpInFwdValue
-- ==== Proof.MlpOutFwdArray.lean ====
module

public import proofs.«01_k».proof.Proof.Gen.MlpOutFwdIdeal.Value
public import proofs.«01_k».proof.Proof.Gen.MlpOutFwdReferenceIdeal.Read
public import proofs.«01_k».proof.Proof.Norm
public import Idealize.ShloMosaic.Lib.Pointwise
public import Idealize.ShloMosaic.Lib.Pipeline.ValueKit
public import Idealize.ShloMosaic.Lib.Pipeline.ReadBack

/-! The MLP's second product and the gated norm after it, entry by entry: what the kernel's blocks hold, what the reference holds,
and the equality of the two arrays the kernel leaves with the reference's results. -/

@[expose] public section
set_option maxRecDepth 16384
noncomputable section

namespace Cert.MlpOutFwdValue
open Cert.MlpOutFwdIdeal Cert.MlpOutFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The pre-activations. -/
abbrev A0 : FVec Ideal S8192x4096 .bf16 := m ((c : Thread nD τ).loc main_arg0)
/-- The residual stream. -/
abbrev A1 : FVec Ideal S8192x1024 .f32 := m ((c : Thread nD τ).loc main_arg1)
/-- The product's weights. -/
abbrev A2 : FVec Ideal S4096x1024 .bf16 := m ((c : Thread nD τ).loc main_arg2)
/-- The norm's gains. -/
abbrev A3 : FVec Ideal S1x1024 .f32 := m ((c : Thread nD τ).loc main_arg3)
/-- The gate of the branch. -/
abbrev A4 : FVec Ideal S1x1024 .f32 := m ((c : Thread nD τ).loc main_arg4)

/-- The product of the squared positive parts with the weights. -/
def ff (r : Fin 8192) (x : Fin 1024) : EReal :=
  ∑ k : Fin 4096, max (A0 m c (ix2 r k)) 0 * max (A0 m c (ix2 r k)) 0 * A2 m c (ix2 k x)
/-- The residual stream after the branch: the gated norm of the product is added. -/
def res (r : Fin 8192) (x : Fin 1024) : EReal :=
  A1 m c (ix2 r x) + A4 m c (ix2 0 x) * (ff m c r x * Norm.rs (ff m c r) * A3 m c (ix2 0 x))

/-- Which block each window stages at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- There are sixteen grid points. -/
theorem lt16 (t : Fin cfg0.N) : t.val < 16 := lt_of_lt_of_eq t.isLt N_0

/-- Every store and load of the body starts at the block's first entry. -/
theorem hz : (![0, 0] : Fin 2 → Nat) = fun _ => 0 := funext fun a => by fin_cases a <;> rfl

variable (t : Fin cfg0.N)

/-- The staged blocks of the five operands. -/
abbrev B0 : Vec Ideal S512x4096 .bf16 := iblk m c 0 t
@[inherit_doc B0] abbrev B1 : Vec Ideal S512x1024 .f32 := iblk m c 1 t
@[inherit_doc B0] abbrev B2 : Vec Ideal S4096x1024 .bf16 := iblk m c 2 t
@[inherit_doc B0] abbrev B3 : Vec Ideal S1x1024 .f32 := iblk m c 3 t
@[inherit_doc B0] abbrev B4 : Vec Ideal S1x1024 .f32 := iblk m c 4 t

/-- The position that row `r` of point `t`'s blocks holds. -/
abbrev pos (r : Fin 512) : Fin 8192 := have ht := lt16 t; ⟨512 * t.val + r.val, by omega⟩

/-- The entries of the staged blocks. -/
theorem blk0 (r : Fin 512) (k : Fin 4096) : B0 m c t (ix2 r k) = A0 m c (ix2 (pos t r) k) := by
  have ht := lt16 t
  blk_point [iblk, V, idx t]
@[inherit_doc blk0] theorem blk1 (r : Fin 512) (x : Fin 1024) : B1 m c t (ix2 r x) = A1 m c (ix2 (pos t r) x) := by
  have ht := lt16 t
  blk_point [iblk, V, idx t]
@[inherit_doc blk0] theorem blk2 (k : Fin 4096) (x : Fin 1024) : B2 m c t (ix2 k x) = A2 m c (ix2 k x) := by
  blk_point [iblk, V, idx t]
@[inherit_doc blk0] theorem blk3 (x : Fin 1024) : B3 m c t (ix2 0 x) = A3 m c (ix2 0 x) := by
  blk_point [iblk, V, idx t]
@[inherit_doc blk0] theorem blk4 (x : Fin 1024) : B4 m c t (ix2 0 x) = A4 m c (ix2 0 x) := by
  blk_point [iblk, V, idx t]

/-- The block of the product. -/
theorem ff_blk (r : Fin 512) (x : Fin 1024) : k0_pay1 (F := Ideal) (B0 m c t) (B2 m c t) (ix2 r x) = ff m c (pos t r) x := by
  pointwise [k0_pay1]
  simp only [blk0, blk2]
  rfl

/-- The block of the residual stream after the branch. -/
theorem res_blk (r : Fin 512) (x : Fin 1024) :
    k0_pay2 (F := Ideal) (B0 m c t) (B2 m c t) (B1 m c t) (B4 m c t) (B3 m c t) (ix2 r x) = res m c (pos t r) x := by
  pointwise [k0_pay2]
  simp only [ff_blk, blk1, blk3, blk4]
  rfl

/-- What the body stores is these blocks. -/
theorem out5 (r : Fin 512) (x : Fin 1024) : out0_5 (F := Ideal) (B0 m c t) (B1 m c t) (B2 m c t) (B3 m c t) (B4 m c t) (ix2 r x) = ff m c (pos t r) x := by
  unfold out0_5
  rw [View.canon_unit_zero hz]
  repeat rw [View.ld_unit_zero hz]
  exact ff_blk m c t r x
@[inherit_doc out5] theorem out6 (r : Fin 512) (x : Fin 1024) : out0_6 (F := Ideal) (B0 m c t) (B1 m c t) (B2 m c t) (B3 m c t) (B4 m c t) (ix2 r x) = res m c (pos t r) x := by
  unfold out0_6
  rw [View.canon_unit_zero hz]
  repeat rw [View.ld_unit_zero hz]
  exact res_blk m c t r x

section ref
open Cert.MlpOutFwdReferenceIdeal.Read

/-- The reference's product. -/
theorem ref_ff (r : Fin 8192) (x : Fin 1024) : val_main_v4 (F := Ideal) (A0 m c) (A2 m c) (ix2 r x) = ff m c r x := by
  pointwise [val_main_v4, val_main_v3, val_main_v2, val_main_v1, val_main_v0, val_main_call0_v0, val_main_call0_cst]
  rfl

/-- The reference's inverted norm of the product. -/
theorem ref_rs (r : Fin 8192) : val_main_v12 (F := Ideal) (A0 m c) (A2 m c) (ix2 r 0) = Norm.rs (ff m c r) := by
  pointwise [val_main_v12, val_main_v11, val_main_v10, val_main_cst_1, val_main_v9, val_main_v8, val_main_cst_0, val_main_v7, val_main_v6, val_main_cst, val_main_v5]
  simp only [ref_ff]
  rfl

/-- The reference's residual stream after the branch. -/
theorem ref_res (r : Fin 8192) (x : Fin 1024) :
    val_main_v19 (F := Ideal) (A0 m c) (A1 m c) (A2 m c) (A3 m c) (A4 m c) (ix2 r x) = res m c r x := by
  pointwise [val_main_v19, val_main_v18, val_main_v17, val_main_v16, val_main_v15, val_main_v14, val_main_v13]
  simp only [ref_ff, ref_rs]
  rfl

end ref

/-- Where the entries of point `t`'s blocks lie in the arrays. -/
theorem emb5 (r : Fin 512) (x : Fin 1024) : ((cfg0.win 5).blk t).view.emb (ix2 r x) = (ix2 (pos t r) x : S8192x1024.Idx) := by
  have ht := lt16 t
  blk_ext [idx t]
@[inherit_doc emb5] theorem emb6 (r : Fin 512) (x : Fin 1024) : ((cfg0.win 6).blk t).view.emb (ix2 r x) = (ix2 (pos t r) x : S8192x1024.Idx) := by
  have ht := lt16 t
  blk_ext [idx t]

/-- The product is the reference's. -/
theorem final5 : (dats m 0 c).arrAt 5 (cfgs 0).N
    = Cert.MlpOutFwdReferenceIdeal.Read.val_main_v4 (F := Ideal) (A0 m c) (A2 m c) := by
  refine (dats m 0 c).arrAt_eq_of_covers 5 _ (by decide +kernel) fun t hf y => ?_
  blk_simp
  rw [after0_5]
  idx_vars y
  refine (out5 m c t y0 y1).trans ((ref_ff m c (pos t y0) y1).symm.trans (congrArg _ (emb5 t y0 y1)).symm)

/-- The residual stream after the branch is the reference's. -/
theorem final6 : (dats m 0 c).arrAt 6 (cfgs 0).N
    = Cert.MlpOutFwdReferenceIdeal.Read.val_main_v19 (F := Ideal) (A0 m c) (A1 m c) (A2 m c) (A3 m c) (A4 m c) := by
  refine (dats m 0 c).arrAt_eq_of_covers 6 _ (by decide +kernel) fun t hf y => ?_
  blk_simp
  rw [after0_6]
  idx_vars y
  refine (out6 m c t y0 y1).trans ((ref_res m c (pos t y0) y1).symm.trans (congrArg _ (emb6 t y0 y1)).symm)

end Cert.MlpOutFwdValue
-- ==== Proof.lean ====
module

public import proofs.«01_k».proof.Defs
public import proofs.«01_k».proof.Proof.Gen.Attn
public import proofs.«01_k».proof.Proof.Gen.AttnIdeal
public import proofs.«01_k».proof.Proof.Gen.AttnReferenceIdeal
public import proofs.«01_k».proof.Proof.Gen.AttnReferenceIdeal.Read
public import proofs.«01_k».proof.Proof.Gen.AttnReferenceIdeal.Run
public import proofs.«01_k».proof.Proof.AttnFrame
public import proofs.«01_k».proof.Proof.AttnWordFrame
public import proofs.«01_k».proof.Proof.AttnArray
public import proofs.«01_k».proof.Proof.AttnPre
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.ConvArray
public import proofs.«01_k».proof.Proof.Gen.GwIn
public import proofs.«01_k».proof.Proof.Gen.GwIn.Frame
public import proofs.«01_k».proof.Proof.Gen.GwInIdeal
public import proofs.«01_k».proof.Proof.Gen.GwInIdeal.Frame
public import proofs.«01_k».proof.Proof.Gen.GwInReferenceIdeal
public import proofs.«01_k».proof.Proof.Gen.GwInReferenceIdeal.Read
public import proofs.«01_k».proof.Proof.Gen.GwInReferenceIdeal.Run
public import proofs.«01_k».proof.Proof.Gen.GwOut
public import proofs.«01_k».proof.Proof.Gen.GwOut.Frame
public import proofs.«01_k».proof.Proof.Gen.GwOutIdeal
public import proofs.«01_k».proof.Proof.Gen.GwOutIdeal.Frame
public import proofs.«01_k».proof.Proof.Gen.GwOutReferenceIdeal
public import proofs.«01_k».proof.Proof.Gen.GwOutReferenceIdeal.Read
public import proofs.«01_k».proof.Proof.Gen.GwOutReferenceIdeal.Run
public import proofs.«01_k».proof.Proof.Gen.GwInIdeal.Value
public import proofs.«01_k».proof.Proof.GwInArray
public import proofs.«01_k».proof.Proof.Gen.GwOutIdeal.Value
public import proofs.«01_k».proof.Proof.GwOutArray
public import proofs.«01_k».proof.Proof.Gen.MlpOut
public import proofs.«01_k».proof.Proof.Gen.MlpOut.Frame
public import proofs.«01_k».proof.Proof.Gen.MlpOutIdeal
public import proofs.«01_k».proof.Proof.Gen.MlpOutIdeal.Frame
public import proofs.«01_k».proof.Proof.Gen.MlpOutReferenceIdeal
public import proofs.«01_k».proof.Proof.Gen.MlpOutReferenceIdeal.Read
public import proofs.«01_k».proof.Proof.Gen.MlpOutReferenceIdeal.Run
public import proofs.«01_k».proof.Proof.Gen.MlpOutIdeal.Value
public import proofs.«01_k».proof.Proof.MlpOutArray
public import proofs.«01_k».proof.Proof.Gen.MlpIn
public import proofs.«01_k».proof.Proof.Gen.MlpIn.Frame
public import proofs.«01_k».proof.Proof.Gen.MlpInIdeal
public import proofs.«01_k».proof.Proof.Gen.MlpInIdeal.Frame
public import proofs.«01_k».proof.Proof.Gen.MlpInReferenceIdeal
public import proofs.«01_k».proof.Proof.Gen.MlpInReferenceIdeal.Read
public import proofs.«01_k».proof.Proof.Gen.MlpInReferenceIdeal.Run
public import proofs.«01_k».proof.Proof.Gen.MlpInIdeal.Value
public import proofs.«01_k».proof.Proof.MlpInArray
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Read
public import proofs.«01_k».proof.Proof.Gen.InProjReferenceIdeal.Run
public import proofs.«01_k».proof.Proof.Gen.InProjIdeal.Value
public import proofs.«01_k».proof.Proof.InProjArray
public import proofs.«01_k».proof.Proof.Gen.GwGate
public import proofs.«01_k».proof.Proof.Gen.GwGate.Frame
public import proofs.«01_k».proof.Proof.Gen.GwGateIdeal
public import proofs.«01_k».proof.Proof.Gen.GwGateIdeal.Frame
public import proofs.«01_k».proof.Proof.Gen.GwGateReferenceIdeal
public import proofs.«01_k».proof.Proof.Gen.GwGateReferenceIdeal.Read
public import proofs.«01_k».proof.Proof.Gen.GwGateReferenceIdeal.Run
public import proofs.«01_k».proof.Proof.Gen.GwGateIdeal.Value
public import proofs.«01_k».proof.Proof.GwGateArray
public import proofs.«01_k».proof.Proof.Gen.GwMix
public import proofs.«01_k».proof.Proof.Gen.GwMix.Frame
public import proofs.«01_k».proof.Proof.Gen.GwMixIdeal
public import proofs.«01_k».proof.Proof.Gen.GwMixIdeal.Frame
public import proofs.«01_k».proof.Proof.Gen.GwMixReferenceIdeal
public import proofs.«01_k».proof.Proof.Gen.GwMixReferenceIdeal.Read
public import proofs.«01_k».proof.Proof.Gen.GwMixReferenceIdeal.Run
public import proofs.«01_k».proof.Proof.Gen.GwMixIdeal.Value
public import proofs.«01_k».proof.Proof.GwMixArray
public import proofs.«01_k».proof.Proof.Gen.GwConv
public import proofs.«01_k».proof.Proof.Gen.GwConv.Frame
public import proofs.«01_k».proof.Proof.Gen.GwConvIdeal
public import proofs.«01_k».proof.Proof.Gen.GwConvIdeal.Frame
public import proofs.«01_k».proof.Proof.Gen.GwConvReferenceIdeal
public import proofs.«01_k».proof.Proof.Gen.GwConvReferenceIdeal.Read
public import proofs.«01_k».proof.Proof.Gen.GwConvReferenceIdeal.Run
public import proofs.«01_k».proof.Proof.Gen.GwConvIdeal.Value
public import proofs.«01_k».proof.Proof.GwConvArray
public import proofs.«01_k».proof.Proof.Gen.GwAttn
public import proofs.«01_k».proof.Proof.Gen.GwAttn.Frame
public import proofs.«01_k».proof.Proof.Gen.GwAttnIdeal
public import proofs.«01_k».proof.Proof.Gen.GwAttnIdeal.Frame
public import proofs.«01_k».proof.Proof.Gen.GwAttnReferenceIdeal
public import proofs.«01_k».proof.Proof.Gen.GwAttnReferenceIdeal.Read
public import proofs.«01_k».proof.Proof.Gen.GwAttnReferenceIdeal.Run
public import proofs.«01_k».proof.Proof.Gen.GwAttnIdeal.Value
public import proofs.«01_k».proof.Proof.GwAttnArray
public import proofs.«01_k».proof.Proof.Gen.InProjFwd
public import proofs.«01_k».proof.Proof.Gen.InProjFwd.Frame
public import proofs.«01_k».proof.Proof.Gen.InProjFwdIdeal
public import proofs.«01_k».proof.Proof.Gen.InProjFwdIdeal.Frame
public import proofs.«01_k».proof.Proof.Gen.InProjFwdReferenceIdeal
public import proofs.«01_k».proof.Proof.Gen.InProjFwdReferenceIdeal.Read
public import proofs.«01_k».proof.Proof.Gen.InProjFwdReferenceIdeal.Run
public import proofs.«01_k».proof.Proof.Gen.InProjFwdIdeal.Value
public import proofs.«01_k».proof.Proof.InProjFwdArray
public import proofs.«01_k».proof.Proof.Gen.MlpInFwd
public import proofs.«01_k».proof.Proof.Gen.MlpInFwd.Frame
public import proofs.«01_k».proof.Proof.Gen.MlpInFwdIdeal
public import proofs.«01_k».proof.Proof.Gen.MlpInFwdIdeal.Frame
public import proofs.«01_k».proof.Proof.Gen.MlpInFwdReferenceIdeal
public import proofs.«01_k».proof.Proof.Gen.MlpInFwdReferenceIdeal.Read
public import proofs.«01_k».proof.Proof.Gen.MlpInFwdReferenceIdeal.Run
public import proofs.«01_k».proof.Proof.Gen.MlpInFwdIdeal.Value
public import proofs.«01_k».proof.Proof.MlpInFwdArray
public import proofs.«01_k».proof.Proof.Gen.MlpOutFwd
public import proofs.«01_k».proof.Proof.Gen.MlpOutFwd.Frame
public import proofs.«01_k».proof.Proof.Gen.MlpOutFwdIdeal
public import proofs.«01_k».proof.Proof.Gen.MlpOutFwdIdeal.Frame
public import proofs.«01_k».proof.Proof.Gen.MlpOutFwdReferenceIdeal
public import proofs.«01_k».proof.Proof.Gen.MlpOutFwdReferenceIdeal.Read
public import proofs.«01_k».proof.Proof.Gen.MlpOutFwdReferenceIdeal.Run
public import proofs.«01_k».proof.Proof.Gen.MlpOutFwdIdeal.Value
public import proofs.«01_k».proof.Proof.MlpOutFwdArray
public import Idealize.ShloMosaic.Adequacy
public import Idealize.ShloMosaic.Init

@[expose] public section

noncomputable section

/-! The claims about the gradients of the attention, of the short convolution, of the norms with the products into and out of a block
and of the products' weights, and about the forward norms with the products into the mixer and into and out of the MLP, assembled
from the runs of the kernels and of their references. -/

namespace Cert.Proof

open Idealize.ShloMosaic Idealize.SL.Sem Cert.Conv

/-- The attention's gradient, read on bit patterns, ends with its arguments unchanged and every counter at zero. -/
theorem frame_attn : Cert.quiescent_Attn := fun m ρ _ => Cert.Proof.AttnWord.frame m ρ

/-- The attention's gradient, read over the reals, ends with its arguments unchanged and every counter at zero. -/
theorem frame_attn_ideal : Cert.quiescent_AttnIdeal := fun m ρ _ => Cert.Proof.Attn.frame m ρ

/-- The attention's reference ends with its arguments unchanged; it declares no counter. -/
theorem frame_attn_reference : Cert.quiescent_AttnReferenceIdeal := fun m ρ _ =>
  (θ_run Cert.AttnReferenceIdeal.defs _ _).mono
    (fun r h => ⟨fun c => (h c).2.2.2, sem_eq_zero_of_no_sems (by decide) r.2⟩)
    (Cert.AttnReferenceIdeal.Value.run (F := Ideal) m ρ)

/-- The same, where the arguments are real numbers. -/
theorem frame_attn_ideal_finite : Cert.quiescent_AttnIdeal_pre_finite := fun m ρ _ => frame_attn_ideal m ρ trivial

/-- The same of the reference. -/
theorem frame_attn_reference_finite : Cert.quiescent_AttnReferenceIdeal_pre_finite := fun m ρ _ => frame_attn_reference m ρ trivial

/-- Over the reals the attention kernel's three results are the derivative of the stick-breaking attention that the reference
takes, where the queries, keys and values and the gradient of the output are real numbers. -/
theorem attn_algebraic : Cert.algebraic_AttnIdeal_AttnReferenceIdeal_pre_finite := fun m ρ m' ρ' hpre hag =>
  ⟨fun c => Cert.AttnReferenceIdeal.Read.val_main_v57 (F := Ideal) (Attn.projOf m c) (Attn.gradOf m c),
   fun c => Cert.AttnReferenceIdeal.Read.val_main_v59 (F := Ideal) (Attn.projOf m c) (Attn.gradOf m c),
   fun c => Cert.AttnReferenceIdeal.Read.val_main_v61 (F := Ideal) (Attn.projOf m c) (Attn.gradOf m c),
   (θ_run _ _ _).mono (fun _ h c => by
       obtain ⟨P, O, hA⟩ := Attn.args_real m hpre c
       exact ⟨((h.1 c).1 9).trans (Attn.final9 m c hA), ((h.1 c).1 10).trans (Attn.final10 m c hA), ((h.1 c).1 11).trans (Attn.final11 m c hA),
         ((h.1 c).1 2).trans (((Attn.dats m 0 c).arrAt_in 2 rfl _).trans ((Attn.A_eq m c 2).trans (Attn.V_arg m c Cert.AttnIdeal.main_arg0 (Or.inl rfl)))),
         ((h.1 c).1 4).trans (((Attn.dats m 0 c).arrAt_in 4 rfl _).trans ((Attn.A_eq m c 4).trans (Attn.V_arg m c Cert.AttnIdeal.main_arg1 (Or.inr rfl))))⟩)
     (Attn.run m ρ),
   (θ_run _ _ _).mono (fun _ h c =>
       ⟨(h c).1.trans ((Cert.AttnReferenceIdeal.Read.val_main_v57_eq _).trans (congrArg₂ (Cert.AttnReferenceIdeal.Read.val_main_v57 (F := Ideal)) (hag c).1 (hag c).2)),
        (h c).2.1.trans ((Cert.AttnReferenceIdeal.Read.val_main_v59_eq _).trans (congrArg₂ (Cert.AttnReferenceIdeal.Read.val_main_v59 (F := Ideal)) (hag c).1 (hag c).2)),
        (h c).2.2.1.trans ((Cert.AttnReferenceIdeal.Read.val_main_v61_eq _).trans (congrArg₂ (Cert.AttnReferenceIdeal.Read.val_main_v61 (F := Ideal)) (hag c).1 (hag c).2)), (h c).2.2.2⟩)
     (Cert.AttnReferenceIdeal.Value.run (F := Ideal) m' ρ')⟩

/-- The cutoff of the running sums is the constant named for it, and stands for no number below every other. -/
theorem preserves_attn : Cert.preserves_Attn_AttnIdeal :=
  IdealRules.named_const.statement Cert.AttnIdeal.κ "cutoff" .f32 0xC2B40000#32 ⊥ rfl

/-- The convolution's gradient, read on bit patterns, ends with its arguments unchanged and every counter at zero. -/
theorem frame_kernel : Cert.quiescent_Kernel := fun m ρ _ => Cert.Kernel.Gen.frame m ρ

/-- The convolution's gradient, read over the reals, ends with its arguments unchanged and every counter at zero. -/
theorem frame_kernel_ideal : Cert.quiescent_KernelIdeal := fun m ρ _ => Cert.KernelIdeal.Gen.frame m ρ

/-- The convolution's reference ends with its arguments unchanged; it declares no counter. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Over the reals the convolution kernel's two results are the derivative of the short convolution that the reference takes. -/
theorem conv_algebraic : Cert.algebraic_KernelIdeal_ReferenceIdeal := fun m ρ m' ρ' _ hag =>
  ⟨fun c => Cert.ReferenceIdeal.Read.val_main_v72 (F := Ideal) (A0 m c) (A1 m c) (A2 m c),
   fun c => Cert.ReferenceIdeal.Read.val_main_v66 (F := Ideal) (A0 m c) (A1 m c),
   (θ_run _ _ _).mono (fun _ h c => ⟨(h c).1.trans (final9 m c), (h c).2.1.trans (final10 m c), (h c).2.2⟩)
     (Cert.KernelIdeal.Value.run_blocks m ρ),
   (θ_run _ _ _).mono (fun _ h c =>
       ⟨(h c).1.trans ((Cert.ReferenceIdeal.Read.val_main_v72_eq m' c).trans (by rw [(hag c).1, (hag c).2.1, (hag c).2.2])),
        (h c).2.1.trans ((Cert.ReferenceIdeal.Read.val_main_v66_eq _ _).trans (by rw [(hag c).1, (hag c).2.1])), (h c).2.2⟩)
     (Cert.ReferenceIdeal.Value.run m' ρ')⟩

/-- The weight gradient `gw_mlp_in`, read on bit patterns, ends with its arguments unchanged and every counter at zero. -/
theorem frame_gw_mlp_in : Cert.quiescent_GwIn := fun m ρ _ => Cert.GwIn.Gen.frame m ρ

/-- The weight gradient `gw_mlp_in`, read over the reals, ends with its arguments unchanged and every counter at zero. -/
theorem frame_gw_mlp_in_ideal : Cert.quiescent_GwInIdeal := fun m ρ _ => Cert.GwInIdeal.Gen.frame m ρ

/-- Its reference ends with its arguments unchanged; it declares no counter. -/
theorem frame_gw_mlp_in_reference : Cert.quiescent_GwInReferenceIdeal := fun m ρ _ =>
  (θ_run Cert.GwInReferenceIdeal.defs _ _).mono
    (fun r h => ⟨fun c => (h c).2, sem_eq_zero_of_no_sems (by decide) r.2⟩)
    (Cert.GwInReferenceIdeal.Value.run (F := Ideal) m ρ)

/-- Over the reals `gw_mlp_in` leaves the derivative, in the weight, of the product into the MLP that the reference takes. -/
theorem gw_mlp_in_algebraic : Cert.algebraic_GwInIdeal_GwInReferenceIdeal := fun m ρ m' ρ' _ hag =>
  ⟨fun c => Cert.GwInReferenceIdeal.Read.val_main_v6 (F := Ideal) (GwInValue.A0 m c) (GwInValue.A1 m c),
   (θ_run _ _ _).mono (fun _ h c => ⟨(h c).1.trans (GwInValue.final m c), (h c).2⟩) (Cert.GwInIdeal.Value.run_blocks m ρ),
   (θ_run _ _ _).mono (fun _ h c =>
       ⟨(h c).1.trans ((Cert.GwInReferenceIdeal.Read.val_main_v6_eq _ _).trans
         (congrArg₂ (Cert.GwInReferenceIdeal.Read.val_main_v6 (F := Ideal)) (hag c).1 (hag c).2)), (h c).2⟩)
     (Cert.GwInReferenceIdeal.Value.run (F := Ideal) m' ρ')⟩

/-- The weight gradient `gw_mlp_out`, read on bit patterns, ends with its arguments unchanged and every counter at zero. -/
theorem frame_gw_mlp_out : Cert.quiescent_GwOut := fun m ρ _ => Cert.GwOut.Gen.frame m ρ

/-- The weight gradient `gw_mlp_out`, read over the reals, ends with its arguments unchanged and every counter at zero. -/
theorem frame_gw_mlp_out_ideal : Cert.quiescent_GwOutIdeal := fun m ρ _ => Cert.GwOutIdeal.Gen.frame m ρ

/-- Its reference ends with its arguments unchanged; it declares no counter. -/
theorem frame_gw_mlp_out_reference : Cert.quiescent_GwOutReferenceIdeal := fun m ρ _ =>
  (θ_run Cert.GwOutReferenceIdeal.defs _ _).mono
    (fun r h => ⟨fun c => (h c).2, sem_eq_zero_of_no_sems (by decide) r.2⟩)
    (Cert.GwOutReferenceIdeal.Value.run (F := Ideal) m ρ)

/-- Over the reals `gw_mlp_out` leaves the derivative, in the weight, of the product out of the MLP that the reference takes. -/
theorem gw_mlp_out_algebraic : Cert.algebraic_GwOutIdeal_GwOutReferenceIdeal := fun m ρ m' ρ' _ hag =>
  ⟨fun c => Cert.GwOutReferenceIdeal.Read.val_main_v8 (F := Ideal) (GwOutValue.A0 m c) (GwOutValue.A1 m c),
   (θ_run _ _ _).mono (fun _ h c => ⟨(h c).1.trans (GwOutValue.final m c), (h c).2⟩) (Cert.GwOutIdeal.Value.run_blocks m ρ),
   (θ_run _ _ _).mono (fun _ h c =>
       ⟨(h c).1.trans ((Cert.GwOutReferenceIdeal.Read.val_main_v8_eq _ _).trans
         (congrArg₂ (Cert.GwOutReferenceIdeal.Read.val_main_v8 (F := Ideal)) (hag c).1 (hag c).2)), (h c).2⟩)
     (Cert.GwOutReferenceIdeal.Value.run (F := Ideal) m' ρ')⟩

/-- The backward call `mlp_out_bwd`, read on bit patterns, ends with its arguments unchanged and every counter at zero. -/
theorem frame_mlp_out_bwd : Cert.quiescent_MlpOut := fun m ρ _ => Cert.MlpOut.Gen.frame m ρ

/-- The backward call `mlp_out_bwd`, read over the reals, ends with its arguments unchanged and every counter at zero. -/
theorem frame_mlp_out_bwd_ideal : Cert.quiescent_MlpOutIdeal := fun m ρ _ => Cert.MlpOutIdeal.Gen.frame m ρ

/-- Its reference ends with its arguments unchanged; it declares no counter. -/
theorem frame_mlp_out_bwd_reference : Cert.quiescent_MlpOutReferenceIdeal := fun m ρ _ =>
  (θ_run Cert.MlpOutReferenceIdeal.defs _ _).mono
    (fun r h => ⟨fun c => (h c).2.2.2.2, sem_eq_zero_of_no_sems (by decide) r.2⟩)
    (Cert.MlpOutReferenceIdeal.Value.run (F := Ideal) m ρ)

/-- Over the reals `mlp_out_bwd` leaves the gradients of the MLP's result, of its activations, of the gate and of the norm's gains that
the reference takes. -/
theorem mlp_out_bwd_algebraic : Cert.algebraic_MlpOutIdeal_MlpOutReferenceIdeal := fun m ρ m' ρ' _ hag =>
  ⟨fun c => Cert.MlpOutReferenceIdeal.Read.val_main_v55 (F := Ideal) (MlpOutValue.A0 m c) (MlpOutValue.A1 m c) (MlpOutValue.A4 m c) (MlpOutValue.A5 m c),
   fun c => Cert.MlpOutReferenceIdeal.Read.val_main_v56 (F := Ideal) (MlpOutValue.A0 m c) (MlpOutValue.A1 m c) (MlpOutValue.A2 m c) (MlpOutValue.A3 m c) (MlpOutValue.A4 m c) (MlpOutValue.A5 m c),
   fun c => Cert.MlpOutReferenceIdeal.Read.val_main_v21 (F := Ideal) (MlpOutValue.A0 m c) (MlpOutValue.A1 m c) (MlpOutValue.A4 m c),
   fun c => Cert.MlpOutReferenceIdeal.Read.val_main_v24 (F := Ideal) (MlpOutValue.A0 m c) (MlpOutValue.A1 m c) (MlpOutValue.A5 m c),
   (θ_run _ _ _).mono (fun _ h c => ⟨(h c).1.trans (MlpOutValue.final6 m c), (h c).2.1.trans (MlpOutValue.final7 m c), (h c).2.2.1.trans (MlpOutValue.final8 m c), (h c).2.2.2.1.trans (MlpOutValue.final9 m c), (h c).2.2.2.2⟩)
     (Cert.MlpOutIdeal.Value.run_blocks m ρ),
   (θ_run _ _ _).mono (fun _ h c => by
       obtain ⟨h0, h1, h2, h3, h4, h5⟩ := hag c
       exact ⟨(h c).1.trans ((Cert.MlpOutReferenceIdeal.Read.val_main_v55_eq m' c).trans
         (congr (congr (congr (congrArg (Cert.MlpOutReferenceIdeal.Read.val_main_v55 (F := Ideal)) h0) h1) h4) h5)),
         (h c).2.1.trans ((Cert.MlpOutReferenceIdeal.Read.val_main_v56_eq m' c).trans
         (congr (congr (congr (congr (congr (congrArg (Cert.MlpOutReferenceIdeal.Read.val_main_v56 (F := Ideal)) h0) h1) h2) h3) h4) h5)),
         (h c).2.2.1.trans ((Cert.MlpOutReferenceIdeal.Read.val_main_v21_eq _ _ _).trans
         (congr (congr (congrArg (Cert.MlpOutReferenceIdeal.Read.val_main_v21 (F := Ideal)) h0) h1) h4)),
         (h c).2.2.2.1.trans ((Cert.MlpOutReferenceIdeal.Read.val_main_v24_eq _ _ _).trans
         (congr (congr (congrArg (Cert.MlpOutReferenceIdeal.Read.val_main_v24 (F := Ideal)) h0) h1) h5)),
         (h c).2.2.2.2⟩)
     (Cert.MlpOutReferenceIdeal.Value.run (F := Ideal) m' ρ')⟩

/-- The backward call `mlp_in_bwd`, read on bit patterns, ends with its arguments unchanged and every counter at zero. -/
theorem frame_mlp_in_bwd : Cert.quiescent_MlpIn := fun m ρ _ => Cert.MlpIn.Gen.frame m ρ

/-- The backward call `mlp_in_bwd`, read over the reals, ends with its arguments unchanged and every counter at zero. -/
theorem frame_mlp_in_bwd_ideal : Cert.quiescent_MlpInIdeal := fun m ρ _ => Cert.MlpInIdeal.Gen.frame m ρ

/-- Its reference ends with its arguments unchanged; it declares no counter. -/
theorem frame_mlp_in_bwd_reference : Cert.quiescent_MlpInReferenceIdeal := fun m ρ _ =>
  (θ_run Cert.MlpInReferenceIdeal.defs _ _).mono
    (fun r h => ⟨fun c => (h c).2.2.2.2, sem_eq_zero_of_no_sems (by decide) r.2⟩)
    (Cert.MlpInReferenceIdeal.Value.run (F := Ideal) m ρ)

/-- Over the reals `mlp_in_bwd` leaves the gradients of the residual stream, of the shift, of the scale and of the norm's gains that the
reference takes. -/
theorem mlp_in_bwd_algebraic : Cert.algebraic_MlpInIdeal_MlpInReferenceIdeal := fun m ρ m' ρ' _ hag =>
  ⟨fun c => Cert.MlpInReferenceIdeal.Read.val_main_v52 (F := Ideal) (MlpInValue.A0 m c) (MlpInValue.A1 m c) (MlpInValue.A2 m c) (MlpInValue.A3 m c) (MlpInValue.A4 m c) (MlpInValue.A5 m c),
   fun c => Cert.MlpInReferenceIdeal.Read.val_main_v27 (F := Ideal) (MlpInValue.A0 m c) (MlpInValue.A1 m c),
   fun c => Cert.MlpInReferenceIdeal.Read.val_main_v30 (F := Ideal) (MlpInValue.A0 m c) (MlpInValue.A1 m c) (MlpInValue.A2 m c) (MlpInValue.A4 m c),
   fun c => Cert.MlpInReferenceIdeal.Read.val_main_v35 (F := Ideal) (MlpInValue.A0 m c) (MlpInValue.A1 m c) (MlpInValue.A2 m c) (MlpInValue.A5 m c),
   (θ_run _ _ _).mono (fun _ h c => ⟨(h c).1.trans (MlpInValue.final6 m c), (h c).2.1.trans (MlpInValue.final7 m c), (h c).2.2.1.trans (MlpInValue.final8 m c), (h c).2.2.2.1.trans (MlpInValue.final9 m c), (h c).2.2.2.2⟩)
     (Cert.MlpInIdeal.Value.run_blocks m ρ),
   (θ_run _ _ _).mono (fun _ h c => by
       obtain ⟨h0, h1, h2, h3, h4, h5⟩ := hag c
       exact ⟨(h c).1.trans ((Cert.MlpInReferenceIdeal.Read.val_main_v52_eq m' c).trans
         (congr (congr (congr (congr (congr (congrArg (Cert.MlpInReferenceIdeal.Read.val_main_v52 (F := Ideal)) h0) h1) h2) h3) h4) h5)),
         (h c).2.1.trans ((Cert.MlpInReferenceIdeal.Read.val_main_v27_eq _ _).trans
         (congr (congrArg (Cert.MlpInReferenceIdeal.Read.val_main_v27 (F := Ideal)) h0) h1)),
         (h c).2.2.1.trans ((Cert.MlpInReferenceIdeal.Read.val_main_v30_eq _ _ _ _).trans
         (congr (congr (congr (congrArg (Cert.MlpInReferenceIdeal.Read.val_main_v30 (F := Ideal)) h0) h1) h2) h4)),
         (h c).2.2.2.1.trans ((Cert.MlpInReferenceIdeal.Read.val_main_v35_eq _ _ _ _).trans
         (congr (congr (congr (congrArg (Cert.MlpInReferenceIdeal.Read.val_main_v35 (F := Ideal)) h0) h1) h2) h5)),
         (h c).2.2.2.2⟩)
     (Cert.MlpInReferenceIdeal.Value.run (F := Ideal) m' ρ')⟩

/-- The backward call `in_proj_bwd`, read on bit patterns, ends with its arguments unchanged and every counter at zero. -/
theorem frame_in_proj_bwd : Cert.quiescent_InProj := fun m ρ _ => Cert.InProj.Gen.frame m ρ

/-- The backward call `in_proj_bwd`, read over the reals, ends with its arguments unchanged and every counter at zero. -/
theorem frame_in_proj_bwd_ideal : Cert.quiescent_InProjIdeal := fun m ρ _ => Cert.InProjIdeal.Gen.frame m ρ

/-- Its reference ends with its arguments unchanged; it declares no counter. -/
theorem frame_in_proj_bwd_reference : Cert.quiescent_InProjReferenceIdeal := fun m ρ _ =>
  (θ_run Cert.InProjReferenceIdeal.defs _ _).mono
    (fun r h => ⟨fun c => (h c).2.2.2.2, sem_eq_zero_of_no_sems (by decide) r.2⟩)
    (Cert.InProjReferenceIdeal.Value.run (F := Ideal) m ρ)

/-- Over the reals `in_proj_bwd` leaves the gradients of the residual stream, of the shift, of the scale and of the norm's gains that the
reference takes. -/
theorem in_proj_bwd_algebraic : Cert.algebraic_InProjIdeal_InProjReferenceIdeal := fun m ρ m' ρ' _ hag =>
  ⟨fun c => Cert.InProjReferenceIdeal.Read.val_main_v53 (F := Ideal) (InProjValue.A0 m c) (InProjValue.A1 m c) (InProjValue.A2 m c) (InProjValue.A3 m c) (InProjValue.A4 m c) (InProjValue.A5 m c) (InProjValue.A6 m c) (InProjValue.A7 m c) (InProjValue.A8 m c) (InProjValue.A9 m c),
   fun c => Cert.InProjReferenceIdeal.Read.val_main_v28 (F := Ideal) (InProjValue.A0 m c) (InProjValue.A1 m c) (InProjValue.A2 m c) (InProjValue.A3 m c) (InProjValue.A4 m c) (InProjValue.A5 m c),
   fun c => Cert.InProjReferenceIdeal.Read.val_main_v31 (F := Ideal) (InProjValue.A0 m c) (InProjValue.A1 m c) (InProjValue.A2 m c) (InProjValue.A3 m c) (InProjValue.A4 m c) (InProjValue.A5 m c) (InProjValue.A6 m c) (InProjValue.A8 m c),
   fun c => Cert.InProjReferenceIdeal.Read.val_main_v36 (F := Ideal) (InProjValue.A0 m c) (InProjValue.A1 m c) (InProjValue.A2 m c) (InProjValue.A3 m c) (InProjValue.A4 m c) (InProjValue.A5 m c) (InProjValue.A6 m c) (InProjValue.A9 m c),
   (θ_run _ _ _).mono (fun _ h c => ⟨(h c).1.trans (InProjValue.final10 m c), (h c).2.1.trans (InProjValue.final11 m c), (h c).2.2.1.trans (InProjValue.final12 m c), (h c).2.2.2.1.trans (InProjValue.final13 m c), (h c).2.2.2.2⟩)
     (Cert.InProjIdeal.Value.run_blocks m ρ),
   (θ_run _ _ _).mono (fun _ h c => by
       obtain ⟨h0, h1, h2, h3, h4, h5, h6, h7, h8, h9⟩ := hag c
       exact ⟨(h c).1.trans ((Cert.InProjReferenceIdeal.Read.val_main_v53_eq m' c).trans
         (congr (congr (congr (congr (congr (congr (congr (congr (congr (congrArg (Cert.InProjReferenceIdeal.Read.val_main_v53 (F := Ideal)) h0) h1) h2) h3) h4) h5) h6) h7) h8) h9)),
         (h c).2.1.trans ((Cert.InProjReferenceIdeal.Read.val_main_v28_eq _ _ _ _ _ _).trans
         (congr (congr (congr (congr (congr (congrArg (Cert.InProjReferenceIdeal.Read.val_main_v28 (F := Ideal)) h0) h1) h2) h3) h4) h5)),
         (h c).2.2.1.trans ((Cert.InProjReferenceIdeal.Read.val_main_v31_eq _ _ _ _ _ _ _ _).trans
         (congr (congr (congr (congr (congr (congr (congr (congrArg (Cert.InProjReferenceIdeal.Read.val_main_v31 (F := Ideal)) h0) h1) h2) h3) h4) h5) h6) h8)),
         (h c).2.2.2.1.trans ((Cert.InProjReferenceIdeal.Read.val_main_v36_eq _ _ _ _ _ _ _ _).trans
         (congr (congr (congr (congr (congr (congr (congr (congrArg (Cert.InProjReferenceIdeal.Read.val_main_v36 (F := Ideal)) h0) h1) h2) h3) h4) h5) h6) h9)),
         (h c).2.2.2.2⟩)
     (Cert.InProjReferenceIdeal.Value.run (F := Ideal) m' ρ')⟩

/-- The weight gradient `gw_in_gate`, read on bit patterns, ends with its arguments unchanged and every counter at zero. -/
theorem frame_gw_in_gate : Cert.quiescent_GwGate := fun m ρ _ => Cert.GwGate.Gen.frame m ρ

/-- The weight gradient `gw_in_gate`, read over the reals, ends with its arguments unchanged and every counter at zero. -/
theorem frame_gw_in_gate_ideal : Cert.quiescent_GwGateIdeal := fun m ρ _ => Cert.GwGateIdeal.Gen.frame m ρ

/-- Its reference ends with its arguments unchanged; it declares no counter. -/
theorem frame_gw_in_gate_reference : Cert.quiescent_GwGateReferenceIdeal := fun m ρ _ =>
  (θ_run Cert.GwGateReferenceIdeal.defs _ _).mono
    (fun r h => ⟨fun c => (h c).2, sem_eq_zero_of_no_sems (by decide) r.2⟩)
    (Cert.GwGateReferenceIdeal.Value.run (F := Ideal) m ρ)

/-- Over the reals `gw_in_gate` leaves its last argument with the gate's columns replaced by the derivative, in the weight, of the product
into the gate that the reference takes. -/
theorem gw_in_gate_algebraic : Cert.algebraic_GwGateIdeal_GwGateReferenceIdeal := fun m ρ m' ρ' _ hag =>
  ⟨fun c => Cert.GwGateReferenceIdeal.Read.val_main_v8 (F := Ideal) (GwGateValue.A0 m c) (GwGateValue.A1 m c) (GwGateValue.A2 m c),
   (θ_run _ _ _).mono (fun _ h c => ⟨(h c).1.trans (GwGateValue.final m c), (h c).2⟩)
     (Cert.GwGateIdeal.Value.run_blocks m ρ),
   (θ_run _ _ _).mono (fun _ h c => by
       obtain ⟨h0, h1, h2⟩ := hag c
       exact ⟨(h c).1.trans ((Cert.GwGateReferenceIdeal.Read.val_main_v8_eq _ _ _).trans
         (congr (congr (congrArg (Cert.GwGateReferenceIdeal.Read.val_main_v8 (F := Ideal)) h0) h1) h2)),
         (h c).2⟩)
     (Cert.GwGateReferenceIdeal.Value.run (F := Ideal) m' ρ')⟩

/-- The weight gradient `gw_out`, read on bit patterns, ends with its arguments unchanged and every counter at zero. -/
theorem frame_gw_out : Cert.quiescent_GwMix := fun m ρ _ => Cert.GwMix.Gen.frame m ρ

/-- The weight gradient `gw_out`, read over the reals, ends with its arguments unchanged and every counter at zero. -/
theorem frame_gw_out_ideal : Cert.quiescent_GwMixIdeal := fun m ρ _ => Cert.GwMixIdeal.Gen.frame m ρ

/-- Its reference ends with its arguments unchanged; it declares no counter. -/
theorem frame_gw_out_reference : Cert.quiescent_GwMixReferenceIdeal := fun m ρ _ =>
  (θ_run Cert.GwMixReferenceIdeal.defs _ _).mono
    (fun r h => ⟨fun c => (h c).2, sem_eq_zero_of_no_sems (by decide) r.2⟩)
    (Cert.GwMixReferenceIdeal.Value.run (F := Ideal) m ρ)

/-- Over the reals `gw_out` leaves the derivative, in the weight, of the product out of the mixing that the reference takes. -/
theorem gw_out_algebraic : Cert.algebraic_GwMixIdeal_GwMixReferenceIdeal := fun m ρ m' ρ' _ hag =>
  ⟨fun c => Cert.GwMixReferenceIdeal.Read.val_main_v6 (F := Ideal) (GwMixValue.A0 m c) (GwMixValue.A1 m c),
   (θ_run _ _ _).mono (fun _ h c => ⟨(h c).1.trans (GwMixValue.final m c), (h c).2⟩)
     (Cert.GwMixIdeal.Value.run_blocks m ρ),
   (θ_run _ _ _).mono (fun _ h c => by
       obtain ⟨h0, h1⟩ := hag c
       exact ⟨(h c).1.trans ((Cert.GwMixReferenceIdeal.Read.val_main_v6_eq _ _).trans
         (congr (congrArg (Cert.GwMixReferenceIdeal.Read.val_main_v6 (F := Ideal)) h0) h1)),
         (h c).2⟩)
     (Cert.GwMixReferenceIdeal.Value.run (F := Ideal) m' ρ')⟩

/-- The weight gradient `gw_proj_conv`, read on bit patterns, ends with its arguments unchanged and every counter at zero. -/
theorem frame_gw_proj_conv : Cert.quiescent_GwConv := fun m ρ _ => Cert.GwConv.Gen.frame m ρ

/-- The weight gradient `gw_proj_conv`, read over the reals, ends with its arguments unchanged and every counter at zero. -/
theorem frame_gw_proj_conv_ideal : Cert.quiescent_GwConvIdeal := fun m ρ _ => Cert.GwConvIdeal.Gen.frame m ρ

/-- Its reference ends with its arguments unchanged; it declares no counter. -/
theorem frame_gw_proj_conv_reference : Cert.quiescent_GwConvReferenceIdeal := fun m ρ _ =>
  (θ_run Cert.GwConvReferenceIdeal.defs _ _).mono
    (fun r h => ⟨fun c => (h c).2, sem_eq_zero_of_no_sems (by decide) r.2⟩)
    (Cert.GwConvReferenceIdeal.Value.run (F := Ideal) m ρ)

/-- Over the reals `gw_proj_conv` leaves the derivative, in the weight, of the product after the convolution that the reference takes. -/
theorem gw_proj_conv_algebraic : Cert.algebraic_GwConvIdeal_GwConvReferenceIdeal := fun m ρ m' ρ' _ hag =>
  ⟨fun c => Cert.GwConvReferenceIdeal.Read.val_main_v6 (F := Ideal) (GwConvValue.A0 m c) (GwConvValue.A1 m c),
   (θ_run _ _ _).mono (fun _ h c => ⟨(h c).1.trans (GwConvValue.final m c), (h c).2⟩)
     (Cert.GwConvIdeal.Value.run_blocks m ρ),
   (θ_run _ _ _).mono (fun _ h c => by
       obtain ⟨h0, h1⟩ := hag c
       exact ⟨(h c).1.trans ((Cert.GwConvReferenceIdeal.Read.val_main_v6_eq _ _).trans
         (congr (congrArg (Cert.GwConvReferenceIdeal.Read.val_main_v6 (F := Ideal)) h0) h1)),
         (h c).2⟩)
     (Cert.GwConvReferenceIdeal.Value.run (F := Ideal) m' ρ')⟩

/-- The weight gradient `gw_proj_attn`, read on bit patterns, ends with its arguments unchanged and every counter at zero. -/
theorem frame_gw_proj_attn : Cert.quiescent_GwAttn := fun m ρ _ => Cert.GwAttn.Gen.frame m ρ

/-- The weight gradient `gw_proj_attn`, read over the reals, ends with its arguments unchanged and every counter at zero. -/
theorem frame_gw_proj_attn_ideal : Cert.quiescent_GwAttnIdeal := fun m ρ _ => Cert.GwAttnIdeal.Gen.frame m ρ

/-- Its reference ends with its arguments unchanged; it declares no counter. -/
theorem frame_gw_proj_attn_reference : Cert.quiescent_GwAttnReferenceIdeal := fun m ρ _ =>
  (θ_run Cert.GwAttnReferenceIdeal.defs _ _).mono
    (fun r h => ⟨fun c => (h c).2, sem_eq_zero_of_no_sems (by decide) r.2⟩)
    (Cert.GwAttnReferenceIdeal.Value.run (F := Ideal) m ρ)

/-- Over the reals `gw_proj_attn` leaves the derivative, in the weight, of the product after the attention that the reference takes. -/
theorem gw_proj_attn_algebraic : Cert.algebraic_GwAttnIdeal_GwAttnReferenceIdeal := fun m ρ m' ρ' _ hag =>
  ⟨fun c => Cert.GwAttnReferenceIdeal.Read.val_main_v6 (F := Ideal) (GwAttnValue.A0 m c) (GwAttnValue.A1 m c),
   (θ_run _ _ _).mono (fun _ h c => ⟨(h c).1.trans (GwAttnValue.final m c), (h c).2⟩)
     (Cert.GwAttnIdeal.Value.run_blocks m ρ),
   (θ_run _ _ _).mono (fun _ h c => by
       obtain ⟨h0, h1⟩ := hag c
       exact ⟨(h c).1.trans ((Cert.GwAttnReferenceIdeal.Read.val_main_v6_eq _ _).trans
         (congr (congrArg (Cert.GwAttnReferenceIdeal.Read.val_main_v6 (F := Ideal)) h0) h1)),
         (h c).2⟩)
     (Cert.GwAttnReferenceIdeal.Value.run (F := Ideal) m' ρ')⟩

/-- The forward call `in_proj`, read on bit patterns, ends with its arguments unchanged and every counter at zero. -/
theorem frame_in_proj : Cert.quiescent_InProjFwd := fun m ρ _ => Cert.InProjFwd.Gen.frame m ρ

/-- The forward call `in_proj`, read over the reals, ends with its arguments unchanged and every counter at zero. -/
theorem frame_in_proj_ideal : Cert.quiescent_InProjFwdIdeal := fun m ρ _ => Cert.InProjFwdIdeal.Gen.frame m ρ

/-- Its reference ends with its arguments unchanged; it declares no counter. -/
theorem frame_in_proj_reference : Cert.quiescent_InProjFwdReferenceIdeal := fun m ρ _ =>
  (θ_run Cert.InProjFwdReferenceIdeal.defs _ _).mono
    (fun r h => ⟨fun c => (h c).2.2, sem_eq_zero_of_no_sems (by decide) r.2⟩)
    (Cert.InProjFwdReferenceIdeal.Value.run (F := Ideal) m ρ)

/-- Over the reals `in_proj` leaves the modulated norm of the residual stream and its product with the input weight that the reference
computes. -/
theorem in_proj_algebraic : Cert.algebraic_InProjFwdIdeal_InProjFwdReferenceIdeal := fun m ρ m' ρ' _ hag =>
  ⟨fun c => Cert.InProjFwdReferenceIdeal.Read.val_main_v18 (F := Ideal) (InProjFwdValue.A0 m c) (InProjFwdValue.A1 m c) (InProjFwdValue.A2 m c) (InProjFwdValue.A3 m c),
   fun c => Cert.InProjFwdReferenceIdeal.Read.val_main_v21 (F := Ideal) (InProjFwdValue.A0 m c) (InProjFwdValue.A1 m c) (InProjFwdValue.A2 m c) (InProjFwdValue.A3 m c) (InProjFwdValue.A4 m c),
   (θ_run _ _ _).mono (fun _ h c => ⟨(h c).1.trans (InProjFwdValue.final5 m c), (h c).2.1.trans (InProjFwdValue.final6 m c), (h c).2.2⟩)
     (Cert.InProjFwdIdeal.Value.run_blocks m ρ),
   (θ_run _ _ _).mono (fun _ h c => by
       obtain ⟨h0, h1, h2, h3, h4⟩ := hag c
       exact ⟨(h c).1.trans ((Cert.InProjFwdReferenceIdeal.Read.val_main_v18_eq _ _ _ _).trans
         (congr (congr (congr (congrArg (Cert.InProjFwdReferenceIdeal.Read.val_main_v18 (F := Ideal)) h0) h1) h2) h3)),
         (h c).2.1.trans ((Cert.InProjFwdReferenceIdeal.Read.val_main_v21_eq _ _ _ _ _).trans
         (congr (congr (congr (congr (congrArg (Cert.InProjFwdReferenceIdeal.Read.val_main_v21 (F := Ideal)) h0) h1) h2) h3) h4)),
         (h c).2.2⟩)
     (Cert.InProjFwdReferenceIdeal.Value.run (F := Ideal) m' ρ')⟩

/-- The forward call `mlp_in`, read on bit patterns, ends with its arguments unchanged and every counter at zero. -/
theorem frame_mlp_in : Cert.quiescent_MlpInFwd := fun m ρ _ => Cert.MlpInFwd.Gen.frame m ρ

/-- The forward call `mlp_in`, read over the reals, ends with its arguments unchanged and every counter at zero. -/
theorem frame_mlp_in_ideal : Cert.quiescent_MlpInFwdIdeal := fun m ρ _ => Cert.MlpInFwdIdeal.Gen.frame m ρ

/-- Its reference ends with its arguments unchanged; it declares no counter. -/
theorem frame_mlp_in_reference : Cert.quiescent_MlpInFwdReferenceIdeal := fun m ρ _ =>
  (θ_run Cert.MlpInFwdReferenceIdeal.defs _ _).mono
    (fun r h => ⟨fun c => (h c).2.2, sem_eq_zero_of_no_sems (by decide) r.2⟩)
    (Cert.MlpInFwdReferenceIdeal.Value.run (F := Ideal) m ρ)

/-- Over the reals `mlp_in` leaves the modulated norm of the residual stream and its product with the MLP's first weight that the
reference computes. -/
theorem mlp_in_algebraic : Cert.algebraic_MlpInFwdIdeal_MlpInFwdReferenceIdeal := fun m ρ m' ρ' _ hag =>
  ⟨fun c => Cert.MlpInFwdReferenceIdeal.Read.val_main_v18 (F := Ideal) (MlpInFwdValue.A0 m c) (MlpInFwdValue.A1 m c) (MlpInFwdValue.A2 m c) (MlpInFwdValue.A3 m c),
   fun c => Cert.MlpInFwdReferenceIdeal.Read.val_main_v21 (F := Ideal) (MlpInFwdValue.A0 m c) (MlpInFwdValue.A1 m c) (MlpInFwdValue.A2 m c) (MlpInFwdValue.A3 m c) (MlpInFwdValue.A4 m c),
   (θ_run _ _ _).mono (fun _ h c => ⟨(h c).1.trans (MlpInFwdValue.final5 m c), (h c).2.1.trans (MlpInFwdValue.final6 m c), (h c).2.2⟩)
     (Cert.MlpInFwdIdeal.Value.run_blocks m ρ),
   (θ_run _ _ _).mono (fun _ h c => by
       obtain ⟨h0, h1, h2, h3, h4⟩ := hag c
       exact ⟨(h c).1.trans ((Cert.MlpInFwdReferenceIdeal.Read.val_main_v18_eq _ _ _ _).trans
         (congr (congr (congr (congrArg (Cert.MlpInFwdReferenceIdeal.Read.val_main_v18 (F := Ideal)) h0) h1) h2) h3)),
         (h c).2.1.trans ((Cert.MlpInFwdReferenceIdeal.Read.val_main_v21_eq _ _ _ _ _).trans
         (congr (congr (congr (congr (congrArg (Cert.MlpInFwdReferenceIdeal.Read.val_main_v21 (F := Ideal)) h0) h1) h2) h3) h4)),
         (h c).2.2⟩)
     (Cert.MlpInFwdReferenceIdeal.Value.run (F := Ideal) m' ρ')⟩

/-- The forward call `mlp_out`, read on bit patterns, ends with its arguments unchanged and every counter at zero. -/
theorem frame_mlp_out : Cert.quiescent_MlpOutFwd := fun m ρ _ => Cert.MlpOutFwd.Gen.frame m ρ

/-- The forward call `mlp_out`, read over the reals, ends with its arguments unchanged and every counter at zero. -/
theorem frame_mlp_out_ideal : Cert.quiescent_MlpOutFwdIdeal := fun m ρ _ => Cert.MlpOutFwdIdeal.Gen.frame m ρ

/-- Its reference ends with its arguments unchanged; it declares no counter. -/
theorem frame_mlp_out_reference : Cert.quiescent_MlpOutFwdReferenceIdeal := fun m ρ _ =>
  (θ_run Cert.MlpOutFwdReferenceIdeal.defs _ _).mono
    (fun r h => ⟨fun c => (h c).2.2, sem_eq_zero_of_no_sems (by decide) r.2⟩)
    (Cert.MlpOutFwdReferenceIdeal.Value.run (F := Ideal) m ρ)

/-- Over the reals `mlp_out` leaves the MLP's result and the residual stream after the branch that the reference computes. -/
theorem mlp_out_algebraic : Cert.algebraic_MlpOutFwdIdeal_MlpOutFwdReferenceIdeal := fun m ρ m' ρ' _ hag =>
  ⟨fun c => Cert.MlpOutFwdReferenceIdeal.Read.val_main_v4 (F := Ideal) (MlpOutFwdValue.A0 m c) (MlpOutFwdValue.A2 m c),
   fun c => Cert.MlpOutFwdReferenceIdeal.Read.val_main_v19 (F := Ideal) (MlpOutFwdValue.A0 m c) (MlpOutFwdValue.A1 m c) (MlpOutFwdValue.A2 m c) (MlpOutFwdValue.A3 m c) (MlpOutFwdValue.A4 m c),
   (θ_run _ _ _).mono (fun _ h c => ⟨(h c).1.trans (MlpOutFwdValue.final5 m c), (h c).2.1.trans (MlpOutFwdValue.final6 m c), (h c).2.2⟩)
     (Cert.MlpOutFwdIdeal.Value.run_blocks m ρ),
   (θ_run _ _ _).mono (fun _ h c => by
       obtain ⟨h0, h1, h2, h3, h4⟩ := hag c
       exact ⟨(h c).1.trans ((Cert.MlpOutFwdReferenceIdeal.Read.val_main_v4_eq _ _).trans
         (congr (congrArg (Cert.MlpOutFwdReferenceIdeal.Read.val_main_v4 (F := Ideal)) h0) h2)),
         (h c).2.1.trans ((Cert.MlpOutFwdReferenceIdeal.Read.val_main_v19_eq _ _ _ _ _).trans
         (congr (congr (congr (congr (congrArg (Cert.MlpOutFwdReferenceIdeal.Read.val_main_v19 (F := Ideal)) h0) h1) h2) h3) h4)),
         (h c).2.2⟩)
     (Cert.MlpOutFwdReferenceIdeal.Value.run (F := Ideal) m' ρ')⟩

theorem claim : Cert.Claim := ⟨Cert.Attn.Gen.facts, Cert.AttnIdeal.Gen.facts, Cert.AttnReferenceIdeal.Gen.facts,
  Cert.Kernel.Gen.facts, Cert.KernelIdeal.Gen.facts, Cert.ReferenceIdeal.Gen.facts,
  Cert.GwIn.Gen.facts, Cert.GwInIdeal.Gen.facts, Cert.GwInReferenceIdeal.Gen.facts,
  Cert.GwOut.Gen.facts, Cert.GwOutIdeal.Gen.facts, Cert.GwOutReferenceIdeal.Gen.facts,
  Cert.MlpOut.Gen.facts, Cert.MlpOutIdeal.Gen.facts, Cert.MlpOutReferenceIdeal.Gen.facts,
  Cert.MlpIn.Gen.facts, Cert.MlpInIdeal.Gen.facts, Cert.MlpInReferenceIdeal.Gen.facts,
  Cert.InProj.Gen.facts, Cert.InProjIdeal.Gen.facts, Cert.InProjReferenceIdeal.Gen.facts,
  Cert.GwGate.Gen.facts, Cert.GwGateIdeal.Gen.facts, Cert.GwGateReferenceIdeal.Gen.facts,
  Cert.GwMix.Gen.facts, Cert.GwMixIdeal.Gen.facts, Cert.GwMixReferenceIdeal.Gen.facts,
  Cert.GwConv.Gen.facts, Cert.GwConvIdeal.Gen.facts, Cert.GwConvReferenceIdeal.Gen.facts,
  Cert.GwAttn.Gen.facts, Cert.GwAttnIdeal.Gen.facts, Cert.GwAttnReferenceIdeal.Gen.facts,
  Cert.InProjFwd.Gen.facts, Cert.InProjFwdIdeal.Gen.facts, Cert.InProjFwdReferenceIdeal.Gen.facts,
  Cert.MlpInFwd.Gen.facts, Cert.MlpInFwdIdeal.Gen.facts, Cert.MlpInFwdReferenceIdeal.Gen.facts,
  Cert.MlpOutFwd.Gen.facts, Cert.MlpOutFwdIdeal.Gen.facts, Cert.MlpOutFwdReferenceIdeal.Gen.facts,
  Attn.preFacts,
  frame_attn, frame_attn_ideal, frame_attn_ideal_finite, frame_attn_reference, frame_attn_reference_finite,
  frame_kernel, frame_kernel_ideal, frame_reference,
  frame_gw_mlp_in, frame_gw_mlp_in_ideal, frame_gw_mlp_in_reference,
  frame_gw_mlp_out, frame_gw_mlp_out_ideal, frame_gw_mlp_out_reference,
  frame_mlp_out_bwd, frame_mlp_out_bwd_ideal, frame_mlp_out_bwd_reference,
  frame_mlp_in_bwd, frame_mlp_in_bwd_ideal, frame_mlp_in_bwd_reference,
  frame_in_proj_bwd, frame_in_proj_bwd_ideal, frame_in_proj_bwd_reference,
  frame_gw_in_gate, frame_gw_in_gate_ideal, frame_gw_in_gate_reference,
  frame_gw_out, frame_gw_out_ideal, frame_gw_out_reference,
  frame_gw_proj_conv, frame_gw_proj_conv_ideal, frame_gw_proj_conv_reference,
  frame_gw_proj_attn, frame_gw_proj_attn_ideal, frame_gw_proj_attn_reference,
  frame_in_proj, frame_in_proj_ideal, frame_in_proj_reference,
  frame_mlp_in, frame_mlp_in_ideal, frame_mlp_in_reference,
  frame_mlp_out, frame_mlp_out_ideal, frame_mlp_out_reference,
  preserves_attn, attn_algebraic, trivial, conv_algebraic, trivial, gw_mlp_in_algebraic, trivial, gw_mlp_out_algebraic,
  trivial, mlp_out_bwd_algebraic, trivial, mlp_in_bwd_algebraic, trivial, in_proj_bwd_algebraic, trivial, gw_in_gate_algebraic, trivial, gw_out_algebraic, trivial, gw_proj_conv_algebraic, trivial, gw_proj_attn_algebraic,
  trivial, in_proj_algebraic, trivial, mlp_in_algebraic, trivial, mlp_out_algebraic⟩

end Cert.Proof

end
